-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).2.2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).2.2.2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))).2.2.2.2.2.2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).2.2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).2.2.2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))).2.2.2.2.2.2 = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_v36) = v1 c
          ∧ r.2.mem ((c.tc : Thread Cert.Reference26Ideal.nD Cert.Reference26Ideal.τ).loc Cert.Reference26Ideal.main_v37) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v29) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_v29) = v1 c
          ∧ r.2.mem ((c.tc : Thread Cert.Reference28Ideal.nD Cert.Reference28Ideal.τ).loc Cert.Reference28Ideal.main_v30) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)) (v4 : (c : Dev Cert.Kernel29Ideal.nD) → Buf (Elt Ideal) ((c.tc : Thread Cert.Kernel29Ideal.nD Cert.Kernel29Ideal.τ).loc Cert.Kernel29Ideal.main_v0_4)) (v5 : (c : Dev Cert.Kernel29Ideal.nD) → Buf (Elt Ideal) ((c.tc : Thread Cert.Kernel29Ideal.nD Cert.Kernel29Ideal.τ).loc Cert.Kernel29Ideal.main_v0_5)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_v0_4) = v4 c
          ∧ r.2.mem ((c.tc : Thread Cert.Kernel29Ideal.nD Cert.Kernel29Ideal.τ).loc Cert.Kernel29Ideal.main_v0_5) = v5 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v61) = v0 c
          ∧ r.2.mem ((c.tc : Thread Cert.Reference29Ideal.nD Cert.Reference29Ideal.τ).loc Cert.Reference29Ideal.main_v74) = v1 c
          ∧ r.2.mem ((c.tc : Thread Cert.Reference29Ideal.nD Cert.Reference29Ideal.τ).loc Cert.Reference29Ideal.main_v35) = v2 c
          ∧ r.2.mem ((c.tc : Thread Cert.Reference29Ideal.nD Cert.Reference29Ideal.τ).loc Cert.Reference29Ideal.main_v32) = v3 c
          ∧ r.2.mem ((c.tc : Thread Cert.Reference29Ideal.nD Cert.Reference29Ideal.τ).loc Cert.Reference29Ideal.main_v75) = v4 c
          ∧ r.2.mem ((c.tc : Thread Cert.Reference29Ideal.nD Cert.Reference29Ideal.τ).loc Cert.Reference29Ideal.main_v76) = v5 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel33 : Cert.Kernel33.Facts) (hKernel33Ideal : Cert.Kernel33Ideal.Facts) (hReference33Ideal : Cert.Reference33Ideal.Facts) (hPre_finite : Cert.Pre_finite.Facts) (hPre_finite2 : Cert.Pre_finite2.Facts) (hPre_finite29 : Cert.Pre_finite29.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite29 (hKernel29Ideal := hKernel29Ideal) (hReference29Ideal := hReference29Ideal) (hPre_finite29 := hPre_finite29)
    ∧ preserves_Kernel33_Kernel33Ideal
    ∧ algebraic_Kernel33Ideal_Reference33Ideal (hKernel33Ideal := hKernel33Ideal) (hReference33Ideal := hReference33Ideal)
-- ==== Pre_finite.lean ====
abbrev S4096x2048 : Shape := ⟨2, ![4096, 2048]⟩
abbrev S4096x16 : Shape := ⟨2, ![4096, 16]⟩
abbrev S16 : Shape := ⟨1, ![16]⟩
abbrev S32x4x256x128 : Shape := ⟨4, ![32, 4, 256, 128]⟩
abbrev S4096x1024 : Shape := ⟨2, ![4096, 1024]⟩
abbrev S1x16 : Shape := ⟨2, ![1, 16]⟩
abbrev S4096x3120 : Shape := ⟨2, ![4096, 3120]⟩
abbrev S_ : Shape := ⟨0, ![]⟩

class Facts : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  concatenates_S4096x2048_S4096x16_S4096x1024_S4096x16_S4096x16_S4096x3120_d1 : Shape.Concatenates [S4096x2048, S4096x16, S4096x1024, S4096x16, S4096x16] S4096x3120 1
  bcast_S_S4096x3120 : S_.BroadcastsInDim S4096x3120 (![] : Fin 0 → Fin S4096x3120.rank)

variable [Facts]

def fn {F : FTy → Type} [FloatOps F] (main_arg0 : FVec F S4096x2048 .f32) (main_arg1 : FVec F S4096x16 .f32) (main_arg2 : FVec F S16 .f32) (main_arg3 : FVec F S16 .f32) (main_arg4 : FVec F S16 .f32) (main_arg5 : FVec F S32x4x256x128 .f32) (main_arg6 : FVec F S4096x1024 .f32) : IVec S4096x3120 1 :=
  let main_v0 : FVec F S1x16 .f32 := broadcastInDim S1x16 ![1] bcast_S16_S1x16_1 main_arg2
  let main_v1 : FVec F S4096x16 .f32 := broadcastInDim S4096x16 ![0, 1] bcast_S1x16_S4096x16_0_1 main_v0
  let main_v2 : FVec F S1x16 .f32 := broadcastInDim S1x16 ![1] bcast_S16_S1x16_1 main_arg3
  let main_v3 : FVec F S4096x16 .f32 := broadcastInDim S4096x16 ![0, 1] bcast_S1x16_S4096x16_0_1 main_v2
  let main_v4 : FVec F S4096x3120 .f32 := concatenate S4096x3120 1 [⟨S4096x2048, main_arg0⟩, ⟨S4096x16, main_arg1⟩, ⟨S4096x1024, main_arg6⟩, ⟨S4096x16, main_v1⟩, ⟨S4096x16, main_v3⟩] concatenates_S4096x2048_S4096x16_S4096x1024_S4096x16_S4096x16_S4096x3120_d1
  let main_v5 : FVec F S4096x3120 .f32 := Host.absf main_v4
  let main_cst : FVec F S_ .f32 := constant S_ .f32 0x7F800000#32
  let main_v6 : FVec F S4096x3120 .f32 := broadcastInDim S4096x3120 ![] bcast_S_S4096x3120 main_cst
  let main_v7 : IVec S4096x3120 1 := cmpf .olt main_v5 main_v6
  main_v7
-- ==== Pre_finite2.lean ====
abbrev S4096x2816 : Shape := ⟨2, ![4096, 2816]⟩
abbrev S4096x1024 : Shape := ⟨2, ![4096, 1024]⟩
abbrev S1x1024x5632 : Shape := ⟨3, ![1, 1024, 5632]⟩
abbrev S1x1024x1024 : Shape := ⟨3, ![1, 1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S4096x1024 : S_.BroadcastsInDim S4096x1024 (![] : Fin 0 → Fin S4096x1024.rank)
  bcast_S_S1x1024x5632 : S_.BroadcastsInDim S1x1024x5632 (![] : Fin 0 → Fin S1x1024x5632.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn_part1 {F : FTy → Type} [FloatOps F] (main_arg5 : FVec F S4096x1024 .f32) (main_arg6 : FVec F S4096x1024 .f32) (main_arg7 : FVec F S1x1024 .f32) (main_v3 : IVec S4096x2816 1) (main_v7 : IVec S4096x2816 1) (main_v11 : IVec S4096x1024 1) (main_v15 : IVec S1x1024x5632 1) (main_v17 : FVec F S1x1024x1024 .f32) (main_v18 : FVec F S1x1024x1024 .f32) : IVec S4096x2816 1 × IVec S4096x2816 1 × IVec S4096x1024 1 × IVec S1x1024x5632 1 × IVec S1x1024x1024 1 × IVec S4096x1024 1 × IVec S4096x1024 1 × IVec S1x1024 1 :=
  let main_v19 : IVec S1x1024x1024 1 := cmpf .olt main_v17 main_v18
  let main_v20 : FVec F S4096x1024 .f32 := Host.absf main_arg5
  let main_cst_4 : FVec F S_ .f32 := constant S_ .f32 0x7F800000#32
  let main_v21 : FVec F S4096x1024 .f32 := broadcastInDim S4096x1024 ![] bcast_S_S4096x1024 main_cst_4
  let main_v22 : IVec S4096x1024 1 := cmpf .olt main_v20 main_v21
  let main_v23 : FVec F S4096x1024 .f32 := Host.absf main_arg6
  let main_cst_5 : FVec F S_ .f32 := constant S_ .f32 0x7F800000#32
  let main_v24 : FVec F S4096x1024 .f32 := broadcastInDim S4096x1024 ![] bcast_S_S4096x1024 main_cst_5
  let main_v25 : IVec S4096x1024 1 := cmpf .olt main_v23 main_v24
  let main_v26 : FVec F S1x1024 .f32 := Host.absf main_arg7
  let main_cst_6 : FVec F S_ .f32 := constant S_ .f32 0x7F800000#32
  let main_v27 : FVec F S1x1024 .f32 := broadcastInDim S1x1024 ![] bcast_S_S1x1024 main_cst_6
  let main_v28 : IVec S1x1024 1 := cmpf .olt main_v26 main_v27
  (main_v3, main_v7, main_v11, main_v15, main_v19, main_v22, main_v25, main_v28)

def fn {F : FTy → Type} [FloatOps F] (main_arg0 : FVec F S4096x2816 .bf16) (main_arg1 : FVec F S4096x2816 .bf16) (main_arg2 : FVec F S4096x1024 .bf16) (main_arg3 : FVec F S1x1024x5632 .bf16) (main_arg4 : FVec F S1x1024x1024 .bf16) (main_arg5 : FVec F S4096x1024 .f32) (main_arg6 : FVec F S4096x1024 .f32) (main_arg7 : FVec F S1x1024 .f32) (main_arg8 : FVec F S1x1024 .f32) : IVec S4096x2816 1 × IVec S4096x2816 1 × IVec S4096x1024 1 × IVec S1x1024x5632 1 × IVec S1x1024x1024 1 × IVec S4096x1024 1 × IVec S4096x1024 1 × IVec S1x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S1x1024x5632 .f32 := (extf .f32 · bitsLt_bf16_f32) main_arg3
  let main_v13 : FVec F S1x1024x5632 .f32 := Host.absf main_v12
  let main_cst_2 : FVec F S_ .f32 := constant S_ .f32 0x7F800000#32
  let main_v14 : FVec F S1x1024x5632 .f32 := broadcastInDim S1x1024x5632 ![] bcast_S_S1x1024x5632 main_cst_2
  let main_v15 : IVec S1x1024x5632 1 := cmpf .olt main_v13 main_v14
  let main_v16 : FVec F S1x1024x1024 .f32 := (extf .f32 · bitsLt_bf16_f32) main_arg4
  let main_v17 : FVec F S1x1024x1024 .f32 := Host.absf main_v16
  let main_cst_3 : FVec F S_ .f32 := constant S_ .f32 0x7F800000#32
  let main_v18 : FVec F S1x1024x1024 .f32 := broadcastInDim S1x1024x1024 ![] bcast_S_S1x1024x1024 main_cst_3
  fn_part1 (F := F) main_arg5 main_arg6 main_arg7 main_v3 main_v7 main_v11 main_v15 main_v17 main_v18
-- ==== Pre_finite29.lean ====
abbrev S4096x1024 : Shape := ⟨2, ![4096, 1024]⟩
abbrev S1x1024x3072 : Shape := ⟨3, ![1, 1024, 3072]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1x1024x3072 : S_.BroadcastsInDim S1x1024x3072 (![] : Fin 0 → Fin S1x1024x3072.rank)
  bcast_S_S1x1024 : S_.BroadcastsInDim S1x1024 (![] : Fin 0 → Fin S1x1024.rank)

variable [Facts]

def fn_part1 {F : FTy → Type} [FloatOps F] (main_arg5 : FVec F S4096x1024 .f32) (main_arg6 : FVec F S1x1024 .f32) (main_v3 : IVec S4096x1024 1) (main_v7 : IVec S4096x1024 1) (main_v11 : IVec S4096x1024 1) (main_v15 : IVec S1x1024x3072 1) (main_v18 : IVec S4096x1024 1) : IVec S4096x1024 1 × IVec S4096x1024 1 × IVec S4096x1024 1 × IVec S1x1024x3072 1 × IVec S4096x1024 1 × IVec S4096x1024 1 × IVec S1x1024 1 :=
  let main_v19 : FVec F S4096x1024 .f32 := Host.absf main_arg5
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_v22 : FVec F S1x1024 .f32 := Host.absf main_arg6
  let main_cst_5 : FVec F S_ .f32 := constant S_ .f32 0x7F800000#32
  let main_v23 : FVec F S1x1024 .f32 := broadcastInDim S1x1024 ![] bcast_S_S1x1024 main_cst_5
  let main_v24 : IVec S1x1024 1 := cmpf .olt main_v22 main_v23
  (main_v3, main_v7, main_v11, main_v15, main_v18, main_v21, main_v24)

def fn {F : FTy → Type} [FloatOps F] (main_arg0 : FVec F S4096x1024 .bf16) (main_arg1 : FVec F S4096x1024 .bf16) (main_arg2 : FVec F S4096x1024 .bf16) (main_arg3 : FVec F S1x1024x3072 .bf16) (main_arg4 : FVec F S4096x1024 .f32) (main_arg5 : FVec F S4096x1024 .f32) (main_arg6 : FVec F S1x1024 .f32) (main_arg7 : FVec F S1x1024 .f32) (main_arg8 : FVec F S4096x1024 .f32) (main_arg9 : FVec F S4096x1024 .f32) : IVec S4096x1024 1 × IVec S4096x1024 1 × IVec S4096x1024 1 × IVec S1x1024x3072 1 × IVec S4096x1024 1 × IVec S4096x1024 1 × IVec S1x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S1x1024x3072 .f32 := (extf .f32 · bitsLt_bf16_f32) main_arg3
  let main_v13 : FVec F S1x1024x3072 .f32 := Host.absf main_v12
  let main_cst_2 : FVec F S_ .f32 := constant S_ .f32 0x7F800000#32
  let main_v14 : FVec F S1x1024x3072 .f32 := broadcastInDim S1x1024x3072 ![] bcast_S_S1x1024x3072 main_cst_2
  let main_v15 : IVec S1x1024x3072 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg5 main_arg6 main_v3 main_v7 main_v11 main_v15 main_v18
-- ==== Kernel.lean ====
abbrev S4096x2048 : Shape := ⟨2, ![4096, 2048]⟩
abbrev S4096x16 : Shape := ⟨2, ![4096, 16]⟩
abbrev S16 : Shape := ⟨1, ![16]⟩
abbrev S32x4x256x128 : Shape := ⟨4, ![32, 4, 256, 128]⟩
abbrev S4096x1024 : Shape := ⟨2, ![4096, 1024]⟩
abbrev S4096x4x4 : Shape := ⟨3, ![4096, 4, 4]⟩
abbrev S4x4096x4 : Shape := ⟨3, ![4, 4096, 4]⟩
abbrev S_ : Shape := ⟨0, ![]⟩
abbrev S4x4096x128 : Shape := ⟨3, ![4, 4096, 128]⟩
abbrev S4x4x4096 : Shape := ⟨3, ![4, 4, 4096]⟩
abbrev S4x8x4096 : Shape := ⟨3, ![4, 8, 4096]⟩
abbrev S4x1x4 : Shape := ⟨3, ![4, 1, 4]⟩
abbrev S4x1x128 : Shape := ⟨3, ![4, 1, 128]⟩
abbrev S4x4x1 : Shape := ⟨3, ![4, 4, 1]⟩
abbrev S4x8x1 : Shape := ⟨3, ![4, 8, 1]⟩
abbrev S4096x512 : Shape := ⟨2, ![4096, 512]⟩
abbrev S32x4x8x256 : Shape := ⟨4, ![32, 4, 8, 256]⟩
abbrev S128x256 : Shape := ⟨2, ![128, 256]⟩
abbrev S128x128 : Shape := ⟨2, ![128, 128]⟩
abbrev S1x128x128 : Shape := ⟨3, ![1, 128, 128]⟩
abbrev S1x8x128 : Shape := ⟨3, ![1, 8, 128]⟩
abbrev S1x1x128 : Shape := ⟨3, ![1, 1, 128]⟩
abbrev S1x8x1 : Shape := ⟨3, ![1, 8, 1]⟩
abbrev S1x1x256x128 : Shape := ⟨4, ![1, 1, 256, 128]⟩
abbrev S1x1x8x256 : Shape := ⟨4, ![1, 1, 8, 256]⟩
abbrev S256x128 : Shape := ⟨2, ![256, 128]⟩
abbrev S1x128 : Shape := ⟨2, ![1, 128]⟩
abbrev S8x128 : Shape := ⟨2, ![8, 128]⟩
abbrev S8x1 : Shape := ⟨2, ![8, 1]⟩
abbrev S1x1x128x128 : Shape := ⟨4, ![1, 1, 128, 128]⟩
abbrev S128x1 : Shape := ⟨2, ![128, 1]⟩
abbrev S1x1 : Shape := ⟨2, ![1, 1]⟩
abbrev S1 : Shape := ⟨1, ![1]⟩
abbrev S128 : Shape := ⟨1, ![128]⟩
abbrev S1x1x8x128 : Shape := ⟨4, ![1, 1, 8, 128]⟩

abbrev nBuf : Space → Nat
  | .hbm => 42
  | .vmem => 39
  | .smem => 1
  | _ => 0

abbrev bufTy : (tb : Table) → Fin (tcTables nBuf tb) → BufTy
  | .hbm, ⟨0, _⟩ => ⟨S4096x2048, .f32⟩
  | .hbm, ⟨1, _⟩ => ⟨S4096x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S32x4x256x128, .f32⟩
  | .hbm, ⟨6, _⟩ => ⟨S4096x1024, .f32⟩
  | .hbm, ⟨7, _⟩ => ⟨S16, .f32⟩
  | .hbm, ⟨8, _⟩ => ⟨S16, .f32⟩
  | .hbm, ⟨9, _⟩ => ⟨S4096x4x4, .f32⟩
  | .hbm, ⟨10, _⟩ => ⟨S4x4096x4, .f32⟩
  | .hbm, ⟨11, _⟩ => ⟨S_, .i32⟩
  | .hbm, ⟨12, _⟩ => ⟨S_, .f32⟩
  | .hbm, ⟨13, _⟩ => ⟨S4x4096x128, .f32⟩
  | .hbm, ⟨14, _⟩ => ⟨S4x4x4096, .f32⟩
  | .hbm, ⟨15, _⟩ => ⟨S_, .i32⟩
  | .hbm, ⟨16, _⟩ => ⟨S_, .f32⟩
  | .hbm, ⟨17, _⟩ => ⟨S4x8x4096, .f32⟩
  | .hbm, ⟨18, _⟩ => ⟨S4x1x4, .f32⟩
  | .hbm, ⟨19, _⟩ => ⟨S_, .i32⟩
  | .hbm, ⟨20, _⟩ => ⟨S_, .f32⟩
  | .hbm, ⟨21, _⟩ => ⟨S4x1x128, .f32⟩
  | .hbm, ⟨22, _⟩ => ⟨S4x4x1, .f32⟩
  | .hbm, ⟨23, _⟩ => ⟨S_, .i32⟩
  | .hbm, ⟨24, _⟩ => ⟨S_, .f32⟩
  | .hbm, ⟨25, _⟩ => ⟨S4x8x1, .f32⟩
  | .hbm, ⟨26, _⟩ => ⟨S4x1x4, .f32⟩
  | .hbm, ⟨27, _⟩ => ⟨S_, .i32⟩
  | .hbm, ⟨28, _⟩ => ⟨S_, .f32⟩
  | .hbm, ⟨29, _⟩ => ⟨S4x1x128, .f32⟩
  | .hbm, ⟨30, _⟩ => ⟨S4x4x1, .f32⟩
  | .hbm, ⟨31, _⟩ => ⟨S_, .i32⟩
  | .hbm, ⟨32, _⟩ => ⟨S_, .f32⟩
  | .hbm, ⟨33, _⟩ => ⟨S4x8x1, .f32⟩
  | .hbm, ⟨34, _⟩ => ⟨S4096x1024, .f32⟩
  | .hbm, ⟨35, _⟩ => ⟨S4096x512, .f32⟩
  | .hbm, ⟨36, _⟩ => ⟨S4096x512, .f32⟩
  | .hbm, ⟨37, _⟩ => ⟨S4x4096x128, .f32⟩
  | .hbm, ⟨38, _⟩ => ⟨S4x8x4096, .f32⟩
  | .hbm, ⟨39, _⟩ => ⟨S4x4096x128, .f32⟩
  | .hbm, ⟨40, _⟩ => ⟨S4x8x4096, .f32⟩
  | .hbm, ⟨41, _⟩ => ⟨S32x4x8x256, .f32⟩
  | .local _ .vmem, ⟨0, _⟩ => ⟨S128x256, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128x128, .f32⟩
  | .local _ .vmem, ⟨7, _⟩ => ⟨S1x128x128, .f32⟩
  | .local _ .vmem, ⟨8, _⟩ => ⟨S1x8x128, .f32⟩
  | .local _ .vmem, ⟨9, _⟩ => ⟨S1x8x128, .f32⟩
  | .local _ .vmem, ⟨10, _⟩ => ⟨S1x1x128, .f32⟩
  | .local _ .vmem, ⟨11, _⟩ => ⟨S1x1x128, .f32⟩
  | .local _ .vmem, ⟨12, _⟩ => ⟨S1x8x1, .f32⟩
  | .local _ .vmem, ⟨13, _⟩ => ⟨S1x8x1, .f32⟩
  | .local _ .vmem, ⟨14, _⟩ => ⟨S1x1x128, .f32⟩
  | .local _ .vmem, ⟨15, _⟩ => ⟨S1x1x128, .f32⟩
  | .local _ .vmem, ⟨16, _⟩ => ⟨S1x8x1, .f32⟩
  | .local _ .vmem, ⟨17, _⟩ => ⟨S1x8x1, .f32⟩
  | .local _ .vmem, ⟨18, _⟩ => ⟨S1x1x256x128, .f32⟩
  | .local _ .vmem, ⟨19, _⟩ => ⟨S1x1x256x128, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x128x128, .f32⟩
  | .local _ .vmem, ⟨29, _⟩ => ⟨S1x128x128, .f32⟩
  | .local _ .vmem, ⟨30, _⟩ => ⟨S1x8x128, .f32⟩
  | .local _ .vmem, ⟨31, _⟩ => ⟨S1x8x128, .f32⟩
  | .local _ .vmem, ⟨32, _⟩ => ⟨S1x128x128, .f32⟩
  | .local _ .vmem, ⟨33, _⟩ => ⟨S1x128x128, .f32⟩
  | .local _ .vmem, ⟨34, _⟩ => ⟨S1x8x128, .f32⟩
  | .local _ .vmem, ⟨35, _⟩ => ⟨S1x8x128, .f32⟩
  | .local _ .vmem, ⟨36, _⟩ => ⟨S1x1x8x256, .f32⟩
  | .local _ .vmem, ⟨37, _⟩ => ⟨S1x1x8x256, .f32⟩
  | .local _ .vmem, ⟨38, _⟩ => ⟨S256x128, .f32⟩
  | .local _ .smem, ⟨0, _⟩ => ⟨S16, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call4_v0 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_call5_v0 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev main_v15_4 : Ref sig .tc := ⟨.hbm, 38, rfl⟩
abbrev main_v15_5 : Ref sig .tc := ⟨.hbm, 39, rfl⟩
abbrev main_v15_6 : Ref sig .tc := ⟨.hbm, 40, rfl⟩
abbrev main_v15_7 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![4, 32], ![false, false]⟩

def k0_off1 (i : grid0.Coords) (c0_i32_52 : BitVec 32) : Fin 1 → Nat :=
  let c4_i32 : BitVec 32 := 4#32
  let arg0 : BitVec 32 := BitVec.ofNat 32 (i 0).val
  let v152 : BitVec 32 := Scalar.muli c4_i32 arg0
  let v153 : BitVec 32 := Scalar.addi v152 c0_i32_52
  let v154 : Index := Scalar.indexCast v153
  ![v154.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c12_i32 : BitVec 32 := 12#32
  let v1 : BitVec 32 := Scalar.addi c12_i32 arg0
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_15 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_17 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_18 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_19 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x8x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S4096x2048 : Shape := ⟨2, ![4096, 2048]⟩
abbrev S4096x16 : Shape := ⟨2, ![4096, 16]⟩
abbrev S16 : Shape := ⟨1, ![16]⟩
abbrev S32x4x256x128 : Shape := ⟨4, ![32, 4, 256, 128]⟩
abbrev S4096x1024 : Shape := ⟨2, ![4096, 1024]⟩
abbrev S4096x512 : Shape := ⟨2, ![4096, 512]⟩
abbrev S1x4096x16x64 : Shape := ⟨4, ![1, 4096, 16, 64]⟩
abbrev S1x4096x4x128 : Shape := ⟨4, ![1, 4096, 4, 128]⟩
abbrev S1x4096x16 : Shape := ⟨3, ![1, 4096, 16]⟩
abbrev S1x1x16 : Shape := ⟨3, ![1, 1, 16]⟩
abbrev S_ : Shape := ⟨0, ![]⟩
abbrev S1x64x64x4x4x64 : Shape := ⟨6, ![1, 64, 64, 4, 4, 64]⟩
abbrev S1x64x64x4x4 : Shape := ⟨5, ![1, 64, 64, 4, 4]⟩
abbrev S1x64x64x4x128 : Shape := ⟨5, ![1, 64, 64, 4, 128]⟩
abbrev S4x4 : Shape := ⟨2, ![4, 4]⟩
abbrev S1x1x1x4x4 : Shape := ⟨5, ![1, 1, 1, 4, 4]⟩
abbrev S64x64 : Shape := ⟨2, ![64, 64]⟩
abbrev S64x64x1x1 : Shape := ⟨4, ![64, 64, 1, 1]⟩
abbrev S1x64x64x1x4x4 : Shape := ⟨6, ![1, 64, 64, 1, 4, 4]⟩
abbrev S1x64x1x64x4x4 : Shape := ⟨6, ![1, 64, 1, 64, 4, 4]⟩
abbrev S1x64x64x64x4x4 : Shape := ⟨6, ![1, 64, 64, 64, 4, 4]⟩
abbrev S1x64x4x64x64 : Shape := ⟨5, ![1, 64, 4, 64, 64]⟩
abbrev S1x64x64x64x4 : Shape := ⟨5, ![1, 64, 64, 64, 4]⟩
abbrev S1x64x64x64x4x1 : Shape := ⟨6, ![1, 64, 64, 64, 4, 1]⟩
abbrev S1x64x1x4x4 : Shape := ⟨5, ![1, 64, 1, 4, 4]⟩
abbrev S1x64x64x4x4x1 : Shape := ⟨6, ![1, 64, 64, 4, 4, 1]⟩
abbrev S1x64x4x4 : Shape := ⟨4, ![1, 64, 4, 4]⟩
abbrev S1x64x4x4x1x1 : Shape := ⟨6, ![1, 64, 4, 4, 1, 1]⟩
abbrev S64x1x4x4x1x1 : Shape := ⟨6, ![64, 1, 4, 4, 1, 1]⟩
abbrev S16x1 : Shape := ⟨2, ![16, 1]⟩
abbrev S1x1x16x1 : Shape := ⟨4, ![1, 1, 16, 1]⟩
abbrev S1x64x4x4x64x64 : Shape := ⟨6, ![1, 64, 4, 4, 64, 64]⟩
abbrev S1x64x4x4x64x128 : Shape := ⟨6, ![1, 64, 4, 4, 64, 128]⟩
abbrev S64x1x4x4x64x128 : Shape := ⟨6, ![64, 1, 4, 4, 64, 128]⟩
abbrev S1x4x4x64x128 : Shape := ⟨5, ![1, 4, 4, 64, 128]⟩
abbrev S1x1x4x4x64x128 : Shape := ⟨6, ![1, 1, 4, 4, 64, 128]⟩
abbrev S1x1x4x4x1x1 : Shape := ⟨6, ![1, 1, 4, 4, 1, 1]⟩
abbrev S1x4x4x1x1 : Shape := ⟨5, ![1, 4, 4, 1, 1]⟩
abbrev S1x64x4x128x64 : Shape := ⟨5, ![1, 64, 4, 128, 64]⟩
abbrev S64x64x64x4 : Shape := ⟨4, ![64, 64, 64, 4]⟩
abbrev S1x64x4x64x128 : Shape := ⟨5, ![1, 64, 4, 64, 128]⟩

abbrev nBuf : Space → Nat
  | .hbm => 179
  | .vmem => 0
  | .smem => 0
  | _ => 0

abbrev hbmTy0_0 (i : Nat) : BufTy := match i % 128 with
  | 0 => ⟨S4096x2048, .f32⟩
  | 1 => ⟨S4096x16, .f32⟩
  | 2 => ⟨S16, .f32⟩
  | 3 => ⟨S16, .f32⟩
  | 4 => ⟨S16, .f32⟩
  | 5 => ⟨S32x4x256x128, .f32⟩
  | 6 => ⟨S4096x1024, .f32⟩
  | 7 => ⟨S4096x1024, .f32⟩
  | 8 => ⟨S4096x512, .f32⟩
  | 9 => ⟨S4096x512, .f32⟩
  | 10 => ⟨S1x4096x16x64, .f32⟩
  | 11 => ⟨S1x4096x4x128, .f32⟩
  | 12 => ⟨S1x4096x4x128, .f32⟩
  | 13 => ⟨S1x4096x16, .f32⟩
  | 14 => ⟨S1x1x16, .f32⟩
  | 15 => ⟨S1x4096x16, .f32⟩
  | 16 => ⟨S1x4096x16, .f32⟩
  | 17 => ⟨S_, .f32⟩
  | 18 => ⟨S1x4096x16, .f32⟩
  | 19 => ⟨S1x4096x16, .f32⟩
  | 20 => ⟨S1x4096x16, .f32⟩
  | 21 => ⟨S1x4096x16, .f32⟩
  | 22 => ⟨S1x4096x16, .i1⟩
  | 23 => ⟨S1x4096x16, .f32⟩
  | 24 => ⟨S1x4096x16, .f32⟩
  | 25 => ⟨S1x4096x16, .f32⟩
  | 26 => ⟨S1x4096x16, .f32⟩
  | 27 => ⟨S1x4096x16, .f32⟩
  | 28 => ⟨S1x4096x16, .f32⟩
  | 29 => ⟨S1x4096x16, .f32⟩
  | 30 => ⟨S1x4096x16, .f32⟩
  | 31 => ⟨S16, .f32⟩
  | 32 => ⟨S16, .f32⟩
  | 33 => ⟨S1x64x64x4x4x64, .f32⟩
  | 34 => ⟨S1x64x64x4x4, .f32⟩
  | 35 => ⟨S1x64x64x4x128, .f32⟩
  | 36 => ⟨S1x64x64x4x128, .f32⟩
  | 37 => ⟨S4x4, .f32⟩
  | 38 => ⟨S1x1x1x4x4, .f32⟩
  | 39 => ⟨S1x64x64x4x4, .f32⟩
  | 40 => ⟨S1x64x64x4x4, .f32⟩
  | 41 => ⟨S_, .f32⟩
  | 42 => ⟨S_, .f32⟩
  | 43 => ⟨S1x64x64x4x4, .f32⟩
  | 44 => ⟨S_, .i1⟩
  | 45 => ⟨S64x64, .i1⟩
  | 46 => ⟨S64x64, .i32⟩
  | 47 => ⟨S_, .i32⟩
  | 48 => ⟨S64x64, .i32⟩
  | 49 => ⟨S64x64, .i32⟩
  | 50 => ⟨S64x64, .i32⟩
  | 51 => ⟨S64x64, .i1⟩
  | 52 => ⟨S_, .i1⟩
  | 53 => ⟨S64x64, .i1⟩
  | 54 => ⟨S64x64, .i1⟩
  | 55 => ⟨S64x64x1x1, .i1⟩
  | 56 => ⟨S1x64x64x1x4x4, .f32⟩
  | 57 => ⟨S1x64x1x64x4x4, .f32⟩
  | 58 => ⟨S1x64x64x64x4x4, .f32⟩
  | 59 => ⟨S1x64x64x64x4x4, .f32⟩
  | 60 => ⟨S1x64x64x64x4x4, .f32⟩
  | 61 => ⟨S_, .f32⟩
  | 62 => ⟨S_, .f32⟩
  | 63 => ⟨S1x64x64x64x4x4, .i1⟩
  | 64 => ⟨S1x64x64x64x4x4, .f32⟩
  | 65 => ⟨S1x64x64x64x4x4, .f32⟩
  | 66 => ⟨S1x64x64x64x4x4, .f32⟩
  | 67 => ⟨S_, .f32⟩
  | 68 => ⟨S_, .f32⟩
  | 69 => ⟨S1x64x64x64x4x4, .i1⟩
  | 70 => ⟨S1x64x64x64x4x4, .f32⟩
  | 71 => ⟨S1x64x64x64x4x4, .f32⟩
  | 72 => ⟨S1x64x4x64x64, .f32⟩
  | 73 => ⟨S1x64x64x64x4, .f32⟩
  | 74 => ⟨S1x64x64x64x4x1, .f32⟩
  | 75 => ⟨S1x64x64x64x4x4, .f32⟩
  | 76 => ⟨S1x64x64x64x4x4, .f32⟩
  | 77 => ⟨S1x64x1x64x4x4, .f32⟩
  | 78 => ⟨S1x64x64x64x4x4, .f32⟩
  | 79 => ⟨S1x64x64x64x4x4, .f32⟩
  | 80 => ⟨S1x64x1x4x4, .f32⟩
  | 81 => ⟨S1x64x64x4x4, .f32⟩
  | 82 => ⟨S1x64x64x4x4, .f32⟩
  | 83 => ⟨S1x64x64x4x4, .f32⟩
  | 84 => ⟨S1x64x64x4x4, .f32⟩
  | 85 => ⟨S1x64x64x4x4x1, .f32⟩
  | 86 => ⟨S1x64x64x4x4x64, .f32⟩
  | 87 => ⟨S1x64x64x4x4x64, .f32⟩
  | 88 => ⟨S1x64x1x4x4, .f32⟩
  | 89 => ⟨S1x64x4x4, .f32⟩
  | 90 => ⟨S1x64x4x4, .f32⟩
  | 91 => ⟨S1x64x4x4x1x1, .f32⟩
  | 92 => ⟨S64x1x4x4x1x1, .f32⟩
  | 93 => ⟨S1x64x64x4x4, .f32⟩
  | 94 => ⟨S1x64x64x4x4x1, .f32⟩
  | 95 => ⟨S16x1, .f32⟩
  | 96 => ⟨S1x1x16x1, .f32⟩
  | 97 => ⟨S1x4096x16x64, .f32⟩
  | 98 => ⟨S1x4096x16x64, .f32⟩
  | 99 => ⟨S1x4096x16x64, .f32⟩
  | 100 => ⟨S1x64x64x4x4x64, .f32⟩
  | 101 => ⟨S1x64x64x4x4x64, .f32⟩
  | 102 => ⟨S1x64x64x4x4x64, .f32⟩
  | 103 => ⟨S1x64x4x4x64x64, .f32⟩
  | 104 => ⟨S1x64x4x4x64x128, .f32⟩
  | 105 => ⟨S64x1x4x4x64x128, .f32⟩
  | 106 => ⟨S_, .f32⟩
  | 107 => ⟨S1x4x4x64x128, .f32⟩
  | 108 => ⟨S_, .f32⟩
  | 109 => ⟨S64x1x4x4x64x128, .f32⟩
  | 110 => ⟨S_, .i32⟩
  | 111 => ⟨S64x1x4x4x64x128, .f32⟩
  | 112 => ⟨S64x1x4x4x1x1, .f32⟩
  | 113 => ⟨S_, .i32⟩
  | 114 => ⟨S1x4x4x64x128, .f32⟩
  | 115 => ⟨S64x1x4x4x64x128, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S1x1x4x4x64x128, .f32⟩
  | _ => ⟨S4096x2048, .f32⟩

abbrev hbmTy0_1 (i : Nat) : BufTy := match i % 128 with
  | 0 => ⟨S1x4x4x64x128, .f32⟩
  | 1 => ⟨S_, .i32⟩
  | 2 => ⟨S_, .i32⟩
  | 3 => ⟨S_, .i32⟩
  | 4 => ⟨S_, .i32⟩
  | 5 => ⟨S_, .i32⟩
  | 6 => ⟨S1x1x4x4x1x1, .f32⟩
  | 7 => ⟨S1x4x4x1x1, .f32⟩
  | 8 => ⟨S1x4x4x64x128, .f32⟩
  | 9 => ⟨S1x4x4x64x128, .f32⟩
  | 10 => ⟨S1x4x4x64x128, .f32⟩
  | 11 => ⟨S1x1x4x4x64x128, .f32⟩
  | 12 => ⟨S_, .i32⟩
  | 13 => ⟨S_, .i32⟩
  | 14 => ⟨S_, .i32⟩
  | 15 => ⟨S_, .i32⟩
  | 16 => ⟨S_, .i32⟩
  | 17 => ⟨S64x1x4x4x64x128, .f32⟩
  | 18 => ⟨S_, .i32⟩
  | 19 => ⟨S_, .i32⟩
  | 20 => ⟨S1x64x4x4x64x128, .f32⟩
  | 21 => ⟨S1x64x4x128x64, .f32⟩
  | 22 => ⟨S1x64x64x4x128, .f32⟩
  | 23 => ⟨S1x64x4x4x64x64, .f32⟩
  | 24 => ⟨S1x64x64x4x4x64, .f32⟩
  | 25 => ⟨S1x64x64x4x4x64, .f32⟩
  | 26 => ⟨S1x64x64x4x4x64, .f32⟩
  | 27 => ⟨S1x64x4x4x64x64, .f32⟩
  | 28 => ⟨S1x64x4x4x64x64, .f32⟩
  | 29 => ⟨S1x64x64x64x4x4, .f32⟩
  | 30 => ⟨S1x64x4x4x64x64, .f32⟩
  | 31 => ⟨S1x64x64x4x4x64, .f32⟩
  | 32 => ⟨S1x64x64x4x4x64, .f32⟩
  | 33 => ⟨S1x64x64x64x4x4, .f32⟩
  | 34 => ⟨S1x64x64x64x4x4, .f32⟩
  | 35 => ⟨S1x64x64x64x4x4, .f32⟩
  | 36 => ⟨S_, .f32⟩
  | 37 => ⟨S1x64x64x64x4, .f32⟩
  | 38 => ⟨S1x64x64x64x4x1, .f32⟩
  | 39 => ⟨S_, .f32⟩
  | 40 => ⟨S64x64x64x4, .f32⟩
  | 41 => ⟨S1x64x64x64x4, .f32⟩
  | 42 => ⟨S1x64x4x64x64, .f32⟩
  | 43 => ⟨S1x64x4x64x128, .f32⟩
  | 44 => ⟨S1x64x64x4x128, .f32⟩
  | 45 => ⟨S1x64x64x4x128, .f32⟩
  | 46 => ⟨S1x4096x4x128, .f32⟩
  | 47 => ⟨S1x4096x16x64, .f32⟩
  | 48 => ⟨S1x4096x16x64, .f32⟩
  | 49 => ⟨S4096x512, .f32⟩
  | 50 => ⟨S4096x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_call0_cst : Ref sig .tc := ⟨.hbm, 41, rfl⟩
abbrev main_call1_call0_v0 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_0 : Ref sig .tc := ⟨.hbm, 52, rfl⟩
abbrev main_call2_v5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v30 : Ref sig .tc := ⟨.hbm, 65, rfl⟩
abbrev main_v31 : Ref sig .tc := ⟨.hbm, 66, rfl⟩
abbrev main_cst_0 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_1 : Ref sig .tc := ⟨.hbm, 106, rfl⟩
abbrev main_v67 : Ref sig .tc := ⟨.hbm, 107, rfl⟩
abbrev main_cst_2 : Ref sig .tc := ⟨.hbm, 108, rfl⟩
abbrev main_v68 : Ref sig .tc := ⟨.hbm, 109, rfl⟩
abbrev main_c_3 : Ref sig .tc := ⟨.hbm, 110, rfl⟩
abbrev main_v69_0 : Ref sig .tc := ⟨.hbm, 111, rfl⟩
abbrev main_v69_1 : Ref sig .tc := ⟨.hbm, 112, rfl⟩
abbrev main_v69_2 : Ref sig .tc := ⟨.hbm, 113, rfl⟩
abbrev main_v69_3 : Ref sig .tc := ⟨.hbm, 114, rfl⟩
abbrev main_v69_4 : Ref sig .tc := ⟨.hbm, 115, rfl⟩
abbrev main_while0c_c_10 : Ref sig .tc := ⟨.hbm, 116, rfl⟩
abbrev main_while0c_v99 : Ref sig .tc := ⟨.hbm, 117, rfl⟩
abbrev main_while0b_c_10 : Ref sig .tc := ⟨.hbm, 118, rfl⟩
abbrev main_while0b_v99 : Ref sig .tc := ⟨.hbm, 119, rfl⟩
abbrev main_while0b_c_11 : Ref sig .tc := ⟨.hbm, 120, rfl⟩
abbrev main_while0b_v100 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_c_2 : Ref sig .tc := ⟨.hbm, 125, rfl⟩
abbrev main_while0b_call5_c_3 : Ref sig .tc := ⟨.hbm, 126, rfl⟩
abbrev main_while0b_call5_v0 : Ref sig .tc := ⟨.hbm, 127, rfl⟩
abbrev main_while0b_v101 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_c_3 : Ref sig .tc := ⟨.hbm, 133, rfl⟩
abbrev main_while0b_call6_v0 : Ref sig .tc := ⟨.hbm, 134, rfl⟩
abbrev main_while0b_v102 : Ref sig .tc := ⟨.hbm, 135, rfl⟩
abbrev main_while0b_v103 : Ref sig .tc := ⟨.hbm, 136, rfl⟩
abbrev main_while0b_v104 : Ref sig .tc := ⟨.hbm, 137, rfl⟩
abbrev main_while0b_v105 : Ref sig .tc := ⟨.hbm, 138, rfl⟩
abbrev main_while0b_call7_v0 : Ref sig .tc := ⟨.hbm, 139, rfl⟩
abbrev main_while0b_call7_c : Ref sig .tc := ⟨.hbm, 140, rfl⟩
abbrev main_while0b_call7_c_0 : Ref sig .tc := ⟨.hbm, 141, rfl⟩
abbrev main_while0b_call7_c_1 : Ref sig .tc := ⟨.hbm, 142, rfl⟩
abbrev main_while0b_call7_c_2 : Ref sig .tc := ⟨.hbm, 143, rfl⟩
abbrev main_while0b_call7_c_3 : Ref sig .tc := ⟨.hbm, 144, rfl⟩
abbrev main_while0b_v106 : Ref sig .tc := ⟨.hbm, 145, rfl⟩
abbrev main_while0b_c_12 : Ref sig .tc := ⟨.hbm, 146, rfl⟩
abbrev main_while0b_v107 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_4 : Ref sig .tc := ⟨.hbm, 164, rfl⟩
abbrev main_v86 : Ref sig .tc := ⟨.hbm, 165, rfl⟩
abbrev main_v87 : Ref sig .tc := ⟨.hbm, 166, rfl⟩
abbrev main_cst_5 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x2816 : Shape := ⟨2, ![4096, 2816]⟩
abbrev S4096x1024 : Shape := ⟨2, ![4096, 1024]⟩
abbrev S1x1024x5632 : Shape := ⟨3, ![1, 1024, 5632]⟩
abbrev S1x1024x1024 : Shape := ⟨3, ![1, 1024, 1024]⟩
abbrev S1x1024 : Shape := ⟨2, ![1, 1024]⟩
abbrev S256x2816 : Shape := ⟨2, ![256, 2816]⟩
abbrev S1x1024x2816 : Shape := ⟨3, ![1, 1024, 2816]⟩
abbrev S256x1024 : Shape := ⟨2, ![256, 1024]⟩
abbrev S1024x2816 : Shape := ⟨2, ![1024, 2816]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S1x1024x5632, .bf16⟩
  | .hbm, ⟨4, _⟩ => ⟨S1x1024x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1x1024x2816, .bf16⟩
  | .local _ .vmem, ⟨3, _⟩ => ⟨S256x2816, .bf16⟩
  | .local _ .vmem, ⟨4, _⟩ => ⟨S256x2816, .bf16⟩
  | .local _ .vmem, ⟨5, _⟩ => ⟨S1x1024x2816, .bf16⟩
  | .local _ .vmem, ⟨6, _⟩ => ⟨S256x1024, .bf16⟩
  | .local _ .vmem, ⟨7, _⟩ => ⟨S256x1024, .bf16⟩
  | .local _ .vmem, ⟨8, _⟩ => ⟨S1x1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c1_i32 : BitVec 32 := 1#32
  let c0_i32_1 : BitVec 32 := 0#32
  ![c0_i32_0.toNat, v0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Reference2Ideal.lean ====
abbrev S4096x2816 : Shape := ⟨2, ![4096, 2816]⟩
abbrev S4096x1024 : Shape := ⟨2, ![4096, 1024]⟩
abbrev S1x1024x5632 : Shape := ⟨3, ![1, 1024, 5632]⟩
abbrev S1x1024x1024 : Shape := ⟨3, ![1, 1024, 1024]⟩
abbrev S1x1024 : Shape := ⟨2, ![1, 1024]⟩
abbrev S4096x5632 : Shape := ⟨2, ![4096, 5632]⟩
abbrev S1024x5632 : Shape := ⟨2, ![1024, 5632]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S1x1024x5632, .bf16⟩
  | .hbm, ⟨4, _⟩ => ⟨S1x1024x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x5632, .bf16⟩
  | .hbm, ⟨10, _⟩ => ⟨S4096x5632, .f32⟩
  | .hbm, ⟨11, _⟩ => ⟨S4096x1024, .f32⟩
  | .hbm, ⟨12, _⟩ => ⟨S1024x5632, .bf16⟩
  | .hbm, ⟨13, _⟩ => ⟨S1024x5632, .f32⟩
  | .hbm, ⟨14, _⟩ => ⟨S1024x1024, .bf16⟩
  | .hbm, ⟨15, _⟩ => ⟨S1024x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S1x2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1x2816x1024 : Shape := ⟨3, ![1, 2816, 1024]⟩
abbrev S4096x2816 : Shape := ⟨2, ![4096, 2816]⟩
abbrev S2048x1024 : Shape := ⟨2, ![2048, 1024]⟩
abbrev S1x1408x1024 : Shape := ⟨3, ![1, 1408, 1024]⟩
abbrev S2048x1408 : Shape := ⟨2, ![2048, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1x2816x1024 : Shape := ⟨3, ![1, 2816, 1024]⟩
abbrev S2816x1024 : Shape := ⟨2, ![2816, 1024]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S1x2816x1024, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S1x1024x5632 : Shape := ⟨3, ![1, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1x1024x5632, .f32⟩
  | .hbm, ⟨3, _⟩ => ⟨S1x1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2816 : Shape := ⟨2, ![4096, 2816]⟩
abbrev S1x1024x5632 : Shape := ⟨3, ![1, 1024, 5632]⟩
abbrev S2816x1024 : Shape := ⟨2, ![2816, 1024]⟩
abbrev S1024x2816 : Shape := ⟨2, ![1024, 2816]⟩
abbrev S1x1024x2816 : Shape := ⟨3, ![1, 1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1x1024x5632, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1x1024x2816, .f32⟩
  | .hbm, ⟨8, _⟩ => ⟨S1x1024x2816, .f32⟩
  | .hbm, ⟨9, _⟩ => ⟨S1x1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S4096x2048 : Shape := ⟨2, ![4096, 2048]⟩
abbrev S4096x16 : Shape := ⟨2, ![4096, 16]⟩
abbrev S1x1024x5136 : Shape := ⟨3, ![1, 1024, 5136]⟩
abbrev S_ : Shape := ⟨0, ![]⟩
abbrev S4096x128 : Shape := ⟨2, ![4096, 128]⟩
abbrev S1x1024x5248 : Shape := ⟨3, ![1, 1024, 5248]⟩
abbrev S512x1024 : Shape := ⟨2, ![512, 1024]⟩
abbrev S1x512x1024 : Shape := ⟨3, ![1, 512, 1024]⟩
abbrev S512x128 : Shape := ⟨2, ![512, 128]⟩
abbrev S1x512x128 : Shape := ⟨3, ![1, 512, 128]⟩
abbrev S512x512 : Shape := ⟨2, ![512, 512]⟩

abbrev nBuf : Space → Nat
  | .hbm => 14
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S4096x16, .f32⟩
  | .hbm, ⟨5, _⟩ => ⟨S1x1024x5136, .bf16⟩
  | .hbm, ⟨6, _⟩ => ⟨S4096x1024, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .bf16⟩
  | .hbm, ⟨12, _⟩ => ⟨S1x1024x5248, .bf16⟩
  | .hbm, ⟨13, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S512x128, .f32⟩
  | .local _ .vmem, ⟨21, _⟩ => ⟨S512x128, .f32⟩
  | .local _ .vmem, ⟨22, _⟩ => ⟨S1x512x128, .bf16⟩
  | .local _ .vmem, ⟨23, _⟩ => ⟨S1x512x128, .bf16⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c1_i32 : BitVec 32 := 1#32
  let c0_i32_1 : BitVec 32 := 0#32
  ![c0_i32_0.toNat, v0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c2_i32 : BitVec 32 := 2#32
  let c0_i32_1 : BitVec 32 := 0#32
  ![c0_i32_0.toNat, v0.toNat, c2_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c3_i32 : BitVec 32 := 3#32
  let c0_i32_1 : BitVec 32 := 0#32
  ![c0_i32_0.toNat, v0.toNat, c3_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c4_i32 : BitVec 32 := 4#32
  let c0_i32_1 : BitVec 32 := 0#32
  ![c0_i32_0.toNat, v0.toNat, c4_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c40_i32 : BitVec 32 := 40#32
  let c0_i32_1 : BitVec 32 := 0#32
  ![c0_i32_0.toNat, v0.toNat, c40_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== Reference6Ideal.lean ====
abbrev S4096x1024 : Shape := ⟨2, ![4096, 1024]⟩
abbrev S4096x2048 : Shape := ⟨2, ![4096, 2048]⟩
abbrev S4096x16 : Shape := ⟨2, ![4096, 16]⟩
abbrev S1x1024x5136 : Shape := ⟨3, ![1, 1024, 5136]⟩
abbrev S4096x5136 : Shape := ⟨2, ![4096, 5136]⟩
abbrev S1024x5136 : Shape := ⟨2, ![1024, 5136]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S4096x16, .f32⟩
  | .hbm, ⟨5, _⟩ => ⟨S1x1024x5136, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x2048, .f32⟩
  | .hbm, ⟨11, _⟩ => ⟨S4096x5136, .f32⟩
  | .hbm, ⟨12, _⟩ => ⟨S1x1024x5136, .f32⟩
  | .hbm, ⟨13, _⟩ => ⟨S1024x5136, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel7.lean ====
abbrev S4096x1024 : Shape := ⟨2, ![4096, 1024]⟩
abbrev S1x1024x5632 : Shape := ⟨3, ![1, 1024, 5632]⟩
abbrev S4096x5632 : Shape := ⟨2, ![4096, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x5632, .bf16⟩
  | .hbm, ⟨2, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1x1024x5632 : Shape := ⟨3, ![1, 1024, 5632]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5632, .bf16⟩
  | .hbm, ⟨2, _⟩ => ⟨S4096x1024, .f32⟩
  | .hbm, ⟨3, _⟩ => ⟨S1x1024x5632, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S4096x2816 : Shape := ⟨2, ![4096, 2816]⟩
abbrev S3x1024x5632 : Shape := ⟨3, ![3, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S3x1024x5632, .f32⟩
  | .hbm, ⟨3, _⟩ => ⟨S3x1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c1_i32 : BitVec 32 := 1#32
  let c0_i32_1 : BitVec 32 := 0#32
  ![c1_i32.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x2816 : Shape := ⟨2, ![4096, 2816]⟩
abbrev S3x1024x5632 : Shape := ⟨3, ![3, 1024, 5632]⟩
abbrev S2816x1024 : Shape := ⟨2, ![2816, 1024]⟩
abbrev S1024x2816 : Shape := ⟨2, ![1024, 2816]⟩
abbrev S1x1024x2816 : Shape := ⟨3, ![1, 1024, 2816]⟩
abbrev S1x1024x5632 : Shape := ⟨3, ![1, 1024, 5632]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S3x1024x5632, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1x1024x2816, .f32⟩
  | .hbm, ⟨8, _⟩ => ⟨S1x1024x5632, .f32⟩
  | .hbm, ⟨9, _⟩ => ⟨S1x1024x2816, .f32⟩
  | .hbm, ⟨10, _⟩ => ⟨S1x1024x5632, .f32⟩
  | .hbm, ⟨11, _⟩ => ⟨S1x1024x5632, .f32⟩
  | .hbm, ⟨12, _⟩ => ⟨S1x1024x5632, .f32⟩
  | .hbm, ⟨13, _⟩ => ⟨S3x1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S1x1024x5248 : Shape := ⟨3, ![1, 1024, 5248]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x1024x5248, .f32⟩
  | .hbm, ⟨3, _⟩ => ⟨S1x1024x5248, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c3_i32 : BitVec 32 := 3#32
  let v1 : BitVec 32 := Scalar.addi arg1 c3_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2048 : Shape := ⟨2, ![4096, 2048]⟩
abbrev S1x1024x5248 : Shape := ⟨3, ![1, 1024, 5248]⟩
abbrev S2048x1024 : Shape := ⟨2, ![2048, 1024]⟩
abbrev S1024x2048 : Shape := ⟨2, ![1024, 2048]⟩
abbrev S1x1024x2048 : Shape := ⟨3, ![1, 1024, 2048]⟩
abbrev S1x1024x3072 : Shape := ⟨3, ![1, 1024, 3072]⟩
abbrev S1x1024x128 : Shape := ⟨3, ![1, 1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x1024x5248, .f32⟩
  | .hbm, ⟨3, _⟩ => ⟨S4096x1024, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1x1024x2048, .f32⟩
  | .hbm, ⟨8, _⟩ => ⟨S1x1024x3072, .f32⟩
  | .hbm, ⟨9, _⟩ => ⟨S1x1024x128, .f32⟩
  | .hbm, ⟨10, _⟩ => ⟨S1x1024x5248, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S1x1024x5248 : Shape := ⟨3, ![1, 1024, 5248]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x5248, .f32⟩
  | .hbm, ⟨3, _⟩ => ⟨S1x1024x5248, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1x1024x5248 : Shape := ⟨3, ![1, 1024, 5248]⟩
abbrev S1024x1024 : Shape := ⟨2, ![1024, 1024]⟩
abbrev S1x1024x1024 : Shape := ⟨3, ![1, 1024, 1024]⟩
abbrev S1x1024x2048 : Shape := ⟨3, ![1, 1024, 2048]⟩
abbrev S1x1024x2176 : Shape := ⟨3, ![1, 1024, 2176]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x5248, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x2048, .f32⟩
  | .hbm, ⟨9, _⟩ => ⟨S1x1024x2176, .f32⟩
  | .hbm, ⟨10, _⟩ => ⟨S1x1024x5248, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x1024 : Shape := ⟨2, ![4096, 1024]⟩
abbrev S1x1024x5248 : Shape := ⟨3, ![1, 1024, 5248]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x5248, .f32⟩
  | .hbm, ⟨3, _⟩ => ⟨S1x1024x5248, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1x1024x5248 : Shape := ⟨3, ![1, 1024, 5248]⟩
abbrev S1024x1024 : Shape := ⟨2, ![1024, 1024]⟩
abbrev S1x1024x1024 : Shape := ⟨3, ![1, 1024, 1024]⟩
abbrev S1x1024x3200 : Shape := ⟨3, ![1, 1024, 3200]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x5248, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x3200, .f32⟩
  | .hbm, ⟨10, _⟩ => ⟨S1x1024x5248, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x1024 : Shape := ⟨2, ![4096, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .f32⟩
  | .hbm, ⟨3, _⟩ => ⟨S1x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let v1 : BitVec 32 := Scalar.addi arg1 c0_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1x2048x1024 : Shape := ⟨3, ![1, 2048, 1024]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x2048x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .f32⟩
  | .hbm, ⟨3, _⟩ => ⟨S2x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S2x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S2x1024x3072 : Shape := ⟨3, ![2, 1024, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x3072, .f32⟩
  | .hbm, ⟨3, _⟩ => ⟨S2x1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S2x1024x3072 : Shape := ⟨3, ![2, 1024, 3072]⟩
abbrev S1024x1024 : Shape := ⟨2, ![1024, 1024]⟩
abbrev S1x1024x1024 : Shape := ⟨3, ![1, 1024, 1024]⟩
abbrev S1x1024x3072 : Shape := ⟨3, ![1, 1024, 3072]⟩
abbrev S1x1024x2048 : Shape := ⟨3, ![1, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x3072, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x3072, .f32⟩
  | .hbm, ⟨9, _⟩ => ⟨S1x1024x2048, .f32⟩
  | .hbm, ⟨10, _⟩ => ⟨S1x1024x3072, .f32⟩
  | .hbm, ⟨11, _⟩ => ⟨S1x1024x3072, .f32⟩
  | .hbm, ⟨12, _⟩ => ⟨S2x1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S4096x1024 : Shape := ⟨2, ![4096, 1024]⟩
abbrev S2x1024x3072 : Shape := ⟨3, ![2, 1024, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x3072, .f32⟩
  | .hbm, ⟨3, _⟩ => ⟨S2x1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S2x1024x3072 : Shape := ⟨3, ![2, 1024, 3072]⟩
abbrev S1024x1024 : Shape := ⟨2, ![1024, 1024]⟩
abbrev S1x1024x1024 : Shape := ⟨3, ![1, 1024, 1024]⟩
abbrev S1x1024x3072 : Shape := ⟨3, ![1, 1024, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x3072, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x3072, .f32⟩
  | .hbm, ⟨9, _⟩ => ⟨S1x1024x1024, .f32⟩
  | .hbm, ⟨10, _⟩ => ⟨S1x1024x1024, .f32⟩
  | .hbm, ⟨11, _⟩ => ⟨S1x1024x3072, .f32⟩
  | .hbm, ⟨12, _⟩ => ⟨S1x1024x3072, .f32⟩
  | .hbm, ⟨13, _⟩ => ⟨S2x1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel17.lean ====
abbrev S4096x1024 : Shape := ⟨2, ![4096, 1024]⟩
abbrev S2x1024x3072 : Shape := ⟨3, ![2, 1024, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x3072, .f32⟩
  | .hbm, ⟨3, _⟩ => ⟨S2x1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S2x1024x3072 : Shape := ⟨3, ![2, 1024, 3072]⟩
abbrev S1024x1024 : Shape := ⟨2, ![1024, 1024]⟩
abbrev S1x1024x1024 : Shape := ⟨3, ![1, 1024, 1024]⟩
abbrev S1x1024x3072 : Shape := ⟨3, ![1, 1024, 3072]⟩
abbrev S1x1024x2048 : Shape := ⟨3, ![1, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x3072, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x3072, .f32⟩
  | .hbm, ⟨9, _⟩ => ⟨S1x1024x2048, .f32⟩
  | .hbm, ⟨10, _⟩ => ⟨S1x1024x3072, .f32⟩
  | .hbm, ⟨11, _⟩ => ⟨S1x1024x3072, .f32⟩
  | .hbm, ⟨12, _⟩ => ⟨S2x1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel18.lean ====
abbrev S4096x1024 : Shape := ⟨2, ![4096, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x2048x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2048x1024, .bf16⟩
  | .hbm, ⟨2, _⟩ => ⟨S1x1024x1024, .bf16⟩
  | .hbm, ⟨3, _⟩ => ⟨S1x1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S4096x1024 : Shape := ⟨2, ![4096, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x2048x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  let c0_i32_1 : BitVec 32 := 0#32
  ![c0_i32_0.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2048x1024, .bf16⟩
  | .hbm, ⟨2, _⟩ => ⟨S1x1024x1024, .bf16⟩
  | .hbm, ⟨3, _⟩ => ⟨S1x1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S1x1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x1024 : Shape := ⟨2, ![4096, 1024]⟩
abbrev S1x1024x3072 : Shape := ⟨3, ![1, 1024, 3072]⟩
abbrev S4096x3072 : Shape := ⟨2, ![4096, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x3072, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1x1024x3072 : Shape := ⟨3, ![1, 1024, 3072]⟩
abbrev S1024x3072 : Shape := ⟨2, ![1024, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x3072, .bf16⟩
  | .hbm, ⟨2, _⟩ => ⟨S4096x1024, .f32⟩
  | .hbm, ⟨3, _⟩ => ⟨S1x1024x3072, .f32⟩
  | .hbm, ⟨4, _⟩ => ⟨S1024x3072, .f32⟩
  | .hbm, ⟨5, _⟩ => ⟨S4096x3072, .f32⟩
  | .hbm, ⟨6, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S4096x1024 : Shape := ⟨2, ![4096, 1024]⟩
abbrev S1x1024x5136 : Shape := ⟨3, ![1, 1024, 5136]⟩
abbrev S_ : Shape := ⟨0, ![]⟩
abbrev S1x1024x5248 : Shape := ⟨3, ![1, 1024, 5248]⟩
abbrev S4096x2048 : Shape := ⟨2, ![4096, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x5136, .bf16⟩
  | .hbm, ⟨2, _⟩ => ⟨S_, .i32⟩
  | .hbm, ⟨3, _⟩ => ⟨S_, .bf16⟩
  | .hbm, ⟨4, _⟩ => ⟨S1x1024x5248, .bf16⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S1x1024x5136 : Shape := ⟨3, ![1, 1024, 5136]⟩
abbrev S1024x5136 : Shape := ⟨2, ![1024, 5136]⟩
abbrev S4096x5136 : Shape := ⟨2, ![4096, 5136]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5136, .bf16⟩
  | .hbm, ⟨2, _⟩ => ⟨S4096x1024, .f32⟩
  | .hbm, ⟨3, _⟩ => ⟨S1x1024x5136, .f32⟩
  | .hbm, ⟨4, _⟩ => ⟨S1024x5136, .f32⟩
  | .hbm, ⟨5, _⟩ => ⟨S4096x5136, .f32⟩
  | .hbm, ⟨6, _⟩ => ⟨S4096x2048, .f32⟩
  | .hbm, ⟨7, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel23.lean ====
abbrev S4096x1024 : Shape := ⟨2, ![4096, 1024]⟩
abbrev S1x1024x5136 : Shape := ⟨3, ![1, 1024, 5136]⟩
abbrev S_ : Shape := ⟨0, ![]⟩
abbrev S1x1024x5248 : Shape := ⟨3, ![1, 1024, 5248]⟩
abbrev S4096x2048 : Shape := ⟨2, ![4096, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x5136, .bf16⟩
  | .hbm, ⟨2, _⟩ => ⟨S_, .i32⟩
  | .hbm, ⟨3, _⟩ => ⟨S_, .bf16⟩
  | .hbm, ⟨4, _⟩ => ⟨S1x1024x5248, .bf16⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c3_i32 : BitVec 32 := 3#32
  let v1 : BitVec 32 := Scalar.addi arg1 c3_i32
  let c0_i32_0 : BitVec 32 := 0#32
  let c0_i32_1 : BitVec 32 := 0#32
  ![c0_i32_0.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1x1024x5136 : Shape := ⟨3, ![1, 1024, 5136]⟩
abbrev S1024x5136 : Shape := ⟨2, ![1024, 5136]⟩
abbrev S4096x5136 : Shape := ⟨2, ![4096, 5136]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5136, .bf16⟩
  | .hbm, ⟨2, _⟩ => ⟨S4096x1024, .f32⟩
  | .hbm, ⟨3, _⟩ => ⟨S1x1024x5136, .f32⟩
  | .hbm, ⟨4, _⟩ => ⟨S1024x5136, .f32⟩
  | .hbm, ⟨5, _⟩ => ⟨S4096x5136, .f32⟩
  | .hbm, ⟨6, _⟩ => ⟨S4096x2048, .f32⟩
  | .hbm, ⟨7, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel24.lean ====
abbrev S4096x1024 : Shape := ⟨2, ![4096, 1024]⟩
abbrev S1x1024x5136 : Shape := ⟨3, ![1, 1024, 5136]⟩
abbrev S_ : Shape := ⟨0, ![]⟩
abbrev S1x1024x5248 : Shape := ⟨3, ![1, 1024, 5248]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x5136, .bf16⟩
  | .hbm, ⟨2, _⟩ => ⟨S_, .i32⟩
  | .hbm, ⟨3, _⟩ => ⟨S_, .bf16⟩
  | .hbm, ⟨4, _⟩ => ⟨S1x1024x5248, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1x1024x5136 : Shape := ⟨3, ![1, 1024, 5136]⟩
abbrev S1024x5136 : Shape := ⟨2, ![1024, 5136]⟩
abbrev S4096x5136 : Shape := ⟨2, ![4096, 5136]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5136, .bf16⟩
  | .hbm, ⟨2, _⟩ => ⟨S4096x1024, .f32⟩
  | .hbm, ⟨3, _⟩ => ⟨S1x1024x5136, .f32⟩
  | .hbm, ⟨4, _⟩ => ⟨S1024x5136, .f32⟩
  | .hbm, ⟨5, _⟩ => ⟨S4096x5136, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel25.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference26Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S_ : Shape := ⟨0, ![]⟩
abbrev S2816x1024 : Shape := ⟨2, ![2816, 1024]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x2816, .f32⟩
  | .hbm, ⟨11, _⟩ => ⟨S1x2816x1024, .f32⟩
  | .hbm, ⟨12, _⟩ => ⟨S2816x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel27.lean ====
abbrev S4096x1024 : Shape := ⟨2, ![4096, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference27Ideal.lean ====
abbrev S4096x1024 : Shape := ⟨2, ![4096, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel28.lean ====
abbrev S4096x1024 : Shape := ⟨2, ![4096, 1024]⟩
abbrev S1x2048x1024 : Shape := ⟨3, ![1, 2048, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c1_i32 : BitVec 32 := 1#32
  let c0_i32_1 : BitVec 32 := 0#32
  ![c0_i32_0.toNat, c1_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference28Ideal.lean ====
abbrev S4096x1024 : Shape := ⟨2, ![4096, 1024]⟩
abbrev S1x2048x1024 : Shape := ⟨3, ![1, 2048, 1024]⟩
abbrev S1x1024 : Shape := ⟨2, ![1, 1024]⟩
abbrev S_ : Shape := ⟨0, ![]⟩
abbrev S4096x2048 : Shape := ⟨2, ![4096, 2048]⟩
abbrev S2048x1024 : Shape := ⟨2, ![2048, 1024]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x2048, .bf16⟩
  | .hbm, ⟨10, _⟩ => ⟨S4096x2048, .f32⟩
  | .hbm, ⟨11, _⟩ => ⟨S1x2048x1024, .f32⟩
  | .hbm, ⟨12, _⟩ => ⟨S2048x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel29.lean ====
abbrev S4096x1024 : Shape := ⟨2, ![4096, 1024]⟩
abbrev S1x1024x3072 : Shape := ⟨3, ![1, 1024, 3072]⟩
abbrev S1x1024 : Shape := ⟨2, ![1, 1024]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1x1024x3072, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S4096x1024, .bf16⟩
  | .hbm, ⟨15, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S256x1024, .bf16⟩
  | .local _ .vmem, ⟨4, _⟩ => ⟨S256x1024, .bf16⟩
  | .local _ .vmem, ⟨5, _⟩ => ⟨S1x1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c1_i32 : BitVec 32 := 1#32
  let c0_i32_1 : BitVec 32 := 0#32
  ![c0_i32_0.toNat, v0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c2_i32 : BitVec 32 := 2#32
  let c0_i32_1 : BitVec 32 := 0#32
  ![c0_i32_0.toNat, v0.toNat, c2_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== Reference29Ideal.lean ====
abbrev S4096x1024 : Shape := ⟨2, ![4096, 1024]⟩
abbrev S1x1024x3072 : Shape := ⟨3, ![1, 1024, 3072]⟩
abbrev S1x1024 : Shape := ⟨2, ![1, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S1024 : Shape := ⟨1, ![1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1x1024x3072, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x3072, .bf16⟩
  | .hbm, ⟨11, _⟩ => ⟨S4096x3072, .f32⟩
  | .hbm, ⟨12, _⟩ => ⟨S1x1024x3072, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1024x3072, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | .hbm, ⟨105, _⟩ => ⟨S4096x1024, .bf16⟩
  | .hbm, ⟨106, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_cst_18 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Kernel33.lean ====
abbrev S4x1x4096x256 : Shape := ⟨4, ![4, 1, 4096, 256]⟩
abbrev S1x256x1024 : Shape := ⟨3, ![1, 256, 1024]⟩
abbrev S4096x1024 : Shape := ⟨2, ![4096, 1024]⟩
abbrev S1x1x2048x256 : Shape := ⟨4, ![1, 1, 2048, 256]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x1x4096x256, .f32⟩
  | .hbm, ⟨1, _⟩ => ⟨S1x256x1024, .bf16⟩
  | .hbm, ⟨2, _⟩ => ⟨S4096x1024, .f32⟩
  | .local _ .vmem, ⟨0, _⟩ => ⟨S1x1x2048x256, .f32⟩
  | .local _ .vmem, ⟨1, _⟩ => ⟨S1x1x2048x256, .f32⟩
  | .local _ .vmem, ⟨2, _⟩ => ⟨S1x256x1024, .bf16⟩
  | .local _ .vmem, ⟨3, _⟩ => ⟨S2048x1024, .f32⟩
  | .local _ .vmem, ⟨4, _⟩ => ⟨S2048x1024, .f32⟩
  | _, _ => ⟨S4x1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  let c0_i32_2 : BitVec 32 := 0#32
  let c0_i32_3 : BitVec 32 := 0#32
  ![c0_i32_1.toNat, c0_i32_2.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1x1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4x1x4096x256 : Shape := ⟨4, ![4, 1, 4096, 256]⟩
abbrev S1x256x1024 : Shape := ⟨3, ![1, 256, 1024]⟩
abbrev S1x1x4096x256 : Shape := ⟨4, ![1, 1, 4096, 256]⟩
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x1x4096x256, .f32⟩
  | .hbm, ⟨1, _⟩ => ⟨S1x256x1024, .bf16⟩
  | .hbm, ⟨2, _⟩ => ⟨S1x1x4096x256, .f32⟩
  | .hbm, ⟨3, _⟩ => ⟨S4096x256, .f32⟩
  | .hbm, ⟨4, _⟩ => ⟨S1x256x1024, .f32⟩
  | .hbm, ⟨5, _⟩ => ⟨S256x1024, .f32⟩
  | .hbm, ⟨6, _⟩ => ⟨S4096x1024, .f32⟩
  | _, _ => ⟨S4x1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Decay.lean ====
/-
  The mathematics of the gradient, over the real numbers. A token `l` after token `s` sees it through the factor
  `exp (acc (l+1) - acc (s+1))`, `acc` the running sum of the logarithms of the decays. What is carried from the last
  token backwards to position `a` is `tail … a`; cutting the tokens into chunks of any length gives the same sums
  (`tail_step`, `through_chunk`).
-/
module

public import Mathlib.Analysis.SpecialFunctions.Log.Basic
public import Mathlib.Algebra.BigOperators.Intervals

@[expose] public section

noncomputable section

namespace Cert.Scan

open Finset

/-- The sum of the first `t` logarithms of decays. -/
def acc (la : ℕ → ℝ) (t : ℕ) : ℝ := ∑ u ∈ range t, la u

/-- What is carried backwards to position `a`: the inputs `f l` of the tokens `a ≤ l < T`, each decayed to `a`. -/
def tail (la f : ℕ → ℝ) (T a : ℕ) : ℝ := ∑ l ∈ Ico a T, Real.exp (acc la (l + 1) - acc la a) * f l

theorem tail_end (la f : ℕ → ℝ) (T : ℕ) : tail la f T T = 0 := by simp [tail]

/-- One chunk `[a, b)` of the backward recurrence. -/
theorem tail_step (la f : ℕ → ℝ) {T a b : ℕ} (hab : a ≤ b) (hb : b ≤ T) :
    tail la f T a = tail la f T b * Real.exp (acc la b - acc la a)
      + ∑ l ∈ Ico a b, Real.exp (acc la (l + 1) - acc la a) * f l := by
  unfold tail
  rw [← sum_Ico_consecutive _ hab hb, add_comm, sum_mul]
  congr 1
  refine sum_congr rfl fun l _ => ?_
  rw [mul_right_comm, ← Real.exp_add]
  congr 2
  ring

/-- The tokens from `s` on, split at the end `b` of a chunk `[a, b)` which contains `s`: the later ones through what is
    carried to `b`, the chunk's own by a masked sum over the chunk. -/
theorem through_chunk (la f : ℕ → ℝ) {T a b s : ℕ} (has : a ≤ s) (hsb : s < b) (hb : b ≤ T) :
    ∑ l ∈ Ico s T, Real.exp (acc la (l + 1) - acc la (s + 1)) * f l
      = Real.exp (acc la b - acc la (s + 1)) * tail la f T b
        + ∑ l ∈ Ico a b, (if s ≤ l then Real.exp (acc la (l + 1) - acc la (s + 1)) else 0) * f l := by
  unfold tail
  rw [← sum_Ico_consecutive _ hsb.le hb, ← sum_Ico_consecutive (fun l => (if s ≤ l then _ else 0) * f l) has hsb.le,
    sum_eq_zero (s := Ico a s), zero_add, add_comm, mul_sum]
  · congr 1
    · refine sum_congr rfl fun l _ => ?_
      rw [← mul_assoc, ← Real.exp_add]
      congr 2
      ring
    · refine sum_congr rfl fun l hl => ?_
      rw [if_pos (mem_Ico.mp hl).1]
  · intro l hl
    rw [if_neg (by have := (mem_Ico.mp hl).2; omega), zero_mul]

theorem acc_chunk (la : ℕ → ℝ) (a k : ℕ) : ∑ u ∈ range k, la (a + u) = acc la (a + k) - acc la a := by
  unfold acc
  rw [sum_range_add]
  ring

end Cert.Scan

end
-- ==== Proof.Data.lean ====
/-
  The numbers which the arguments hold, as total functions of natural numbers: a token and a column, or a head. Every
  sum of the two programs is written over them. `Reads` says that the argument arrays hold these numbers; the input
  `dskip` only multiplies `dy`, so it may be any extended real, and the rest are real numbers.
-/
module

public import Idealize.ShloMosaic.Lib.Pointwise
public import Idealize.ShloMosaic.PureOps.Ideal
public import proofs.«01_k».proof.Proof.Decay

@[expose] public section

noncomputable section

open Idealize.ShloMosaic

namespace Cert.Scan

/-! ## Real numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  (EReal.coe_strictMono.monotone).map_max

theorem coe_ite (p : Prop) [Decidable p] (a b : ℝ) : ((if p then a else b : ℝ) : EReal) = if p then (a : EReal) else (b : EReal) := by
  split <;> rfl

/-- `log (1 + exp z)`, in the form that does not overflow. -/
def softplus (z : ℝ) : ℝ := max z 0 + Real.log (1 + Real.exp (0 - max z (-z)))

theorem softplus_coe (z : ℝ) :
    max (z : EReal) 0 + Ideal.log1p (Ideal.exp (0 - max (z : EReal) (-(z : EReal)))) = (softplus z : EReal) := by
  have h : (0 : EReal) - max (z : EReal) (-(z : EReal)) = ((0 - max z (-z) : ℝ) : EReal) := by
    rw [← EReal.coe_neg, ← coe_max, ← EReal.coe_zero, ← EReal.coe_sub]
  have hp : 0 < 1 + Real.exp (0 - max z (-z)) := by positivity
  rw [h, Ideal.exp_coe, Ideal.log1p, ← EReal.coe_one, ← EReal.coe_add, Ideal.log_coe, if_neg (not_le.mpr hp), softplus,
    EReal.coe_add, coe_max, EReal.coe_zero]

/-! ## The arguments -/

/-- The numbers the arguments hold. -/
structure Data where
  /-- token inputs, then `B`, then `C`: 1024 + 512 + 512 columns -/
  x : ℕ → ℕ → ℝ
  raw : ℕ → ℕ → ℝ
  bias : ℕ → ℝ
  alog : ℕ → ℝ
  dy : ℕ → ℕ → ℝ
  skip : ℕ → EReal

namespace Data

variable (D : Data)

/-- The step of token `t` in head `h`. -/
def dt (t h : ℕ) : ℝ := softplus (D.raw t h + D.bias h)
/-- The logarithm of the decay of token `t` in head `h`. -/
def la (h t : ℕ) : ℝ := D.dt t h * -Real.exp (D.alog h)
/-- `B` and `C` of group `g`. -/
def B (g s n : ℕ) : ℝ := D.x s (1024 + (128 * g + n))
def C (g l n : ℕ) : ℝ := D.x l (1536 + (128 * g + n))
/-- The logarithm of the decay over the tokens `a, …, a + l`. -/
def cum (h a l : ℕ) : ℝ := acc (D.la h) (a + (l + 1)) - acc (D.la h) a
/-- The decay of token `l` seen from after token `s`. -/
def dec (h l s : ℕ) : ℝ := Real.exp (acc (D.la h) (l + 1) - acc (D.la h) (s + 1))

/-- The cotangent of the state of column `d`, entry `n`, before token `a`. -/
def state (d n a : ℕ) : ℝ := tail (D.la (d / 64)) (fun l => D.dy l d * D.C (d / 256) l n) 4096 a

/-- The derivative by the token input `x s d`, without the term of the skip connection. -/
def dx (s d : ℕ) : ℝ := ∑ l ∈ Finset.Ico s 4096,
  D.dec (d / 64) l s * (D.dt s (d / 64) * (∑ n ∈ Finset.range 128, D.C (d / 256) l n * D.B (d / 256) s n) * D.dy l d)

/-- The derivative by `B` of group `g`, token `s`, entry `n`. -/
def dB (g s n : ℕ) : ℝ := ∑ d ∈ Finset.range 256, ∑ l ∈ Finset.Ico s 4096,
  D.dec ((256 * g + d) / 64) l s
    * (D.dt s ((256 * g + d) / 64) * D.x s (256 * g + d) * (D.dy l (256 * g + d) * D.C g l n))

end Data

/-- The argument arrays hold the numbers of `D`. -/
structure Reads (D : Data) (xc : (⟨2, ![4096, 2048]⟩ : Shape).Idx → EReal) (raw : (⟨2, ![4096, 16]⟩ : Shape).Idx → EReal)
    (bias alog skip : (⟨1, ![16]⟩ : Shape).Idx → EReal) (dy : (⟨2, ![4096, 1024]⟩ : Shape).Idx → EReal) : Prop where
  x : ∀ i j, xc (ix2 i j) = (D.x i j : EReal)
  raw : ∀ i j, raw (ix2 i j) = (D.raw i j : EReal)
  bias : ∀ i, bias (ix1 i) = (D.bias i : EReal)
  alog : ∀ i, alog (ix1 i) = (D.alog i : EReal)
  skip : ∀ i, skip (ix1 i) = D.skip i
  dy : ∀ i j, dy (ix2 i j) = (D.dy i j : EReal)

end Cert.Scan

end
-- ==== Proof.Entry.lean ====
/-
  What the kernel's windows hold at a grid point: point `t` works on group `t / 32` and, the chunks being taken from
  the last to the first, on chunk `31 - t % 32`.
-/
module

public import Idealize.ShloMosaic.Lib.Pipeline.ValueKit
public import Idealize.ShloMosaic.Lib.Pointwise
public import proofs.«01_k».proof.Proof.Gen.KernelIdeal.Value
public import proofs.«01_k».proof.Proof.Data

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

variable (m : (ℓ : Loc nD τ sig) → Buf (Elt Ideal) ℓ)

/-- The arguments of core `c` hold the numbers of `D`. -/
abbrev ReadsAt (D : Data) (c : Dev nD) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))

theorem idx (t : Fin cfg0.N) : win0_1.index t = ![31 - t.val % 32, t.val / 32] ∧ win0_2.index t = ![31 - t.val % 32, 8 + t.val / 32]
    ∧ win0_3.index t = ![31 - t.val % 32, 12 + t.val / 32] ∧ win0_4.index t = ![t.val / 32, 31 - t.val % 32, 0]
    ∧ win0_5.index t = ![t.val / 32, 0, 31 - t.val % 32] ∧ win0_6.index t = ![t.val / 32, 0, 0] ∧ win0_7.index t = ![t.val / 32, 0, 0]
    ∧ win0_8.index t = ![t.val / 32, 0, 0] ∧ win0_9.index t = ![t.val / 32, 0, 0] ∧ win0_11.index t = ![31 - t.val % 32, t.val / 32]
    ∧ win0_12.index t = ![31 - t.val % 32, t.val / 32] ∧ win0_13.index t = ![31 - t.val % 32, t.val / 32] := by
  revert t
  decide +kernel

/-! ## The arrays prepared before the region -/

def rawCol (x : FVec Ideal S4096x16 .f32) : FVec Ideal S4x4096x128 .f32 := pad S4x4096x128 ![0, 0, 0] ![0, 0, 124] ![0, 0, 0]
  (transpose S4x4096x4 [1, 0, 2] (shapeCast S4096x4x4 x shapeCasts_S4096x16_S4096x4x4) transposes_S4096x4x4_S4x4096x4_1_0_2)
  (sitofp .f32 (constantI S_ 32 0#32)) pads_S4x4096x4_S4x4096x128_000_000_01240 h_S_

theorem V_main_v4 (c : Dev nD) : V m c main_v4 = rawCol (m ((c : Thread nD τ).loc main_arg1)) := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  rfl

def rawRow (x : FVec Ideal S4096x16 .f32) : FVec Ideal S4x8x4096 .f32 := pad S4x8x4096 ![0, 0, 0] ![0, 4, 0] ![0, 0, 0]
  (transpose S4x4x4096 [1, 2, 0] (shapeCast S4096x4x4 x shapeCasts_S4096x16_S4096x4x4) transposes_S4096x4x4_S4x4x4096_1_2_0)
  (sitofp .f32 (constantI S_ 32 0#32)) pads_S4x4x4096_S4x8x4096_000_040_000 h_S_

theorem V_main_v6 (c : Dev nD) : V m c main_v6 = rawRow (m ((c : Thread nD τ).loc main_arg1)) := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  rfl

def biasCol (x : FVec Ideal S16 .f32) : FVec Ideal S4x1x128 .f32 := pad S4x1x128 ![0, 0, 0] ![0, 0, 124] ![0, 0, 0]
  (shapeCast S4x1x4 x shapeCasts_S16_S4x1x4)
  (sitofp .f32 (constantI S_ 32 0#32)) pads_S4x1x4_S4x1x128_000_000_01240 h_S_

theorem V_main_v8 (c : Dev nD) : V m c main_v8 = biasCol (m ((c : Thread nD τ).loc main_arg2)) := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  rfl

def biasRow (x : FVec Ideal S16 .f32) : FVec Ideal S4x8x1 .f32 := pad S4x8x1 ![0, 0, 0] ![0, 4, 0] ![0, 0, 0]
  (shapeCast S4x4x1 x shapeCasts_S16_S4x4x1)
  (sitofp .f32 (constantI S_ 32 0#32)) pads_S4x4x1_S4x8x1_000_040_000 h_S_

theorem V_main_v10 (c : Dev nD) : V m c main_v10 = biasRow (m ((c : Thread nD τ).loc main_arg2)) := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  rfl

def decayCol (x : FVec Ideal S16 .f32) : FVec Ideal S4x1x128 .f32 := pad S4x1x128 ![0, 0, 0] ![0, 0, 124] ![0, 0, 0]
  (shapeCast S4x1x4 (Host.negf (Host.exp x)) shapeCasts_S16_S4x1x4)
  (sitofp .f32 (constantI S_ 32 0#32)) pads_S4x1x4_S4x1x128_000_000_01240 h_S_

theorem V_main_v12 (c : Dev nD) : V m c main_v12 = decayCol (m ((c : Thread nD τ).loc main_arg3)) := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  rfl

def decayRow (x : FVec Ideal S16 .f32) : FVec Ideal S4x8x1 .f32 := pad S4x8x1 ![0, 0, 0] ![0, 4, 0] ![0, 0, 0]
  (shapeCast S4x4x1 (Host.negf (Host.exp x)) shapeCasts_S16_S4x4x1)
  (sitofp .f32 (constantI S_ 32 0#32)) pads_S4x4x1_S4x8x1_000_040_000 h_S_

theorem V_main_v14 (c : Dev nD) : V m c main_v14 = decayRow (m ((c : Thread nD τ).loc main_arg3)) := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  rfl

variable {m} {D : Data} {c : Dev nD}

theorem x_at (h : ReadsAt m D c) (t : Fin cfg0.N) (a : Fin 128) (b : Fin 256) :
    iblk m c 1 t (ix2 a b) = (D.x (128 * (31 - t.val % 32) + a) (256 * (t.val / 32) + b) : EReal) := by
  have ht : t.val < 128 := t.isLt
  refine Eq.trans ?_ (h.x ⟨128 * (31 - t.val % 32) + a, by omega⟩ ⟨256 * (t.val / 32) + b, by omega⟩)
  have i := (idx t).1
  blk_ext [iblk, V_main_arg0, i]

theorem B_at (h : ReadsAt m D c) (t : Fin cfg0.N) (a : Fin 128) (b : Fin 128) :
    iblk m c 2 t (ix2 a b) = (D.x (128 * (31 - t.val % 32) + a) (1024 + (128 * (t.val / 32) + b)) : EReal) := by
  have ht : t.val < 128 := t.isLt
  refine Eq.trans ?_ (h.x ⟨128 * (31 - t.val % 32) + a, by omega⟩ ⟨1024 + (128 * (t.val / 32) + b), by omega⟩)
  have i := (idx t).2.1
  blk_ext [iblk, V_main_arg0, i]

theorem C_at (h : ReadsAt m D c) (t : Fin cfg0.N) (a : Fin 128) (b : Fin 128) :
    iblk m c 3 t (ix2 a b) = (D.x (128 * (31 - t.val % 32) + a) (1536 + (128 * (t.val / 32) + b)) : EReal) := by
  have ht : t.val < 128 := t.isLt
  refine Eq.trans ?_ (h.x ⟨128 * (31 - t.val % 32) + a, by omega⟩ ⟨1536 + (128 * (t.val / 32) + b), by omega⟩)
  have i := (idx t).2.2.1
  blk_ext [iblk, V_main_arg0, i]

theorem dy_at (h : ReadsAt m D c) (t : Fin cfg0.N) (a : Fin 128) (b : Fin 256) :
    iblk m c 11 t (ix2 a b) = (D.dy (128 * (31 - t.val % 32) + a) (256 * (t.val / 32) + b) : EReal) := by
  have ht : t.val < 128 := t.isLt
  refine Eq.trans ?_ (h.dy ⟨128 * (31 - t.val % 32) + a, by omega⟩ ⟨256 * (t.val / 32) + b, by omega⟩)
  have i := (idx t).2.2.2.2.2.2.2.2.2.1
  blk_ext [iblk, V_main_arg6, i]

theorem raw_col_at (h : ReadsAt m D c) (t : Fin cfg0.N) (a b : Fin 128) (hb : b.val < 4) :
    iblk m c 4 t (ix3 0 a b) = (D.raw (128 * (31 - t.val % 32) + a) (4 * (t.val / 32) + b) : EReal) := by
  have ht : t.val < 128 := t.isLt
  have e := h.raw ⟨128 * (31 - t.val % 32) + a, by omega⟩ ⟨4 * (t.val / 32) + b, by omega⟩
  have i := (idx t).2.2.2.1
  refine Eq.trans (b := V m c main_v4 (ix3 ⟨t.val / 32, by omega⟩ ⟨128 * (31 - t.val % 32) + a, by omega⟩ b)) (by blk_ext [iblk, i]) ?_
  rw [V_main_v4]
  pointwise [rawCol]
  rw [dif_pos (by omega)]
  simp only [Nat.mul_comm (t.val / 32) 4]
  exact e

theorem raw_row_at (h : ReadsAt m D c) (t : Fin cfg0.N) (a : Fin 128) (b : Fin 8) (hb : b.val < 4) :
    iblk m c 5 t (ix3 0 b a) = (D.raw (128 * (31 - t.val % 32) + a) (4 * (t.val / 32) + b) : EReal) := by
  have ht : t.val < 128 := t.isLt
  have e := h.raw ⟨128 * (31 - t.val % 32) + a, by omega⟩ ⟨4 * (t.val / 32) + b, by omega⟩
  have i := (idx t).2.2.2.2.1
  refine Eq.trans (b := V m c main_v6 (ix3 ⟨t.val / 32, by omega⟩ b ⟨128 * (31 - t.val % 32) + a, by omega⟩)) (by blk_ext [iblk, i]) ?_
  rw [V_main_v6]
  pointwise [rawRow]
  rw [dif_pos (by omega)]
  simp only [Nat.mul_comm (t.val / 32) 4]
  exact e

theorem bias_col_at (h : ReadsAt m D c) (t : Fin cfg0.N) (b : Fin 128) (hb : b.val < 4) :
    iblk m c 6 t (ix3 0 0 b) = (D.bias (4 * (t.val / 32) + b) : EReal) := by
  have ht : t.val < 128 := t.isLt
  have e := h.bias ⟨4 * (t.val / 32) + b, by omega⟩
  have i := (idx t).2.2.2.2.2.1
  refine Eq.trans (b := V m c main_v8 (ix3 ⟨t.val / 32, by omega⟩ 0 b)) (by blk_ext [iblk, i]) ?_
  rw [V_main_v8]
  pointwise [biasCol]
  rw [dif_pos (by omega)]
  simp only [Nat.mul_comm (t.val / 32) 4]
  exact e

theorem bias_row_at (h : ReadsAt m D c) (t : Fin cfg0.N) (b : Fin 8) (hb : b.val < 4) :
    iblk m c 7 t (ix3 0 b 0) = (D.bias (4 * (t.val / 32) + b) : EReal) := by
  have ht : t.val < 128 := t.isLt
  have e := h.bias ⟨4 * (t.val / 32) + b, by omega⟩
  have i := (idx t).2.2.2.2.2.2.1
  refine Eq.trans (b := V m c main_v10 (ix3 ⟨t.val / 32, by omega⟩ b 0)) (by blk_ext [iblk, i]) ?_
  rw [V_main_v10]
  pointwise [biasRow]
  rw [dif_pos (by omega)]
  simp only [Nat.mul_comm (t.val / 32) 4]
  exact e

theorem a_col_at (h : ReadsAt m D c) (t : Fin cfg0.N) (b : Fin 128) (hb : b.val < 4) :
    iblk m c 8 t (ix3 0 0 b) = ((-Real.exp (D.alog (4 * (t.val / 32) + b)) : ℝ) : EReal) := by
  have ht : t.val < 128 := t.isLt
  have e := h.alog ⟨4 * (t.val / 32) + b, by omega⟩
  have i := (idx t).2.2.2.2.2.2.2.1
  refine Eq.trans (b := V m c main_v12 (ix3 ⟨t.val / 32, by omega⟩ 0 b)) (by blk_ext [iblk, i]) ?_
  rw [V_main_v12]
  pointwise [decayCol]
  rw [dif_pos (by omega)]
  simp only [Nat.mul_comm (t.val / 32) 4]
  rw [e, Ideal.exp_coe, EReal.coe_neg]

theorem a_row_at (h : ReadsAt m D c) (t : Fin cfg0.N) (b : Fin 8) (hb : b.val < 4) :
    iblk m c 9 t (ix3 0 b 0) = ((-Real.exp (D.alog (4 * (t.val / 32) + b)) : ℝ) : EReal) := by
  have ht : t.val < 128 := t.isLt
  have e := h.alog ⟨4 * (t.val / 32) + b, by omega⟩
  have i := (idx t).2.2.2.2.2.2.2.2.1
  refine Eq.trans (b := V m c main_v14 (ix3 ⟨t.val / 32, by omega⟩ b 0)) (by blk_ext [iblk, i]) ?_
  rw [V_main_v14]
  pointwise [decayRow]
  rw [dif_pos (by omega)]
  simp only [Nat.mul_comm (t.val / 32) 4]
  rw [e, Ideal.exp_coe, EReal.coe_neg]

end Cert.KernelIdeal.Value

end
-- ==== Proof.Words.lean ====
/-
  Masks: comparisons of positions below 128, the numbers 0 and 1 they are turned into, and the values they select.
-/
module

public import Idealize.ShloMosaic.Lib.Affine
public import Idealize.ShloMosaic.Lib.Pointwise
public import proofs.«01_k».proof.Proof.Data

@[expose] public section

noncomputable section

open Idealize.ShloMosaic

namespace Cert.Scan

theorem toInt_small {n : ℕ} (h : n < 4096) : (BitVec.ofNat 32 n).toInt = n := by
  rw [BitVec.toInt_eq_toNat_of_lt] <;> rw [BitVec.toNat_ofNat, Nat.mod_eq_of_lt] <;> omega

theorem bit_eq {b : BitVec 1} {p : Prop} [Decidable p] (h : b = 1#1 ↔ p) : b = if p then 1#1 else 0#1 := by
  split
  · exact h.mpr ‹_›
  · rename_i hp
    exact (by decide : ∀ b : BitVec 1, ¬ b = 1#1 → b = 0#1) b fun e => hp (h.mp e)

theorem bit_ge {a b : ℕ} (ha : a < 4096) (hb : b < 4096) :
    IntOp.cmpi .sge (BitVec.ofNat 32 a) (BitVec.ofNat 32 b) = if b ≤ a then 1#1 else 0#1 :=
  bit_eq (by rw [IntOp.cmpi_sge, toInt_small ha, toInt_small hb]; omega)

theorem bit_le {a b : ℕ} (ha : a < 4096) (hb : b < 4096) :
    IntOp.cmpi .sle (BitVec.ofNat 32 a) (BitVec.ofNat 32 b) = if a ≤ b then 1#1 else 0#1 :=
  bit_eq (by rw [IntOp.cmpi_sle, toInt_small ha, toInt_small hb]; omega)

theorem bit_lt {a b : ℕ} (ha : a < 4096) (hb : b < 4096) :
    IntOp.cmpi .slt (BitVec.ofNat 32 a) (BitVec.ofNat 32 b) = if a < b then 1#1 else 0#1 :=
  bit_eq (by rw [IntOp.cmpi_slt, toInt_small ha, toInt_small hb]; omega)

theorem select_bit {α : Type} (p : Prop) [Decidable p] (x y : α) :
    Scalar.select (if p then 1#1 else 0#1) x y = if p then x else y := by
  by_cases h : p <;> simp [h, Scalar.select]

theorem not_bit (p : Prop) [Decidable p] : IntOp.xori (if p then 1#1 else 0#1) 1#1 = if ¬ p then 1#1 else 0#1 := by
  by_cases h : p <;> simp [h] <;> decide

theorem mask_coe (p : Prop) [Decidable p] :
    FloatOps.sitofp (F := Ideal) FTy.f32 (BitVec.setWidth 32 (if p then 1#1 else 0#1)) = (((if p then 1 else 0 : ℝ)) : EReal) := by
  have h1 : (BitVec.setWidth 32 1#1).toInt = 1 := by decide
  have h0 : (BitVec.setWidth 32 0#1).toInt = 0 := by decide
  by_cases h : p
  · rw [if_pos h, if_pos h]
    show (((BitVec.setWidth 32 1#1).toInt : ℝ) : EReal) = _
    rw [h1]; norm_num
  · rw [if_neg h, if_neg h]
    show (((BitVec.setWidth 32 0#1).toInt : ℝ) : EReal) = _
    rw [h0]; norm_num

/-- A masked sum of `v`, of what rounding leaves of `v`, and of what it leaves of that: over the reals the masked sum. -/
theorem mask_sum {N : ℕ} (w v : Fin N → ℝ) :
    ((∑ x, (w x : EReal) * (v x : EReal)) + ∑ x, (w x : EReal) * ((v x : EReal) - (v x : EReal)))
      + ∑ x, (w x : EReal) * ((v x : EReal) - (v x : EReal) - ((v x : EReal) - (v x : EReal)))
      = ((∑ x, w x * v x : ℝ) : EReal) := by
  simp only [← EReal.coe_sub, ← EReal.coe_mul, ← coe_sum, ← EReal.coe_add, sub_self, mul_zero, Finset.sum_const_zero, add_zero]

theorem mask_sum' {N : ℕ} (w v : Fin N → ℝ) :
    ((∑ x, (v x : EReal) * (w x : EReal)) + ∑ x, ((v x : EReal) - (v x : EReal)) * (w x : EReal))
      + ∑ x, ((v x : EReal) - (v x : EReal) - ((v x : EReal) - (v x : EReal))) * (w x : EReal)
      = ((∑ x, w x * v x : ℝ) : EReal) := by
  rw [← mask_sum]
  simp only [mul_comm]

/-- The masked sum over a block is the sum up to the row. -/
theorem mask_range (v : ℕ → ℝ) {N l : ℕ} (h : l < N) :
    ∑ x : Fin N, (if (x : ℕ) ≤ l then (1 : ℝ) else 0) * v x = ∑ k ∈ Finset.range (l + 1), v k := by
  rw [Fin.sum_univ_eq_sum_range (fun k => (if k ≤ l then (1 : ℝ) else 0) * v k)]
  rw [← Finset.sum_subset (s₁ := Finset.range (l + 1)) (fun k hk => by simp only [Finset.mem_range] at *; omega)]
  · refine Finset.sum_congr rfl fun k hk => ?_
    rw [if_pos (by simp only [Finset.mem_range] at hk; omega), one_mul]
  · intro k _ hk
    rw [if_neg (by simp only [Finset.mem_range] at hk; omega), zero_mul]

end Cert.Scan

end
-- ==== Proof.Steps.lean ====
/-
  What every grid point computes first: the steps `dt` and the running sums of the logarithms of the decays, along the
  rows (`dtc`, `cumc`) and along the lanes (`dtr`, `cumr`).
-/
module

public import proofs.«01_k».proof.Proof.Entry
public import proofs.«01_k».proof.Proof.Words

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

variable (m : (ℓ : Loc nD τ sig) → Buf (Elt Ideal) ℓ)

abbrev dtc (c : Dev nD) (t : Fin cfg0.N) : FVec Ideal S128x128 .f32 := k0_pay6 (iblk m c 4 t) (iblk m c 6 t)

abbrev cumc (c : Dev nD) (t : Fin cfg0.N) : FVec Ideal S128x128 .f32 := k0_pay14 k0_pay5 (dtc m c t) (iblk m c 8 t)

abbrev dtr (c : Dev nD) (t : Fin cfg0.N) : FVec Ideal S8x128 .f32 :=
  k0_pay13 (k0_pay8 (iblk m c 5 t) (iblk m c 7 t)) (k0_pay10 (iblk m c 5 t) (iblk m c 7 t))
    (k0_pay11 (iblk m c 5 t) (iblk m c 7 t)) (k0_pay12 (iblk m c 5 t) (iblk m c 7 t))

abbrev cumr (c : Dev nD) (t : Fin cfg0.N) : FVec Ideal S8x128 .f32 :=
  k0_pay15 (iota .tc S128x128 32 [0] iota_S128x128_d0_w32) (iota .tc S128x128 32 [1] iota_S128x128_d1_w32)
    (k0_pay8 (iblk m c 5 t) (iblk m c 7 t)) (k0_pay10 (iblk m c 5 t) (iblk m c 7 t))
    (k0_pay11 (iblk m c 5 t) (iblk m c 7 t)) (k0_pay12 (iblk m c 5 t) (iblk m c 7 t)) (iblk m c 9 t)

theorem tril_at (l s : Fin 128) : k0_pay5 (ix2 l s) = if (s : ℕ) ≤ l then 1#1 else 0#1 := by
  pointwise [k0_pay5]
  exact bit_ge (by omega) (by omega)

variable {m} {D : Data} {c : Dev nD}

theorem dtc_at (h : ReadsAt m D c) (t : Fin cfg0.N) (s b : Fin 128) (hb : b.val < 4) :
    dtc m c t (ix2 s b) = (D.dt (128 * (31 - t.val % 32) + s) (4 * (t.val / 32) + b) : EReal) := by
  have e1 := raw_col_at h t s b hb
  have e2 := bias_col_at h t b hb
  pointwise [k0_pay6]
  rw [e1, e2, if_neg (by simp), ← EReal.coe_add]
  exact softplus_coe _

theorem dtr_at (h : ReadsAt m D c) (t : Fin cfg0.N) (s : Fin 128) (b : Fin 8) (hb : b.val < 4) :
    dtr m c t (ix2 b s) = (D.dt (128 * (31 - t.val % 32) + s) (4 * (t.val / 32) + b) : EReal) := by
  have e1 := raw_row_at h t s b hb
  have e2 := bias_row_at h t b hb
  pointwise [k0_pay13, k0_pay12, k0_pay11, k0_pay10, k0_pay9, k0_pay8, k0_pay7]
  rw [e1, e2, if_neg (by simp), ← EReal.coe_add]
  exact softplus_coe _

theorem cumc_at (h : ReadsAt m D c) (t : Fin cfg0.N) (l b : Fin 128) (hb : b.val < 4) :
    cumc m c t (ix2 l b) = (D.cum (4 * (t.val / 32) + b) (128 * (31 - t.val % 32)) l : EReal) := by
  have e1 := fun s => dtc_at h t s b hb
  have e2 := a_col_at h t b hb
  unfold cumc
  generalize dtc m c t = d at *
  pointwise [k0_pay14]
  simp only [e1, e2, ← EReal.coe_mul]
  simp only [tril_at, mask_coe]
  rw [mask_sum, mask_range (fun k => D.dt (128 * (31 - t.val % 32) + k) _ * _) l.isLt, Data.cum, ← acc_chunk]
  rfl

theorem cumr_at (h : ReadsAt m D c) (t : Fin cfg0.N) (l : Fin 128) (b : Fin 8) (hb : b.val < 4) :
    cumr m c t (ix2 b l) = (D.cum (4 * (t.val / 32) + b) (128 * (31 - t.val % 32)) l : EReal) := by
  have e1 := fun s => dtr_at h t s b hb
  have e2 := a_row_at h t b hb
  unfold cumr
  unfold dtr at e1
  pointwise [k0_pay15]
  have hm : ∀ x : Fin 128, IntOp.cmpi .sle (BitVec.ofNat 32 (x : ℕ)) (BitVec.ofNat 32 (l : ℕ)) = if (x : ℕ) ≤ l then 1#1 else 0#1 :=
    fun x => bit_le (by omega) (by omega)
  simp only [e1, e2, ← EReal.coe_mul]
  simp only [hm, mask_coe]
  rw [mask_sum', mask_range (fun k => D.dt (128 * (31 - t.val % 32) + k) _ * _) l.isLt, Data.cum, ← acc_chunk]
  rfl

end Cert.KernelIdeal.Value

end
-- ==== Proof.Carry.lean ====
/-
  The array carried from chunk to chunk: the cotangent of the state, one row per column of the group. One point takes
  it from the end of its chunk to the start.
-/
module

public import Idealize.ShloMosaic.Lib.Pipeline.ReadBack
public import proofs.«01_k».proof.Proof.Steps

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

variable (m : (ℓ : Loc nD τ sig) → Buf (Elt Ideal) ℓ)

/-! ## The two halves of the new array, entry by entry -/

theorem row_lo (r n : Fin 128) : k0_pay18 (ix2 r n) = if (r : ℕ) < 64 then 1#1 else 0#1 := by
  pointwise [k0_pay18]
  exact bit_lt (by omega) (by omega)

theorem lane_lo (r n : Fin 128) : k0_pay17 (ix2 r n) = if (n : ℕ) < 64 then 1#1 else 0#1 := by
  pointwise [k0_pay17]
  exact bit_lt (by omega) (by omega)

theorem carry_lo (C dh dy cum : FVec Ideal S128x128 .f32) (r n : Fin 128) :
    k0_pay81 (k0_pay80 C k0_pay18 dh (k0_pay30 cum) (k0_pay31 cum) (k0_pay37 dy (k0_pay32 cum))) (ix2 r n)
      = dh (ix2 r n) * (if (r : ℕ) < 64 then Ideal.exp (cum (ix2 127 0)) else Ideal.exp (cum (ix2 127 1)))
        + ∑ x : Fin 128, dy (ix2 x r) * (if (r : ℕ) < 64 then Ideal.exp (cum (ix2 x 0)) else Ideal.exp (cum (ix2 x 1))) * C (ix2 x n) := by
  pointwise [k0_pay81, k0_pay80, k0_pay30, k0_pay31, k0_pay37, k0_pay32, k0_pay28, k0_pay29, k0_pay19]
  simp only [row_lo, lane_lo, select_bit]

theorem carry_hi (C dh dy cum : FVec Ideal S128x128 .f32) (r n : Fin 128) :
    k0_pay137 C k0_pay18 dh (k0_pay86 (k0_pay19 cum)) (k0_pay87 (k0_pay19 cum)) (k0_pay92 dy (k0_pay88 cum k0_pay17)) (ix2 r n)
      = dh (ix2 r n) * (if (r : ℕ) < 64 then Ideal.exp (cum (ix2 127 2)) else Ideal.exp (cum (ix2 127 3)))
        + ∑ x : Fin 128, dy (ix2 x r) * (if (r : ℕ) < 64 then Ideal.exp (cum (ix2 x 2)) else Ideal.exp (cum (ix2 x 3))) * C (ix2 x n) := by
  pointwise [k0_pay137, k0_pay86, k0_pay87, k0_pay92, k0_pay88, k0_pay84, k0_pay85, k0_pay19]
  simp only [row_lo, lane_lo, select_bit]

/-- One of two neighbouring heads, by the half of the column pair. -/
theorem pick {α : Type} (F : ℕ → α) (g k : ℕ) {r : ℕ} (hr : r < 128) :
    (if r < 64 then F (4 * g + k) else F (4 * g + (k + 1))) = F ((256 * g + (64 * k + r)) / 64) := by
  split <;> congr 1 <;> omega

/-- One chunk of the recurrence, over the numbers: `d` a column, `n` a state entry, `a` the chunk's start. -/
theorem state_step (D : Data) (d n a : ℕ) (ha : a + 128 ≤ 4096) :
    D.state d n (a + 128) * Real.exp (D.cum (d / 64) a 127)
      + ∑ x : Fin 128, D.dy (a + x) d * Real.exp (D.cum (d / 64) a x) * D.C (d / 256) (a + x) n
      = D.state d n a := by
  unfold Data.state Data.cum
  rw [tail_step _ _ (Nat.le_add_right a 128) ha, Finset.sum_Ico_eq_sum_range, Nat.add_sub_cancel_left, ← Fin.sum_univ_eq_sum_range]
  congr 1
  refine Finset.sum_congr rfl fun x _ => ?_
  rw [← Nat.add_assoc]
  ring

/-! ## Two stores of half an array -/

theorem halves_rows (hi lo : FVec Ideal S128x128 .f32) (L : List (View.Piece (Elt Ideal) S256x128 .f32)) (r : Fin 256) (n : Fin 128) :
    View.canon (⟨Rect.unit ![128, 0] ![128, 128] inb_S256x128_S128x128_128_0, hi⟩
      :: ⟨Rect.unit ![0, 0] ![128, 128] inb_S256x128_S128x128_0_0, lo⟩ :: L) (ix2 r n)
      = if h : (r : ℕ) < 128 then lo (ix2 ⟨r, h⟩ n) else hi (ix2 ⟨r - 128, by omega⟩ n) := by
  split
  · rename_i h
    rw [View.canon_cons_of_not_mem]
    · have e : (ix2 r n : S256x128.Idx) = (Rect.unit ![0, 0] ![128, 128] inb_S256x128_S128x128_0_0).emb (ix2 ⟨r, h⟩ n) := by
        blk_ext
      rw [e, View.canon_cons_emb]
    · rw [Rect.mem_set_unit]
      intro hm
      have := (hm 0).1
      simp at this
      omega
  · rename_i h
    have e : (ix2 r n : S256x128.Idx) = (Rect.unit ![128, 0] ![128, 128] inb_S256x128_S128x128_128_0).emb (ix2 ⟨r - 128, by omega⟩ n) := by
      blk_ext
    rw [e, View.canon_cons_emb]

theorem halves_cols (hi lo : FVec Ideal S128x128 .f32) (r : Fin 128) (n : Fin 256) :
    View.canon (Val := Elt Ideal) (e := .f32) [⟨Rect.unit ![0, 128] ![128, 128] inb_S128x256_S128x128_0_128, hi⟩,
      ⟨Rect.unit ![0, 0] ![128, 128] inb_S128x256_S128x128_0_0, lo⟩] (ix2 r n)
      = if h : (n : ℕ) < 128 then lo (ix2 r ⟨n, h⟩) else hi (ix2 r ⟨n - 128, by omega⟩) := by
  split
  · rename_i h
    rw [View.canon_cons_of_not_mem]
    · have e : (ix2 r n : S128x256.Idx) = (Rect.unit ![0, 0] ![128, 128] inb_S128x256_S128x128_0_0).emb (ix2 r ⟨n, h⟩) := by
        blk_ext
      rw [e, View.canon_cons_emb]
    · rw [Rect.mem_set_unit]
      intro hm
      have := (hm 1).1
      simp at this
      omega
  · rename_i h
    have e : (ix2 r n : S128x256.Idx) = (Rect.unit ![0, 128] ![128, 128] inb_S128x256_S128x128_0_128).emb (ix2 r ⟨n - 128, by omega⟩) := by
      blk_ext
    rw [e, View.canon_cons_emb]

/-! ## Loads of half an array -/

theorem ld_rows_lo (X : FVec Ideal S256x128 .f32) (a b : Fin 128) :
    (View.ld (Val := Elt Ideal) (e' := .f32) X (Rect.unit ![0, 0] ![128, 128] inb_S256x128_S128x128_0_0) : FVec Ideal S128x128 .f32) (ix2 a b) = X (ix2 ⟨a, by omega⟩ b) := by
  refine congrArg (a₁ := (Rect.unit ![0, 0] ![128, 128] inb_S256x128_S128x128_0_0).emb (ix2 a b)) X ?_
  blk_ext

theorem ld_rows_hi (X : FVec Ideal S256x128 .f32) (a b : Fin 128) :
    (View.ld (Val := Elt Ideal) (e' := .f32) X (Rect.unit ![128, 0] ![128, 128] inb_S256x128_S128x128_128_0) : FVec Ideal S128x128 .f32) (ix2 a b) = X (ix2 ⟨128 + a, by omega⟩ b) := by
  refine congrArg (a₁ := (Rect.unit ![128, 0] ![128, 128] inb_S256x128_S128x128_128_0).emb (ix2 a b)) X ?_
  blk_ext

theorem ld_cols_lo (X : FVec Ideal S128x256 .f32) (a b : Fin 128) :
    (View.ld (Val := Elt Ideal) (e' := .f32) X (Rect.unit ![0, 0] ![128, 128] inb_S128x256_S128x128_0_0) : FVec Ideal S128x128 .f32) (ix2 a b) = X (ix2 a ⟨b, by omega⟩) := by
  refine congrArg (a₁ := (Rect.unit ![0, 0] ![128, 128] inb_S128x256_S128x128_0_0).emb (ix2 a b)) X ?_
  blk_ext

theorem ld_cols_hi (X : FVec Ideal S128x256 .f32) (a b : Fin 128) :
    (View.ld (Val := Elt Ideal) (e' := .f32) X (Rect.unit ![0, 128] ![128, 128] inb_S128x256_S128x128_0_128) : FVec Ideal S128x128 .f32) (ix2 a b) = X (ix2 a ⟨128 + b, by omega⟩) := by
  refine congrArg (a₁ := (Rect.unit ![0, 128] ![128, 128] inb_S128x256_S128x128_0_128).emb (ix2 a b)) X ?_
  blk_ext

variable {m} {D : Data} {c : Dev nD}

theorem dy_lo (h : ReadsAt m D c) (t : Fin cfg0.N) (a b : Fin 128) :
    View.ld (iblk m c 11 t) (Rect.unit ![0, 0] ![128, 128] inb_S128x256_S128x128_0_0) (ix2 a b)
      = (D.dy (128 * (31 - t.val % 32) + a) (256 * (t.val / 32) + (64 * 0 + b)) : EReal) :=
  (ld_cols_lo _ a b).trans ((dy_at h t a ⟨b, by omega⟩).trans (by simp))

theorem dy_hi (h : ReadsAt m D c) (t : Fin cfg0.N) (a b : Fin 128) :
    View.ld (iblk m c 11 t) (Rect.unit ![0, 128] ![128, 128] inb_S128x256_S128x128_0_128) (ix2 a b)
      = (D.dy (128 * (31 - t.val % 32) + a) (256 * (t.val / 32) + (64 * 2 + b)) : EReal) :=
  (ld_cols_hi _ a b).trans (dy_at h t a ⟨128 + b, by omega⟩)

theorem x_lo (h : ReadsAt m D c) (t : Fin cfg0.N) (a b : Fin 128) :
    View.ld (iblk m c 1 t) (Rect.unit ![0, 0] ![128, 128] inb_S128x256_S128x128_0_0) (ix2 a b)
      = (D.x (128 * (31 - t.val % 32) + a) (256 * (t.val / 32) + (64 * 0 + b)) : EReal) :=
  (ld_cols_lo _ a b).trans ((x_at h t a ⟨b, by omega⟩).trans (by simp))

theorem x_hi (h : ReadsAt m D c) (t : Fin cfg0.N) (a b : Fin 128) :
    View.ld (iblk m c 1 t) (Rect.unit ![0, 128] ![128, 128] inb_S128x256_S128x128_0_128) (ix2 a b)
      = (D.x (128 * (31 - t.val % 32) + a) (256 * (t.val / 32) + (64 * 2 + b)) : EReal) :=
  (ld_cols_hi _ a b).trans (x_at h t a ⟨128 + b, by omega⟩)

end Cert.KernelIdeal.Value

end
-- ==== Proof.Scratch.lean ====
/-
  What the carried array holds after each grid point: the cotangent of the state before the point's chunk.
-/
module

public import Idealize.ShloMosaic.Lib.Pipeline.ReadBack
public import Idealize.ShloMosaic.Lib.Pipeline.ValueKit
public import proofs.«01_k».proof.Proof.Carry

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

variable {m : (ℓ : Loc nD τ sig) → Buf (Elt Ideal) ℓ} {D : Data} {c : Dev nD}

/-- The two stores of a point. -/
abbrev stores (m : (ℓ : Loc nD τ sig) → Buf (Elt Ideal) ℓ) (c : Dev nD) (t : Fin cfg0.N) (prev : FVec Ideal S256x128 .f32)
    (L : List (View.Piece (Elt Ideal) S256x128 .f32)) : List (View.Piece (Elt Ideal) S256x128 .f32) :=
  ⟨Rect.unit ![128, 0] ![128, 128] inb_S256x128_S128x128_128_0,
    k0_pay137 (iblk m c 3 t) k0_pay18 (View.ld (Val := Elt Ideal) (e' := .f32) prev (Rect.unit ![128, 0] ![128, 128] inb_S256x128_S128x128_128_0))
      (k0_pay86 (k0_pay19 (cumc m c t))) (k0_pay87 (k0_pay19 (cumc m c t)))
      (k0_pay92 (View.ld (iblk m c 11 t) (Rect.unit ![0, 128] ![128, 128] inb_S128x256_S128x128_0_128)) (k0_pay88 (cumc m c t) k0_pay17))⟩
  :: ⟨Rect.unit ![0, 0] ![128, 128] inb_S256x128_S128x128_0_0,
    k0_pay81 (k0_pay80 (iblk m c 3 t) k0_pay18 (View.ld (Val := Elt Ideal) (e' := .f32) prev (Rect.unit ![0, 0] ![128, 128] inb_S256x128_S128x128_0_0))
      (k0_pay30 (cumc m c t)) (k0_pay31 (cumc m c t))
      (k0_pay37 (View.ld (iblk m c 11 t) (Rect.unit ![0, 0] ![128, 128] inb_S128x256_S128x128_0_0)) (k0_pay32 (cumc m c t))))⟩
  :: L

theorem stores_at (h : ReadsAt m D c) (t : Fin cfg0.N) (prev : FVec Ideal S256x128 .f32)
    (L : List (View.Piece (Elt Ideal) S256x128 .f32)) (r : Fin 256) (n : Fin 128)
    (hp : prev (ix2 r n) = (D.state (256 * (t.val / 32) + r) n (128 * (31 - t.val % 32) + 128) : EReal)) :
    View.canon (stores m c t prev L) (ix2 r n) = (D.state (256 * (t.val / 32) + r) n (128 * (31 - t.val % 32)) : EReal) := by
  have hg : (256 * (t.val / 32) + (r : ℕ)) / 256 = t.val / 32 := by omega
  have hC : ∀ x : Fin 128, iblk m c 3 t (ix2 x n) = (D.C (t.val / 32) (128 * (31 - t.val % 32) + x) n : EReal) := fun x => C_at h t x n
  have c0 : ∀ l : Fin 128, cumc m c t (ix2 l 0) = (D.cum (4 * (t.val / 32) + 0) (128 * (31 - t.val % 32)) l : EReal) :=
    fun l => cumc_at h t l 0 (by decide)
  have c1 : ∀ l : Fin 128, cumc m c t (ix2 l 1) = (D.cum (4 * (t.val / 32) + (0 + 1)) (128 * (31 - t.val % 32)) l : EReal) :=
    fun l => cumc_at h t l 1 (by decide)
  have c2 : ∀ l : Fin 128, cumc m c t (ix2 l 2) = (D.cum (4 * (t.val / 32) + 2) (128 * (31 - t.val % 32)) l : EReal) :=
    fun l => cumc_at h t l 2 (by decide)
  have c3 : ∀ l : Fin 128, cumc m c t (ix2 l 3) = (D.cum (4 * (t.val / 32) + (2 + 1)) (128 * (31 - t.val % 32)) l : EReal) :=
    fun l => cumc_at h t l 3 (by decide)
  rw [← state_step D (256 * (t.val / 32) + r) n (128 * (31 - t.val % 32)) (by omega), hg]
  rw [halves_rows]
  split
  · rename_i hr
    have e : 64 * 0 + r.val = r := by omega
    have q : ∀ l : ℕ, (if (r : ℕ) < 64 then Real.exp (D.cum (4 * (t.val / 32) + 0) (128 * (31 - t.val % 32)) l)
        else Real.exp (D.cum (4 * (t.val / 32) + (0 + 1)) (128 * (31 - t.val % 32)) l))
        = Real.exp (D.cum ((256 * (t.val / 32) + (64 * 0 + r)) / 64) (128 * (31 - t.val % 32)) l) :=
      fun l => pick (fun k => Real.exp (D.cum k _ l)) _ 0 hr
    rw [carry_lo, ld_rows_lo, hp]
    simp only [dy_lo h, hC, c0, c1, Ideal.exp_coe, ← coe_ite, q, e, ← EReal.coe_mul, ← coe_sum, ← EReal.coe_add]
    rfl
  · rename_i hr
    have e : 64 * 2 + (r.val - 128) = r := by omega
    have e' : (⟨128 + (r.val - 128), by omega⟩ : Fin 256) = r := by ext; simp; omega
    have q : ∀ l : ℕ, (if (r : ℕ) - 128 < 64 then Real.exp (D.cum (4 * (t.val / 32) + 2) (128 * (31 - t.val % 32)) l)
        else Real.exp (D.cum (4 * (t.val / 32) + (2 + 1)) (128 * (31 - t.val % 32)) l))
        = Real.exp (D.cum ((256 * (t.val / 32) + (64 * 2 + (r - 128))) / 64) (128 * (31 - t.val % 32)) l) :=
      fun l => pick (fun k => Real.exp (D.cum k _ l)) _ 2 (by omega)
    rw [carry_hi, ld_rows_hi, e', hp]
    simp only [dy_hi h, hC, c2, c3, Ideal.exp_coe, ← coe_ite, q, e, ← EReal.coe_mul, ← coe_sum, ← EReal.coe_add]
    rfl

theorem carried (h : ReadsAt m D c) : ∀ (k : ℕ) (hk : k < cfg0.N) (r : Fin 256) (n : Fin 128),
    (outsAt0 m c k hk).2.2.2.2.2.2.2.2 (ix2 r n) = (D.state (256 * (k / 32) + r) n (128 * (31 - k % 32)) : EReal) := by
  intro k
  induction k using Nat.strong_induction_on with
  | _ k ih =>
    intro hk r n
    by_cases h0 : k % 32 = 0
    · rw [outsAt0_A m c ⟨k, hk⟩ h0]
      dsimp only
      frame_open; simp (disch := decide) only [↓ View.readCov_skip, ↓ View.readCov_cons_toLoadRect, ↓ View.readCov_fill]; frame_out; try simp only [read_unread_whole]
      refine stores_at h ⟨k, hk⟩ k0_pay4 _ r n ?_
      have z : (128 * (31 - k % 32) + 128) = 4096 := by omega
      pointwise [k0_pay4]
      simp [z, Data.state, tail_end]
    · rw [outsAt0_B m c ⟨k, hk⟩ h0]
      dsimp only
      frame_open; simp (disch := decide) only [↓ View.readCov_skip, ↓ View.readCov_cons_toLoadRect, ↓ View.readCov_fill]; frame_out; try simp only [read_unread_whole]
      refine stores_at h ⟨k, hk⟩ _ [] r n ?_
      rw [ih (k - 1) (by omega)]
      have z : 128 * (31 - (k - 1) % 32) = 128 * (31 - k % 32) + 128 := by omega
      have z' : (k - 1) / 32 = k / 32 := by omega
      rw [z, z']

end Cert.KernelIdeal.Value

end
-- ==== Proof.Chunk.lean ====
/-
  One chunk of the two derivatives, over the real numbers: the tokens after the chunk through the carried state, the
  chunk's own through a masked sum.
-/
module

public import proofs.«01_k».proof.Proof.Data

@[expose] public section

noncomputable section

namespace Cert.Scan

open Finset

/-- A sum over tokens inside what is carried comes out. -/
theorem tail_sum {ι : Type*} (J : Finset ι) (la : ℕ → ℝ) (w : ι → ℝ) (f : ι → ℕ → ℝ) (T b : ℕ) :
    tail la (fun l => ∑ j ∈ J, w j * f j l) T b = ∑ j ∈ J, w j * tail la (f j) T b := by
  simp only [tail, mul_sum]
  rw [sum_comm]
  exact sum_congr rfl fun l _ => sum_congr rfl fun j _ => by ring

/-- A chunk of `Q = q + 1` tokens, from token `a`; `s` is the place in the chunk. -/
theorem split_chunk (D : Data) (h : ℕ) (f : ℕ → ℝ) {q Q a s : ℕ} (hq : q + 1 = Q) (hs : s < Q) (ha : a + Q ≤ 4096) :
    ∑ l ∈ Ico (a + s) 4096, D.dec h l (a + s) * f l
      = Real.exp (D.cum h a q - D.cum h a s) * tail (D.la h) f 4096 (a + Q)
        + ∑ x : Fin Q, (if s ≤ x then Real.exp (D.cum h a x - D.cum h a s) else 0) * f (a + x) := by
  subst hq
  unfold Data.dec
  rw [through_chunk (D.la h) f (Nat.le_add_right a s) (Nat.add_lt_add_left hs a) ha, Finset.sum_Ico_eq_sum_range,
    Nat.add_sub_cancel_left, ← Fin.sum_univ_eq_sum_range]
  unfold Data.cum
  congr 1
  · congr 2
    ring_nf
  · refine sum_congr rfl fun x _ => ?_
    simp only [Nat.add_le_add_iff_left, sub_sub_sub_cancel_right, Nat.add_assoc]

theorem dx_chunk (D : Data) {q Q h g d a s : ℕ} (hq : q + 1 = Q) (hh : d / 64 = h) (hg : d / 256 = g) (hs : s < Q) (ha : a + Q ≤ 4096) :
    D.dx (a + s) d
      = Real.exp (D.cum h a q - D.cum h a s) * D.dt (a + s) h * ∑ n : Fin 128, D.B g (a + s) n * D.state d n (a + Q)
        + ∑ x : Fin Q, (∑ n : Fin 128, D.C g (a + x) n * D.B g (a + s) n)
          * (if s ≤ x then Real.exp (D.cum h a x - D.cum h a s) else 0) * D.dt (a + s) h * D.dy (a + x) d := by
  unfold Data.dx
  rw [split_chunk D _ (fun l => D.dt (a + s) (d / 64) * (∑ n ∈ range 128, D.C (d / 256) l n * D.B (d / 256) (a + s) n) * D.dy l d) hq hs ha,
    hh, hg]
  congr 1
  · have e : (fun l => D.dt (a + s) h * (∑ n ∈ range 128, D.C g l n * D.B g (a + s) n) * D.dy l d)
        = fun l => ∑ n ∈ range 128, (D.dt (a + s) h * D.B g (a + s) n) * (D.dy l d * D.C g l n) := by
      funext l
      rw [mul_sum, sum_mul]
      exact sum_congr rfl fun n _ => by ring
    rw [e, tail_sum, Fin.sum_univ_eq_sum_range (fun n => D.B g (a + s) n * D.state d n (a + Q)), mul_assoc]
    unfold Data.state
    rw [hh, hg]
    congr 1
    rw [mul_sum]
    exact sum_congr rfl fun n _ => by ring
  · refine sum_congr rfl fun x _ => ?_
    rw [Fin.sum_univ_eq_sum_range (fun n => D.C g (a + x) n * D.B g (a + s) n)]
    ring

/-- One column's part of the derivative by `B`. -/
theorem dB_column (D : Data) {q Q h g d a s : ℕ} (n : ℕ) (hq : q + 1 = Q) (hh : d / 64 = h) (hg : d / 256 = g) (hs : s < Q) (ha : a + Q ≤ 4096) :
    ∑ l ∈ Ico (a + s) 4096, D.dec (d / 64) l (a + s) * (D.dt (a + s) (d / 64) * D.x (a + s) d * (D.dy l d * D.C g l n))
      = D.x (a + s) d * (Real.exp (D.cum h a q - D.cum h a s) * D.dt (a + s) h) * D.state d n (a + Q)
        + ∑ x : Fin Q, D.dy (a + x) d * D.x (a + s) d
          * (if s ≤ x then Real.exp (D.cum h a x - D.cum h a s) else 0) * D.dt (a + s) h * D.C g (a + x) n := by
  rw [split_chunk D _ (fun l => D.dt (a + s) (d / 64) * D.x (a + s) d * (D.dy l d * D.C g l n)) hq hs ha, hh]
  have e := tail_sum {()} (D.la h) (fun _ => D.dt (a + s) h * D.x (a + s) d) (fun _ l => D.dy l d * D.C g l n) 4096 (a + Q)
  simp only [sum_singleton] at e
  rw [e]
  unfold Data.state
  rw [hh, hg]
  congr 1
  · ring
  · exact sum_congr rfl fun x _ => by ring

theorem merge {N : ℕ} (p : Fin N → Prop) [DecidablePred p] (f : Fin N → ℝ) (a b : ℝ) :
    (∑ x, if p x then f x else 0) * a + (∑ x, if ¬ p x then f x else 0) * b = ∑ x, f x * (if p x then a else b) := by
  rw [sum_mul, sum_mul, ← sum_add_distrib]
  refine sum_congr rfl fun x _ => ?_
  by_cases h : p x <;> simp [h]

/-- Column `d` of the group: what comes through the carried state. -/
def later (D : Data) (g a s n d : ℕ) : ℝ :=
  D.x (a + s) (256 * g + d) * (Real.exp (D.cum ((256 * g + d) / 64) a 127 - D.cum ((256 * g + d) / 64) a s)
    * D.dt (a + s) ((256 * g + d) / 64)) * D.state (256 * g + d) n (a + 128)

/-- Column `d` of the group: the factor of `C` at token `x` of the chunk. -/
def inside (D : Data) (g a s x d : ℕ) : ℝ :=
  D.dy (a + x) (256 * g + d) * D.x (a + s) (256 * g + d)
    * ((if s ≤ x then Real.exp (D.cum ((256 * g + d) / 64) a x - D.cum ((256 * g + d) / 64) a s) else 0)
      * D.dt (a + s) ((256 * g + d) / 64))

theorem dB_chunk (D : Data) {g a s : ℕ} (n : ℕ) (hs : s < 128) (ha : a + 128 ≤ 4096) :
    D.dB g (a + s) n
      = ((∑ d : Fin 128, later D g a s n (64 * 0 + d)) + ∑ d : Fin 128, later D g a s n (64 * 2 + d))
        + ∑ x : Fin 128, ((∑ d : Fin 128, inside D g a s x (64 * 0 + d)) + ∑ d : Fin 128, inside D g a s x (64 * 2 + d))
          * D.C g (a + x) n := by
  have e : ∀ d ∈ range 256, ∑ l ∈ Ico (a + s) 4096, D.dec ((256 * g + d) / 64) l (a + s)
      * (D.dt (a + s) ((256 * g + d) / 64) * D.x (a + s) (256 * g + d) * (D.dy l (256 * g + d) * D.C g l n))
      = later D g a s n d + ∑ x : Fin 128, inside D g a s x d * D.C g (a + x) n := by
    intro d hd
    have hd' := mem_range.mp hd
    rw [dB_column D n (rfl : 127 + 1 = 128) rfl (show (256 * g + d) / 256 = g by omega) hs ha]
    unfold later inside
    congr 1
    exact sum_congr rfl fun x _ => by ring
  have halves : ∀ f : ℕ → ℝ, ∑ d ∈ range 256, f d = (∑ d : Fin 128, f (64 * 0 + d)) + ∑ d : Fin 128, f (64 * 2 + d) := by
    intro f
    rw [Fin.sum_univ_eq_sum_range (fun d => f (64 * 0 + d)), Fin.sum_univ_eq_sum_range (fun d => f (64 * 2 + d)),
      show (256 : ℕ) = 128 + 128 from rfl, sum_range_add]
    simp
  unfold Data.dB
  rw [sum_congr rfl e, sum_add_distrib, halves, sum_comm]
  congr 1
  refine sum_congr rfl fun x _ => ?_
  rw [← sum_mul, halves]

end Cert.Scan

end
-- ==== Proof.DbBlock.lean ====
/-
  The block of the derivative by `B` which a grid point writes.
-/
module

public import proofs.«01_k».proof.Proof.Scratch
public import proofs.«01_k».proof.Proof.Chunk

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

/-- Two heads' part through the carried array. -/
def halfLater (dtc cum x p : FVec Ideal S128x128 .f32) (i j : Fin 128) (s n : Fin 128) : EReal :=
  ∑ d : Fin 128, x (ix2 s d)
    * ((if (d : ℕ) < 64 then Ideal.exp (cum (ix2 127 i) - cum (ix2 s i)) else Ideal.exp (cum (ix2 127 j) - cum (ix2 s j)))
      * (if (d : ℕ) < 64 then dtc (ix2 s i) else dtc (ix2 s j))) * p (ix2 d n)

/-- One head's factor of `C` at token `l`, `w` the sum over the head's columns. -/
def headInside (cum : FVec Ideal S128x128 .f32) (dtr cumr : FVec Ideal S8x128 .f32) (w : EReal) (i : Fin 128) (j : Fin 8)
    (s l : Fin 128) : EReal :=
  w * (if (s : ℕ) ≤ l then Ideal.exp (cum (ix2 l i) - cumr (ix2 j s)) else 0) * dtr (ix2 j s)

/-- The products of two rows, summed over the first or the second 64 columns. -/
def lowSum (x y : FVec Ideal S128x128 .f32) (s l : Fin 128) : EReal := ∑ d : Fin 128, if (d : ℕ) < 64 then y (ix2 l d) * x (ix2 s d) else 0
def highSum (x y : FVec Ideal S128x128 .f32) (s l : Fin 128) : EReal := ∑ d : Fin 128, if ¬ (d : ℕ) < 64 then y (ix2 l d) * x (ix2 s d) else 0

theorem masked_exp' (p : Prop) [Decidable p] (a b c : EReal) :
    (if p then a * Ideal.exp (if p then b else 0) * c else 0) = a * (if p then Ideal.exp b else 0) * c := by
  split <;> simp

theorem dB_pay (dtc cum C xl xh yl yh pl ph : FVec Ideal S128x128 .f32) (dtr cumr : FVec Ideal S8x128 .f32) (s n : Fin 128) :
    k0_pay141 C (k0_pay123 k0_pay5 dtr cum cumr k0_pay17 xh yh (k0_pay104 (k0_pay66 xl yl (k0_pay48 k0_pay5 dtr k0_pay17 k0_pay20 xl yl
        (k0_pay42 k0_pay5 cum cumr) k0_pay43) (k0_pay59 k0_pay17) (k0_pay60 k0_pay5 cum cumr) (k0_pay61 dtr) k0_pay63)
        (k0_pay97 k0_pay5 cum cumr) (k0_pay98 dtr) (k0_pay101 k0_pay17 yh) (k0_pay102 xh)))
        (k0_pay136 (k0_pay79 k0_pay22 xl pl (k0_pay35 dtc k0_pay17 (k0_pay28 cum) (k0_pay29 cum) (k0_pay31 cum) (k0_pay33 cum)))
          xh ph (k0_pay90 dtc k0_pay17 (k0_pay89 cum k0_pay17 (k0_pay19 cum)))) (ix2 s n)
      = halfLater dtc cum xl pl 0 1 s n + halfLater dtc cum xh ph 2 3 s n
        + ∑ l : Fin 128, (headInside cum dtr cumr (lowSum xl yl s l) 0 0 s l
          + headInside cum dtr cumr (highSum xl yl s l) 1 1 s l
          + headInside cum dtr cumr (lowSum xh yh s l) 2 2 s l
          + headInside cum dtr cumr (highSum xh yh s l) 3 3 s l) * C (ix2 l n) := by
  pointwise [k0_pay141, k0_pay123, k0_pay104, k0_pay66, k0_pay48, k0_pay20, k0_pay42, k0_pay43, k0_pay59, k0_pay60, k0_pay61, k0_pay63,
    k0_pay97, k0_pay98, k0_pay101, k0_pay102, k0_pay136, k0_pay79, k0_pay22, k0_pay35, k0_pay28, k0_pay29, k0_pay31, k0_pay30, k0_pay33,
    k0_pay90, k0_pay89, k0_pay19, k0_pay34, k0_pay44, k0_pay45, k0_pay47, k0_pay65, k0_pay103, k0_pay122, k0_pay117, k0_pay118, k0_pay119,
    k0_pay84, k0_pay85, k0_pay86, k0_pay87, k0_pay88, k0_pay46, k0_pay64, k0_pay100, k0_pay121]
  simp only [lane_lo, tril_at, not_bit, select_bit, masked_exp']
  rfl

variable {m : (ℓ : Loc nD τ sig) → Buf (Elt Ideal) ℓ} {D : Data} {c : Dev nD}

/-- The part of heads `4 g + k`, `4 g + k + 1` through the carried array. -/
theorem halfLater_at (h : ReadsAt m D c) (t : Fin cfg0.N) (x p : FVec Ideal S128x128 .f32) (k : ℕ) (i j : Fin 128)
    (hi : i.val = k) (hj : j.val = k + 1) (hk : k + 1 < 4) (s n : Fin 128)
    (hx : ∀ d : Fin 128, x (ix2 s d) = (D.x (128 * (31 - t.val % 32) + s) (256 * (t.val / 32) + (64 * k + d)) : EReal))
    (hp : ∀ d : Fin 128, p (ix2 d n) = (D.state (256 * (t.val / 32) + (64 * k + d)) n (128 * (31 - t.val % 32) + 128) : EReal)) :
    halfLater (dtc m c t) (cumc m c t) x p i j s n
      = ((∑ d : Fin 128, later D (t.val / 32) (128 * (31 - t.val % 32)) s n (64 * k + d) : ℝ) : EReal) := by
  unfold halfLater
  rw [coe_sum]
  refine Finset.sum_congr rfl fun d _ => ?_
  rw [hx, hp, cumc_at h t _ i (by omega), cumc_at h t _ j (by omega), cumc_at h t _ i (by omega), cumc_at h t _ j (by omega),
    dtc_at h t _ i (by omega), dtc_at h t _ j (by omega), hi, hj]
  simp only [← EReal.coe_sub, Ideal.exp_coe, ← coe_ite, ← EReal.coe_mul]
  rw [pick (fun q => Real.exp (D.cum q _ _ - D.cum q _ _)) _ k d.isLt, pick (fun q => D.dt _ q) _ k d.isLt]
  rfl

/-- The factor of `C` from heads `4 g + k`, `4 g + k + 1`. -/
theorem headInside_at (h : ReadsAt m D c) (t : Fin cfg0.N) (x y : FVec Ideal S128x128 .f32) (k : ℕ) (i j : Fin 128) (i' j' : Fin 8)
    (hi : i.val = k) (hj : j.val = k + 1) (hi' : i'.val = k) (hj' : j'.val = k + 1) (hk : k + 1 < 4) (s l : Fin 128)
    (hx : ∀ d : Fin 128, x (ix2 s d) = (D.x (128 * (31 - t.val % 32) + s) (256 * (t.val / 32) + (64 * k + d)) : EReal))
    (hy : ∀ d : Fin 128, y (ix2 l d) = (D.dy (128 * (31 - t.val % 32) + l) (256 * (t.val / 32) + (64 * k + d)) : EReal)) :
    headInside (cumc m c t) (dtr m c t) (cumr m c t) (lowSum x y s l) i i' s l
      + headInside (cumc m c t) (dtr m c t) (cumr m c t) (highSum x y s l) j j' s l
      = ((∑ d : Fin 128, inside D (t.val / 32) (128 * (31 - t.val % 32)) s l (64 * k + d) : ℝ) : EReal) := by
  unfold headInside lowSum highSum
  rw [cumc_at h t _ i (by omega), cumc_at h t _ j (by omega), cumr_at h t _ i' (by omega), cumr_at h t _ j' (by omega),
    dtr_at h t _ i' (by omega), dtr_at h t _ j' (by omega), hi, hj, hi', hj']
  simp only [hx, hy, ← EReal.coe_sub, Ideal.exp_coe, ← EReal.coe_zero, ← EReal.coe_mul, ← coe_ite, ← coe_sum, ← EReal.coe_add]
  congr 1
  rw [mul_assoc, mul_assoc, merge (fun d : Fin 128 => (d : ℕ) < 64)]
  refine Finset.sum_congr rfl fun d _ => ?_
  rw [pick (fun q => (if (s : ℕ) ≤ l then Real.exp (D.cum q _ _ - D.cum q _ _) else 0) * D.dt _ q) _ k d.isLt]
  rfl

end Cert.KernelIdeal.Value

end
-- ==== Proof.DxBlock.lean ====
/-
  The block of the derivative by `x` which a grid point writes.
-/
module

public import proofs.«01_k».proof.Proof.Scratch
public import proofs.«01_k».proof.Proof.Chunk

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

/-- One head's part of the block, at one token and one column: through the carried array, the skip connection, and the
    chunk's own tokens. -/
def headDx (dtc cum B C dy dh : FVec Ideal S128x128 .f32) (dtr cumr : FVec Ideal S8x128 .f32) (skip : EReal) (i : Fin 128) (j : Fin 8)
    (s d : Fin 128) : EReal :=
  Ideal.exp (cum (ix2 127 i) - cum (ix2 s i)) * dtc (ix2 s i) * (∑ x : Fin 128, B (ix2 s x) * dh (ix2 d x))
    + skip * dy (ix2 s d)
    + ∑ x : Fin 128, (∑ y : Fin 128, C (ix2 x y) * B (ix2 s y)) * (if (s : ℕ) ≤ x then Ideal.exp (cum (ix2 x i) - cumr (ix2 j s)) else 0)
      * dtr (ix2 j s) * dy (ix2 x d)

theorem masked_exp (p : Prop) [Decidable p] (a b c e : EReal) :
    (if p then a * Ideal.exp (if p then b else 0) * c * e else 0) = a * (if p then Ideal.exp b else 0) * c * e := by
  split <;> simp

theorem dx_lo (dtc cum B C dy dh : FVec Ideal S128x128 .f32) (dtr cumr : FVec Ideal S8x128 .f32) (k0 k1 : Elt Ideal .f32)
    (s d : Fin 128) :
    k0_pay69 dy (k0_pay51 k0_pay5 dtr (k0_pay16 B C) k0_pay17 dy (k0_pay41 dtc B k0_pay17 dy dh (k0_pay28 cum) (k0_pay29 cum)
        (k0_pay31 cum) (k0_pay33 cum) k0 k1) (k0_pay42 k0_pay5 cum cumr) k0_pay43) (k0_pay59 k0_pay17)
        (k0_pay62 k0_pay5 dtr cum cumr (k0_pay16 B C)) k0_pay63 (ix2 s d)
      = if (d : ℕ) < 64 then headDx dtc cum B C dy dh dtr cumr k0 0 0 s d else headDx dtc cum B C dy dh dtr cumr k1 1 1 s d := by
  pointwise [k0_pay69, k0_pay51, k0_pay41, k0_pay42, k0_pay43, k0_pay59, k0_pay62, k0_pay63, k0_pay60, k0_pay61, k0_pay44, k0_pay45, k0_pay46, k0_pay64,
    k0_pay34, k0_pay35, k0_pay36, k0_pay30, k0_pay31, k0_pay33, k0_pay28, k0_pay29, k0_pay19, k0_pay16]
  simp only [lane_lo, tril_at, not_bit, select_bit]
  unfold headDx
  split <;> simp [masked_exp]

theorem dx_hi (dtc cum B C dy dh : FVec Ideal S128x128 .f32) (dtr cumr : FVec Ideal S8x128 .f32) (k0 k1 : Elt Ideal .f32)
    (s d : Fin 128) :
    k0_pay126 (k0_pay107 (k0_pay96 dtc B k0_pay17 dy dh (k0_pay89 cum k0_pay17 (k0_pay19 cum)) k0 k1)
         (k0_pay99 k0_pay5 dtr cum cumr (k0_pay16 B C)) (k0_pay100 k0_pay17 dy)) (k0_pay120 k0_pay5 dtr cum cumr (k0_pay16 B C)) (k0_pay121 k0_pay17 dy) (ix2 s d)
      = if (d : ℕ) < 64 then headDx dtc cum B C dy dh dtr cumr k0 2 2 s d else headDx dtc cum B C dy dh dtr cumr k1 3 3 s d := by
  pointwise [k0_pay126, k0_pay107, k0_pay96, k0_pay89, k0_pay99, k0_pay100, k0_pay120, k0_pay121, k0_pay90, k0_pay91, k0_pay117, k0_pay118, k0_pay119,
    k0_pay97, k0_pay98, k0_pay84, k0_pay85, k0_pay86, k0_pay87, k0_pay88, k0_pay19, k0_pay16]
  simp only [lane_lo, tril_at, not_bit, select_bit]
  unfold headDx
  split <;> simp [masked_exp]

variable {m : (ℓ : Loc nD τ sig) → Buf (Elt Ideal) ℓ} {D : Data} {c : Dev nD}

/-- The part of head `4 g + i`, where the arrays hold the chunk's numbers; `e` is the column. -/
theorem headDx_at (h : ReadsAt m D c) (t : Fin cfg0.N) (dy dh : FVec Ideal S128x128 .f32) (skip : EReal) (i : Fin 128) (j : Fin 8)
    (hi : i.val < 4) (hj : j.val = i.val) (s d : Fin 128) (e : ℕ) (he : e / 64 = 4 * (t.val / 32) + i)
    (hdy : ∀ x : Fin 128, dy (ix2 x d) = (D.dy (128 * (31 - t.val % 32) + x) e : EReal))
    (hdh : ∀ n : Fin 128, dh (ix2 d n) = (D.state e n (128 * (31 - t.val % 32) + 128) : EReal)) :
    headDx (dtc m c t) (cumc m c t) (iblk m c 2 t) (iblk m c 3 t) dy dh (dtr m c t) (cumr m c t) skip i j s d
      = skip * (D.dy (128 * (31 - t.val % 32) + s) e : EReal) + (D.dx (128 * (31 - t.val % 32) + s) e : EReal) := by
  have hB : ∀ x : Fin 128, iblk m c 2 t (ix2 s x) = (D.B (t.val / 32) (128 * (31 - t.val % 32) + s) x : EReal) := fun x => B_at h t s x
  have hC : ∀ x n : Fin 128, iblk m c 3 t (ix2 x n) = (D.C (t.val / 32) (128 * (31 - t.val % 32) + x) n : EReal) := fun x n => C_at h t x n
  unfold headDx
  rw [dx_chunk D (rfl : 127 + 1 = 128) he (show e / 256 = t.val / 32 by omega) s.isLt (by omega)]
  simp only [hdy, hdh, hB, hC, cumc_at h t _ i hi, cumr_at h t _ j (hj ▸ hi), dtc_at h t _ i hi, dtr_at h t _ j (hj ▸ hi), hj,
    ← EReal.coe_sub, Ideal.exp_coe, ← EReal.coe_zero, ← coe_ite, ← EReal.coe_mul, ← coe_sum]
  rw [add_comm (Real.toEReal _) (skip * _), add_assoc, ← EReal.coe_add]
  rfl

end Cert.KernelIdeal.Value

end
-- ==== Proof.DxOut.lean ====
/-
  The window of the derivative by `x`, after each grid point.
-/
module

public import proofs.«01_k».proof.Proof.DxBlock

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

variable {m : (ℓ : Loc nD τ sig) → Buf (Elt Ideal) ℓ} {D : Data} {c : Dev nD}

/-- The block, written by halves from the carried array `prev`; `k i` is the skip factor of head `i` of the group. -/
theorem dx_block (h : ReadsAt m D c) (t : Fin cfg0.N) (prev : FVec Ideal S256x128 .f32) (k0 k1 k2 k3 : Elt Ideal .f32)
    (hk0 : k0 = D.skip (4 * (t.val / 32) + 0)) (hk1 : k1 = D.skip (4 * (t.val / 32) + 1))
    (hk2 : k2 = D.skip (4 * (t.val / 32) + 2)) (hk3 : k3 = D.skip (4 * (t.val / 32) + 3))
    (hp : ∀ r n, prev (ix2 r n) = (D.state (256 * (t.val / 32) + r) n (128 * (31 - t.val % 32) + 128) : EReal))
    (s : Fin 128) (d : Fin 256) :
    View.canon (Val := Elt Ideal) (e := .f32)
      [⟨Rect.unit ![0, 128] ![128, 128] inb_S128x256_S128x128_0_128,
        k0_pay126 (k0_pay107 (k0_pay96 (dtc m c t) (iblk m c 2 t) k0_pay17
            (View.ld (iblk m c 11 t) (Rect.unit ![0, 128] ![128, 128] inb_S128x256_S128x128_0_128))
            (View.ld (Val := Elt Ideal) (e' := .f32) prev (Rect.unit ![128, 0] ![128, 128] inb_S256x128_S128x128_128_0))
            (k0_pay89 (cumc m c t) k0_pay17 (k0_pay19 (cumc m c t))) k2 k3)
          (k0_pay99 k0_pay5 (dtr m c t) (cumc m c t) (cumr m c t) (k0_pay16 (iblk m c 2 t) (iblk m c 3 t)))
          (k0_pay100 k0_pay17 (View.ld (iblk m c 11 t) (Rect.unit ![0, 128] ![128, 128] inb_S128x256_S128x128_0_128))))
          (k0_pay120 k0_pay5 (dtr m c t) (cumc m c t) (cumr m c t) (k0_pay16 (iblk m c 2 t) (iblk m c 3 t)))
          (k0_pay121 k0_pay17 (View.ld (iblk m c 11 t) (Rect.unit ![0, 128] ![128, 128] inb_S128x256_S128x128_0_128)))⟩,
      ⟨Rect.unit ![0, 0] ![128, 128] inb_S128x256_S128x128_0_0,
        k0_pay69 (View.ld (iblk m c 11 t) (Rect.unit ![0, 0] ![128, 128] inb_S128x256_S128x128_0_0))
          (k0_pay51 k0_pay5 (dtr m c t) (k0_pay16 (iblk m c 2 t) (iblk m c 3 t)) k0_pay17
            (View.ld (iblk m c 11 t) (Rect.unit ![0, 0] ![128, 128] inb_S128x256_S128x128_0_0))
            (k0_pay41 (dtc m c t) (iblk m c 2 t) k0_pay17
              (View.ld (iblk m c 11 t) (Rect.unit ![0, 0] ![128, 128] inb_S128x256_S128x128_0_0))
              (View.ld (Val := Elt Ideal) (e' := .f32) prev (Rect.unit ![0, 0] ![128, 128] inb_S256x128_S128x128_0_0))
              (k0_pay28 (cumc m c t)) (k0_pay29 (cumc m c t)) (k0_pay31 (cumc m c t)) (k0_pay33 (cumc m c t)) k0 k1)
            (k0_pay42 k0_pay5 (cumc m c t) (cumr m c t)) k0_pay43)
          (k0_pay59 k0_pay17) (k0_pay62 k0_pay5 (dtr m c t) (cumc m c t) (cumr m c t) (k0_pay16 (iblk m c 2 t) (iblk m c 3 t)))
          k0_pay63⟩] (ix2 s d)
      = D.skip ((256 * (t.val / 32) + d) / 64) * (D.dy (128 * (31 - t.val % 32) + s) (256 * (t.val / 32) + d) : EReal)
        + (D.dx (128 * (31 - t.val % 32) + s) (256 * (t.val / 32) + d) : EReal) := by
  rw [halves_cols]
  split
  · rename_i hd
    have e : 64 * 0 + d.val = d := by omega
    have hy : ∀ x : Fin 128, View.ld (iblk m c 11 t) (Rect.unit ![0, 0] ![128, 128] inb_S128x256_S128x128_0_0) (ix2 x ⟨d, hd⟩)
        = (D.dy (128 * (31 - t.val % 32) + x) (256 * (t.val / 32) + d) : EReal) := fun x => (dy_lo h t x ⟨d, hd⟩).trans (by rw [e])
    have hs : ∀ n : Fin 128, View.ld (Val := Elt Ideal) (e' := .f32) prev (Rect.unit ![0, 0] ![128, 128] inb_S256x128_S128x128_0_0) (ix2 ⟨d, hd⟩ n)
        = (D.state (256 * (t.val / 32) + d) n (128 * (31 - t.val % 32) + 128) : EReal) := fun n => (ld_rows_lo prev _ n).trans (hp d n)
    rw [dx_lo]
    split
    · rename_i hd'
      have q : (256 * (t.val / 32) + d.val) / 64 = 4 * (t.val / 32) + 0 := by simp at hd'; omega
      rw [headDx_at h t _ _ k0 0 0 (by decide) rfl s ⟨d, hd⟩ _ q hy hs, hk0, q]
    · rename_i hd'
      have q : (256 * (t.val / 32) + d.val) / 64 = 4 * (t.val / 32) + 1 := by simp at hd'; omega
      rw [headDx_at h t _ _ k1 1 1 (by decide) rfl s ⟨d, hd⟩ _ q hy hs, hk1, q]
  · rename_i hd
    have e : 64 * 2 + (d.val - 128) = d := by omega
    have e' : (⟨128 + (d.val - 128), by omega⟩ : Fin 256) = d := by ext; simp; omega
    have hy : ∀ x : Fin 128, View.ld (iblk m c 11 t) (Rect.unit ![0, 128] ![128, 128] inb_S128x256_S128x128_0_128) (ix2 x ⟨d - 128, by omega⟩)
        = (D.dy (128 * (31 - t.val % 32) + x) (256 * (t.val / 32) + d) : EReal) := fun x => (dy_hi h t x ⟨d - 128, by omega⟩).trans (by rw [e])
    have hs : ∀ n : Fin 128, View.ld (Val := Elt Ideal) (e' := .f32) prev (Rect.unit ![128, 0] ![128, 128] inb_S256x128_S128x128_128_0) (ix2 ⟨d - 128, by omega⟩ n)
        = (D.state (256 * (t.val / 32) + d) n (128 * (31 - t.val % 32) + 128) : EReal) :=
      fun n => (ld_rows_hi prev _ n).trans (by rw [e']; exact hp d n)
    rw [dx_hi]
    split
    · rename_i hd'
      have q : (256 * (t.val / 32) + d.val) / 64 = 4 * (t.val / 32) + 2 := by simp at hd'; omega
      rw [headDx_at h t _ _ k2 2 2 (by decide) rfl s ⟨d - 128, by omega⟩ _ q hy hs, hk2, q]
    · rename_i hd'
      have q : (256 * (t.val / 32) + d.val) / 64 = 4 * (t.val / 32) + 3 := by simp at hd'; omega
      rw [headDx_at h t _ _ k3 3 3 (by decide) rfl s ⟨d - 128, by omega⟩ _ q hy hs, hk3, q]

theorem previous (h : ReadsAt m D c) (t : Fin cfg0.N) (h0 : ¬ t.val % 32 = 0) (hk : t.val - 1 < cfg0.N) (r : Fin 256) (n : Fin 128) :
    (outsAt0 m c (t.val - 1) hk).2.2.2.2.2.2.2.2 (ix2 r n) = (D.state (256 * (t.val / 32) + r) n (128 * (31 - t.val % 32) + 128) : EReal) := by
  rw [carried h (t.val - 1) hk]
  have z : 128 * (31 - (t.val - 1) % 32) = 128 * (31 - t.val % 32) + 128 := by omega
  have z' : (t.val - 1) / 32 = t.val / 32 := by omega
  rw [z, z']

theorem first (t : Fin cfg0.N) (h0 : t.val % 32 = 0) (r : Fin 256) (n : Fin 128) :
    k0_pay4 (F := Ideal) (ix2 r n) = (D.state (256 * (t.val / 32) + r) n (128 * (31 - t.val % 32) + 128) : EReal) := by
  have z : (128 * (31 - t.val % 32) + 128) = 4096 := by omega
  pointwise [k0_pay4]
  simp [z, Data.state, tail_end]

theorem skip_place (t : Fin grid0.N) (k : Fin 4) : k0_off1 (grid0.coords t) (BitVec.ofNat 32 k) = ![4 * (t.val / 32) + k.val] := by
  revert t k
  decide +kernel

theorem ld_one (X : FVec Ideal S16 .f32) (off : Fin 1 → ℕ) (p : ℕ) (hp : p < 16) (ho : off = ![p])
    (inb : ∀ a, off a + ![1] a ≤ S16.size a) (hn : 0 < (Rect.unit (s := S16) off ![1] inb).shape.numel) :
    View.ld (Val := Elt Ideal) (e' := .f32) X (Rect.unit off ![1] inb) (Shape.Idx.first hn) = X (ix1 ⟨p, hp⟩) := by
  subst ho
  refine congrArg (a₁ := (Rect.unit (s := S16) ![p] ![1] inb).emb (Shape.Idx.first hn)) X ?_
  funext a
  match a with
  | 0 =>
    refine Fin.ext ?_
    show p + 1 * _ = p
    simp

/-- The skip factor of head `k` of the group. -/
theorem skip_at (h : ReadsAt m D c) (t : Fin cfg0.N) (k : Fin 4) (inb : ∀ a, k0_off1 (grid0.coords t) (BitVec.ofNat 32 k) a + ![1] a ≤ S16.size a)
    (hn : 0 < (Rect.unit (s := S16) (k0_off1 (grid0.coords t) (BitVec.ofNat 32 k)) ![1] inb).shape.numel) :
    View.ld (iblk m c 0 t) (Rect.unit (k0_off1 (grid0.coords t) (BitVec.ofNat 32 k)) ![1] inb) (Shape.Idx.first hn)
      = D.skip (4 * (t.val / 32) + k) := by
  have ht : t.val < 128 := t.isLt
  refine (ld_one _ _ (4 * (t.val / 32) + k) (by omega) (skip_place t k) inb hn).trans ?_
  refine Eq.trans ?_ (h.skip ⟨4 * (t.val / 32) + k, by omega⟩)
  have i : win0_0.index t = ![0] := rfl
  blk_ext [iblk, V_main_arg4, i]

theorem out_dx (h : ReadsAt m D c) (t : Fin cfg0.N) (s : Fin 128) (d : Fin 256) :
    (outsAt0 m c t.val t.isLt).1 (ix2 s d)
      = D.skip ((256 * (t.val / 32) + d) / 64) * (D.dy (128 * (31 - t.val % 32) + s) (256 * (t.val / 32) + d) : EReal)
        + (D.dx (128 * (31 - t.val % 32) + s) (256 * (t.val / 32) + d) : EReal) := by
  by_cases h0 : t.val % 32 = 0
  · rw [outsAt0_A m c t h0]
    dsimp only
    frame_open; simp (disch := decide) only [↓ View.readCov_skip, ↓ View.readCov_cons_toLoadRect, ↓ View.readCov_fill]; frame_out; try simp only [read_unread_whole]
    refine dx_block h t k0_pay4 _ _ _ _ ?_ ?_ ?_ ?_ (first t h0) s d
    · exact skip_at h t 0 _ _
    · exact skip_at h t 1 _ _
    · exact skip_at h t 2 _ _
    · exact skip_at h t 3 _ _
  · rw [outsAt0_B m c t h0]
    dsimp only
    frame_open; simp (disch := decide) only [↓ View.readCov_skip, ↓ View.readCov_cons_toLoadRect, ↓ View.readCov_fill]; frame_out; try simp only [read_unread_whole]
    refine dx_block h t _ _ _ _ _ ?_ ?_ ?_ ?_ (fun r n => previous h t h0 _ r n) s d
    · exact skip_at h t 0 _ _
    · exact skip_at h t 1 _ _
    · exact skip_at h t 2 _ _
    · exact skip_at h t 3 _ _

end Cert.KernelIdeal.Value

end
-- ==== Proof.DbOut.lean ====
/-
  The window of the derivative by `B`, after each grid point.
-/
module

public import proofs.«01_k».proof.Proof.DbBlock
public import proofs.«01_k».proof.Proof.DxOut

@[expose] public section

set_option maxRecDepth 16384

noncomputable section

open Idealize.ShloMosaic Idealize.ShloMosaic.TcCoe Idealize.SL.Sem

namespace Cert.KernelIdeal.Value

open Cert.KernelIdeal Cert.KernelIdeal.Gen Cert.Scan

variable {m : (ℓ : Loc nD τ sig) → Buf (Elt Ideal) ℓ} {D : Data} {c : Dev nD}

/-- The block, computed from the carried array `prev`. -/
theorem dB_block (h : ReadsAt m D c) (t : Fin cfg0.N) (prev : FVec Ideal S256x128 .f32)
    (hp : ∀ r n, prev (ix2 r n) = (D.state (256 * (t.val / 32) + r) n (128 * (31 - t.val % 32) + 128) : EReal))
    (s n : Fin 128) :
    k0_pay141 (iblk m c 3 t) (k0_pay123 k0_pay5 (dtr m c t) (cumc m c t) (cumr m c t) k0_pay17
        (View.ld (iblk m c 1 t) (Rect.unit ![0, 128] ![128, 128] inb_S128x256_S128x128_0_128))
        (View.ld (iblk m c 11 t) (Rect.unit ![0, 128] ![128, 128] inb_S128x256_S128x128_0_128))
        (k0_pay104 (k0_pay66 (View.ld (iblk m c 1 t) (Rect.unit ![0, 0] ![128, 128] inb_S128x256_S128x128_0_0))
            (View.ld (iblk m c 11 t) (Rect.unit ![0, 0] ![128, 128] inb_S128x256_S128x128_0_0))
            (k0_pay48 k0_pay5 (dtr m c t) k0_pay17 k0_pay20 (View.ld (iblk m c 1 t) (Rect.unit ![0, 0] ![128, 128] inb_S128x256_S128x128_0_0))
              (View.ld (iblk m c 11 t) (Rect.unit ![0, 0] ![128, 128] inb_S128x256_S128x128_0_0))
              (k0_pay42 k0_pay5 (cumc m c t) (cumr m c t)) k0_pay43)
            (k0_pay59 k0_pay17) (k0_pay60 k0_pay5 (cumc m c t) (cumr m c t)) (k0_pay61 (dtr m c t)) k0_pay63)
          (k0_pay97 k0_pay5 (cumc m c t) (cumr m c t)) (k0_pay98 (dtr m c t))
          (k0_pay101 k0_pay17 (View.ld (iblk m c 11 t) (Rect.unit ![0, 128] ![128, 128] inb_S128x256_S128x128_0_128)))
          (k0_pay102 (View.ld (iblk m c 1 t) (Rect.unit ![0, 128] ![128, 128] inb_S128x256_S128x128_0_128)))))
      (k0_pay136 (k0_pay79 k0_pay22 (View.ld (iblk m c 1 t) (Rect.unit ![0, 0] ![128, 128] inb_S128x256_S128x128_0_0))
          (View.ld (Val := Elt Ideal) (e' := .f32) prev (Rect.unit ![0, 0] ![128, 128] inb_S256x128_S128x128_0_0))
          (k0_pay35 (dtc m c t) k0_pay17 (k0_pay28 (cumc m c t)) (k0_pay29 (cumc m c t)) (k0_pay31 (cumc m c t)) (k0_pay33 (cumc m c t))))
        (View.ld (iblk m c 1 t) (Rect.unit ![0, 128] ![128, 128] inb_S128x256_S128x128_0_128))
        (View.ld (Val := Elt Ideal) (e' := .f32) prev (Rect.unit ![128, 0] ![128, 128] inb_S256x128_S128x128_128_0))
        (k0_pay90 (dtc m c t) k0_pay17 (k0_pay89 (cumc m c t) k0_pay17 (k0_pay19 (cumc m c t))))) (ix2 s n)
      = (D.dB (t.val / 32) (128 * (31 - t.val % 32) + s) n : EReal) := by
  have hl : ∀ d : Fin 128, View.ld (Val := Elt Ideal) (e' := .f32) prev (Rect.unit ![0, 0] ![128, 128] inb_S256x128_S128x128_0_0) (ix2 d n)
      = (D.state (256 * (t.val / 32) + (64 * 0 + d)) n (128 * (31 - t.val % 32) + 128) : EReal) :=
    fun d => (ld_rows_lo prev d n).trans ((hp _ n).trans (by simp))
  have hh : ∀ d : Fin 128, View.ld (Val := Elt Ideal) (e' := .f32) prev (Rect.unit ![128, 0] ![128, 128] inb_S256x128_S128x128_128_0) (ix2 d n)
      = (D.state (256 * (t.val / 32) + (64 * 2 + d)) n (128 * (31 - t.val % 32) + 128) : EReal) :=
    fun d => (ld_rows_hi prev d n).trans (hp _ n)
  have hC : ∀ x : Fin 128, iblk m c 3 t (ix2 x n) = (D.C (t.val / 32) (128 * (31 - t.val % 32) + x) n : EReal) := fun x => C_at h t x n
  rw [dB_pay, halfLater_at h t _ _ 0 0 1 rfl rfl (by decide) s n (x_lo h t s) hl,
    halfLater_at h t _ _ 2 2 3 rfl rfl (by decide) s n (x_hi h t s) hh, dB_chunk D n s.isLt (by omega),
    EReal.coe_add, EReal.coe_add]
  congr 1
  rw [coe_sum]
  refine Finset.sum_congr rfl fun l _ => ?_
  rw [add_assoc (headInside _ _ _ _ _ _ _ _ + headInside _ _ _ _ _ _ _ _),
    headInside_at h t _ _ 0 0 1 0 1 rfl rfl rfl rfl (by decide) s l (x_lo h t s) (dy_lo h t l),
    headInside_at h t _ _ 2 2 3 2 3 rfl rfl rfl rfl (by decide) s l (x_hi h t s) (dy_hi h t l), hC, EReal.coe_mul, EReal.coe_add]

theorem out_dB (h : ReadsAt m D c) (t : Fin cfg0.N) (s n : Fin 128) :
    (outsAt0 m c t.val t.isLt).2.1 (ix2 s n) = (D.dB (t.val / 32) (128 * (31 - t.val % 32) + s) n : EReal) := by
  by_cases h0 : t.val % 32 = 0
  · rw [outsAt0_A m c t h0]
    dsimp only
    frame_open; simp (disch := decide) only [↓ View.readCov_skip, ↓ View.readCov_cons_toLoadRect, ↓ View.readCov_fill]; frame_out; try simp only [read_unread_whole]
    exact dB_block h t k0_pay4 (first t h0) s n
  · rw [outsAt0_B m c t h0]
    dsimp only
    frame_open; simp (disch := decide) only [↓ View.readCov_skip, ↓ View.readCov_cons_toLoadRect, ↓ View.readCov_fill]; frame_out; try simp only [read_unread_whole]
    exact dB_block h t _ (fun r n => previous h t h0 _ r n) s n

end Cert.KernelIdeal.Value

end
-- ==== Proof.Arrays.lean ====
/-
  The kernel's two result arrays after the run.
-/
module

public import proofs.«01_k».proof.Proof.DbOut

@[expose] public section

set_option maxRecDepth 16384

noncomputable section

open Idealize.ShloMosaic Idealize.ShloMosaic.TcCoe Idealize.SL.Sem

namespace Cert.Scan.Data

/-- The derivative by the token inputs. -/
def dxArray (D : Data) : (⟨2, ![4096, 1024]⟩ : Shape).Idx → EReal :=
  fun i => D.skip ((i 1).val / 64) * (D.dy (i 0).val (i 1).val : EReal) + (D.dx (i 0).val (i 1).val : EReal)

/-- The derivative by `B`, the groups side by side. -/
def dBArray (D : Data) : (⟨2, ![4096, 512]⟩ : Shape).Idx → EReal :=
  fun i => (D.dB ((i 1).val / 128) (i 0).val ((i 1).val % 128) : EReal)

end Cert.Scan.Data

namespace Cert.KernelIdeal.Value

open Cert.KernelIdeal Cert.KernelIdeal.Gen Cert.Scan

variable {m : (ℓ : Loc nD τ sig) → Buf (Elt Ideal) ℓ} {D : Data} {c : Dev nD}

theorem array_dx (h : ReadsAt m D c) : (dats m 0 c).arrAt 12 cfg0.N = D.dxArray := by
  refine (dats m 0 c).arrAt_eq_of_covers 12 _ (by decide +kernel) fun t hf y => ?_
  have i := (idx t).2.2.2.2.2.2.2.2.2.2.1
  have e : y = ix2 (y 0) (y 1) := by
    funext a
    match a with
    | 0 => rfl
    | 1 => rfl
  blk_simp
  rw [after0_12]
  refine (congrArg _ e).trans ((out_dx h t (y 0) (y 1)).trans ?_)
  unfold Data.dxArray
  blk_simp [i]
  simp only [Matrix.cons_val_zero, Matrix.cons_val_one]
  rw [mul_comm _ 128, mul_comm _ 256]

theorem array_dB (h : ReadsAt m D c) : (dats m 0 c).arrAt 13 cfg0.N = D.dBArray := by
  refine (dats m 0 c).arrAt_eq_of_covers 13 _ (by decide +kernel) fun t hf y => ?_
  have i := (idx t).2.2.2.2.2.2.2.2.2.2.2
  have e : y = ix2 (y 0) (y 1) := by
    funext a
    match a with
    | 0 => rfl
    | 1 => rfl
  blk_simp
  rw [after0_13]
  refine (congrArg _ e).trans ((out_dB h t (y 0) (y 1)).trans ?_)
  unfold Data.dBArray
  blk_simp [i]
  simp only [Matrix.cons_val_zero, Matrix.cons_val_one]
  have h1 : ((y 1 : Fin 128) : ℕ) < 128 := (y 1).isLt
  have q : (t.val / 32 * 128 + ((y 1 : Fin 128) : ℕ)) / 128 = t.val / 32 := by omega
  have r : (t.val / 32 * 128 + ((y 1 : Fin 128) : ℕ)) % 128 = (y 1 : Fin 128) := by omega
  rw [mul_comm _ (31 - t.val % 32)]
  exact (by rw [q, r])

end Cert.KernelIdeal.Value

end
-- ==== Proof.Finite.lean ====
/-
  What the precondition says: the entries of `xc`, `raw`, `dt_bias`, `a_log` and `dy` are real numbers.
-/
module

public import Idealize.ShloMosaic.Lib.Pointwise
public import proofs.«01_k».proof.Pre_finite
public import proofs.«01_k».proof.Proof.Data

@[expose] public section

set_option maxRecDepth 16384

noncomputable section

open Idealize.ShloMosaic

namespace Cert.Scan

/-- An extended real whose magnitude is below infinity is a real number. -/
theorem real_of_bit {x : Ideal .f32}
    (h : BitVec.ofBool (decide ((FloatOps.absf x : EReal) < Ideal.ofBits .f32 0x7F800000#32)) = 1#1) :
    ∃ r : ℝ, (x : EReal) = (r : EReal) := by
  have ht : Ideal.ofBits .f32 0x7F800000#32 = ⊤ := by simp [Ideal.ofBits, Ideal.ieee]
  have hl : max (x : EReal) (-x) < ⊤ := by
    rw [ht] at h
    by_contra hn
    rw [show decide ((FloatOps.absf x : EReal) < ⊤) = false from decide_eq_false hn] at h
    exact absurd h (by decide)
  refine ⟨(x : EReal).toReal, (EReal.coe_toReal ?_ ?_).symm⟩
  · exact fun e => absurd (lt_of_le_of_lt (le_max_left (x : EReal) (-x)) hl) (by rw [e]; exact lt_irrefl _)
  · exact fun e => absurd (lt_of_le_of_lt (le_max_right (x : EReal) (-x)) hl) (by rw [e, EReal.neg_bot]; exact lt_irrefl _)

/-- A finite table as a function of every number, zero outside. -/
def fill {n : ℕ} {α : Type} [Zero α] (f : Fin n → α) (j : ℕ) : α := if h : j < n then f ⟨j, h⟩ else 0
theorem fill_val {n : ℕ} {α : Type} [Zero α] (f : Fin n → α) (j : Fin n) : fill f j = f j := dif_pos j.isLt

open Cert.Pre_finite Cert.Pre_finite.Facts
variable [Cert.Pre_finite.Facts]

theorem reads_of_finite (xc : FVec Ideal S4096x2048 .f32) (raw : FVec Ideal S4096x16 .f32) (bias alog skip : FVec Ideal S16 .f32)
    (st : FVec Ideal S32x4x256x128 .f32) (dy : FVec Ideal S4096x1024 .f32)
    (h : Cert.Pre_finite.fn (F := Ideal) xc raw bias alog skip st dy = fun _ => 1#1) :
    ∃ D, Reads D xc raw bias alog skip dy := by
  have hx : ∀ i j, ∃ r : ℝ, xc (ix2 i j) = (r : EReal) := by
    intro i j
    have e := congrFun h (ix2 i ⟨j.val, by omega⟩)
    unfold Cert.Pre_finite.fn at e
    pointwise at e
    exact real_of_bit e
  have hd : ∀ i j, ∃ r : ℝ, dy (ix2 i j) = (r : EReal) := by
    intro i j
    have e := congrFun h (ix2 i ⟨2064 + j.val, by omega⟩)
    unfold Cert.Pre_finite.fn at e
    pointwise at e
    rw [dif_neg (by omega), dif_neg (by omega), dif_pos (by omega)] at e
    have q : (⟨2064 + j.val - 2048 - 16, by omega⟩ : Fin 1024) = j := Fin.ext (by show 2064 + j.val - 2048 - 16 = j; omega)
    rw [q] at e
    exact real_of_bit e
  have hr : ∀ i j, ∃ r : ℝ, raw (ix2 i j) = (r : EReal) := by
    intro i j
    have e := congrFun h (ix2 i ⟨2048 + j.val, by omega⟩)
    unfold Cert.Pre_finite.fn at e
    pointwise at e
    exact real_of_bit e
  have hb : ∀ j, ∃ r : ℝ, bias (ix1 j) = (r : EReal) := by
    intro j
    have e := congrFun h (ix2 0 ⟨3088 + j.val, by omega⟩)
    unfold Cert.Pre_finite.fn at e
    pointwise at e
    rw [dif_neg (by omega), dif_neg (by omega), dif_neg (by omega), dif_pos (by omega)] at e
    have q : (⟨3088 + j.val - 2048 - 16 - 1024, by omega⟩ : Fin 16) = j := Fin.ext (by show 3088 + j.val - 2048 - 16 - 1024 = j; omega)
    rw [q] at e
    exact real_of_bit e
  have ha : ∀ j, ∃ r : ℝ, alog (ix1 j) = (r : EReal) := by
    intro j
    have e := congrFun h (ix2 0 ⟨3104 + j.val, by omega⟩)
    unfold Cert.Pre_finite.fn at e
    pointwise at e
    rw [dif_neg (by omega), dif_neg (by omega), dif_neg (by omega), dif_neg (by omega)] at e
    have q : (⟨3104 + j.val - 2048 - 16 - 1024 - 16, by omega⟩ : Fin 16) = j := Fin.ext (by show 3104 + j.val - 2048 - 16 - 1024 - 16 = j; omega)
    rw [q] at e
    exact real_of_bit e
  choose X hX using hx
  choose R hR using hr
  choose Y hY using hd
  choose B hB using hb
  choose L hL using ha
  refine ⟨{ x := fun i j => fill (fun i => fill (X i) j) i
            raw := fun i j => fill (fun i => fill (R i) j) i
            bias := fill B
            alog := fill L
            dy := fun i j => fill (fun i => fill (Y i) j) i
            skip := fill (α := EReal) fun j => skip (ix1 j) }, ?_⟩
  constructor
  · intro i j
    show _ = ((fill (fun i => fill (X i) j) i : ℝ) : EReal)
    rw [hX, fill_val, fill_val]
  · intro i j
    show _ = ((fill (fun i => fill (R i) j) i : ℝ) : EReal)
    rw [hR, fill_val, fill_val]
  · intro i
    show _ = ((fill B i : ℝ) : EReal)
    rw [hB, fill_val]
  · intro i
    show _ = ((fill L i : ℝ) : EReal)
    rw [hL, fill_val]
  · exact fun i => (fill_val (α := EReal) (fun j => skip (ix1 j)) i).symm
  · intro i j
    show _ = ((fill (fun i => fill (Y i) j) i : ℝ) : EReal)
    rw [hY, fill_val, fill_val]

end Cert.Scan

end
-- ==== Proof.RefTerms.lean ====
/-
  The values that the reference computes before its loop over the chunks, each as a function of the arguments. The
  name `vN` is the number of the value in the program.
-/
module

public import Idealize.ShloMosaic.Lib.Pointwise
public import proofs.«01_k».proof.Proof.Gen.ReferenceIdeal

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen

/-- The arguments of the reference on a core. -/
structure Inputs where
  xc : FVec Ideal S4096x2048 .f32
  raw : FVec Ideal S4096x16 .f32
  bias : FVec Ideal S16 .f32
  alog : FVec Ideal S16 .f32
  skip : FVec Ideal S16 .f32
  dy : FVec Ideal S4096x1024 .f32

def v0 (A : Inputs) : FVec Ideal S4096x1024 .f32 :=
  extractStridedSlice S4096x1024 ![0, 0] A.xc slices_S4096x2048_S4096x1024_0_0
def v1 (A : Inputs) : FVec Ideal S4096x512 .f32 :=
  extractStridedSlice S4096x512 ![0, 1024] A.xc slices_S4096x2048_S4096x512_0_1024
def v2 (A : Inputs) : FVec Ideal S4096x512 .f32 :=
  extractStridedSlice S4096x512 ![0, 1536] A.xc slices_S4096x2048_S4096x512_0_1536
def v3 (A : Inputs) : FVec Ideal S1x4096x16x64 .f32 :=
  shapeCast S1x4096x16x64 (v0 A) shapeCasts_S4096x1024_S1x4096x16x64
def v4 (A : Inputs) : FVec Ideal S1x4096x4x128 .f32 :=
  shapeCast S1x4096x4x128 (v1 A) shapeCasts_S4096x512_S1x4096x4x128
def v5 (A : Inputs) : FVec Ideal S1x4096x4x128 .f32 :=
  shapeCast S1x4096x4x128 (v2 A) shapeCasts_S4096x512_S1x4096x4x128
def v6 (A : Inputs) : FVec Ideal S1x4096x16 .f32 :=
  broadcastInDim S1x4096x16 ![1, 2] bcast_S4096x16_S1x4096x16_1_2 A.raw
def v7 (A : Inputs) : FVec Ideal S1x1x16 .f32 :=
  broadcastInDim S1x1x16 ![2] bcast_S16_S1x1x16_2 A.bias
def v8 (A : Inputs) : FVec Ideal S1x4096x16 .f32 :=
  broadcastInDim S1x4096x16 ![0, 1, 2] bcast_S1x1x16_S1x4096x16_0_1_2 (v7 A)
def v9 (A : Inputs) : FVec Ideal S1x4096x16 .f32 :=
  addf (v6 A) (v8 A)
def c0_cst : FVec Ideal S_ .f32 := constant S_ .f32 0x00000000#32
def c0_v0 (A : Inputs) : FVec Ideal S1x4096x16 .f32 :=
  broadcastInDim S1x4096x16 ![] bcast_S_S1x4096x16 c0_cst
def c0_v1 (A : Inputs) : FVec Ideal S1x4096x16 .f32 :=
  maximumf (v9 A) (c0_v0 A)
def c0_v2 (A : Inputs) : FVec Ideal S1x4096x16 .f32 :=
  broadcastInDim S1x4096x16 ![] bcast_S_S1x4096x16 c0_cst
def c0_v3 (A : Inputs) : FVec Ideal S1x4096x16 .f32 :=
  subf (v9 A) (c0_v2 A)
def c0_v4 (A : Inputs) : IVec S1x4096x16 1 :=
  cmpf .une (c0_v3 A) (c0_v3 A)
def c0_v5 (A : Inputs) : FVec Ideal S1x4096x16 .f32 :=
  broadcastInDim S1x4096x16 ![] bcast_S_S1x4096x16 c0_cst
def c0_v6 (A : Inputs) : FVec Ideal S1x4096x16 .f32 :=
  addf (v9 A) (c0_v5 A)
def c0_v7 (A : Inputs) : FVec Ideal S1x4096x16 .f32 :=
  Host.absf (c0_v3 A)
def c0_v8 (A : Inputs) : FVec Ideal S1x4096x16 .f32 :=
  Host.negf (c0_v7 A)
def c0_v9 (A : Inputs) : FVec Ideal S1x4096x16 .f32 :=
  Host.exp (c0_v8 A)
def c0_v10 (A : Inputs) : FVec Ideal S1x4096x16 .f32 :=
  Host.log1p (c0_v9 A)
def c0_v11 (A : Inputs) : FVec Ideal S1x4096x16 .f32 :=
  addf (c0_v1 A) (c0_v10 A)
/-- The step of a token in a head, `log (1 + exp z)`. -/
def step (A : Inputs) : FVec Ideal S1x4096x16 .f32 :=
  select (c0_v4 A) (c0_v6 A) (c0_v11 A)
def v11 (A : Inputs) : FVec Ideal S16 .f32 :=
  Host.exp A.alog
def v12 (A : Inputs) : FVec Ideal S16 .f32 :=
  Host.negf (v11 A)
/-- Token inputs by chunk, token, group, head of the group, column. -/
def xs (A : Inputs) : FVec Ideal S1x64x64x4x4x64 .f32 :=
  shapeCast S1x64x64x4x4x64 (v3 A) shapeCasts_S1x4096x16x64_S1x64x64x4x4x64
/-- Steps by chunk, token, group, head. -/
def dts (A : Inputs) : FVec Ideal S1x64x64x4x4 .f32 :=
  shapeCast S1x64x64x4x4 (step A) shapeCasts_S1x4096x16_S1x64x64x4x4
/-- `B` by chunk, token, group, entry. -/
def Bs (A : Inputs) : FVec Ideal S1x64x64x4x128 .f32 :=
  shapeCast S1x64x64x4x128 (v4 A) shapeCasts_S1x4096x4x128_S1x64x64x4x128
/-- `C` by chunk, token, group, entry. -/
def Cs (A : Inputs) : FVec Ideal S1x64x64x4x128 .f32 :=
  shapeCast S1x64x64x4x128 (v5 A) shapeCasts_S1x4096x4x128_S1x64x64x4x128
def v17 (A : Inputs) : FVec Ideal S4x4 .f32 :=
  shapeCast S4x4 (v12 A) shapeCasts_S16_S4x4
def v18 (A : Inputs) : FVec Ideal S1x1x1x4x4 .f32 :=
  broadcastInDim S1x1x1x4x4 ![3, 4] bcast_S4x4_S1x1x1x4x4_3_4 (v17 A)
def v19 (A : Inputs) : FVec Ideal S1x64x64x4x4 .f32 :=
  broadcastInDim S1x64x64x4x4 ![0, 1, 2, 3, 4] bcast_S1x1x1x4x4_S1x64x64x4x4_0_1_2_3_4 (v18 A)
/-- The logarithm of a token's decay. -/
def rate (A : Inputs) : FVec Ideal S1x64x64x4x4 .f32 :=
  mulf (dts A) (v19 A)
def c1_c0_cst : FVec Ideal S_ .f32 := constant S_ .f32 0x00000000#32
def c1_c0_v0 (A : Inputs) : FVec Ideal S_ .f32 :=
  broadcastInDim S_ ![] bcast_S_S_ c1_c0_cst
/-- Its running sum within a chunk. -/
def csum (A : Inputs) : FVec Ideal S1x64x64x4x4 .f32 :=
  Host.reduceWindowAdd ![1, 1, 64, 1, 1] ![1, 1, 1, 1, 1] ![0, 0, 63, 0, 0] ![0, 0, 0, 0, 0] (rate A) (c1_c0_v0 A) reduceWindows_S1x64x64x4x4_S1x64x64x4x4_w1s1p0_0_w1s1p0_0_w64s1p63_0_w1s1p0_0_w1s1p0_0 h_S_
def yes : IVec S_ 1 := constantI S_ 1 1#1
def v22 (A : Inputs) : IVec S64x64 1 :=
  broadcastInDim S64x64 ![] bcast_S_S64x64 yes
def c2_v0 : IVec S64x64 32 := iotaInDim S64x64 32 0
def c2_c : IVec S_ 32 := constantI S_ 32 0#32
def c2_v1 (A : Inputs) : IVec S64x64 32 :=
  broadcastInDim S64x64 ![] bcast_S_S64x64 c2_c
def c2_v2 (A : Inputs) : IVec S64x64 32 :=
  addi c2_v0 (c2_v1 A)
def c2_v3 : IVec S64x64 32 := iotaInDim S64x64 32 1
def c2_v4 (A : Inputs) : IVec S64x64 1 :=
  cmpi .sge (c2_v2 A) c2_v3
def c2_c_0 : IVec S_ 1 := constantI S_ 1 0#1
def c2_v5 (A : Inputs) : IVec S64x64 1 :=
  broadcastInDim S64x64 ![] bcast_S_S64x64 c2_c_0
def v23 (A : Inputs) : IVec S64x64 1 :=
  select (c2_v4 A) (v22 A) (c2_v5 A)
/-- Whether a row of a chunk is at or below the column. -/
def lower (A : Inputs) : IVec S64x64x1x1 1 :=
  broadcastInDim S64x64x1x1 ![0, 1] bcast_S64x64_S64x64x1x1_0_1 (v23 A)
def v25 (A : Inputs) : FVec Ideal S1x64x64x1x4x4 .f32 :=
  broadcastInDim S1x64x64x1x4x4 ![0, 1, 2, 4, 5] bcast_S1x64x64x4x4_S1x64x64x1x4x4_0_1_2_4_5 (csum A)
def v26 (A : Inputs) : FVec Ideal S1x64x1x64x4x4 .f32 :=
  broadcastInDim S1x64x1x64x4x4 ![0, 1, 3, 4, 5] bcast_S1x64x64x4x4_S1x64x1x64x4x4_0_1_3_4_5 (csum A)
def v27 (A : Inputs) : FVec Ideal S1x64x64x64x4x4 .f32 :=
  broadcastInDim S1x64x64x64x4x4 ![0, 1, 2, 3, 4, 5] bcast_S1x64x64x1x4x4_S1x64x64x64x4x4_0_1_2_3_4_5 (v25 A)
def v28 (A : Inputs) : FVec Ideal S1x64x64x64x4x4 .f32 :=
  broadcastInDim S1x64x64x64x4x4 ![0, 1, 2, 3, 4, 5] bcast_S1x64x1x64x4x4_S1x64x64x64x4x4_0_1_2_3_4_5 (v26 A)
def v29 (A : Inputs) : FVec Ideal S1x64x64x64x4x4 .f32 :=
  subf (v27 A) (v28 A)
def cst : FVec Ideal S_ .f32 := constant S_ .f32 0x00000000#32
def c3_v0 (A : Inputs) : FVec Ideal S_ .f32 :=
  cst
def c3_v1 (A : Inputs) : IVec S1x64x64x64x4x4 1 :=
  broadcastInDim S1x64x64x64x4x4 ![2, 3, 4, 5] bcast_S64x64x1x1_S1x64x64x64x4x4_2_3_4_5 (lower A)
def c3_v2 (A : Inputs) : FVec Ideal S1x64x64x64x4x4 .f32 :=
  broadcastInDim S1x64x64x64x4x4 ![] bcast_S_S1x64x64x64x4x4 (c3_v0 A)
def v30 (A : Inputs) : FVec Ideal S1x64x64x64x4x4 .f32 :=
  select (c3_v1 A) (v29 A) (c3_v2 A)
def v31 (A : Inputs) : FVec Ideal S1x64x64x64x4x4 .f32 :=
  Host.exp (v30 A)
def cst_0 : FVec Ideal S_ .f32 := constant S_ .f32 0x00000000#32
def c4_v0 (A : Inputs) : FVec Ideal S_ .f32 :=
  cst_0
def c4_v1 (A : Inputs) : IVec S1x64x64x64x4x4 1 :=
  broadcastInDim S1x64x64x64x4x4 ![2, 3, 4, 5] bcast_S64x64x1x1_S1x64x64x64x4x4_2_3_4_5 (lower A)
def c4_v2 (A : Inputs) : FVec Ideal S1x64x64x64x4x4 .f32 :=
  broadcastInDim S1x64x64x64x4x4 ![] bcast_S_S1x64x64x64x4x4 (c4_v0 A)
/-- The decay from one token of a chunk to a later one. -/
def decay (A : Inputs) : FVec Ideal S1x64x64x64x4x4 .f32 :=
  select (c4_v1 A) (v31 A) (c4_v2 A)
def v33 (A : Inputs) : FVec Ideal S1x64x4x64x64 .f32 :=
  Host.dotGeneral dot_S1x64x64x4x128_S1x64x64x4x128_S1x64x4x64x64_4_4_2_2_013_013 none (Bs A) (Cs A)
def v34 (A : Inputs) : FVec Ideal S1x64x64x64x4 .f32 :=
  transpose S1x64x64x64x4 [0, 1, 4, 3, 2] (v33 A) transposes_S1x64x4x64x64_S1x64x64x64x4_0_1_4_3_2
def v35 (A : Inputs) : FVec Ideal S1x64x64x64x4x1 .f32 :=
  broadcastInDim S1x64x64x64x4x1 ![0, 1, 2, 3, 4] bcast_S1x64x64x64x4_S1x64x64x64x4x1_0_1_2_3_4 (v34 A)
def v36 (A : Inputs) : FVec Ideal S1x64x64x64x4x4 .f32 :=
  broadcastInDim S1x64x64x64x4x4 ![0, 1, 2, 3, 4, 5] bcast_S1x64x64x64x4x1_S1x64x64x64x4x4_0_1_2_3_4_5 (v35 A)
def v37 (A : Inputs) : FVec Ideal S1x64x64x64x4x4 .f32 :=
  mulf (v36 A) (decay A)
/-- The steps along the second token of a pair. -/
def dtCol (A : Inputs) : FVec Ideal S1x64x1x64x4x4 .f32 :=
  broadcastInDim S1x64x1x64x4x4 ![0, 1, 3, 4, 5] bcast_S1x64x64x4x4_S1x64x1x64x4x4_0_1_3_4_5 (dts A)
def v39 (A : Inputs) : FVec Ideal S1x64x64x64x4x4 .f32 :=
  broadcastInDim S1x64x64x64x4x4 ![0, 1, 2, 3, 4, 5] bcast_S1x64x1x64x4x4_S1x64x64x64x4x4_0_1_2_3_4_5 (dtCol A)
/-- The weight with which a token of a chunk takes part in a later output. -/
def weight (A : Inputs) : FVec Ideal S1x64x64x64x4x4 .f32 :=
  mulf (v37 A) (v39 A)
def v41 (A : Inputs) : FVec Ideal S1x64x1x4x4 .f32 :=
  extractStridedSlice S1x64x1x4x4 ![0, 0, 63, 0, 0] (csum A) slices_S1x64x64x4x4_S1x64x1x4x4_0_0_63_0_0
def v42 (A : Inputs) : FVec Ideal S1x64x64x4x4 .f32 :=
  broadcastInDim S1x64x64x4x4 ![0, 1, 2, 3, 4] bcast_S1x64x1x4x4_S1x64x64x4x4_0_1_2_3_4 (v41 A)
def v43 (A : Inputs) : FVec Ideal S1x64x64x4x4 .f32 :=
  subf (v42 A) (csum A)
def v44 (A : Inputs) : FVec Ideal S1x64x64x4x4 .f32 :=
  Host.exp (v43 A)
/-- The decay from a token to the end of its chunk, times the step. -/
def toEnd (A : Inputs) : FVec Ideal S1x64x64x4x4 .f32 :=
  mulf (v44 A) (dts A)
def v46 (A : Inputs) : FVec Ideal S1x64x64x4x4x1 .f32 :=
  broadcastInDim S1x64x64x4x4x1 ![0, 1, 2, 3, 4] bcast_S1x64x64x4x4_S1x64x64x4x4x1_0_1_2_3_4 (toEnd A)
def v47 (A : Inputs) : FVec Ideal S1x64x64x4x4x64 .f32 :=
  broadcastInDim S1x64x64x4x4x64 ![0, 1, 2, 3, 4, 5] bcast_S1x64x64x4x4x1_S1x64x64x4x4x64_0_1_2_3_4_5 (v46 A)
/-- The token inputs with that weight. -/
def xEnd (A : Inputs) : FVec Ideal S1x64x64x4x4x64 .f32 :=
  mulf (v47 A) (xs A)
def v49 (A : Inputs) : FVec Ideal S1x64x1x4x4 .f32 :=
  extractStridedSlice S1x64x1x4x4 ![0, 0, 63, 0, 0] (csum A) slices_S1x64x64x4x4_S1x64x1x4x4_0_0_63_0_0
def v50 (A : Inputs) : FVec Ideal S1x64x4x4 .f32 :=
  shapeCast S1x64x4x4 (v49 A) shapeCasts_S1x64x1x4x4_S1x64x4x4
def v51 (A : Inputs) : FVec Ideal S1x64x4x4 .f32 :=
  Host.exp (v50 A)
def v52 (A : Inputs) : FVec Ideal S1x64x4x4x1x1 .f32 :=
  broadcastInDim S1x64x4x4x1x1 ![0, 1, 2, 3] bcast_S1x64x4x4_S1x64x4x4x1x1_0_1_2_3 (v51 A)
/-- The decay over a whole chunk. -/
def chunkDecay (A : Inputs) : FVec Ideal S64x1x4x4x1x1 .f32 :=
  transpose S64x1x4x4x1x1 [1, 0, 2, 3, 4, 5] (v52 A) transposes_S1x64x4x4x1x1_S64x1x4x4x1x1_1_0_2_3_4_5
/-- The decay from the start of a chunk. -/
def fromStart (A : Inputs) : FVec Ideal S1x64x64x4x4 .f32 :=
  Host.exp (csum A)
def v55 (A : Inputs) : FVec Ideal S1x64x64x4x4x1 .f32 :=
  broadcastInDim S1x64x64x4x4x1 ![0, 1, 2, 3, 4] bcast_S1x64x64x4x4_S1x64x64x4x4x1_0_1_2_3_4 (fromStart A)
def v56 (A : Inputs) : FVec Ideal S16x1 .f32 :=
  broadcastInDim S16x1 ![0] bcast_S16_S16x1_0 A.skip
def v57 (A : Inputs) : FVec Ideal S1x1x16x1 .f32 :=
  broadcastInDim S1x1x16x1 ![2, 3] bcast_S16x1_S1x1x16x1_2_3 (v56 A)
def v58 (A : Inputs) : FVec Ideal S1x4096x16x64 .f32 :=
  shapeCast S1x4096x16x64 A.dy shapeCasts_S4096x1024_S1x4096x16x64
def v59 (A : Inputs) : FVec Ideal S1x4096x16x64 .f32 :=
  broadcastInDim S1x4096x16x64 ![0, 1, 2, 3] bcast_S1x1x16x1_S1x4096x16x64_0_1_2_3 (v57 A)
/-- The term of the skip connection. -/
def skipTerm (A : Inputs) : FVec Ideal S1x4096x16x64 .f32 :=
  mulf (v59 A) (v58 A)
/-- Cotangents by chunk, token, group, head, column. -/
def dys (A : Inputs) : FVec Ideal S1x64x64x4x4x64 .f32 :=
  shapeCast S1x64x64x4x4x64 (v58 A) shapeCasts_S1x4096x16x64_S1x64x64x4x4x64
def v62 (A : Inputs) : FVec Ideal S1x64x64x4x4x64 .f32 :=
  broadcastInDim S1x64x64x4x4x64 ![0, 1, 2, 3, 4, 5] bcast_S1x64x64x4x4x1_S1x64x64x4x4x64_0_1_2_3_4_5 (v55 A)
def v63 (A : Inputs) : FVec Ideal S1x64x64x4x4x64 .f32 :=
  mulf (dys A) (v62 A)
def v64 (A : Inputs) : FVec Ideal S1x64x4x4x64x64 .f32 :=
  transpose S1x64x4x4x64x64 [0, 1, 3, 4, 5, 2] (v63 A) transposes_S1x64x64x4x4x64_S1x64x4x4x64x64_0_1_3_4_5_2
def v65 (A : Inputs) : FVec Ideal S1x64x4x4x64x128 .f32 :=
  Host.dotGeneral dot_S1x64x4x4x64x64_S1x64x64x4x128_S1x64x4x4x64x128_5_2_34_4_012_013 none (v64 A) (Cs A)
/-- What a chunk adds to the cotangent of the state before it. -/
def source (A : Inputs) : FVec Ideal S64x1x4x4x64x128 .f32 :=
  transpose S64x1x4x4x64x128 [1, 0, 2, 3, 4, 5] (v65 A) transposes_S1x64x4x4x64x128_S64x1x4x4x64x128_1_0_2_3_4_5
def cst_1 : FVec Ideal S_ .f32 := constant S_ .f32 0x00000000#32
def v67 (A : Inputs) : FVec Ideal S1x4x4x64x128 .f32 :=
  broadcastInDim S1x4x4x64x128 ![] bcast_S_S1x4x4x64x128 cst_1
def cst_2 : FVec Ideal S_ .f32 := constant S_ .f32 0x00000000#32
def v68 (A : Inputs) : FVec Ideal S64x1x4x4x64x128 .f32 :=
  broadcastInDim S64x1x4x4x64x128 ![] bcast_S_S64x1x4x4x64x128 cst_2

end Cert.ReferenceIdeal.Terms

end
-- ==== Proof.RefLast.lean ====
/-
  The values that the reference computes after its loop, from the arguments and the loop's result `G`.
-/
module

public import Idealize.ShloMosaic.Lib.Pointwise
public import proofs.«01_k».proof.Proof.RefTerms

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen

/-- The cotangents of the states after each chunk. -/
def states (A : Inputs) (G : FVec Ideal S64x1x4x4x64x128 .f32) : FVec Ideal S1x64x4x4x64x128 .f32 :=
  transpose S1x64x4x4x64x128 [1, 0, 2, 3, 4, 5] G transposes_S64x1x4x4x64x128_S1x64x4x4x64x128_1_0_2_3_4_5
def v71 (A : Inputs) (G : FVec Ideal S64x1x4x4x64x128 .f32) : FVec Ideal S1x64x4x128x64 .f32 :=
  Host.dotGeneral dot_S1x64x4x4x64x128_S1x64x64x4x4x64_S1x64x4x128x64_34_45_5_2_012_013 none (states A G) (xEnd A)
/-- The derivative by `B` through the state. -/
def dBAcross (A : Inputs) (G : FVec Ideal S64x1x4x4x64x128 .f32) : FVec Ideal S1x64x64x4x128 .f32 :=
  transpose S1x64x64x4x128 [0, 1, 4, 2, 3] (v71 A G) transposes_S1x64x4x128x64_S1x64x64x4x128_0_1_4_2_3
def v73 (A : Inputs) (G : FVec Ideal S64x1x4x4x64x128 .f32) : FVec Ideal S1x64x4x4x64x64 .f32 :=
  Host.dotGeneral dot_S1x64x4x4x64x128_S1x64x64x4x128_S1x64x4x4x64x64_5_4_34_2_012_013 none (states A G) (Bs A)
def v74 (A : Inputs) (G : FVec Ideal S64x1x4x4x64x128 .f32) : FVec Ideal S1x64x64x4x4x64 .f32 :=
  transpose S1x64x64x4x4x64 [0, 1, 5, 2, 3, 4] (v73 A G) transposes_S1x64x4x4x64x64_S1x64x64x4x4x64_0_1_5_2_3_4
def v75 (A : Inputs) : FVec Ideal S1x64x64x4x4x64 .f32 :=
  broadcastInDim S1x64x64x4x4x64 ![0, 1, 2, 3, 4, 5] bcast_S1x64x64x4x4x1_S1x64x64x4x4x64_0_1_2_3_4_5 (v46 A)
/-- The derivative by the token inputs through the state. -/
def dxAcross (A : Inputs) (G : FVec Ideal S64x1x4x4x64x128 .f32) : FVec Ideal S1x64x64x4x4x64 .f32 :=
  mulf (v75 A) (v74 A G)
def v77 (A : Inputs) : FVec Ideal S1x64x4x4x64x64 .f32 :=
  transpose S1x64x4x4x64x64 [0, 1, 3, 4, 5, 2] (dys A) transposes_S1x64x64x4x4x64_S1x64x4x4x64x64_0_1_3_4_5_2
def v78 (A : Inputs) : FVec Ideal S1x64x4x4x64x64 .f32 :=
  Host.dotGeneral dot_S1x64x4x4x64x64_S1x64x64x4x4x64_S1x64x4x4x64x64_4_5_5_2_0123_0134 none (v77 A) (xs A)
/-- The product of a cotangent row with a token input row. -/
def dyx (A : Inputs) : FVec Ideal S1x64x64x64x4x4 .f32 :=
  transpose S1x64x64x64x4x4 [0, 1, 4, 5, 2, 3] (v78 A) transposes_S1x64x4x4x64x64_S1x64x64x64x4x4_0_1_4_5_2_3
def v80 (A : Inputs) : FVec Ideal S1x64x4x4x64x64 .f32 :=
  Host.dotGeneral dot_S1x64x4x4x64x64_S1x64x64x64x4x4_S1x64x4x4x64x64_5_2_4_3_0123_0145 none (v77 A) (weight A)
/-- The derivative by the token inputs within a chunk. -/
def dxWithin (A : Inputs) : FVec Ideal S1x64x64x4x4x64 .f32 :=
  transpose S1x64x64x4x4x64 [0, 1, 5, 2, 3, 4] (v80 A) transposes_S1x64x4x4x64x64_S1x64x64x4x4x64_0_1_5_2_3_4
def v82 (A : Inputs) (G : FVec Ideal S64x1x4x4x64x128 .f32) : FVec Ideal S1x64x64x4x4x64 .f32 :=
  addf (dxAcross A G) (dxWithin A)
def v83 (A : Inputs) : FVec Ideal S1x64x64x64x4x4 .f32 :=
  broadcastInDim S1x64x64x64x4x4 ![0, 1, 2, 3, 4, 5] bcast_S1x64x1x64x4x4_S1x64x64x64x4x4_0_1_2_3_4_5 (dtCol A)
def v84 (A : Inputs) : FVec Ideal S1x64x64x64x4x4 .f32 :=
  mulf (dyx A) (v83 A)
def v85 (A : Inputs) : FVec Ideal S1x64x64x64x4x4 .f32 :=
  mulf (v84 A) (decay A)
def cst_4 : FVec Ideal S_ .f32 := constant S_ .f32 0x00000000#32
/-- The weight of a pair of tokens in the derivative by `B`, per head summed over a group. -/
def pairs (A : Inputs) : FVec Ideal S1x64x64x64x4 .f32 :=
  Host.reduceAdd (v85 A) cst_4 reducesTo_S1x64x64x64x4x4_S1x64x64x64x4_d5 h_S_
def v87 (A : Inputs) : FVec Ideal S1x64x64x64x4x1 .f32 :=
  shapeCast S1x64x64x64x4x1 (pairs A) shapeCasts_S1x64x64x64x4_S1x64x64x64x4x1
def cst_5 : FVec Ideal S_ .f32 := constant S_ .f32 0x00000000#32
def v88 (A : Inputs) : FVec Ideal S64x64x64x4 .f32 :=
  Host.reduceAdd (v87 A) cst_5 reducesTo_S1x64x64x64x4x1_S64x64x64x4_d0_5 h_S_
def v89 (A : Inputs) : FVec Ideal S1x64x64x64x4 .f32 :=
  broadcastInDim S1x64x64x64x4 ![1, 2, 3, 4] bcast_S64x64x64x4_S1x64x64x64x4_1_2_3_4 (v88 A)
def v90 (A : Inputs) : FVec Ideal S1x64x4x64x64 .f32 :=
  transpose S1x64x4x64x64 [0, 1, 4, 3, 2] (v89 A) transposes_S1x64x64x64x4_S1x64x4x64x64_0_1_4_3_2
def v91 (A : Inputs) : FVec Ideal S1x64x4x64x128 .f32 :=
  Host.dotGeneral dot_S1x64x4x64x64_S1x64x64x4x128_S1x64x4x64x128_4_2_3_4_012_013 none (v90 A) (Cs A)
/-- The derivative by `B` within a chunk. -/
def dBWithin (A : Inputs) : FVec Ideal S1x64x64x4x128 .f32 :=
  transpose S1x64x64x4x128 [0, 1, 3, 2, 4] (v91 A) transposes_S1x64x4x64x128_S1x64x64x4x128_0_1_3_2_4
def v93 (A : Inputs) (G : FVec Ideal S64x1x4x4x64x128 .f32) : FVec Ideal S1x64x64x4x128 .f32 :=
  addf (dBAcross A G) (dBWithin A)
def v94 (A : Inputs) (G : FVec Ideal S64x1x4x4x64x128 .f32) : FVec Ideal S1x4096x4x128 .f32 :=
  shapeCast S1x4096x4x128 (v93 A G) shapeCasts_S1x64x64x4x128_S1x4096x4x128
def v95 (A : Inputs) (G : FVec Ideal S64x1x4x4x64x128 .f32) : FVec Ideal S1x4096x16x64 .f32 :=
  shapeCast S1x4096x16x64 (v82 A G) shapeCasts_S1x64x64x4x4x64_S1x4096x16x64
def v96 (A : Inputs) (G : FVec Ideal S64x1x4x4x64x128 .f32) : FVec Ideal S1x4096x16x64 .f32 :=
  addf (skipTerm A) (v95 A G)
/-- The derivative by `B`. -/
def dB (A : Inputs) (G : FVec Ideal S64x1x4x4x64x128 .f32) : FVec Ideal S4096x512 .f32 :=
  shapeCast S4096x512 (v94 A G) shapeCasts_S1x4096x4x128_S4096x512
/-- The derivative by the token inputs. -/
def dx (A : Inputs) (G : FVec Ideal S64x1x4x4x64x128 .f32) : FVec Ideal S4096x1024 .f32 :=
  shapeCast S4096x1024 (v96 A G) shapeCasts_S1x4096x16x64_S4096x1024

end Cert.ReferenceIdeal.Terms

end
-- ==== Proof.RefRead.lean ====
/-
  What the reference's buffers hold when its loop begins, and what its two results hold at the end, as the named terms.
-/
module

public import proofs.«01_k».proof.Proof.Gen.ReferenceIdeal.Run
public import proofs.«01_k».proof.Proof.RefLast

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.ReferenceIdeal.Terms

variable (m : (ℓ : Loc nD τ sig) → Buf (Elt Ideal) ℓ)

/-- The arguments of core `c`. -/
def inputs (c : Dev nD) : Inputs where
  xc := m ((c.tc : Thread nD τ).loc main_arg0)
  raw := m ((c.tc : Thread nD τ).loc main_arg1)
  bias := m ((c.tc : Thread nD τ).loc main_arg2)
  alog := m ((c.tc : Thread nD τ).loc main_arg3)
  skip := m ((c.tc : Thread nD τ).loc main_arg4)
  dy := m ((c.tc : Thread nD τ).loc main_arg6)

set_option maxRecDepth 100000 in
theorem entry_v13 (c : Dev nD) : entryContents preI m c (Proc.devRef .tc main_v13) = xs (inputs m c) := by
  simp only [entryContents, afterL_cons, afterL_nil]
  after_reads_simp
  rfl

set_option maxRecDepth 100000 in
theorem entry_v15 (c : Dev nD) : entryContents preI m c (Proc.devRef .tc main_v15) = Bs (inputs m c) := by
  simp only [entryContents, afterL_cons, afterL_nil]
  after_reads_simp
  rfl

set_option maxRecDepth 100000 in
theorem entry_v16 (c : Dev nD) : entryContents preI m c (Proc.devRef .tc main_v16) = Cs (inputs m c) := by
  simp only [entryContents, afterL_cons, afterL_nil]
  after_reads_simp
  rfl

set_option maxRecDepth 100000 in
theorem entry_v32 (c : Dev nD) : entryContents preI m c (Proc.devRef .tc main_v32) = decay (inputs m c) := by
  simp only [entryContents, afterL_cons, afterL_nil]
  after_reads_simp
  rfl

set_option maxRecDepth 100000 in
theorem entry_v38 (c : Dev nD) : entryContents preI m c (Proc.devRef .tc main_v38) = dtCol (inputs m c) := by
  simp only [entryContents, afterL_cons, afterL_nil]
  after_reads_simp
  rfl

set_option maxRecDepth 100000 in
theorem entry_v40 (c : Dev nD) : entryContents preI m c (Proc.devRef .tc main_v40) = weight (inputs m c) := by
  simp only [entryContents, afterL_cons, afterL_nil]
  after_reads_simp
  rfl

set_option maxRecDepth 100000 in
theorem entry_v46 (c : Dev nD) : entryContents preI m c (Proc.devRef .tc main_v46) = v46 (inputs m c) := by
  simp only [entryContents, afterL_cons, afterL_nil]
  after_reads_simp
  rfl

set_option maxRecDepth 100000 in
theorem entry_v48 (c : Dev nD) : entryContents preI m c (Proc.devRef .tc main_v48) = xEnd (inputs m c) := by
  simp only [entryContents, afterL_cons, afterL_nil]
  after_reads_simp
  rfl

set_option maxRecDepth 100000 in
theorem entry_v60 (c : Dev nD) : entryContents preI m c (Proc.devRef .tc main_v60) = skipTerm (inputs m c) := by
  simp only [entryContents, afterL_cons, afterL_nil]
  after_reads_simp
  rfl

set_option maxRecDepth 100000 in
theorem entry_v61 (c : Dev nD) : entryContents preI m c (Proc.devRef .tc main_v61) = dys (inputs m c) := by
  simp only [entryContents, afterL_cons, afterL_nil]
  after_reads_simp
  rfl

set_option maxRecDepth 100000 in
theorem entry_v69_0 (c : Dev nD) : entryContents preI m c (Proc.devRef .tc main_v69_0) = source (inputs m c) := by
  simp only [entryContents, afterL_cons, afterL_nil]
  after_reads_simp
  rfl

set_option maxRecDepth 100000 in
theorem entry_v69_1 (c : Dev nD) : entryContents preI m c (Proc.devRef .tc main_v69_1) = chunkDecay (inputs m c) := by
  simp only [entryContents, afterL_cons, afterL_nil]
  after_reads_simp
  rfl

set_option maxRecDepth 100000 in
theorem entry_v69_3 (c : Dev nD) : entryContents preI m c (Proc.devRef .tc main_v69_3) = v67 (inputs m c) := by
  simp only [entryContents, afterL_cons, afterL_nil]
  after_reads_simp
  rfl

set_option maxRecDepth 100000 in
theorem entry_v69_4 (c : Dev nD) : entryContents preI m c (Proc.devRef .tc main_v69_4) = v68 (inputs m c) := by
  simp only [entryContents, afterL_cons, afterL_nil]
  after_reads_simp
  rfl

/-! ## What the loop does not write -/

/-- The references which the loop writes. -/
abbrev loopWrites : List (Ref sig .tc) :=
  condOps_W ++ while0Ops0_W ++ while0Ops0_1_W ++ while0Ops0_2_W ++ while0Ops0_3_W ++ while0Ops0_4_W ++ while0Ops0_5_W

theorem trip_keeps (X : Valuation τ sig (Elt Ideal)) (r : Ref sig .tc) (h : r ∉ loopWrites) :
    afterL bodyI (after condOps X) (Proc.devRef .tc r) = X (Proc.devRef .tc r) := by
  simp only [loopWrites, List.mem_append, not_or] at h
  obtain ⟨⟨⟨⟨⟨⟨hc, h0⟩, h1⟩, h2⟩, h3⟩, h4⟩, h5⟩ := h
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

theorem kept (c : Dev nD) (r : Ref sig .tc) (h : r ∉ loopWrites) : ∀ k, atK m k c (Proc.devRef .tc r) = entryContents preI m c (Proc.devRef .tc r)
  | 0 => rfl
  | k + 1 => (trip_keeps (atK m k c) r h).trans (kept c r h k)

/-- Before the operations after the loop, a reference which the loop does not write. -/
theorem late (c : Dev nD) (r : Ref sig .tc) (h : r ∉ loopWrites) :
    after condOps (atK m 64 c) (Proc.devRef .tc r) = entryContents preI m c (Proc.devRef .tc r) := by
  have hc : r ∉ condOps_W := fun hr => h (by simp only [loopWrites, List.mem_append]; tauto)
  rw [after_of_writes_sub condOps _ condOps_writes hc, kept m c r h 64]

/-! ## The two results -/

/-- The stacked states when the loop ends. -/
def stacked (c : Dev nD) : FVec Ideal S64x1x4x4x64x128 .f32 := atK m 64 c (Proc.devRef .tc main_v69_4)

theorem late_stacked (c : Dev nD) : after condOps (atK m 64 c) (Proc.devRef .tc main_v69_4) = stacked m c :=
  after_of_writes_sub condOps _ condOps_writes (by decide +kernel)

set_option maxRecDepth 100000 in
theorem last_dx (c : Dev nD) :
    finalContents condOps preI bodyI postI 64 m c (Proc.devRef .tc main_v98) = dx (inputs m c) (stacked m c) := by
  simp only [finalContents, afterL_cons, afterL_nil]
  generalize hX : after condOps (atTrip condOps bodyI (entryContents preI m) 64 c) = X
  have r60 : X (Proc.devRef .tc main_v60) = skipTerm (inputs m c) := by rw [← hX]; exact (late m c _ (by decide +kernel)).trans (entry_v60 m c)
  have r15 : X (Proc.devRef .tc main_v15) = Bs (inputs m c) := by rw [← hX]; exact (late m c _ (by decide +kernel)).trans (entry_v15 m c)
  have r46 : X (Proc.devRef .tc main_v46) = v46 (inputs m c) := by rw [← hX]; exact (late m c _ (by decide +kernel)).trans (entry_v46 m c)
  have r61 : X (Proc.devRef .tc main_v61) = dys (inputs m c) := by rw [← hX]; exact (late m c _ (by decide +kernel)).trans (entry_v61 m c)
  have r40 : X (Proc.devRef .tc main_v40) = weight (inputs m c) := by rw [← hX]; exact (late m c _ (by decide +kernel)).trans (entry_v40 m c)
  have rG : X (Proc.devRef .tc main_v69_4) = stacked m c := by rw [← hX]; exact late_stacked m c
  after_reads_simp
  rw [r60, r15, r46, r61, r40, rG]
  rfl

set_option maxRecDepth 100000 in
theorem last_dB (c : Dev nD) :
    finalContents condOps preI bodyI postI 64 m c (Proc.devRef .tc main_v97) = dB (inputs m c) (stacked m c) := by
  simp only [finalContents, afterL_cons, afterL_nil]
  generalize hX : after condOps (atTrip condOps bodyI (entryContents preI m) 64 c) = X
  have r48 : X (Proc.devRef .tc main_v48) = xEnd (inputs m c) := by rw [← hX]; exact (late m c _ (by decide +kernel)).trans (entry_v48 m c)
  have r61 : X (Proc.devRef .tc main_v61) = dys (inputs m c) := by rw [← hX]; exact (late m c _ (by decide +kernel)).trans (entry_v61 m c)
  have r13 : X (Proc.devRef .tc main_v13) = xs (inputs m c) := by rw [← hX]; exact (late m c _ (by decide +kernel)).trans (entry_v13 m c)
  have r38 : X (Proc.devRef .tc main_v38) = dtCol (inputs m c) := by rw [← hX]; exact (late m c _ (by decide +kernel)).trans (entry_v38 m c)
  have r32 : X (Proc.devRef .tc main_v32) = decay (inputs m c) := by rw [← hX]; exact (late m c _ (by decide +kernel)).trans (entry_v32 m c)
  have r16 : X (Proc.devRef .tc main_v16) = Cs (inputs m c) := by rw [← hX]; exact (late m c _ (by decide +kernel)).trans (entry_v16 m c)
  have rG : X (Proc.devRef .tc main_v69_4) = stacked m c := by rw [← hX]; exact late_stacked m c
  after_reads_simp
  rw [r48, r61, r13, r38, r32, r16, rG]
  rfl

end Cert.ReferenceIdeal.Value

end
-- ==== Proof.RefEntry.lean ====
/-
  The reference's values before its loop, at an index, as numbers of `D`. The reference takes chunks of 64 tokens: chunk `c`
  starts at token `64 * c`, head `r` of group `g` is head `4 * g + r`, and column `p` of that head is column
  `64 * (4 * g + r) + p`.
-/
module

public import Idealize.ShloMosaic.Lib.Pointwise
public import proofs.«01_k».proof.Proof.RefLast
public import proofs.«01_k».proof.Proof.Data

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen Cert.Scan

/-- The arguments hold the numbers of `D`. -/
abbrev Holds (D : Data) (A : Inputs) : Prop := Reads D A.xc A.raw A.bias A.alog A.skip A.dy

variable {D : Data} {A : Inputs}

theorem xs_at (h : Holds D A) (c l : Fin 64) (g r : Fin 4) (p : Fin 64) :
    xs A (ix6 0 c l g r p) = (D.x (64 * c + l) (64 * (4 * g + r) + p) : EReal) := by
  refine Eq.trans ?_ (h.x ⟨64 * c + l, by omega⟩ ⟨64 * (4 * g + r) + p, by omega⟩)
  pointwise [xs, v3, v0]
  exact congrArg _ (congrArg₂ ix2 (Fin.ext (by dsimp only; omega)) (Fin.ext (by dsimp only; omega)))

theorem Bs_at (h : Holds D A) (c l : Fin 64) (g : Fin 4) (n : Fin 128) :
    Bs A (ix5 0 c l g n) = (D.B g (64 * c + l) n : EReal) := by
  refine Eq.trans ?_ (h.x ⟨64 * c + l, by omega⟩ ⟨1024 + (128 * g + n), by omega⟩)
  pointwise [Bs, v4, v1]
  exact congrArg _ (congrArg₂ ix2 (Fin.ext (by dsimp only; omega)) (Fin.ext (by dsimp only; omega)))

theorem Cs_at (h : Holds D A) (c l : Fin 64) (g : Fin 4) (n : Fin 128) :
    Cs A (ix5 0 c l g n) = (D.C g (64 * c + l) n : EReal) := by
  refine Eq.trans ?_ (h.x ⟨64 * c + l, by omega⟩ ⟨1536 + (128 * g + n), by omega⟩)
  pointwise [Cs, v5, v2]
  exact congrArg _ (congrArg₂ ix2 (Fin.ext (by dsimp only; omega)) (Fin.ext (by dsimp only; omega)))

theorem dys_at (h : Holds D A) (c l : Fin 64) (g r : Fin 4) (p : Fin 64) :
    dys A (ix6 0 c l g r p) = (D.dy (64 * c + l) (64 * (4 * g + r) + p) : EReal) := by
  refine Eq.trans ?_ (h.dy ⟨64 * c + l, by omega⟩ ⟨64 * (4 * g + r) + p, by omega⟩)
  pointwise [dys, v58]
  exact congrArg _ (congrArg₂ ix2 (Fin.ext (by dsimp only; omega)) (Fin.ext (by dsimp only; omega)))

theorem step_at (h : Holds D A) (t : Fin 4096) (k : Fin 16) : step A (ix3 0 t k) = (D.dt t k : EReal) := by
  have e1 := h.raw t k
  have e2 := h.bias k
  pointwise [step, c0_v11, c0_v10, c0_v9, c0_v8, c0_v7, c0_v6, c0_v5, c0_v4, c0_v3, c0_v2, c0_v1, c0_v0,
    c0_cst, v9, v8, v7, v6]
  rw [e1, e2, ← EReal.coe_add]
  rw [if_neg (by simp)]
  refine Eq.trans ?_ (softplus_coe _)
  rw [zero_sub]
  rfl

theorem dts_at (h : Holds D A) (c l : Fin 64) (g r : Fin 4) :
    dts A (ix5 0 c l g r) = (D.dt (64 * c + l) (4 * g + r) : EReal) := by
  refine Eq.trans ?_ (step_at h ⟨64 * c + l, by omega⟩ ⟨4 * g + r, by omega⟩)
  pointwise [dts]
  exact congrArg _ (congrArg₂ (ix3 0) (Fin.ext (by dsimp only; omega)) (Fin.ext (by dsimp only; omega)))

theorem rate_at (h : Holds D A) (c l : Fin 64) (g r : Fin 4) :
    rate A (ix5 0 c l g r) = (D.la (4 * g + r) (64 * c + l) : EReal) := by
  have e1 := dts_at h c l g r
  have e2 : A.alog (ix1 ⟨g * 4 + r, by omega⟩) = (D.alog (4 * g + r) : EReal) := by
    rw [h.alog, Fin.val_mk, Nat.mul_comm]
  generalize hd : dts A = d at e1
  pointwise [rate, hd, v19, v18, v17, v12, v11]
  rw [e1, e2, Ideal.exp_coe, ← EReal.coe_neg, ← EReal.coe_mul]
  rfl

end Cert.ReferenceIdeal.Terms

end
-- ==== Proof.RefSums.lean ====
/-
  The running sum of the decays' logarithms in a chunk of the reference.
-/
module

public import proofs.«01_k».proof.Proof.RefEntry

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen Cert.Scan

variable {D : Data} {A : Inputs}

theorem foldl_sum {N : ℕ} (f : Fin N → EReal) (v : EReal) :
    (List.finRange N).foldl (fun r n => r + f n) v = v + ∑ n, f n := by
  rw [← List.sum_ofFn, List.ofFn_eq_map]
  generalize List.finRange N = L
  induction L generalizing v with
  | nil => simp
  | cons a L ih => rw [List.foldl_cons, ih, List.map_cons, List.sum_cons, add_assoc]

/-- A window of 64 which ends at `l`, read from position `l - 63` with nothing before position 0, is the prefix up to `l`. -/
theorem window_prefix (f : ℕ → EReal) {l : ℕ} (hl : l < 64) :
    ∑ w : Fin 64, (if 63 ≤ l + w.val then f (l + w.val - 63) else 0) = ∑ k ∈ Finset.range (l + 1), f k := by
  rw [Fin.sum_univ_eq_sum_range (fun w => if 63 ≤ l + w then f (l + w - 63) else 0) 64, Finset.range_eq_Ico,
    ← Finset.sum_Ico_consecutive _ (Nat.zero_le (63 - l)) (show 63 - l ≤ 64 by omega), Finset.sum_eq_zero, zero_add,
    Finset.sum_Ico_eq_sum_range, show 64 - (63 - l) = l + 1 by omega]
  · refine Finset.sum_congr rfl fun k hk => ?_
    rw [if_pos (by omega), show l + (63 - l + k) - 63 = k by omega]
  · intro w hw
    rw [Finset.mem_Ico] at hw
    rw [if_neg (by omega)]

/-- The window sum is the prefix sum along the third axis. -/
theorem prefix_sum (R : S1x64x64x4x4.Idx → EReal) (c l : Fin 64) (g r : Fin 4) :
    Ideal.hostReduceWindowAdd ![1, 1, 64, 1, 1] ![1, 1, 1, 1, 1] ![0, 0, 63, 0, 0] ![0, 0, 0, 0, 0]
        reduceWindows_S1x64x64x4x4_S1x64x64x4x4_w1s1p0_0_w1s1p0_0_w64s1p63_0_w1s1p0_0_w1s1p0_0 R 0 (ix5 0 c l g r)
      = ∑ k ∈ Finset.range (l + 1), if h : k < 64 then R (ix5 0 c ⟨k, h⟩ g r) else 0 := by
  have hl := l.isLt
  unfold Ideal.hostReduceWindowAdd Host.reduceWindow
  dsimp only
  rw [foldl_sum, zero_add, ← window_prefix _ hl]
  have key (f : (⟨5, ![1, 1, 64, 1, 1]⟩ : Shape).Idx → EReal) :
      ∑ n : Fin (⟨5, ![1, 1, 64, 1, 1]⟩ : Shape).numel, f ((Shape.rowMajor (s := ⟨5, ![1, 1, 64, 1, 1]⟩)).symm n)
        = ∑ w : Fin 64, f (ix5 0 0 w 0 0) := by
    rw [Equiv.sum_comp (Shape.rowMajor (s := ⟨5, ![1, 1, 64, 1, 1]⟩)).symm f, sum_idx5]
    simp only [Fin.sum_univ_one]
  refine Eq.trans ?_ (key (fun w => if 63 ≤ l.val + (w 2).val then
    if h : l.val + (w 2).val - 63 < 64 then R (ix5 0 c ⟨l.val + (w 2).val - 63, h⟩ g r) else 0 else 0))
  refine Finset.sum_congr rfl fun n _ => ?_
  have hw : ((Shape.rowMajor (s := ⟨5, ![1, 1, 64, 1, 1]⟩)).symm n 2).val < 64 := ((Shape.rowMajor (s := ⟨5, ![1, 1, 64, 1, 1]⟩)).symm n 2).isLt
  have w0 : ((Shape.rowMajor (s := ⟨5, ![1, 1, 64, 1, 1]⟩)).symm n 0).val = 0 := Nat.lt_one_iff.mp ((Shape.rowMajor (s := ⟨5, ![1, 1, 64, 1, 1]⟩)).symm n 0).isLt
  have w1 : ((Shape.rowMajor (s := ⟨5, ![1, 1, 64, 1, 1]⟩)).symm n 1).val = 0 := Nat.lt_one_iff.mp ((Shape.rowMajor (s := ⟨5, ![1, 1, 64, 1, 1]⟩)).symm n 1).isLt
  have w3 : ((Shape.rowMajor (s := ⟨5, ![1, 1, 64, 1, 1]⟩)).symm n 3).val = 0 := Nat.lt_one_iff.mp ((Shape.rowMajor (s := ⟨5, ![1, 1, 64, 1, 1]⟩)).symm n 3).isLt
  have w4 : ((Shape.rowMajor (s := ⟨5, ![1, 1, 64, 1, 1]⟩)).symm n 4).val = 0 := Nat.lt_one_iff.mp ((Shape.rowMajor (s := ⟨5, ![1, 1, 64, 1, 1]⟩)).symm n 4).isLt
  split_ifs with h1 h2 h3 h4
  · refine congrArg R (funext fun a => Fin.ext ?_)
    match a with
    | ⟨0, _⟩ => show 0 * 1 + ((Shape.rowMajor (s := ⟨5, ![1, 1, 64, 1, 1]⟩)).symm n 0).val - 0 = 0; omega
    | ⟨1, _⟩ => show c.val * 1 + ((Shape.rowMajor (s := ⟨5, ![1, 1, 64, 1, 1]⟩)).symm n 1).val - 0 = c; omega
    | ⟨2, _⟩ => show l.val * 1 + ((Shape.rowMajor (s := ⟨5, ![1, 1, 64, 1, 1]⟩)).symm n 2).val - 63 = l.val + ((Shape.rowMajor (s := ⟨5, ![1, 1, 64, 1, 1]⟩)).symm n 2).val - 63; omega
    | ⟨3, _⟩ => show g.val * 1 + ((Shape.rowMajor (s := ⟨5, ![1, 1, 64, 1, 1]⟩)).symm n 3).val - 0 = g; omega
    | ⟨4, _⟩ => show r.val * 1 + ((Shape.rowMajor (s := ⟨5, ![1, 1, 64, 1, 1]⟩)).symm n 4).val - 0 = r; omega
  · omega
  · have : 63 ≤ l.val * 1 + ((Shape.rowMajor (s := ⟨5, ![1, 1, 64, 1, 1]⟩)).symm n 2).val := (h1 2).1
    omega
  · refine absurd (fun a => ?_) h1
    match a with
    | ⟨0, _⟩ => exact ⟨Nat.zero_le _, by show 0 * 1 + ((Shape.rowMajor (s := ⟨5, ![1, 1, 64, 1, 1]⟩)).symm n 0).val - 0 < 1; omega⟩
    | ⟨1, _⟩ => exact ⟨Nat.zero_le _, by show c.val * 1 + ((Shape.rowMajor (s := ⟨5, ![1, 1, 64, 1, 1]⟩)).symm n 1).val - 0 < 64; omega⟩
    | ⟨2, _⟩ => exact ⟨by show 63 ≤ l.val * 1 + ((Shape.rowMajor (s := ⟨5, ![1, 1, 64, 1, 1]⟩)).symm n 2).val; omega, by show l.val * 1 + ((Shape.rowMajor (s := ⟨5, ![1, 1, 64, 1, 1]⟩)).symm n 2).val - 63 < 64; omega⟩
    | ⟨3, _⟩ => exact ⟨Nat.zero_le _, by show g.val * 1 + ((Shape.rowMajor (s := ⟨5, ![1, 1, 64, 1, 1]⟩)).symm n 3).val - 0 < 4; omega⟩
    | ⟨4, _⟩ => exact ⟨Nat.zero_le _, by show r.val * 1 + ((Shape.rowMajor (s := ⟨5, ![1, 1, 64, 1, 1]⟩)).symm n 4).val - 0 < 4; omega⟩
  · rfl
  · rfl

theorem csum_at (h : Holds D A) (c l : Fin 64) (g r : Fin 4) :
    csum A (ix5 0 c l g r) = (D.cum (4 * g + r) (64 * c) l : EReal) := by
  have hv : c1_c0_v0 A (Shape.Idx.first h_S_) = 0 := by
    pointwise [c1_c0_v0, c1_c0_cst]
  unfold csum Host.reduceWindowAdd
  rw [hv]
  refine (prefix_sum (rate A) c l g r).trans ?_
  rw [Data.cum, ← acc_chunk, coe_sum]
  refine Finset.sum_congr rfl fun k hk => ?_
  have hk : k < 64 := by have := l.isLt; have := Finset.mem_range.mp hk; omega
  rw [dif_pos hk]
  exact rate_at h c ⟨k, hk⟩ g r

end Cert.ReferenceIdeal.Terms

end
-- ==== Proof.RefChunk.lean ====
/-
  The reference's values of a chunk before its loop: the decays, the weights and what a chunk adds to the state.
-/
module

public import proofs.«01_k».proof.Proof.RefSums
public import proofs.«01_k».proof.Proof.Words

@[expose] public section

set_option maxRecDepth 16384

noncomputable section

open Idealize.ShloMosaic Idealize.ShloMosaic.TcCoe Idealize.SL.Sem

/-- The decay from token `s` of a chunk that begins at `a` to token `l`. -/
def Cert.Scan.Data.near (D : Cert.Scan.Data) (h a l s : ℕ) : ℝ :=
  if s ≤ l then Real.exp (D.cum h a l - D.cum h a s) else 0

namespace Cert.ReferenceIdeal.Terms

open Cert.ReferenceIdeal Cert.ReferenceIdeal.Gen Cert.Scan

variable {D : Data} {A : Inputs}

theorem lower_at (l s : Fin 64) : lower A (ix4 l s 0 0) = if s.val ≤ l.val then 1#1 else 0#1 := by
  pointwise [lower, v23, c2_v5, c2_c_0, c2_v4, c2_v3, c2_v2, c2_v1, c2_c, c2_v0, v22, yes]
  rw [show IntOp.addi (BitVec.ofNat 32 l.val) 0#32 = BitVec.ofNat 32 l.val from BitVec.add_zero _,
    bit_ge (by omega) (by omega), select_bit]

theorem decay_at (h : Holds D A) (c l s : Fin 64) (g r : Fin 4) :
    decay A (ix6 0 c l s g r) = (D.near (4 * g + r) (64 * c) l s : EReal) := by
  have e1 := csum_at h c l g r
  have e2 := csum_at h c s g r
  have e3 := lower_at (A := A) l s
  generalize hd : csum A = d at e1 e2
  generalize hq : lower A = q at e3
  pointwise [decay, c4_v2, c4_v1, c4_v0, cst_0, v31, v30, c3_v2, c3_v1, c3_v0, cst, v29, v28, v27, v26, v25, hd, hq]
  rw [e1, e2, e3]
  rw [select_bit, select_bit, Data.near]
  split
  · rw [← EReal.coe_sub, Ideal.exp_coe]
  · rfl

theorem dtCol_at (h : Holds D A) (c s : Fin 64) (g r : Fin 4) :
    dtCol A (ix6 0 c 0 s g r) = (D.dt (64 * c + s) (4 * g + r) : EReal) := by
  have e2 := dts_at h c s g r
  generalize hd : dts A = d at e2
  pointwise [dtCol, hd]
  exact e2

theorem weight_at (h : Holds D A) (c l s : Fin 64) (g r : Fin 4) :
    weight A (ix6 0 c l s g r) = (((∑ n : Fin 128, D.C g (64 * c + l) n * D.B g (64 * c + s) n)
      * D.near (4 * g + r) (64 * c) l s * D.dt (64 * c + s) (4 * g + r) : ℝ) : EReal) := by
  have e1 := decay_at h c l s g r
  have e2 := dts_at h c s g r
  have e3 := fun n => Bs_at h c s g n
  have e4 := fun n => Cs_at h c l g n
  generalize hd : dts A = d at e2
  generalize hk : decay A = k at e1
  generalize hB : Bs A = B at e3
  generalize hC : Cs A = C at e4
  pointwise [weight, v39, dtCol, v37, v36, v35, v34, v33, hd, hk, hB, hC]
  have e : ∑ x : Fin 128, B (ix5 0 c s g x) * C (ix5 0 c l g x)
      = ((∑ n : Fin 128, D.C g (64 * c + l) n * D.B g (64 * c + s) n : ℝ) : EReal) := by
    rw [coe_sum]
    refine Finset.sum_congr rfl fun n _ => ?_
    rw [e3, e4, EReal.coe_mul, mul_comm]
  rw [e1, e2, e, EReal.coe_mul, EReal.coe_mul]

theorem v46_at (h : Holds D A) (c s : Fin 64) (g r : Fin 4) :
    v46 A (ix6 0 c s g r 0) = ((Real.exp (D.cum (4 * g + r) (64 * c) 63 - D.cum (4 * g + r) (64 * c) s)
      * D.dt (64 * c + s) (4 * g + r) : ℝ) : EReal) := by
  have e1 := csum_at h c s g r
  have e2 : csum A (ix5 0 c 63 g r) = (D.cum (4 * g + r) (64 * c) 63 : EReal) := csum_at h c 63 g r
  have e3 := dts_at h c s g r
  generalize hd : csum A = d at e1 e2
  generalize hk : dts A = k at e3
  pointwise [v46, toEnd, v44, v43, v42, v41, hd, hk]
  rw [e1, e2, e3, ← EReal.coe_sub, Ideal.exp_coe, ← EReal.coe_mul]

theorem xEnd_at (h : Holds D A) (c s : Fin 64) (g r : Fin 4) (p : Fin 64) :
    xEnd A (ix6 0 c s g r p) = ((Real.exp (D.cum (4 * g + r) (64 * c) 63 - D.cum (4 * g + r) (64 * c) s)
      * D.dt (64 * c + s) (4 * g + r) * D.x (64 * c + s) (64 * (4 * g + r) + p) : ℝ) : EReal) := by
  have e1 := v46_at h c s g r
  have e2 := xs_at h c s g r p
  generalize hd : xs A = d at e2
  generalize hk : v46 A = k at e1
  pointwise [xEnd, v47, hd, hk]
  rw [e1, e2, ← EReal.coe_mul]

theorem chunkDecay_at (h : Holds D A) (c : Fin 64) (g r : Fin 4) :
    chunkDecay A (ix6 c 0 g r 0 0) = (Real.exp (D.cum (4 * g + r) (64 * c) 63) : EReal) := by
  have e1 : csum A (ix5 0 c 63 g r) = (D.cum (4 * g + r) (64 * c) 63 : EReal) := csum_at h c 63 g r
  generalize hd : csum A = d at e1
  pointwise [chunkDecay, v52, v51, v50, v49, hd]
  rw [e1, Ideal.exp_coe]

theorem source_at (h : Holds D A) (c : Fin 64) (g r : Fin 4) (p : Fin 64) (n : Fin 128) :
    source A (ix6 c 0 g r p n) = ((∑ l : Fin 64, D.dy (64 * c + l) (64 * (4 * g + r) + p)
      * Real.exp (D.cum (4 * g + r) (64 * c) l) * D.C g (64 * c + l) n : ℝ) : EReal) := by
  have e1 := fun l => csum_at h c l g r
  have e2 := fun l => dys_at h c l g r p
  have e3 := fun l => Cs_at h c l g n
  generalize hd : csum A = d at e1
  generalize hy : dys A = y at e2
  generalize hC : Cs A = C at e3
  pointwise [source, v65, v64, v63, v62, v55, fromStart, hd, hy, hC]
  simp only [e1, e2, e3, Ideal.exp_coe, ← EReal.coe_mul, ← coe_sum]

theorem skipTerm_at (h : Holds D A) (t : Fin 4096) (k : Fin 16) (p : Fin 64) :
    skipTerm A (ix4 0 t k p) = D.skip k * (D.dy t (64 * k + p) : EReal) := by
  have e1 := h.skip k
  have e2 := h.dy t ⟨64 * k + p, by omega⟩
  pointwise [skipTerm, v59, v58, v57, v56]
  rw [e1]
  congr 1
  refine Eq.trans (congrArg _ (congrArg₂ ix2 rfl (Fin.ext ?_))) e2
  show k.val * 64 + p.val = 64 * k.val + p.val
  omega

end Cert.ReferenceIdeal.Terms

end
-- ==== Proof.RefLoop.lean ====
/-
  The reference's loop: over the chunks, from the last, it carries the cotangent of the state and stacks what it carried.
-/
module

public import Idealize.ShloMosaic.Lib.DynamicIndex
public import proofs.«01_k».proof.Proof.RefRead
public import proofs.«01_k».proof.Proof.RefChunk

@[expose] public section

set_option maxRecDepth 16384

noncomputable section

open Idealize.ShloMosaic Idealize.ShloMosaic.TcCoe Idealize.SL.Sem Idealize.ShloMosaic.StableHlo

/-- The cotangent of the state before a chunk of 64 tokens, from that after it. -/
theorem Cert.Scan.Data.state_step (D : Cert.Scan.Data) {h g d a : ℕ} (n : ℕ) (hh : d / 64 = h) (hg : d / 256 = g) (ha : a + 64 ≤ 4096) :
    D.state d n a = (∑ l : Fin 64, D.dy (a + l) d * Real.exp (D.cum h a l) * D.C g (a + l) n)
      + D.state d n (a + 64) * Real.exp (D.cum h a 63) := by
  unfold Cert.Scan.Data.state
  rw [Cert.Scan.tail_step _ _ (Nat.le_add_right a 64) ha, hh, hg, add_comm, Finset.sum_Ico_eq_sum_range, Nat.add_sub_cancel_left,
    ← Fin.sum_univ_eq_sum_range]
  unfold Cert.Scan.Data.cum
  congr 1
  refine Finset.sum_congr rfl fun l _ => ?_
  rw [Nat.add_assoc]
  ring

theorem Cert.Scan.Data.state_end (D : Cert.Scan.Data) (d n : ℕ) : D.state d n 4096 = 0 := Cert.Scan.tail_end _ _ _

namespace Cert.ReferenceIdeal.Value

open Cert.ReferenceIdeal Cert.ReferenceIdeal.Gen Cert.ReferenceIdeal.Terms Cert.Scan

/-- The chunk that a trip works on. -/
theorem chunk_index (V : Valuation τ sig (Elt Ideal)) (j : Fin 64) (hV : V (Proc.devRef .tc main_v69_2) = fun _ => BitVec.ofNat 32 (63 - j)) :
    ∀ a, ((![res_main_while0b_v100 V, constantI S_ 32 0#32, constantI S_ 32 0#32, constantI S_ 32 0#32, constantI S_ 32 0#32, constantI S_ 32 0#32]
      : Fin 6 → (⟨S_, .i32⟩ : BufTy).Contents (Elt Ideal)) a (Shape.Idx.first h_S_)).toInt = ((![j.val, 0, 0, 0, 0, 0] : Fin 6 → ℕ) a : Int) := by
  intro a
  match a with
  | ⟨0, _⟩ =>
    show (res_main_while0b_v100 V (Shape.Idx.first h_S_)).toInt = (j.val : Int)
    unfold res_main_while0b_v100
    rw [hV]
    show (BitVec.sub (BitVec.sub 64#32 (BitVec.ofNat 32 (63 - j))) 1#32).toInt = _
    have hj := j.isLt
    have e : BitVec.sub (BitVec.sub 64#32 (BitVec.ofNat 32 (63 - j))) 1#32 = BitVec.ofNat 32 j := by
      clear hV
      revert j
      decide +kernel
    rw [e, toInt_ofNat_of_lt (by omega)]
  | ⟨1, _⟩ => rfl
  | ⟨2, _⟩ => rfl
  | ⟨3, _⟩ => rfl
  | ⟨4, _⟩ => rfl
  | ⟨5, _⟩ => rfl

theorem carried_value (st : Fin 6 → ℤ) (j : Fin 64) (hst : ∀ a, st a = ((![j.val, 0, 0, 0, 0, 0] : Fin 6 → ℕ) a : Int))
    (S : FVec Ideal S64x1x4x4x64x128 .f32) (K : FVec Ideal S64x1x4x4x1x1 .f32) (X : FVec Ideal S1x4x4x64x128 .f32)
    (g r : Fin 4) (p : Fin 64) (n : Fin 128) :
    addf (shapeCast S1x4x4x64x128 (Host.dynamicSlice S1x1x4x4x64x128 S st sliceFits_S64x1x4x4x64x128_S1x1x4x4x64x128) shapeCasts_S1x1x4x4x64x128_S1x4x4x64x128)
        (mulf X (broadcastInDim S1x4x4x64x128 ![0, 1, 2, 3, 4] bcast_S1x4x4x1x1_S1x4x4x64x128_0_1_2_3_4
          (shapeCast S1x4x4x1x1 (Host.dynamicSlice S1x1x4x4x1x1 K st sliceFits_S64x1x4x4x1x1_S1x1x4x4x1x1) shapeCasts_S1x1x4x4x1x1_S1x4x4x1x1)))
        (ix5 0 g r p n)
      = S (ix6 j 0 g r p n) + X (ix5 0 g r p n) * K (ix6 j 0 g r 0 0) := by
  have hj := j.isLt
  rw [Host.dynamicSlice_eq_extractStridedSlice S1x1x4x4x64x128 S st ![j.val, 0, 0, 0, 0, 0] _ ⟨rfl, fun a => by
      match a with
      | ⟨0, _⟩ => exact (show j.val + 1 ≤ 64 by omega)
      | ⟨1, _⟩ => exact (by decide : 0 + 1 ≤ 1)
      | ⟨2, _⟩ => exact (by decide : 0 + 4 ≤ 4)
      | ⟨3, _⟩ => exact (by decide : 0 + 4 ≤ 4)
      | ⟨4, _⟩ => exact (by decide : 0 + 64 ≤ 64)
      | ⟨5, _⟩ => exact (by decide : 0 + 128 ≤ 128)⟩ hst,
    Host.dynamicSlice_eq_extractStridedSlice S1x1x4x4x1x1 K st ![j.val, 0, 0, 0, 0, 0] _ ⟨rfl, fun a => by
      match a with
      | ⟨0, _⟩ => exact (show j.val + 1 ≤ 64 by omega)
      | ⟨1, _⟩ => exact (by decide : 0 + 1 ≤ 1)
      | ⟨2, _⟩ => exact (by decide : 0 + 4 ≤ 4)
      | ⟨3, _⟩ => exact (by decide : 0 + 4 ≤ 4)
      | ⟨4, _⟩ => exact (by decide : 0 + 1 ≤ 1)
      | ⟨5, _⟩ => exact (by decide : 0 + 1 ≤ 1)⟩ hst]
  pointwise []

theorem carried_step (V : Valuation τ sig (Elt Ideal)) (j : Fin 64) (hV : V (Proc.devRef .tc main_v69_2) = fun _ => BitVec.ofNat 32 (63 - j))
    (S : FVec Ideal S64x1x4x4x64x128 .f32) (hS : V (Proc.devRef .tc main_v69_0) = S)
    (K : FVec Ideal S64x1x4x4x1x1 .f32) (hK : V (Proc.devRef .tc main_v69_1) = K)
    (X : FVec Ideal S1x4x4x64x128 .f32) (hX : V (Proc.devRef .tc main_v69_3) = X) (g r : Fin 4) (p : Fin 64) (n : Fin 128) :
    (step_main_v69_3 V : FVec Ideal S1x4x4x64x128 .f32) (ix5 0 g r p n)
      = S (ix6 j 0 g r p n) + X (ix5 0 g r p n) * K (ix6 j 0 g r 0 0) := by
  unfold step_main_v69_3
  rw [hS, hK, hX]
  exact carried_value _ j (chunk_index V j hV) S K X g r p n

theorem stacked_value (st : Fin 6 → ℤ) (j : Fin 64) (hst : ∀ a, st a = ((![j.val, 0, 0, 0, 0, 0] : Fin 6 → ℕ) a : Int))
    (G : FVec Ideal S64x1x4x4x64x128 .f32) (X : FVec Ideal S1x4x4x64x128 .f32) (i : Fin 64)
    (g r : Fin 4) (p : Fin 64) (n : Fin 128) :
    Host.dynamicUpdateSlice G (broadcastInDim S1x1x4x4x64x128 ![1, 2, 3, 4, 5] bcast_S1x4x4x64x128_S1x1x4x4x64x128_1_2_3_4_5 X)
        st updateFits_S64x1x4x4x64x128_S1x1x4x4x64x128 (ix6 i 0 g r p n)
      = if i = j then X (ix5 0 g r p n) else G (ix6 i 0 g r p n) := by
  have hj := j.isLt
  have hi := i.isLt
  refine (congrFun (Host.dynamicUpdateSlice_eq_updateSlice G
    (broadcastInDim S1x1x4x4x64x128 ![1, 2, 3, 4, 5] bcast_S1x4x4x64x128_S1x1x4x4x64x128_1_2_3_4_5 X) st
    updateFits_S64x1x4x4x64x128_S1x1x4x4x64x128 ![j.val, 0, 0, 0, 0, 0] (fun a => by
      rw [hst a]
      match a with
      | ⟨0, _⟩ => show (min (max (j.val : ℤ) 0) ((64 - 1 : ℕ) : ℤ)).toNat = j.val; omega
      | ⟨1, _⟩ => rfl
      | ⟨2, _⟩ => rfl
      | ⟨3, _⟩ => rfl
      | ⟨4, _⟩ => rfl
      | ⟨5, _⟩ => rfl) ⟨rfl, fun a => by
      match a with
      | ⟨0, _⟩ => exact (show j.val + 1 ≤ 64 by omega)
      | ⟨1, _⟩ => exact (by decide : 0 + 1 ≤ 1)
      | ⟨2, _⟩ => exact (by decide : 0 + 4 ≤ 4)
      | ⟨3, _⟩ => exact (by decide : 0 + 4 ≤ 4)
      | ⟨4, _⟩ => exact (by decide : 0 + 64 ≤ 64)
      | ⟨5, _⟩ => exact (by decide : 0 + 128 ≤ 128)⟩) _).trans ?_
  pointwise []
  by_cases h : i = j
  · rw [if_pos h, dif_pos ⟨by rw [h], by rw [h]; omega⟩]
  · rw [if_neg h, dif_neg fun hh => h (Fin.ext (by omega))]

theorem stacked_step (V : Valuation τ sig (Elt Ideal)) (j : Fin 64) (hV : V (Proc.devRef .tc main_v69_2) = fun _ => BitVec.ofNat 32 (63 - j))
    (G : FVec Ideal S64x1x4x4x64x128 .f32) (hG : V (Proc.devRef .tc main_v69_4) = G)
    (X : FVec Ideal S1x4x4x64x128 .f32) (hX : V (Proc.devRef .tc main_v69_3) = X) (i : Fin 64) (g r : Fin 4) (p : Fin 64) (n : Fin 128) :
    (step_main_v69_4 V : FVec Ideal S64x1x4x4x64x128 .f32) (ix6 i 0 g r p n)
      = if i = j then X (ix5 0 g r p n) else G (ix6 i 0 g r p n) := by
  unfold step_main_v69_4
  rw [hG, hX]
  exact stacked_value _ j (chunk_index V j hV) G X i g r p n

variable (m : (ℓ : Loc nD τ sig) → Buf (Elt Ideal) ℓ) (c : Dev nD)

theorem next3 (k : ℕ) : atK m (k + 1) c (Proc.devRef .tc main_v69_3) = step_main_v69_3 (atK m k c) :=
  (trip_agree (atK m k c) main_v69_3 (by decide)).trans (STEP_main_v69_3 _)
theorem next4 (k : ℕ) : atK m (k + 1) c (Proc.devRef .tc main_v69_4) = step_main_v69_4 (atK m k c) :=
  (trip_agree (atK m k c) main_v69_4 (by decide)).trans (STEP_main_v69_4 _)
theorem same0 (k : ℕ) : atK m k c (Proc.devRef .tc main_v69_0) = source (inputs m c) := by
  induction k with
  | zero => exact entry_v69_0 m c
  | succ k ih => exact (trip_agree (atK m k c) main_v69_0 (by decide)).trans ((STEP_main_v69_0 _).trans ih)
theorem same1 (k : ℕ) : atK m k c (Proc.devRef .tc main_v69_1) = chunkDecay (inputs m c) := by
  induction k with
  | zero => exact entry_v69_1 m c
  | succ k ih => exact (trip_agree (atK m k c) main_v69_1 (by decide)).trans ((STEP_main_v69_1 _).trans ih)

/-- The carried cotangent after `k` trips. -/
def carriedAt (k : ℕ) : FVec Ideal S1x4x4x64x128 .f32 := atK m k c (Proc.devRef .tc main_v69_3)
/-- The stack after `k` trips. -/
def stackAt (k : ℕ) : FVec Ideal S64x1x4x4x64x128 .f32 := atK m k c (Proc.devRef .tc main_v69_4)

theorem counter (j : Fin 64) : atK m (63 - j) c (Proc.devRef .tc main_v69_2) = fun _ => BitVec.ofNat 32 (63 - j) := by
  rw [atK_ctr]
  funext _
  show 0#32 + BitVec.ofNat 32 (63 - j) * 1#32 = _
  rw [BitVec.mul_one, BitVec.zero_add]

variable {m c} {D : Data}

theorem carried_at (h : Holds D (inputs m c)) (g r : Fin 4) (p : Fin 64) (n : Fin 128) : ∀ k ≤ 64,
    carriedAt m c k (ix5 0 g r p n) = (D.state (64 * (4 * g + r) + p) n (64 * (64 - k)) : EReal)
  | 0, _ => by
    have e : carriedAt m c 0 = v67 (inputs m c) := entry_v69_3 m c
    rw [e, show 64 * (64 - 0) = 4096 from rfl, D.state_end]
    pointwise [v67, cst_1]
    rfl
  | k + 1, hk => by
    have ih := carried_at h g r p n k (by omega)
    have hj := counter m c ⟨63 - k, by omega⟩
    simp only [show 63 - (63 - k) = k by omega] at hj
    have e : carriedAt m c (k + 1) = step_main_v69_3 (atK m k c) := next3 m c k
    rw [e, carried_step (atK m k c) ⟨63 - k, by omega⟩ (by simp only [show 63 - (63 - k) = k by omega]; exact hj) _ (same0 m c k) _ (same1 m c k) (carriedAt m c k) rfl,
      source_at h, chunkDecay_at h, ih, ← EReal.coe_mul, ← EReal.coe_add]
    congr 1
    rw [D.state_step n (show (64 * (4 * g.val + r) + p) / 64 = 4 * g + r by omega) (show (64 * (4 * g.val + r) + p) / 256 = g by omega)
      (show 64 * (64 - (k + 1)) + 64 ≤ 4096 by omega)]
    rw [show 64 - (k + 1) = 63 - k by omega, show 64 * (63 - k) + 64 = 64 * (64 - k) by omega]

theorem stack_at (h : Holds D (inputs m c)) (g r : Fin 4) (p : Fin 64) (n : Fin 128) (i : Fin 64) : ∀ k ≤ 64, 64 - k ≤ i.val →
    stackAt m c k (ix6 i 0 g r p n) = (D.state (64 * (4 * g + r) + p) n (64 * (i + 1)) : EReal)
  | 0, _, hi => absurd hi (by omega)
  | k + 1, hk, hi => by
    have hj := counter m c ⟨63 - k, by omega⟩
    simp only [show 63 - (63 - k) = k by omega] at hj
    have e : stackAt m c (k + 1) = step_main_v69_4 (atK m k c) := next4 m c k
    rw [e, stacked_step (atK m k c) ⟨63 - k, by omega⟩ (by simp only [show 63 - (63 - k) = k by omega]; exact hj) (stackAt m c k) rfl (carriedAt m c k) rfl]
    split
    · rename_i hik
      rw [carried_at h g r p n k (by omega), hik, show 64 - k = 63 - k + 1 by omega]
    · rename_i hik
      exact stack_at h g r p n i k (by omega) (by
        have : i.val ≠ 63 - k := fun hv => hik (Fin.ext hv)
        omega)

theorem stacked_at (h : Holds D (inputs m c)) (i : Fin 64) (g r : Fin 4) (p : Fin 64) (n : Fin 128) :
    stacked m c (ix6 i 0 g r p n) = (D.state (64 * (4 * g + r) + p) n (64 * (i + 1)) : EReal) :=
  stack_at h g r p n i 64 le_rfl (by omega)

end Cert.ReferenceIdeal.Value

end
-- ==== Proof.RefOut.lean ====
/-
  The reference's two results: the sums over later tokens, from the terms across the chunks and within them.
-/
module

public import proofs.«01_k».proof.Proof.RefChunk
public import proofs.«01_k».proof.Proof.RefLast
public import proofs.«01_k».proof.Proof.Chunk

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen Cert.Scan

variable {D : Data} {A : Inputs} {G : FVec Ideal S64x1x4x4x64x128 .f32}

/-- The stack holds the cotangents of the states after the chunks. -/
def Stacks (D : Data) (G : FVec Ideal S64x1x4x4x64x128 .f32) : Prop :=
  ∀ (i : Fin 64) (g r : Fin 4) (p : Fin 64) (n : Fin 128),
    G (ix6 i 0 g r p n) = (D.state (64 * (4 * g + r) + p) n (64 * i + 64) : EReal)

/-! ## The derivative by the token inputs -/

theorem dxAcross_at (h : Holds D A) (hG : Stacks D G) (c s : Fin 64) (g r : Fin 4) (p : Fin 64) :
    dxAcross A G (ix6 0 c s g r p)
      = ((Real.exp (D.cum (4 * g + r) (64 * c) 63 - D.cum (4 * g + r) (64 * c) s) * D.dt (64 * c + s) (4 * g + r)
        * ∑ n : Fin 128, D.B g (64 * c + s) n * D.state (64 * (4 * g + r) + p) n (64 * c + 64) : ℝ) : EReal) := by
  have e1 := v46_at h c s g r
  have e2 := fun n => Bs_at h c s g n
  have e3 := fun n => hG c g r p n
  generalize hk : v46 A = k at e1
  generalize hB : Bs A = B at e2
  pointwise [dxAcross, v75, v74, v73, states, hk, hB]
  have e : ∑ x : Fin 128, G (ix6 c 0 g r p x) * B (ix5 0 c s g x)
      = ((∑ n : Fin 128, D.B g (64 * c + s) n * D.state (64 * (4 * g + r) + p) n (64 * c + 64) : ℝ) : EReal) := by
    rw [coe_sum]
    refine Finset.sum_congr rfl fun n _ => ?_
    rw [e2, e3, EReal.coe_mul, mul_comm]
  rw [e1, e, ← EReal.coe_mul]

theorem dxWithin_at (h : Holds D A) (c s : Fin 64) (g r : Fin 4) (p : Fin 64) :
    dxWithin A (ix6 0 c s g r p)
      = ((∑ x : Fin 64, (∑ n : Fin 128, D.C g (64 * c + x) n * D.B g (64 * c + s) n)
        * D.near (4 * g + r) (64 * c) x s * D.dt (64 * c + s) (4 * g + r)
        * D.dy (64 * c + x) (64 * (4 * g + r) + p) : ℝ) : EReal) := by
  have e1 := fun x => weight_at h c x s g r
  have e2 := fun x => dys_at h c x g r p
  generalize hk : weight A = k at e1
  generalize hB : dys A = B at e2
  pointwise [dxWithin, v80, v77, hk, hB]
  rw [coe_sum]
  refine Finset.sum_congr rfl fun x _ => ?_
  rw [e1, e2, ← EReal.coe_mul, mul_comm]

theorem v82_at (h : Holds D A) (hG : Stacks D G) (c s : Fin 64) (g r : Fin 4) (p : Fin 64) :
    v82 A G (ix6 0 c s g r p) = (D.dx (64 * c + s) (64 * (4 * g + r) + p) : EReal) := by
  have e1 := dxAcross_at h hG c s g r p
  have e2 := dxWithin_at h c s g r p
  show dxAcross A G (ix6 0 c s g r p) + dxWithin A (ix6 0 c s g r p) = _
  rw [e1, e2, ← EReal.coe_add]
  congr 1
  rw [dx_chunk D (rfl : 63 + 1 = 64) (show (64 * (4 * g.val + r) + p) / 64 = 4 * g + r by omega)
    (show (64 * (4 * g.val + r) + p) / 256 = g by omega) s.isLt (show 64 * c.val + 64 ≤ 4096 by omega)]
  rfl

theorem dx_at (h : Holds D A) (hG : Stacks D G) (t : Fin 4096) (j : Fin 1024) :
    dx A G (ix2 t j) = D.skip (j / 64) * (D.dy t j : EReal) + (D.dx t j : EReal) := by
  have e1 := skipTerm_at h t ⟨j / 64, by omega⟩ ⟨j % 64, by omega⟩
  have e2 := v82_at h hG ⟨t / 64, by omega⟩ ⟨t % 64, by omega⟩ ⟨j / 256, by omega⟩ ⟨j / 64 % 4, by omega⟩ ⟨j % 64, by omega⟩
  generalize hs : skipTerm A = s at e1
  generalize hv : v82 A G = v at e2
  simp only [show 64 * (j.val / 64) + j % 64 = j by omega] at e1
  simp only [show 4 * (j.val / 256) + j / 64 % 4 = j / 64 by omega, show 64 * (j.val / 64) + j % 64 = j by omega,
    show 64 * (t.val / 64) + t % 64 = t by omega] at e2
  pointwise [dx, v96, v95, hs, hv]
  rw [e1]
  congr 1
  refine Eq.trans (congrArg v ?_) e2
  exact congrArg (fun q => ix6 _ _ _ q _ _) (Fin.ext (show j.val / 64 / 4 = j.val / 256 by omega))

/-! ## The derivative by `B` -/

theorem sum_heads (f : ℕ → ℝ) : ∑ d ∈ Finset.range 256, f d = ∑ r : Fin 4, ∑ p : Fin 64, f (64 * r + p) := by
  have q : ∀ r : ℕ, ∑ p : Fin 64, f (64 * r + p) = ∑ p ∈ Finset.range 64, f (64 * r + p) :=
    fun r => Fin.sum_univ_eq_sum_range (fun p => f (64 * r + p)) 64
  simp only [q]
  have four : ∀ F : ℕ → ℝ, ∑ r : Fin 4, F r = F 0 + F 1 + F 2 + F 3 := fun F => Fin.sum_univ_four _
  rw [four fun r => ∑ p ∈ Finset.range 64, f (64 * r + p)]
  rw [show (256 : ℕ) = 64 + 64 + 64 + 64 from rfl, Finset.sum_range_add, Finset.sum_range_add, Finset.sum_range_add]
  simp only [mul_zero, zero_add, mul_one, Nat.reduceMul, Nat.reduceAdd]

/-- The derivative by `B` over a chunk of 64 tokens: what comes through the state after it, and what comes within it. -/
theorem dB_real (D : Data) {g c s : ℕ} (n : ℕ) (hs : s < 64) (hc : c < 64) :
    D.dB g (64 * c + s) n
      = (∑ r : Fin 4, ∑ p : Fin 64, D.state (64 * (4 * g + r) + p) n (64 * c + 64)
        * (Real.exp (D.cum (4 * g + r) (64 * c) 63 - D.cum (4 * g + r) (64 * c) s) * D.dt (64 * c + s) (4 * g + r)
          * D.x (64 * c + s) (64 * (4 * g + r) + p)))
        + ∑ l : Fin 64, (∑ r : Fin 4, (∑ p : Fin 64, D.dy (64 * c + l) (64 * (4 * g + r) + p) * D.x (64 * c + s) (64 * (4 * g + r) + p))
          * D.dt (64 * c + s) (4 * g + r) * D.near (4 * g + r) (64 * c) l s) * D.C g (64 * c + l) n := by
  unfold Data.dB
  rw [sum_heads]
  have e : ∀ (r : Fin 4) (p : Fin 64), ∑ l ∈ Finset.Ico (64 * c + s) 4096, D.dec ((256 * g + (64 * r + p)) / 64) l (64 * c + s)
      * (D.dt (64 * c + s) ((256 * g + (64 * r + p)) / 64) * D.x (64 * c + s) (256 * g + (64 * r + p))
        * (D.dy l (256 * g + (64 * r + p)) * D.C g l n))
      = D.state (64 * (4 * g + r) + p) n (64 * c + 64)
        * (Real.exp (D.cum (4 * g + r) (64 * c) 63 - D.cum (4 * g + r) (64 * c) s) * D.dt (64 * c + s) (4 * g + r)
          * D.x (64 * c + s) (64 * (4 * g + r) + p))
        + ∑ l : Fin 64, D.dy (64 * c + l) (64 * (4 * g + r) + p) * D.x (64 * c + s) (64 * (4 * g + r) + p)
          * D.dt (64 * c + s) (4 * g + r) * D.near (4 * g + r) (64 * c) l s * D.C g (64 * c + l) n := by
    intro r p
    rw [show 256 * g + (64 * r.val + p) = 64 * (4 * g + r) + p by omega]
    rw [dB_column D n (rfl : 63 + 1 = 64) (show (64 * (4 * g + r.val) + p) / 64 = 4 * g + r by omega)
      (show (64 * (4 * g + r.val) + p) / 256 = g by omega) hs (show 64 * c + 64 ≤ 4096 by omega)]
    unfold Data.near
    congr 1
    · ring
    · exact Finset.sum_congr rfl fun l _ => by ring
  simp only [e, Finset.sum_add_distrib]
  congr 1
  simp only [Finset.sum_mul]
  rw [Finset.sum_congr rfl fun r _ => Finset.sum_comm, Finset.sum_comm]

theorem dBAcross_at (h : Holds D A) (hG : Stacks D G) (c s : Fin 64) (g : Fin 4) (n : Fin 128) :
    dBAcross A G (ix5 0 c s g n)
      = ((∑ r : Fin 4, ∑ p : Fin 64, D.state (64 * (4 * g + r) + p) n (64 * c + 64)
        * (Real.exp (D.cum (4 * g + r) (64 * c) 63 - D.cum (4 * g + r) (64 * c) s) * D.dt (64 * c + s) (4 * g + r)
          * D.x (64 * c + s) (64 * (4 * g + r) + p)) : ℝ) : EReal) := by
  have e1 := fun r p => xEnd_at h c s g r p
  have e2 := fun r p => hG c g r p n
  generalize hk : xEnd A = k at e1
  pointwise [dBAcross, v71, states, hk]
  rw [coe_sum]
  refine Finset.sum_congr rfl fun r _ => ?_
  rw [coe_sum]
  refine Finset.sum_congr rfl fun p _ => ?_
  rw [e1, e2, ← EReal.coe_mul]

theorem v85_at (h : Holds D A) (c l s : Fin 64) (g r : Fin 4) :
    v85 A (ix6 0 c l s g r) = (((∑ p : Fin 64, D.dy (64 * c + l) (64 * (4 * g + r) + p) * D.x (64 * c + s) (64 * (4 * g + r) + p))
      * D.dt (64 * c + s) (4 * g + r) * D.near (4 * g + r) (64 * c) l s : ℝ) : EReal) := by
  have e1 := fun p => dys_at h c l g r p
  have e2 := fun p => xs_at h c s g r p
  have e3 := dtCol_at h c s g r
  have e4 := decay_at h c l s g r
  generalize hy : dys A = y at e1
  generalize hx : xs A = x at e2
  generalize hd : dtCol A = d at e3
  generalize hk : decay A = k at e4
  pointwise [v85, v84, v83, dyx, v78, v77, hy, hx, hd, hk]
  have e : ∑ p : Fin 64, y (ix6 0 c l g r p) * x (ix6 0 c s g r p)
      = ((∑ p : Fin 64, D.dy (64 * c + l) (64 * (4 * g + r) + p) * D.x (64 * c + s) (64 * (4 * g + r) + p) : ℝ) : EReal) := by
    rw [coe_sum]
    refine Finset.sum_congr rfl fun p _ => ?_
    rw [e1, e2, EReal.coe_mul]
  rw [e, e3, e4, ← EReal.coe_mul, ← EReal.coe_mul]

theorem pairs_at (h : Holds D A) (c l s : Fin 64) (g : Fin 4) :
    pairs A (ix5 0 c l s g) = ((∑ r : Fin 4, (∑ p : Fin 64, D.dy (64 * c + l) (64 * (4 * g + r) + p) * D.x (64 * c + s) (64 * (4 * g + r) + p))
      * D.dt (64 * c + s) (4 * g + r) * D.near (4 * g + r) (64 * c) l s : ℝ) : EReal) := by
  have e := fun r => v85_at h c l s g r
  have hv : cst_4 (Shape.Idx.first h_S_) = 0 := by pointwise [cst_4]
  unfold pairs
  show Ideal.hostReduceAdd reducesTo_S1x64x64x64x4x4_S1x64x64x64x4_d5 (v85 A) (cst_4 (Shape.Idx.first h_S_)) _ = _
  rw [hv, Ideal.hostReduceAdd_single _ (by decide), zero_add, coe_sum]
  refine Finset.sum_congr rfl fun r _ => ?_
  refine Eq.trans (congrArg (v85 A) (funext fun a => ?_)) (e r)
  match a with
  | ⟨0, _⟩ => rfl
  | ⟨1, _⟩ => rfl
  | ⟨2, _⟩ => rfl
  | ⟨3, _⟩ => rfl
  | ⟨4, _⟩ => rfl
  | ⟨5, _⟩ => rfl

/-- A sum over two axes of one entry each. -/
theorem sum_unit_axes (x : FVec Ideal S1x64x64x64x4x1 .f32) (c l s : Fin 64) (g : Fin 4) :
    Ideal.hostReduceAdd reducesTo_S1x64x64x64x4x1_S64x64x64x4_d0_5 x 0 (ix4 c l s g) = x (ix6 0 c l s g 0) := by
  unfold Ideal.hostReduceAdd
  rw [zero_add, Finset.sum_filter, Finset.sum_eq_single (ix6 0 c l s g 0)]
  · refine if_pos (funext fun a => ?_)
    match a with
    | ⟨0, _⟩ => rfl
    | ⟨1, _⟩ => rfl
    | ⟨2, _⟩ => rfl
    | ⟨3, _⟩ => rfl
  · refine fun i _ hi => if_neg fun e => hi (funext fun a => Fin.ext ?_)
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact congrArg Fin.val (congrFun e 2)
    | ⟨4, _⟩ => exact congrArg Fin.val (congrFun e 3)
    | ⟨5, _⟩ => exact Nat.lt_one_iff.mp (i 5).isLt
  · exact fun hn => absurd (Finset.mem_univ _) hn

theorem v88_at (h : Holds D A) (c l s : Fin 64) (g : Fin 4) :
    v88 A (ix4 c l s g) = ((∑ r : Fin 4, (∑ p : Fin 64, D.dy (64 * c + l) (64 * (4 * g + r) + p) * D.x (64 * c + s) (64 * (4 * g + r) + p))
      * D.dt (64 * c + s) (4 * g + r) * D.near (4 * g + r) (64 * c) l s : ℝ) : EReal) := by
  have e := pairs_at h c l s g
  have hv : cst_5 (Shape.Idx.first h_S_) = 0 := by pointwise [cst_5]
  unfold v88
  show Ideal.hostReduceAdd reducesTo_S1x64x64x64x4x1_S64x64x64x4_d0_5 (v87 A) (cst_5 (Shape.Idx.first h_S_)) _ = _
  rw [hv, sum_unit_axes]
  generalize hx : pairs A = x at e
  pointwise [v87, hx]
  exact e

theorem dBWithin_at (h : Holds D A) (c s : Fin 64) (g : Fin 4) (n : Fin 128) :
    dBWithin A (ix5 0 c s g n)
      = ((∑ l : Fin 64, (∑ r : Fin 4, (∑ p : Fin 64, D.dy (64 * c + l) (64 * (4 * g + r) + p) * D.x (64 * c + s) (64 * (4 * g + r) + p))
      * D.dt (64 * c + s) (4 * g + r) * D.near (4 * g + r) (64 * c) l s) * D.C g (64 * c + l) n : ℝ) : EReal) := by
  have e1 := fun l => Cs_at h c l g n
  have e2 := fun l => v88_at h c l s g
  generalize hy : Cs A = y at e1
  generalize hx : v88 A = x at e2
  pointwise [dBWithin, v91, v90, v89, hy, hx]
  rw [coe_sum]
  refine Finset.sum_congr rfl fun l _ => ?_
  rw [e1, e2, ← EReal.coe_mul]

theorem dB_at (h : Holds D A) (hG : Stacks D G) (t : Fin 4096) (j : Fin 512) :
    dB A G (ix2 t j) = (D.dB (j / 128) t (j % 128) : EReal) := by
  have e1 := dBAcross_at h hG ⟨t / 64, by omega⟩ ⟨t % 64, by omega⟩ ⟨j / 128, by omega⟩ ⟨j % 128, by omega⟩
  have e2 := dBWithin_at h ⟨t / 64, by omega⟩ ⟨t % 64, by omega⟩ ⟨j / 128, by omega⟩ ⟨j % 128, by omega⟩
  generalize hs : dBAcross A G = s at e1
  generalize hv : dBWithin A = v at e2
  pointwise [dB, v94, v93, hs, hv]
  rw [e1, e2, ← EReal.coe_add]
  congr 1
  rw [← dB_real D (c := t.val / 64) (s := t.val % 64) (j.val % 128) (by omega) (by omega),
    show 64 * (t.val / 64) + t % 64 = t by omega]

end Cert.ReferenceIdeal.Terms

end
-- ==== Proof.RefRun.lean ====
/-
  The reference's run: it ends with its arguments unchanged, with every counter at zero, and with its two results at the
  arrays of `D`.
-/
module

public import proofs.«01_k».proof.Proof.RefLoop
public import proofs.«01_k».proof.Proof.RefOut
public import proofs.«01_k».proof.Proof.Arrays
public import Idealize.ShloMosaic.Lib.Quiescent

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.ReferenceIdeal.Terms Cert.Scan

variable (m : (ℓ : Loc nD τ sig) → Buf (Elt Ideal) ℓ)

/-- The references written before the loop. -/
abbrev straightWrites : List (Ref sig .tc) :=
  hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W

/-- A reference which nothing writes ends as it began. -/
theorem unwritten (c : Dev nD) (r : Ref sig .tc) (hl : r ∉ loopWrites) (hs : r ∉ straightWrites)
    (hp : ∀ X : Valuation τ sig (Elt Ideal), after hostOps0_11 X (Proc.devRef .tc r) = X (Proc.devRef .tc r)) :
    finalContents condOps preI bodyI postI 64 m c (Proc.devRef .tc r) = m ((c.tc : Thread nD τ).loc r) := by
  simp only [straightWrites, List.mem_append, not_or] at hs
  obtain ⟨⟨⟨⟨⟨⟨⟨⟨⟨⟨h0, h1⟩, h2⟩, h3⟩, h4⟩, h5⟩, h6⟩, h7⟩, h8⟩, h9⟩, h10⟩ := hs
  have e : entryContents preI m c (Proc.devRef .tc r) = m ((c.tc : Thread nD τ).loc r) := by
    simp only [entryContents, afterL_cons, afterL_nil]
    rw [after_of_writes_sub hostOps0_10 _ hostOps0_10_writes h10,
      after_of_writes_sub hostOps0_9 _ hostOps0_9_writes h9,
      after_of_writes_sub hostOps0_8 _ hostOps0_8_writes h8,
      after_of_writes_sub hostOps0_7 _ hostOps0_7_writes h7,
      after_of_writes_sub hostOps0_6 _ hostOps0_6_writes h6,
      after_of_writes_sub hostOps0_5 _ hostOps0_5_writes h5,
      after_of_writes_sub hostOps0_4 _ hostOps0_4_writes h4,
      after_of_writes_sub hostOps0_3 _ hostOps0_3_writes h3,
      after_of_writes_sub hostOps0_2 _ hostOps0_2_writes h2,
      after_of_writes_sub hostOps0_1 _ hostOps0_1_writes h1,
      after_of_writes_sub hostOps0 _ hostOps0_writes h0]
  simp only [finalContents, afterL_cons, afterL_nil]
  rw [hp]
  exact (late m c r hl).trans e

variable {m} {D : Data}

theorem stack_holds (c : Dev nD) (h : Holds D (inputs m c)) : Stacks D (stacked m c) :=
  fun i g r p n => stacked_at h i g r p n

theorem array_dx (c : Dev nD) (h : Holds D (inputs m c)) : dx (inputs m c) (stacked m c) = D.dxArray := by
  funext i
  have e : i = ix2 (i 0) (i 1) := by
    funext a
    match a with
    | 0 => rfl
    | 1 => rfl
  exact (congrArg _ e).trans (dx_at h (stack_holds c h) (i 0) (i 1))

theorem array_dB (c : Dev nD) (h : Holds D (inputs m c)) : dB (inputs m c) (stacked m c) = D.dBArray := by
  funext i
  have e : i = ix2 (i 0) (i 1) := by
    funext a
    match a with
    | 0 => rfl
    | 1 => rfl
  exact (congrArg _ e).trans (dB_at h (stack_holds c h) (i 0) (i 1))

variable (m)

set_option maxRecDepth 100000 in
/-- The run: both results at their terms, the arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v98) = dx (inputs m c) (stacked m c)
      ∧ r.2.mem ((c.tc : Thread nD τ).loc main_v97) = dB (inputs m c) (stacked m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_fold m g)
  have w : ∀ r : Ref sig .tc, r ∉ loopWrites → r ∉ straightWrites →
      (∀ X : Valuation τ sig (Elt Ideal), after hostOps0_11 X (Proc.devRef .tc r) = X (Proc.devRef .tc r)) → (Proc.devRef .tc r : DevRef τ sig).isScoped = false →
      _ := fun b hl hs hp hb => (h c b hb).trans (unwritten m c b hl hs hp)
  exact ⟨(h c main_v98 rfl).trans (last_dx m c), (h c main_v97 rfl).trans (last_dB m c),
    w main_arg0 (by decide +kernel) (by decide +kernel) (fun X => by after_reads_simp) rfl,
    w main_arg1 (by decide +kernel) (by decide +kernel) (fun X => by after_reads_simp) rfl,
    w main_arg2 (by decide +kernel) (by decide +kernel) (fun X => by after_reads_simp) rfl,
    w main_arg3 (by decide +kernel) (by decide +kernel) (fun X => by after_reads_simp) rfl,
    w main_arg4 (by decide +kernel) (by decide +kernel) (fun X => by after_reads_simp) rfl,
    w main_arg5 (by decide +kernel) (by decide +kernel) (fun X => by after_reads_simp) rfl,
    w main_arg6 (by decide +kernel) (by decide +kernel) (fun X => by after_reads_simp) rfl⟩

/-- The run leaves the arguments unchanged and every counter at zero: the program has no counter. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2, sem_eq_zero_of_no_sems rfl r.2⟩) (run m g)

end Cert.ReferenceIdeal.Value

end
-- ==== Proof.NormData.lean ====
/-
  The numbers of the second kernel: what its arguments hold, the cotangent of the layer normalisation's output, and the
  derivatives by the normalisation's input, scale and shift. Every sum of the two programs is written over them.
-/
module

public import Idealize.ShloMosaic.Lib.Pointwise
public import Idealize.ShloMosaic.PureOps.Ideal
public import proofs.«01_k».proof.Proof.Data

@[expose] public section

noncomputable section

open Idealize.ShloMosaic

namespace Cert.Norm

/-- The factor of the residual connection, the fourth root of 8 rounded to a float32. -/
def alpha : ℝ := 14107901 / 8388608
/-- What the normalisation adds to the variance, `1e-5` rounded to a float32. -/
def eps : ℝ := 10995116 / 1099511627776

theorem alpha_coe : Ideal.ofBits .f32 0x3FD744FD#32 = (alpha : EReal) := by
  simp only [Ideal.ofBits, Ideal.ieee, alpha]
  simp
  rw [← EReal.coe_mul]
  congr 1
  norm_num

theorem eps_coe : Ideal.ofBits .f32 0x3727C5AC#32 = (eps : EReal) := by
  simp only [Ideal.ofBits, Ideal.ieee, eps]
  simp
  rw [← EReal.coe_mul]
  congr 1
  norm_num

theorem width_coe : Ideal.ofBits .f32 0x44800000#32 = ((1024 : ℝ) : EReal) := by
  simp only [Ideal.ofBits, Ideal.ieee]
  simp
  rw [← EReal.coe_mul]
  congr 1
  norm_num

/-- A quotient of real numbers, the divisor not zero. -/
theorem div_real (a : ℝ) {b : ℝ} (hb : b ≠ 0) : Ideal.div (a : EReal) (b : EReal) = ((a / b : ℝ) : EReal) := by
  rw [Ideal.div_coe hb, ← EReal.coe_mul, mul_one_div]

theorem rsqrt_real {a : ℝ} (ha : 0 < a) : Ideal.rsqrt (a : EReal) = (((√a)⁻¹ : ℝ) : EReal) := by
  rw [Ideal.rsqrt_coe, if_neg ha.not_gt, if_neg ha.ne']

/-- The numbers the arguments hold: a token and a column, or two columns of a weight. -/
structure Data where
  du1 : ℕ → ℕ → ℝ
  du2 : ℕ → ℕ → ℝ
  dgl : ℕ → ℕ → ℝ
  up : ℕ → ℕ → ℝ
  gate : ℕ → ℕ → ℝ
  dh2 : ℕ → ℕ → ℝ
  h : ℕ → ℕ → ℝ
  g : ℕ → ℝ

namespace Data

variable (D : Data)

/-- The cotangent of the normalisation's output. -/
def y (t d : ℕ) : ℝ := (∑ k : Fin 2816, D.du1 t k * D.up d k) + (∑ k : Fin 2816, D.du2 t k * D.up d (2816 + k))
  + (∑ k : Fin 1024, D.dgl t k * D.gate d k) + alpha * D.dh2 t d

def mean (t : ℕ) : ℝ := (∑ d : Fin 1024, D.h t d) / 1024
def cen (t d : ℕ) : ℝ := D.h t d - D.mean t
def var (t : ℕ) : ℝ := (∑ d : Fin 1024, D.cen t d * D.cen t d) / 1024
/-- The reciprocal of the standard deviation. -/
def inv (t : ℕ) : ℝ := (√(D.var t + eps))⁻¹
def xhat (t d : ℕ) : ℝ := D.cen t d * D.inv t
/-- The cotangent of the normalised input. -/
def yg (t d : ℕ) : ℝ := D.y t d * D.g d

/-- The derivative by the normalisation's input. -/
def dh (t d : ℕ) : ℝ := D.inv t * (D.yg t d - (∑ k : Fin 1024, D.yg t k) / 1024
  - D.xhat t d * ((∑ k : Fin 1024, D.yg t k * D.xhat t k) / 1024))

theorem var_pos (t : ℕ) : 0 < D.var t + eps := by
  have h : 0 ≤ D.var t := div_nonneg (Finset.sum_nonneg fun d _ => mul_self_nonneg _) (by norm_num)
  have : 0 < eps := by norm_num [eps]
  linarith

theorem inv_sq (t : ℕ) : D.inv t / (D.var t + eps) = D.inv t * (D.inv t * D.inv t) := by
  have h := D.var_pos t
  rw [div_eq_mul_inv]
  congr 1
  rw [inv, ← mul_inv, Real.mul_self_sqrt h.le]

theorem sum_cen (t : ℕ) : ∑ d : Fin 1024, D.cen t d = 0 := by
  simp only [cen, Finset.sum_sub_distrib, Finset.sum_const, Finset.card_univ, Fintype.card_fin, nsmul_eq_mul, mean]
  push_cast
  ring

/-- The derivative as reverse mode writes it, through the mean and the variance. -/
theorem dh_reverse (t d : ℕ) : D.dh t d =
    D.yg t d * D.inv t
      + (∑ k : Fin 1024, D.cen t k * D.yg t k) * (-(1 / 2) * (D.inv t / (D.var t + eps))) / 1024 * (2 * D.cen t d)
      + ((∑ k : Fin 1024, -(D.yg t k * D.inv t))
          + ∑ k : Fin 1024, -((∑ j : Fin 1024, D.cen t j * D.yg t j) * (-(1 / 2) * (D.inv t / (D.var t + eps))) / 1024
              * (2 * D.cen t k))) / 1024 := by
  have e1 : ∑ k : Fin 1024, D.yg t k * D.xhat t k = (∑ k : Fin 1024, D.cen t k * D.yg t k) * D.inv t := by
    rw [Finset.sum_mul]
    exact Finset.sum_congr rfl fun k _ => by rw [xhat]; ring
  have e2 : ∑ k : Fin 1024, -(D.yg t k * D.inv t) = -((∑ k : Fin 1024, D.yg t k) * D.inv t) := by
    rw [Finset.sum_mul, Finset.sum_neg_distrib]
  have e3 : ∀ q : ℝ, ∑ k : Fin 1024, -(q * (2 * D.cen t k)) = 0 := by
    intro q
    have : ∑ k : Fin 1024, -(q * (2 * D.cen t k)) = -(2 * q) * ∑ k : Fin 1024, D.cen t k := by
      rw [Finset.mul_sum]
      exact Finset.sum_congr rfl fun k _ => by ring
    rw [this, sum_cen, mul_zero]
  rw [e3, e2, inv_sq, dh, e1, xhat]
  ring

end Data

/-- The argument arrays hold the numbers of `D`. -/
structure Reads (D : Data) (du1 du2 : (⟨2, ![4096, 2816]⟩ : Shape).Idx → EReal) (dgl : (⟨2, ![4096, 1024]⟩ : Shape).Idx → EReal)
    (up : (⟨3, ![1, 1024, 5632]⟩ : Shape).Idx → EReal) (gate : (⟨3, ![1, 1024, 1024]⟩ : Shape).Idx → EReal)
    (dh2 h : (⟨2, ![4096, 1024]⟩ : Shape).Idx → EReal) (g : (⟨2, ![1, 1024]⟩ : Shape).Idx → EReal) : Prop where
  du1 : ∀ i j, du1 (ix2 i j) = (D.du1 i j : EReal)
  du2 : ∀ i j, du2 (ix2 i j) = (D.du2 i j : EReal)
  dgl : ∀ i j, dgl (ix2 i j) = (D.dgl i j : EReal)
  up : ∀ i j, up (ix3 0 i j) = (D.up i j : EReal)
  gate : ∀ i j, gate (ix3 0 i j) = (D.gate i j : EReal)
  dh2 : ∀ i j, dh2 (ix2 i j) = (D.dh2 i j : EReal)
  h : ∀ i j, h (ix2 i j) = (D.h i j : EReal)
  g : ∀ j, g (ix2 0 j) = (D.g j : EReal)

end Cert.Norm

end
-- ==== Proof.NormBlock.lean ====
/-
  What one grid point of the second kernel computes from its blocks, which hold 256 tokens, from token `T` on.
-/
module

public import proofs.«01_k».proof.Proof.NormData
public import proofs.«01_k».proof.Proof.Gen.Kernel2Ideal.Skeleton

@[expose] public section

set_option maxRecDepth 16384

noncomputable section

open Idealize.ShloMosaic

namespace Cert.Kernel2Ideal.Value

open Cert.Kernel2Ideal Cert.Kernel2Ideal.Gen Cert.Norm
open Cert.Scan (coe_sum)

/-- The input blocks hold the numbers of `D`, from token `T` on. -/
structure Block (D : Norm.Data) (T : ℕ) (x0 : FVec Ideal S256x2816 .bf16) (x1 : FVec Ideal S1x1024x2816 .bf16)
    (x2 : FVec Ideal S256x2816 .bf16) (x3 : FVec Ideal S1x1024x2816 .bf16) (x4 : FVec Ideal S256x1024 .bf16)
    (x5 : FVec Ideal S1x1024x1024 .bf16) (x6 x7 : FVec Ideal S256x1024 .f32) (x8 : FVec Ideal S1x1024 .f32) : Prop where
  du1 : ∀ a k, x0 (ix2 a k) = (D.du1 (T + a) k : EReal)
  up1 : ∀ d k, x1 (ix3 0 d k) = (D.up d k : EReal)
  du2 : ∀ a k, x2 (ix2 a k) = (D.du2 (T + a) k : EReal)
  up2 : ∀ d k, x3 (ix3 0 d k) = (D.up d (2816 + k) : EReal)
  dgl : ∀ a k, x4 (ix2 a k) = (D.dgl (T + a) k : EReal)
  gate : ∀ d k, x5 (ix3 0 d k) = (D.gate d k : EReal)
  dh2 : ∀ a d, x6 (ix2 a d) = (D.dh2 (T + a) d : EReal)
  h : ∀ a d, x7 (ix2 a d) = (D.h (T + a) d : EReal)
  g : ∀ d, x8 (ix2 0 d) = (D.g d : EReal)

variable {D : Norm.Data} {T : ℕ} {x0 : FVec Ideal S256x2816 .bf16} {x1 : FVec Ideal S1x1024x2816 .bf16}
    {x2 : FVec Ideal S256x2816 .bf16} {x3 : FVec Ideal S1x1024x2816 .bf16} {x4 : FVec Ideal S256x1024 .bf16}
    {x5 : FVec Ideal S1x1024x1024 .bf16} {x6 x7 : FVec Ideal S256x1024 .f32} {x8 : FVec Ideal S1x1024 .f32}

/-- The three products and the residual connection. -/
theorem total_at (h : Block D T x0 x1 x2 x3 x4 x5 x6 x7 x8) (a : Fin 256) (d : Fin 1024) :
    k0_pay2 (F := Ideal) x0 x1 x2 x3 x4 x5 x6 (ix2 a d) = (D.y (T + a) d : EReal) := by
  pointwise [k0_pay2]
  simp only [h.du1, h.up1, h.du2, h.up2, h.dgl, h.gate, h.dh2]
  rw [alpha_coe]
  simp only [← EReal.coe_mul, ← coe_sum, ← EReal.coe_add]
  rfl

theorem mean_at (h : Block D T x0 x1 x2 x3 x4 x5 x6 x7 x8) (a : Fin 256) :
    k0_pay5 (F := Ideal) x7 (ix2 a 0) = (D.mean (T + a) : EReal) := by
  pointwise [k0_pay5]
  simp only [h.h, ← coe_sum]
  rw [width_coe, div_real _ (by norm_num)]
  rfl

theorem inv_at (h : Block D T x0 x1 x2 x3 x4 x5 x6 x7 x8) (a : Fin 256) :
    k0_pay7 (F := Ideal) x7 (k0_pay5 (F := Ideal) x7) (ix2 a 0) = (D.inv (T + a) : EReal) := by
  have e := mean_at h a
  generalize k0_pay5 (F := Ideal) x7 = mu at *
  pointwise [k0_pay7, k0_pay6]
  simp only [h.h, e, ← EReal.coe_sub, ← EReal.coe_mul, ← coe_sum]
  rw [width_coe, div_real _ (by norm_num), eps_coe, ← EReal.coe_add]
  exact rsqrt_real (D.var_pos (T + a))

/-- The derivative by the normalisation's input. -/
theorem dh_at (h : Block D T x0 x1 x2 x3 x4 x5 x6 x7 x8) (a : Fin 256) (d : Fin 1024) :
    k0_pay9 (F := Ideal) (k0_pay2 (F := Ideal) x0 x1 x2 x3 x4 x5 x6) x7 x8 (k0_pay5 (F := Ideal) x7) (ix2 a d) = (D.dh (T + a) d : EReal) := by
  have ey := total_at h a
  have em := mean_at h a
  have ei := inv_at h a
  generalize k0_pay2 (F := Ideal) x0 x1 x2 x3 x4 x5 x6 = y at *
  generalize k0_pay5 (F := Ideal) x7 = mu at *
  pointwise [k0_pay9, k0_pay8, k0_pay6]
  simp only [h.h, h.g, ey, em, ei, ← EReal.coe_sub, ← EReal.coe_mul, ← coe_sum]
  rw [width_coe, div_real _ (by norm_num), div_real _ (by norm_num)]
  simp only [← EReal.coe_sub, ← EReal.coe_mul]
  rfl

/-- One step of the sum over the tokens which is the derivative by the scale. -/
theorem dg_at (h : Block D T x0 x1 x2 x3 x4 x5 x6 x7 x8) (prev : FVec Ideal S1x1024 .f32) (p : ℝ) (d : Fin 1024)
    (hp : prev (ix2 0 d) = (p : EReal)) :
    k0_pay10 (F := Ideal) (k0_pay2 (F := Ideal) x0 x1 x2 x3 x4 x5 x6) x7 (k0_pay5 (F := Ideal) x7) prev (ix2 0 d)
      = ((p + ∑ a : Fin 256, D.y (T + a) d * D.xhat (T + a) d : ℝ) : EReal) := by
  have ey := fun a => total_at h a d
  have em := mean_at h
  have ei := inv_at h
  generalize k0_pay2 (F := Ideal) x0 x1 x2 x3 x4 x5 x6 = y at *
  generalize k0_pay5 (F := Ideal) x7 = mu at *
  pointwise [k0_pay10, k0_pay8, k0_pay6]
  simp only [h.h, ey, em, ei, hp, ← EReal.coe_sub, ← EReal.coe_mul, ← coe_sum, ← EReal.coe_add]
  rfl

/-- One step of the sum over the tokens which is the derivative by the shift. -/
theorem db_at (h : Block D T x0 x1 x2 x3 x4 x5 x6 x7 x8) (prev : FVec Ideal S1x1024 .f32) (p : ℝ) (d : Fin 1024)
    (hp : prev (ix2 0 d) = (p : EReal)) :
    k0_pay11 (F := Ideal) (k0_pay2 (F := Ideal) x0 x1 x2 x3 x4 x5 x6) prev (ix2 0 d) = ((p + ∑ a : Fin 256, D.y (T + a) d : ℝ) : EReal) := by
  have ey := fun a => total_at h a d
  generalize k0_pay2 (F := Ideal) x0 x1 x2 x3 x4 x5 x6 = y at *
  pointwise [k0_pay11]
  simp only [ey, hp, ← coe_sum, ← EReal.coe_add]

end Cert.Kernel2Ideal.Value

end
-- ==== Proof.NormOut.lean ====
/-
  What the second kernel's windows hold: point `t` works on the tokens `256 t, …, 256 t + 255`, and its result arrays
  after the run.
-/
module

public import Idealize.ShloMosaic.Lib.Pipeline.ReadBack
public import Idealize.ShloMosaic.Lib.Pipeline.ValueKit
public import proofs.«01_k».proof.Proof.Gen.Kernel2Ideal.Value
public import proofs.«01_k».proof.Proof.NormBlock

@[expose] public section

set_option maxRecDepth 16384

noncomputable section

open Idealize.ShloMosaic Idealize.ShloMosaic.TcCoe Idealize.SL.Sem

namespace Cert.Norm.Data

def dhArray (D : Data) : (⟨2, ![4096, 1024]⟩ : Shape).Idx → EReal := fun i => (D.dh (i 0).val (i 1).val : EReal)
/-- The derivative by the scale. -/
def dgArray (D : Data) : (⟨2, ![1, 1024]⟩ : Shape).Idx → EReal :=
  fun i => ((∑ t ∈ Finset.range 4096, D.y t (i 1).val * D.xhat t (i 1).val : ℝ) : EReal)
/-- The derivative by the shift. -/
def dbArray (D : Data) : (⟨2, ![1, 1024]⟩ : Shape).Idx → EReal :=
  fun i => ((∑ t ∈ Finset.range 4096, D.y t (i 1).val : ℝ) : EReal)

end Cert.Norm.Data

namespace Cert.Kernel2Ideal.Value

open Cert.Kernel2Ideal Cert.Kernel2Ideal.Gen Cert.Norm

variable (m : (ℓ : Loc nD τ sig) → Buf (Elt Ideal) ℓ)

/-- The arguments of core `c` hold the numbers of `D`. -/
abbrev ReadsAt (D : Norm.Data) (c : Dev nD) : Prop :=
  Norm.Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem idx (t : Fin cfg0.N) : win0_0.index t = ![t.val, 0] ∧ win0_1.index t = ![0, 0, 0] ∧ win0_2.index t = ![t.val, 0]
    ∧ win0_3.index t = ![0, 0, 1] ∧ win0_4.index t = ![t.val, 0] ∧ win0_5.index t = ![0, 0, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![0, 0] ∧ win0_12.index t = ![0, 0] := by
  revert t
  decide +kernel

variable {m} {D : Norm.Data} {c : Dev nD}

theorem block_at (h : ReadsAt m D c) (t : Fin cfg0.N) : Block D (256 * t.val) (iblk m c 0 t) (iblk m c 1 t) (iblk m c 2 t)
    (iblk m c 3 t) (iblk m c 4 t) (iblk m c 5 t) (iblk m c 6 t) (iblk m c 7 t) (iblk m c 8 t) := by
  have ht : t.val < 16 := t.isLt
  obtain ⟨i0, i1, i2, i3, i4, i5, i6, i7, i8, -⟩ := idx t
  constructor
  · intro a k
    refine Eq.trans ?_ (h.du1 ⟨256 * t.val + a, by omega⟩ k)
    blk_ext [iblk, V_main_arg0, i0]
  · intro d k
    refine Eq.trans ?_ (h.up d ⟨k, by omega⟩)
    blk_ext [iblk, V_main_arg3, i1]
  · intro a k
    refine Eq.trans ?_ (h.du2 ⟨256 * t.val + a, by omega⟩ k)
    blk_ext [iblk, V_main_arg1, i2]
  · intro d k
    refine Eq.trans ?_ (h.up d ⟨2816 + k, by omega⟩)
    blk_ext [iblk, V_main_arg3, i3]
  · intro a k
    refine Eq.trans ?_ (h.dgl ⟨256 * t.val + a, by omega⟩ k)
    blk_ext [iblk, V_main_arg2, i4]
  · intro d k
    refine Eq.trans ?_ (h.gate d k)
    blk_ext [iblk, V_main_arg4, i5]
  · intro a d
    refine Eq.trans ?_ (h.dh2 ⟨256 * t.val + a, by omega⟩ d)
    blk_ext [iblk, V_main_arg5, i6]
  · intro a d
    refine Eq.trans ?_ (h.h ⟨256 * t.val + a, by omega⟩ d)
    blk_ext [iblk, V_main_arg6, i7]
  · intro d
    refine Eq.trans ?_ (h.g d)
    blk_ext [iblk, V_main_arg7, i8]

/-! ## The windows after each point -/

theorem out_dh (h : ReadsAt m D c) (t : Fin cfg0.N) (a : Fin 256) (d : Fin 1024) :
    (outsAt0 m c t.val t.isLt).1 (ix2 a d) = (D.dh (256 * t.val + a) d : EReal) := by
  by_cases h0 : t.val % 16 = 0
  · rw [outsAt0_A m c t h0]
    dsimp only
    frame_open; simp (disch := decide) only [↓ View.readCov_skip, ↓ View.readCov_cons_toLoadRect, ↓ View.readCov_fill]; frame_out; try simp only [read_unread_whole]
    exact dh_at (block_at h t) a d
  · rw [outsAt0_B m c t h0]
    dsimp only
    frame_open; simp (disch := decide) only [↓ View.readCov_skip, ↓ View.readCov_cons_toLoadRect, ↓ View.readCov_fill]; frame_out; try simp only [read_unread_whole]
    exact dh_at (block_at h t) a d

theorem out_dh_bf16 (h : ReadsAt m D c) (t : Fin cfg0.N) (a : Fin 256) (d : Fin 1024) :
    (outsAt0 m c t.val t.isLt).2.1 (ix2 a d) = (D.dh (256 * t.val + a) d : EReal) := by
  by_cases h0 : t.val % 16 = 0
  · rw [outsAt0_A m c t h0]
    dsimp only
    frame_open; simp (disch := decide) only [↓ View.readCov_skip, ↓ View.readCov_cons_toLoadRect, ↓ View.readCov_fill]; frame_out; try simp only [read_unread_whole]
    exact dh_at (block_at h t) a d
  · rw [outsAt0_B m c t h0]
    dsimp only
    frame_open; simp (disch := decide) only [↓ View.readCov_skip, ↓ View.readCov_cons_toLoadRect, ↓ View.readCov_fill]; frame_out; try simp only [read_unread_whole]
    exact dh_at (block_at h t) a d

/-- A sum over the tokens, one block further. -/
theorem sum_block (f : ℕ → ℝ) (k : ℕ) :
    (∑ t ∈ Finset.range (256 * k), f t) + ∑ a : Fin 256, f (256 * k + a) = ∑ t ∈ Finset.range (256 * (k + 1)), f t := by
  rw [mul_add, mul_one, Finset.sum_range_add]
  rw [Finset.sum_range fun a => f (256 * k + a)]

theorem out_dg (h : ReadsAt m D c) : ∀ (k : ℕ) (hk : k < cfg0.N) (d : Fin 1024),
    (outsAt0 m c k hk).2.2.1 (ix2 0 d) = ((∑ t ∈ Finset.range (256 * (k + 1)), D.y t d * D.xhat t d : ℝ) : EReal) := by
  intro k
  induction k using Nat.strong_induction_on with
  | _ k ih =>
    intro hk d
    have hk' : k < 16 := hk
    rw [← sum_block]
    by_cases h0 : k % 16 = 0
    · rw [outsAt0_A m c ⟨k, hk⟩ h0]
      dsimp only
      frame_open; simp (disch := decide) only [↓ View.readCov_skip, ↓ View.readCov_cons_toLoadRect, ↓ View.readCov_fill]; frame_out; try simp only [read_unread_whole]
      have z : k = 0 := by omega
      refine dg_at (block_at h ⟨k, hk⟩) _ _ d ?_
      pointwise [k0_pay3]
      simp [z]
    · rw [outsAt0_B m c ⟨k, hk⟩ h0]
      dsimp only
      frame_open; simp (disch := decide) only [↓ View.readCov_skip, ↓ View.readCov_cons_toLoadRect, ↓ View.readCov_fill]; frame_out; try simp only [read_unread_whole]
      refine dg_at (block_at h ⟨k, hk⟩) _ _ d ?_
      rw [ih (k - 1) (by omega)]
      rw [show k - 1 + 1 = k by omega]

theorem out_db (h : ReadsAt m D c) : ∀ (k : ℕ) (hk : k < cfg0.N) (d : Fin 1024),
    (outsAt0 m c k hk).2.2.2 (ix2 0 d) = ((∑ t ∈ Finset.range (256 * (k + 1)), D.y t d : ℝ) : EReal) := by
  intro k
  induction k using Nat.strong_induction_on with
  | _ k ih =>
    intro hk d
    have hk' : k < 16 := hk
    rw [← sum_block]
    by_cases h0 : k % 16 = 0
    · rw [outsAt0_A m c ⟨k, hk⟩ h0]
      dsimp only
      frame_open; simp (disch := decide) only [↓ View.readCov_skip, ↓ View.readCov_cons_toLoadRect, ↓ View.readCov_fill]; frame_out; try simp only [read_unread_whole]
      have z : k = 0 := by omega
      refine db_at (block_at h ⟨k, hk⟩) _ _ d ?_
      pointwise [k0_pay4]
      simp [z]
    · rw [outsAt0_B m c ⟨k, hk⟩ h0]
      dsimp only
      frame_open; simp (disch := decide) only [↓ View.readCov_skip, ↓ View.readCov_cons_toLoadRect, ↓ View.readCov_fill]; frame_out; try simp only [read_unread_whole]
      refine db_at (block_at h ⟨k, hk⟩) _ _ d ?_
      rw [ih (k - 1) (by omega)]
      rw [show k - 1 + 1 = k by omega]

/-! ## The arrays after the run -/

theorem array_dh (h : ReadsAt m D c) : (dats m 0 c).arrAt 9 cfg0.N = D.dhArray := by
  refine (dats m 0 c).arrAt_eq_of_covers 9 _ (by decide +kernel) fun t hf y => ?_
  obtain ⟨-, -, -, -, -, -, -, -, -, i, -⟩ := idx t
  have e : y = ix2 (y 0) (y 1) := by
    funext a
    match a with
    | 0 => rfl
    | 1 => rfl
  blk_simp
  rw [after0_9]
  refine (congrArg _ e).trans ((out_dh h t (y 0) (y 1)).trans ?_)
  unfold Norm.Data.dhArray
  blk_simp [i]
  rw [mul_comm 256]

theorem array_dh_bf16 (h : ReadsAt m D c) : (dats m 0 c).arrAt 10 cfg0.N = D.dhArray := by
  refine (dats m 0 c).arrAt_eq_of_covers 10 _ (by decide +kernel) fun t hf y => ?_
  obtain ⟨-, -, -, -, -, -, -, -, -, -, i, -⟩ := idx t
  have e : y = ix2 (y 0) (y 1) := by
    funext a
    match a with
    | 0 => rfl
    | 1 => rfl
  blk_simp
  rw [after0_10]
  refine (congrArg _ e).trans ((out_dh_bf16 h t (y 0) (y 1)).trans ?_)
  unfold Norm.Data.dhArray
  blk_simp [i]
  rw [mul_comm 256]

theorem last (t : Fin cfg0.N) : (cfg0.win 11).flush t = true ∨ (cfg0.win 12).flush t = true → t.val = 15 := by
  revert t
  decide +kernel

theorem array_dg (h : ReadsAt m D c) : (dats m 0 c).arrAt 11 cfg0.N = D.dgArray := by
  refine (dats m 0 c).arrAt_eq_of_covers 11 _ (by decide +kernel) fun t hf y => ?_
  obtain ⟨-, -, -, -, -, -, -, -, -, -, -, i, -⟩ := idx t
  have e : y = ix2 0 (y 1) := by
    funext a
    match a with
    | 0 => exact Subsingleton.elim (α := Fin 1) _ _
    | 1 => rfl
  blk_simp
  rw [after0_11]
  refine (congrArg _ e).trans ((out_dg h t.val t.isLt (y 1)).trans ?_)
  unfold Norm.Data.dgArray
  rw [last t (Or.inl hf)]
  blk_simp [i]

theorem array_db (h : ReadsAt m D c) : (dats m 0 c).arrAt 12 cfg0.N = D.dbArray := by
  refine (dats m 0 c).arrAt_eq_of_covers 12 _ (by decide +kernel) fun t hf y => ?_
  obtain ⟨-, -, -, -, -, -, -, -, -, -, -, -, i⟩ := idx t
  have e : y = ix2 0 (y 1) := by
    funext a
    match a with
    | 0 => exact Subsingleton.elim (α := Fin 1) _ _
    | 1 => rfl
  blk_simp
  rw [after0_12]
  refine (congrArg _ e).trans ((out_db h t.val t.isLt (y 1)).trans ?_)
  unfold Norm.Data.dbArray
  rw [last t (Or.inr hf)]
  blk_simp [i]

end Cert.Kernel2Ideal.Value

end
-- ==== Proof.NormFinite.lean ====
/-
  What the second precondition says: the entries of the arguments the second kernel reads are real numbers.
-/
module

public import Idealize.ShloMosaic.Lib.Pointwise
public import proofs.«01_k».proof.Pre_finite2
public import proofs.«01_k».proof.Proof.Finite
public import proofs.«01_k».proof.Proof.NormData

@[expose] public section

set_option maxRecDepth 16384

noncomputable section

open Idealize.ShloMosaic

namespace Cert.Norm

open Cert.Scan (fill fill_val real_of_bit)
open Cert.Pre_finite2 Cert.Pre_finite2.Facts
variable [Cert.Pre_finite2.Facts]

theorem reads_of_finite (a0 : FVec Ideal S4096x2816 .bf16) (a1 : FVec Ideal S4096x2816 .bf16) (a2 : FVec Ideal S4096x1024 .bf16) (a3 : FVec Ideal S1x1024x5632 .bf16) (a4 : FVec Ideal S1x1024x1024 .bf16) (a5 : FVec Ideal S4096x1024 .f32) (a6 : FVec Ideal S4096x1024 .f32) (a7 : FVec Ideal S1x1024 .f32) (a8 : FVec Ideal S1x1024 .f32)
    (hp : (Cert.Pre_finite2.fn (F := Ideal) a0 a1 a2 a3 a4 a5 a6 a7 a8).1 = (fun _ => 1#1)
      ∧ (Cert.Pre_finite2.fn (F := Ideal) a0 a1 a2 a3 a4 a5 a6 a7 a8).2.1 = (fun _ => 1#1)
      ∧ (Cert.Pre_finite2.fn (F := Ideal) a0 a1 a2 a3 a4 a5 a6 a7 a8).2.2.1 = (fun _ => 1#1)
      ∧ (Cert.Pre_finite2.fn (F := Ideal) a0 a1 a2 a3 a4 a5 a6 a7 a8).2.2.2.1 = (fun _ => 1#1)
      ∧ (Cert.Pre_finite2.fn (F := Ideal) a0 a1 a2 a3 a4 a5 a6 a7 a8).2.2.2.2.1 = (fun _ => 1#1)
      ∧ (Cert.Pre_finite2.fn (F := Ideal) a0 a1 a2 a3 a4 a5 a6 a7 a8).2.2.2.2.2.1 = (fun _ => 1#1)
      ∧ (Cert.Pre_finite2.fn (F := Ideal) a0 a1 a2 a3 a4 a5 a6 a7 a8).2.2.2.2.2.2.1 = (fun _ => 1#1)
      ∧ (Cert.Pre_finite2.fn (F := Ideal) a0 a1 a2 a3 a4 a5 a6 a7 a8).2.2.2.2.2.2.2 = (fun _ => 1#1)) :
    ∃ D, Reads D a0 a1 a2 a3 a4 a5 a6 a7 := by
  obtain ⟨p0, p1, p2, p3, p4, p5, p6, p7⟩ := hp
  have f0 : ∀ i j, ∃ r : ℝ, a0 (ix2 i j) = (r : EReal) := by
    intro i j
    have e := congrFun p0 (ix2 i j)
    unfold Cert.Pre_finite2.fn Cert.Pre_finite2.fn_part1 at e
    pointwise at e
    exact real_of_bit e
  have f1 : ∀ i j, ∃ r : ℝ, a1 (ix2 i j) = (r : EReal) := by
    intro i j
    have e := congrFun p1 (ix2 i j)
    unfold Cert.Pre_finite2.fn Cert.Pre_finite2.fn_part1 at e
    pointwise at e
    exact real_of_bit e
  have f2 : ∀ i j, ∃ r : ℝ, a2 (ix2 i j) = (r : EReal) := by
    intro i j
    have e := congrFun p2 (ix2 i j)
    unfold Cert.Pre_finite2.fn Cert.Pre_finite2.fn_part1 at e
    pointwise at e
    exact real_of_bit e
  have f3 : ∀ i j, ∃ r : ℝ, a3 (ix3 0 i j) = (r : EReal) := by
    intro i j
    have e := congrFun p3 (ix3 0 i j)
    unfold Cert.Pre_finite2.fn Cert.Pre_finite2.fn_part1 at e
    pointwise at e
    exact real_of_bit e
  have f4 : ∀ i j, ∃ r : ℝ, a4 (ix3 0 i j) = (r : EReal) := by
    intro i j
    have e := congrFun p4 (ix3 0 i j)
    unfold Cert.Pre_finite2.fn Cert.Pre_finite2.fn_part1 at e
    pointwise at e
    exact real_of_bit e
  have f5 : ∀ i j, ∃ r : ℝ, a5 (ix2 i j) = (r : EReal) := by
    intro i j
    have e := congrFun p5 (ix2 i j)
    unfold Cert.Pre_finite2.fn Cert.Pre_finite2.fn_part1 at e
    pointwise at e
    exact real_of_bit e
  have f6 : ∀ i j, ∃ r : ℝ, a6 (ix2 i j) = (r : EReal) := by
    intro i j
    have e := congrFun p6 (ix2 i j)
    unfold Cert.Pre_finite2.fn Cert.Pre_finite2.fn_part1 at e
    pointwise at e
    exact real_of_bit e
  have f7 : ∀ j, ∃ r : ℝ, a7 (ix2 0 j) = (r : EReal) := by
    intro j
    have e := congrFun p7 (ix2 0 j)
    unfold Cert.Pre_finite2.fn Cert.Pre_finite2.fn_part1 at e
    pointwise at e
    exact real_of_bit e
  choose x0 e0 using f0
  choose x1 e1 using f1
  choose x2 e2 using f2
  choose x3 e3 using f3
  choose x4 e4 using f4
  choose x5 e5 using f5
  choose x6 e6 using f6
  choose x7 e7 using f7
  refine ⟨{ du1 := fun i j => fill (fun i => fill (x0 i) j) i
            du2 := fun i j => fill (fun i => fill (x1 i) j) i
            dgl := fun i j => fill (fun i => fill (x2 i) j) i
            up := fun i j => fill (fun i => fill (x3 i) j) i
            gate := fun i j => fill (fun i => fill (x4 i) j) i
            dh2 := fun i j => fill (fun i => fill (x5 i) j) i
            h := fun i j => fill (fun i => fill (x6 i) j) i
            g := fill x7 }, ?_⟩
  constructor
  · intro i j
    show _ = ((fill (fun i => fill (x0 i) j) i : ℝ) : EReal)
    rw [e0, fill_val, fill_val]
  · intro i j
    show _ = ((fill (fun i => fill (x1 i) j) i : ℝ) : EReal)
    rw [e1, fill_val, fill_val]
  · intro i j
    show _ = ((fill (fun i => fill (x2 i) j) i : ℝ) : EReal)
    rw [e2, fill_val, fill_val]
  · intro i j
    show _ = ((fill (fun i => fill (x3 i) j) i : ℝ) : EReal)
    rw [e3, fill_val, fill_val]
  · intro i j
    show _ = ((fill (fun i => fill (x4 i) j) i : ℝ) : EReal)
    rw [e4, fill_val, fill_val]
  · intro i j
    show _ = ((fill (fun i => fill (x5 i) j) i : ℝ) : EReal)
    rw [e5, fill_val, fill_val]
  · intro i j
    show _ = ((fill (fun i => fill (x6 i) j) i : ℝ) : EReal)
    rw [e6, fill_val, fill_val]
  · intro j
    show _ = ((fill x7 j : ℝ) : EReal)
    rw [e7, fill_val]

end Cert.Norm

end
-- ==== Proof.NormRef.lean ====
/-
  The second reference's results at an index: its operations, grouped, and what each group holds.
-/
module

public import proofs.«01_k».proof.Proof.Gen.Reference2Ideal.Run
public import Idealize.ShloMosaic.Lib.Quiescent
public import proofs.«01_k».proof.Proof.NormOut

@[expose] public section

set_option maxRecDepth 16384

noncomputable section

open Idealize.ShloMosaic Idealize.ShloMosaic.TcCoe Idealize.SL.Sem

namespace Cert.Reference2Ideal.Terms

open Cert.Reference2Ideal Cert.Reference2Ideal.Gen Cert.Norm
open Cert.Scan (coe_sum)

/-! ## The groups -/

/-- The cotangent of the normalisation's output. -/
def total (a0 a1 : FVec Ideal S4096x2816 .bf16) (a2 : FVec Ideal S4096x1024 .bf16) (a3 : FVec Ideal S1x1024x5632 .bf16)
    (a4 : FVec Ideal S1x1024x1024 .bf16) (a5 : FVec Ideal S4096x1024 .f32) : FVec Ideal S4096x1024 .f32 :=
  addf (addf (mulf (broadcastInDim S4096x1024 ![] bcast_S_S4096x1024 (constant S_ .f32 0x3FD744FD#32)) a5)
      (Host.dotGeneral dot_S4096x1024_S1024x1024_S4096x1024_1_1_0_0_n_n none (extf .f32 a2 bitsLt_bf16_f32)
        (extf .f32 (shapeCast _ a4 shapeCasts_S1x1024x1024_S1024x1024) bitsLt_bf16_f32)))
    (Host.dotGeneral dot_S4096x5632_S1024x5632_S4096x1024_1_1_0_0_n_n none
      (extf .f32 (concatenate S4096x5632 1 [⟨S4096x2816, a0⟩, ⟨S4096x2816, a1⟩] concatenates_S4096x2816_S4096x2816_S4096x5632_d1) bitsLt_bf16_f32)
      (extf .f32 (shapeCast _ a3 shapeCasts_S1x1024x5632_S1024x5632) bitsLt_bf16_f32))

/-- A row's sum, divided by the width. -/
def meanOf (x : FVec Ideal S4096x1024 .f32) : FVec Ideal S4096x1 .f32 :=
  Host.divf (broadcastInDim S4096x1 ![0] bcast_S4096_S4096x1_0
      (Host.reduceAdd x (constant S_ .f32 0x00000000#32) reducesTo_S4096x1024_S4096_d1 h_S_))
    (broadcastInDim S4096x1 ![] bcast_S_S4096x1 (constant S_ .f32 0x44800000#32))

def centred (h : FVec Ideal S4096x1024 .f32) : FVec Ideal S4096x1024 .f32 :=
  subf h (broadcastInDim S4096x1024 ![0, 1] bcast_S4096x1_S4096x1024_0_1 (meanOf h))

def shifted (h : FVec Ideal S4096x1024 .f32) : FVec Ideal S4096x1 .f32 :=
  addf (meanOf (mulf (centred h) (centred h))) (broadcastInDim S4096x1 ![] bcast_S_S4096x1 (constant S_ .f32 0x3727C5AC#32))

def scaled (y : FVec Ideal S4096x1024 .f32) (g : FVec Ideal S1x1024 .f32) : FVec Ideal S4096x1024 .f32 :=
  mulf y (broadcastInDim S4096x1024 ![0, 1] bcast_S1x1024_S4096x1024_0_1 g)

/-- The direct term: `yg` is the cotangent of the normalised input, `v` the variance with what is added to it. -/
def direct (yg : FVec Ideal S4096x1024 .f32) (v : FVec Ideal S4096x1 .f32) : FVec Ideal S4096x1024 .f32 :=
  mulf yg (broadcastInDim S4096x1024 ![0, 1] bcast_S4096x1_S4096x1024_0_1 (Host.rsqrt v))

/-- The term through the variance. -/
def throughVar (yg x : FVec Ideal S4096x1024 .f32) (v : FVec Ideal S4096x1 .f32) : FVec Ideal S4096x1024 .f32 :=
  mulf (broadcastInDim S4096x1024 ![0] bcast_S4096_S4096x1024_0
      (Host.reduceAdd (Host.divf (mulf
          (shapeCast _ (Host.reduceAdd (mulf x yg) (constant S_ .f32 0x00000000#32) reducesTo_S4096x1024_S4096_d1 h_S_) shapeCasts_S4096_S4096x1)
          (mulf (broadcastInDim S4096x1 ![] bcast_S_S4096x1 (constant S_ .f32 0xBF000000#32)) (Host.divf (Host.rsqrt v) v)))
        (broadcastInDim S4096x1 ![] bcast_S_S4096x1 (constant S_ .f32 0x44800000#32)))
      (constant S_ .f32 0x00000000#32) reducesTo_S4096x1_S4096_d1 h_S_))
    (mulf (broadcastInDim S4096x1024 ![] bcast_S_S4096x1024 (constant S_ .f32 0x40000000#32)) x)

/-- The term through the mean. -/
def throughMean (p q : FVec Ideal S4096x1024 .f32) : FVec Ideal S4096x1024 .f32 :=
  broadcastInDim S4096x1024 ![0] bcast_S4096_S4096x1024_0
    (Host.reduceAdd (Host.divf (addf
        (shapeCast _ (Host.reduceAdd (Host.negf p) (constant S_ .f32 0x00000000#32) reducesTo_S4096x1024_S4096_d1 h_S_) shapeCasts_S4096_S4096x1)
        (shapeCast _ (Host.reduceAdd (Host.negf q) (constant S_ .f32 0x00000000#32) reducesTo_S4096x1024_S4096_d1 h_S_) shapeCasts_S4096_S4096x1))
      (broadcastInDim S4096x1 ![] bcast_S_S4096x1 (constant S_ .f32 0x44800000#32)))
    (constant S_ .f32 0x00000000#32) reducesTo_S4096x1_S4096_d1 h_S_)

def dhOf (yg h : FVec Ideal S4096x1024 .f32) : FVec Ideal S4096x1024 .f32 :=
  addf (addf (direct yg (shifted h)) (throughVar yg (centred h) (shifted h)))
    (throughMean (direct yg (shifted h)) (throughVar yg (centred h) (shifted h)))

def dgOf (y h : FVec Ideal S4096x1024 .f32) : FVec Ideal S1x1024 .f32 :=
  shapeCast _ (Host.reduceAdd (mulf (direct (centred h) (shifted h)) y) (constant S_ .f32 0x00000000#32)
    reducesTo_S4096x1024_S1024_d0 h_S_) shapeCasts_S1024_S1x1024

def dbOf (y : FVec Ideal S4096x1024 .f32) : FVec Ideal S1x1024 .f32 :=
  shapeCast _ (Host.reduceAdd y (constant S_ .f32 0x00000000#32)
    reducesTo_S4096x1024_S1024_d0 h_S_) shapeCasts_S1024_S1x1024

/-! ## What they hold -/

theorem half_coe : Ideal.ofBits .f32 0xBF000000#32 = ((-(1 / 2) : ℝ) : EReal) := by
  simp only [Ideal.ofBits, Ideal.ieee]
  simp
  rw [← EReal.coe_mul]
  congr 1
  norm_num

theorem two_coe : Ideal.ofBits .f32 0x40000000#32 = ((2 : ℝ) : EReal) := by
  simp only [Ideal.ofBits, Ideal.ieee]
  simp
  rw [← EReal.coe_mul]
  congr 1
  norm_num

variable {D : Norm.Data}

/-- What the groups take: the arguments which hold the numbers of `D`. -/
abbrev Holds (D : Norm.Data) (a0 a1 : FVec Ideal S4096x2816 .bf16) (a2 : FVec Ideal S4096x1024 .bf16) (a3 : FVec Ideal S1x1024x5632 .bf16)
    (a4 : FVec Ideal S1x1024x1024 .bf16) (a5 a6 : FVec Ideal S4096x1024 .f32) (a7 : FVec Ideal S1x1024 .f32) : Prop :=
  Norm.Reads D a0 a1 a2 a3 a4 a5 a6 a7

variable {a0 a1 : FVec Ideal S4096x2816 .bf16} {a2 : FVec Ideal S4096x1024 .bf16} {a3 : FVec Ideal S1x1024x5632 .bf16}
  {a4 : FVec Ideal S1x1024x1024 .bf16} {a5 a6 : FVec Ideal S4096x1024 .f32} {a7 : FVec Ideal S1x1024 .f32}

theorem total_at (r : Holds D a0 a1 a2 a3 a4 a5 a6 a7) (i : Fin 4096) (d : Fin 1024) :
    total a0 a1 a2 a3 a4 a5 (ix2 i d) = (D.y i d : EReal) := by
  pointwise [total]
  simp only [r.du1, r.du2, r.dgl, r.up, r.gate, r.dh2, alpha_coe, ← EReal.coe_mul]
  rw [← coe_sum, ← coe_sum, ← coe_sum, ← EReal.coe_add, ← EReal.coe_add, ← EReal.coe_add]
  congr 1
  rw [Norm.Data.y]
  ring

theorem meanOf_at (x : FVec Ideal S4096x1024 .f32) (i : Fin 4096) (f : Fin 1024 → ℝ) (hx : ∀ d, x (ix2 i d) = (f d : EReal)) :
    meanOf x (ix2 i 0) = (((∑ d : Fin 1024, f d) / 1024 : ℝ) : EReal) := by
  pointwise [meanOf]
  simp only [hx, width_coe]
  rw [← coe_sum, div_real _ (by norm_num)]

theorem centred_at (r : Holds D a0 a1 a2 a3 a4 a5 a6 a7) (i : Fin 4096) (d : Fin 1024) :
    centred a6 (ix2 i d) = (D.cen i d : EReal) := by
  pointwise [centred]
  rw [meanOf_at a6 i _ (r.h i), r.h, ← EReal.coe_sub]
  rfl

theorem shifted_at (r : Holds D a0 a1 a2 a3 a4 a5 a6 a7) (i : Fin 4096) : shifted a6 (ix2 i 0) = ((D.var i + eps : ℝ) : EReal) := by
  pointwise [shifted]
  rw [meanOf_at _ i (fun d => D.cen i d * D.cen i d), eps_coe, ← EReal.coe_add]
  · rfl
  · intro d
    pointwise
    rw [centred_at r, ← EReal.coe_mul]

theorem rsqrt_at (r : Holds D a0 a1 a2 a3 a4 a5 a6 a7) (i : Fin 4096) : Ideal.rsqrt (shifted a6 (ix2 i 0)) = (D.inv i : EReal) := by
  rw [shifted_at r, rsqrt_real (D.var_pos i)]
  rfl

theorem scaled_at (r : Holds D a0 a1 a2 a3 a4 a5 a6 a7) (i : Fin 4096) (d : Fin 1024) :
    scaled (total a0 a1 a2 a3 a4 a5) a7 (ix2 i d) = (D.yg i d : EReal) := by
  pointwise [scaled]
  rw [total_at r, r.g, ← EReal.coe_mul]
  rfl

theorem direct_at (r : Holds D a0 a1 a2 a3 a4 a5 a6 a7) (x : FVec Ideal S4096x1024 .f32) (i : Fin 4096) (d : Fin 1024) (f : ℝ)
    (hx : x (ix2 i d) = (f : EReal)) : direct x (shifted a6) (ix2 i d) = ((f * D.inv i : ℝ) : EReal) := by
  pointwise [direct]
  rw [hx, rsqrt_at r, ← EReal.coe_mul]

theorem throughVar_at (r : Holds D a0 a1 a2 a3 a4 a5 a6 a7) (i : Fin 4096) (d : Fin 1024) :
    throughVar (scaled (total a0 a1 a2 a3 a4 a5) a7) (centred a6) (shifted a6) (ix2 i d)
      = (((∑ k : Fin 1024, D.cen i k * D.yg i k) * (-(1 / 2) * (D.inv i / (D.var i + eps))) / 1024 * (2 * D.cen i d) : ℝ) : EReal) := by
  pointwise [throughVar]
  simp only [Fin.sum_univ_one, centred_at r, scaled_at r, half_coe, two_coe, width_coe, ← EReal.coe_mul]
  rw [rsqrt_at r, shifted_at r, div_real _ (D.var_pos i).ne', ← coe_sum, ← EReal.coe_mul, ← EReal.coe_mul, div_real _ (by norm_num),
    ← EReal.coe_mul]

theorem throughMean_at (x y : FVec Ideal S4096x1024 .f32) (i : Fin 4096) (d : Fin 1024) (f q : Fin 1024 → ℝ)
    (hx : ∀ k, x (ix2 i k) = (f k : EReal)) (hy : ∀ k, y (ix2 i k) = (q k : EReal)) :
    throughMean x y (ix2 i d) = ((((∑ k, -f k) + ∑ k, -q k) / 1024 : ℝ) : EReal) := by
  pointwise [throughMean]
  simp only [Fin.sum_univ_one, hx, hy, width_coe, ← EReal.coe_neg]
  rw [← coe_sum, ← coe_sum, ← EReal.coe_add, div_real _ (by norm_num)]

theorem dhOf_at (r : Holds D a0 a1 a2 a3 a4 a5 a6 a7) (i : Fin 4096) (d : Fin 1024) :
    dhOf (scaled (total a0 a1 a2 a3 a4 a5) a7) a6 (ix2 i d) = (D.dh i d : EReal) := by
  pointwise [dhOf]
  rw [direct_at r _ i d _ (scaled_at r i d), throughVar_at r,
    throughMean_at _ _ i d _ _ (fun k => direct_at r _ i k _ (scaled_at r i k)) (fun k => throughVar_at r i k),
    ← EReal.coe_add, ← EReal.coe_add, ← D.dh_reverse]

theorem dgOf_at (r : Holds D a0 a1 a2 a3 a4 a5 a6 a7) (d : Fin 1024) :
    dgOf (total a0 a1 a2 a3 a4 a5) a6 (ix2 0 d) = ((∑ t ∈ Finset.range 4096, D.y t d * D.xhat t d : ℝ) : EReal) := by
  pointwise [dgOf]
  simp only [fun t : Fin 4096 => direct_at r (centred a6) t d _ (centred_at r t d), total_at r, ← EReal.coe_mul]
  rw [← coe_sum, Finset.sum_range fun t => D.y t d * D.xhat t d]
  congr 1
  exact Finset.sum_congr rfl fun t _ => mul_comm _ _

theorem dbOf_at (r : Holds D a0 a1 a2 a3 a4 a5 a6 a7) (d : Fin 1024) :
    dbOf (total a0 a1 a2 a3 a4 a5) (ix2 0 d) = ((∑ t ∈ Finset.range 4096, D.y t d : ℝ) : EReal) := by
  pointwise [dbOf]
  simp only [total_at r]
  rw [← coe_sum, Finset.sum_range fun t => D.y t d]

end Cert.Reference2Ideal.Terms

namespace Cert.Reference2Ideal.Value

open Cert.Reference2Ideal Cert.Reference2Ideal.Gen Cert.Reference2Ideal.Terms

variable {m : (ℓ : Loc nD τ sig) → Buf (Elt Ideal) ℓ} {D : Norm.Data} {c : Dev nD}

/-- The arguments of core `c` hold the numbers of `D`. -/
abbrev ReadsAt (m : (ℓ : Loc nD τ sig) → Buf (Elt Ideal) ℓ) (D : Norm.Data) (c : Dev nD) : Prop :=
  Holds D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem array_dh (h : ReadsAt m D c) : res_main_v66 m c = D.dhArray := by
  have e : res_main_v66 m c = dhOf (scaled (total (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) (m ((c : Thread nD τ).loc main_arg7))) (m ((c : Thread nD τ).loc main_arg6)) := rfl
  rw [e]
  funext i
  have ei : i = ix2 (i 0) (i 1) := by
    funext a
    match a with
    | 0 => rfl
    | 1 => rfl
  exact (congrArg _ ei).trans (dhOf_at h (i 0) (i 1))

theorem array_dh_bf16 (h : ReadsAt m D c) : res_main_v67 m c = D.dhArray :=
  Eq.trans (show res_main_v67 m c = res_main_v66 m c from rfl) (array_dh h)

theorem array_dg (h : ReadsAt m D c) : dgOf (total (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) (m ((c : Thread nD τ).loc main_arg6)) = D.dgArray := by
  funext i
  have ei : i = ix2 0 (i 1) := by
    funext a
    match a with
    | 0 => exact Subsingleton.elim (α := Fin 1) _ _
    | 1 => rfl
  exact (congrArg _ ei).trans (dgOf_at h (i 1))

theorem array_db (h : ReadsAt m D c) : dbOf (total (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) = D.dbArray := by
  funext i
  have ei : i = ix2 0 (i 1) := by
    funext a
    match a with
    | 0 => exact Subsingleton.elim (α := Fin 1) _ _
    | 1 => rfl
  exact (congrArg _ ei).trans (dbOf_at h (i 1))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => (h c).2.2.2.2, sem_eq_zero_of_no_sems rfl r.2⟩) (run m g)

end Cert.Reference2Ideal.Value

end
-- ==== Proof.Halves.lean ====
/-
  A sum over the tokens, taken in two halves.
-/
module

public import Mathlib.Data.EReal.Operations
public import Mathlib.Algebra.BigOperators.Fin

@[expose] public section

noncomputable section

namespace Cert

theorem sum_halves (f : Fin 4096 → EReal) :
    ∑ s : Fin 4096, f s = (∑ s : Fin 2048, f ⟨s.val, by omega⟩) + ∑ s : Fin 2048, f ⟨2048 + s.val, by omega⟩ :=
  Fin.sum_univ_add (a := 2048) (b := 2048) f

end Cert

end
-- ==== Proof.DwDownOut.lean ====
/-
  The third kernel's result at an index: the product of the columns of its two arguments, the sum over the tokens taken
  in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel3Ideal.Value
public import proofs.«01_k».proof.Proof.Gen.Reference3Ideal.Run
public import proofs.«01_k».proof.Proof.Halves

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

/-- The product, the contraction running over the tokens. -/
def product (a : FVec Ideal S4096x2816 .bf16) (b : FVec Ideal S4096x1024 .bf16) : FVec Ideal S1x2816x1024 .f32 :=
  fun i => ∑ s : Fin 4096, a (ix2 s (i 1)) * b (ix2 s (i 2))

theorem first_at (x : FVec Ideal S2048x1408 .bf16) (y : FVec Ideal S2048x1024 .bf16) (p : Fin 1408) (q : Fin 1024) :
    k0_pay2 (F := Ideal) x y (ix2 p q) = ∑ s : Fin 2048, x (ix2 s p) * y (ix2 s q) := by
  pointwise [k0_pay2, k0_pay1]

theorem last_at (x : FVec Ideal S2048x1408 .bf16) (y : FVec Ideal S2048x1024 .bf16) (z : FVec Ideal S1408x1024 .f32)
    (p : Fin 1408) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, t.val / 2] ∧ win0_1.index t = ![t.val % 2, 0]
    ∧ win0_2.index t = ![0, t.val / 2, 0] := by
  revert t
  decide +kernel

variable (m : (ℓ : Loc nD τ sig) → Buf (Elt Ideal) ℓ) (c : Dev nD)

theorem in0 (t : Fin cfg0.N) (s : Fin 2048) (p : Fin 1408) (hs : 2048 * (t.val % 2) + s.val < 4096)
    (hp : 1408 * (t.val / 2) + p.val < 2816) :
    iblk m c 0 t (ix2 s p) = m ((c : Thread nD τ).loc main_arg0) (ix2 ⟨2048 * (t.val % 2) + s.val, hs⟩ ⟨1408 * (t.val / 2) + p.val, hp⟩) := by
  obtain ⟨i, -, -⟩ := idx t
  blk_ext [iblk, V_main_arg0, i]

theorem in1 (t : Fin cfg0.N) (s : Fin 2048) (q : Fin 1024) (hs : 2048 * (t.val % 2) + s.val < 4096) :
    iblk m c 1 t (ix2 s q) = m ((c : Thread nD τ).loc main_arg1) (ix2 ⟨2048 * (t.val % 2) + s.val, hs⟩ q) := by
  obtain ⟨-, i, -⟩ := idx t
  blk_ext [iblk, V_main_arg1, i]

/-- The blocks which a point reads. -/
abbrev left (t : Fin cfg0.N) : FVec Ideal S2048x1408 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1408) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1408) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix3 0 (y 1) (y 2) := by
    funext a
    match a with
    | 0 => exact Subsingleton.elim (α := Fin 1) _ _
    | 1 => rfl
    | 2 => rfl
  have h : t.val % 2 = 1 := (flush0_2 t).mp hf
  have ht : t.val < 4 := t.isLt
  have hp : (y 1).val < 1408 := (y 1).isLt
  have e1 : ((cfg0.win 2).blk t).view.emb y 1 = (⟨1408 * (t.val / 2) + (y 1).val, by omega⟩ : Fin 2816) :=
    Fin.ext ((show _ = win0_2.index t (1 : Fin 3) * 1408 + 1 * (y 1).val from rfl).trans (by rw [i]; simp; omega))
  have e2 : ((cfg0.win 2).blk t).view.emb y 2 = (y 2 : Fin 1024) :=
    Fin.ext ((show _ = win0_2.index t (2 : Fin 3) * 1024 + 1 * (y 2).val from rfl).trans (by rw [i]; simp))
  blk_simp
  rw [after0_2]
  refine (congrArg _ e).trans ((window_at m c t h (y 1) (y 2)).trans ?_)
  unfold product
  refine Eq.trans ?_ (Cert.sum_halves _).symm
  refine congr (congrArg _ (Finset.sum_congr rfl fun s _ => ?_)) (Finset.sum_congr rfl fun s _ => ?_)
  · have hN : t.val - 1 < cfg0.N := Nat.lt_of_le_of_lt (Nat.sub_le _ _) t.isLt
    have hs : s.val < 2048 := s.isLt
    have t1 : (t.val - 1) / 2 = t.val / 2 := by omega
    have t0 : (t.val - 1) % 2 = 0 := by omega
    refine congr (congrArg _ ((in0 m c ⟨t.val - 1, hN⟩ s (y 1) (by show 2048 * ((t.val - 1) % 2) + s.val < 4096; omega)
        (by show 1408 * ((t.val - 1) / 2) + (y 1).val < 2816; omega)).trans ?_))
      ((in1 m c ⟨t.val - 1, hN⟩ s (y 2) (by show 2048 * ((t.val - 1) % 2) + s.val < 4096; omega)).trans ?_)
    · refine congrArg (m ((c : Thread nD τ).loc main_arg0)) (congr (congrArg _ (Fin.ext ?_)) (Eq.trans (Fin.ext ?_) e1.symm))
      · dsimp only
        omega
      · dsimp only
        omega
    · refine congrArg (m ((c : Thread nD τ).loc main_arg1)) (congr (congrArg _ (Fin.ext ?_)) e2.symm)
      dsimp only
      omega
  · refine congr (congrArg _ ((in0 m c t s (y 1) (by omega) (by omega)).trans ?_))
      ((in1 m c t s (y 2) (by omega)).trans ?_)
    · refine congrArg (m ((c : Thread nD τ).loc main_arg0)) (congr (congrArg _ (Fin.ext ?_)) e1.symm)
      dsimp only
      omega
    · refine congrArg (m ((c : Thread nD τ).loc main_arg1)) (congr (congrArg _ (Fin.ext ?_)) e2.symm)
      dsimp only
      omega

end Cert.Kernel3Ideal.Value

namespace Cert.Reference3Ideal.Value

open Cert.Reference3Ideal Cert.Reference3Ideal.Gen

theorem array (a : FVec Ideal S4096x2816 .bf16) (b : FVec Ideal S4096x1024 .bf16) :
    broadcastInDim S1x2816x1024 ![1, 2] bcast_S2816x1024_S1x2816x1024_1_2 (transpose S2816x1024 [1, 0]
      (Host.dotGeneral dot_S4096x1024_S4096x2816_S1024x2816_0_0_1_1_n_n none (extf .f32 b bitsLt_bf16_f32)
        (extf .f32 a bitsLt_bf16_f32)) transposes_S1024x2816_S2816x1024_1_0)
      = Cert.Kernel3Ideal.Value.product a b := by
  funext i
  unfold Cert.Kernel3Ideal.Value.product
  pointwise
  exact Finset.sum_congr rfl fun s _ => mul_comm _ _

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference3Ideal.Value

end
-- ==== Proof.DactOut.lean ====
/-
  The fourth kernel's result at an index: the product of the rows of its first argument with the rows of the weight.
-/
module

public import Idealize.ShloMosaic.Lib.Pipeline.ValueKit
public import Idealize.ShloMosaic.Lib.Pointwise
public import Idealize.ShloMosaic.Lib.Quiescent
public import proofs.«01_k».proof.Proof.Gen.Kernel4Ideal.Value
public import proofs.«01_k».proof.Proof.Gen.Reference4Ideal.Run

@[expose] public section

set_option maxRecDepth 16384

noncomputable section

open Idealize.ShloMosaic Idealize.ShloMosaic.TcCoe Idealize.SL.Sem

namespace Cert.Kernel4Ideal.Value

open Cert.Kernel4Ideal Cert.Kernel4Ideal.Gen

/-- The product, the contraction running over the model's width. -/
def product (a : FVec Ideal S4096x1024 .bf16) (w : FVec Ideal S1x2816x1024 .bf16) : FVec Ideal S4096x2816 .bf16 :=
  fun i => ∑ d : Fin 1024, a (ix2 (i 0) d) * w (ix3 0 (i 1) d)

theorem block_at (x : FVec Ideal S2048x1024 .bf16) (w : FVec Ideal S1x1408x1024 .bf16) (p : Fin 2048) (q : Fin 1408) :
    k0_pay1 (F := Ideal) x w (ix2 p q) = ∑ d : Fin 1024, x (ix2 p d) * w (ix3 0 q d) := by
  pointwise [k0_pay1]

theorem out_eq (x : FVec Ideal S2048x1024 .bf16) (w : FVec Ideal S1x1408x1024 .bf16) :
    out0_2 (F := Ideal) x w = k0_pay1 (F := Ideal) x w := by
  have h2 : (![0, 0] : Fin S2048x1408.rank → Nat) = fun _ => 0 := funext fun a => by fin_cases a <;> rfl
  have h0 : (![0, 0] : Fin S2048x1024.rank → Nat) = fun _ => 0 := funext fun a => by fin_cases a <;> rfl
  have h1 : (![0, 0, 0] : Fin S1x1408x1024.rank → Nat) = fun _ => 0 := funext fun a => by fin_cases a <;> rfl
  unfold out0_2
  rw [View.canon_unit_zero h2, View.ld_unit_zero h0, View.ld_unit_zero h1]

theorem idx (t : Fin cfg0.N) : win0_0.index t = ![t.val / 2, 0] ∧ win0_1.index t = ![0, t.val % 2, 0]
    ∧ win0_2.index t = ![t.val / 2, t.val % 2] := by
  revert t
  decide +kernel

variable (m : (ℓ : Loc nD τ sig) → Buf (Elt Ideal) ℓ) (c : Dev nD)

theorem in0 (t : Fin cfg0.N) (p : Fin 2048) (d : Fin 1024) (hp : 2048 * (t.val / 2) + p.val < 4096) :
    iblk m c 0 t (ix2 p d) = m ((c : Thread nD τ).loc main_arg0) (ix2 ⟨2048 * (t.val / 2) + p.val, hp⟩ d) := by
  obtain ⟨i, -, -⟩ := idx t
  blk_ext [iblk, V_main_arg0, i]

theorem in1 (t : Fin cfg0.N) (q : Fin 1408) (d : Fin 1024) (hq : 1408 * (t.val % 2) + q.val < 2816) :
    iblk m c 1 t (ix3 0 q d) = m ((c : Thread nD τ).loc main_arg1) (ix3 0 ⟨1408 * (t.val % 2) + q.val, hq⟩ d) := by
  obtain ⟨-, i, -⟩ := idx t
  blk_ext [iblk, V_main_arg1, i]

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 4 := t.isLt
  have hp : (y 0).val < 2048 := (y 0).isLt
  have hq : (y 1).val < 1408 := (y 1).isLt
  have e0 : ((cfg0.win 2).blk t).view.emb y 0 = (⟨2048 * (t.val / 2) + (y 0).val, by omega⟩ : Fin 4096) :=
    Fin.ext ((show _ = win0_2.index t (0 : Fin 2) * 2048 + 1 * (y 0).val from rfl).trans (by rw [i]; simp; omega))
  have e1 : ((cfg0.win 2).blk t).view.emb y 1 = (⟨1408 * (t.val % 2) + (y 1).val, by omega⟩ : Fin 2816) :=
    Fin.ext ((show _ = win0_2.index t (1 : Fin 2) * 1408 + 1 * (y 1).val from rfl).trans (by rw [i]; simp; omega))
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 k d)) e1.symm

end Cert.Kernel4Ideal.Value

namespace Cert.Reference4Ideal.Value

open Cert.Reference4Ideal Cert.Reference4Ideal.Gen

theorem array (a : FVec Ideal S4096x1024 .bf16) (w : FVec Ideal S1x2816x1024 .bf16) :
    truncf .bf16 (Host.dotGeneral dot_S4096x1024_S2816x1024_S4096x2816_1_1_0_0_n_n none (extf .f32 a bitsLt_bf16_f32)
      (shapeCast _ (extf .f32 w bitsLt_bf16_f32) shapeCasts_S1x2816x1024_S2816x1024)) bitsLt_bf16_f32
      = Cert.Kernel4Ideal.Value.product a w := by
  funext i
  unfold Cert.Kernel4Ideal.Value.product
  pointwise

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference4Ideal.Value

end
-- ==== Proof.DwUpOut.lean ====
/-
  The fifth kernel's result at an index: the first half of the columns is the buffer's, the second half the product of
  the columns of its first two arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel5Ideal.Value
public import proofs.«01_k».proof.Proof.Gen.Reference5Ideal.Run
public import proofs.«01_k».proof.Proof.Halves

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

/-- The buffer, its second half replaced by the product, the contraction running over the tokens. -/
def product (a : FVec Ideal S4096x1024 .bf16) (b : FVec Ideal S4096x2816 .bf16) (w : FVec Ideal S1x1024x5632 .f32) :
    FVec Ideal S1x1024x5632 .f32 :=
  fun i => if h : (i 2).val < 2816 then w i
    else ∑ s : Fin 4096, a (ix2 s (i 1)) * b (ix2 s ⟨(i 2).val - 2816, have : (i 2).val < 5632 := (i 2).isLt; by omega⟩)

theorem first_at (x : FVec Ideal S2048x1024 .bf16) (y : FVec Ideal S2048x1408 .bf16) (p : Fin 1024) (q : Fin 1408) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1408 .bf16) (z : FVec Ideal S1024x1408 .f32)
    (p : Fin 1024) (q : Fin 1408) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 2 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1408) (hs : 2048 * (t.val % 2) + s.val < 4096)
    (hq : 1408 * (t.val / 2) + q.val < 2816) :
    iblk m c 1 t (ix2 s q) = m ((c : Thread nD τ).loc main_arg1) (ix2 ⟨2048 * (t.val % 2) + s.val, hs⟩ ⟨1408 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1408 .bf16 := iblk m c 1 t

/-- After an even point the scratch holds the first half's sum. -/
theorem scratch_at (t : Fin cfg0.N) (h : t.val % 2 = 0) (p : Fin 1024) (q : Fin 1408) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1408) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _ (fun β => 2 ≤ β (2 : Fin 3)) (by decide +kernel) (fun t hf y => ?_) (fun j hj => ?_)
  · obtain ⟨-, -, i⟩ := idx t
    have e : y = ix3 0 (y 1) (y 2) := by
      funext a
      match a with
      | 0 => exact Subsingleton.elim (α := Fin 1) _ _
      | 1 => rfl
      | 2 => rfl
    have h : t.val % 2 = 1 := (flush0_2 t).mp hf
    have ht : t.val < 4 := t.isLt
    have hq : (y 2).val < 1408 := (y 2).isLt
    have e1 : ((cfg0.win 2).blk t).view.emb y 1 = (y 1 : Fin 1024) :=
      Fin.ext ((show _ = win0_2.index t (1 : Fin 3) * 1024 + 1 * (y 1).val from rfl).trans (by rw [i]; simp))
    have e2 : (((cfg0.win 2).blk t).view.emb y 2).val = 2816 + (1408 * (t.val / 2) + (y 2).val) :=
      (show _ = win0_2.index t (2 : Fin 3) * 1408 + 1 * (y 2).val from rfl).trans (by rw [i]; simp; omega)
    blk_simp
    rw [after0_2]
    refine (congrArg _ e).trans ((window_at m c t h (y 1) (y 2)).trans ?_)
    unfold product
    refine Eq.trans ?_ (dif_neg (by rw [show _ = _ from e2]; omega)).symm
    refine Eq.trans ?_ (Cert.sum_halves _).symm
    refine congr (congrArg _ (Finset.sum_congr rfl fun s _ => ?_)) (Finset.sum_congr rfl fun s _ => ?_)
    · have hN : t.val - 1 < cfg0.N := Nat.lt_of_le_of_lt (Nat.sub_le _ _) t.isLt
      have hs : s.val < 2048 := s.isLt
      have t1 : (t.val - 1) / 2 = t.val / 2 := by omega
      have t0 : (t.val - 1) % 2 = 0 := by omega
      refine congr (congrArg _ ((in0 m c ⟨t.val - 1, hN⟩ s (y 1) (by show 2048 * ((t.val - 1) % 2) + s.val < 4096; omega)).trans ?_))
        ((in1 m c ⟨t.val - 1, hN⟩ s (y 2) (by show 2048 * ((t.val - 1) % 2) + s.val < 4096; omega)
          (by show 1408 * ((t.val - 1) / 2) + (y 2).val < 2816; omega)).trans ?_)
      · refine congrArg (m ((c : Thread nD τ).loc main_arg0)) (congr (congrArg _ (Fin.ext ?_)) e1.symm)
        dsimp only
        omega
      · refine congrArg (m ((c : Thread nD τ).loc main_arg1)) (congr (congrArg _ (Fin.ext ?_)) (Fin.ext ?_))
        · dsimp only
          omega
        · refine Eq.trans ?_ (congrArg (· - 2816) e2).symm
          dsimp only
          omega
    · have hs : s.val < 2048 := s.isLt
      refine congr (congrArg _ ((in0 m c t s (y 1) (by omega)).trans ?_))
        ((in1 m c t s (y 2) (by omega) (by omega)).trans ?_)
      · refine congrArg (m ((c : Thread nD τ).loc main_arg0)) (congr (congrArg _ (Fin.ext ?_)) e1.symm)
        dsimp only
        omega
      · refine congrArg (m ((c : Thread nD τ).loc main_arg1)) (congr (congrArg _ (Fin.ext ?_)) (Fin.ext ?_))
        · dsimp only
          omega
        · refine Eq.trans ?_ (congrArg (· - 2816) e2).symm
          dsimp only
          omega
  · blk_simp [Pipeline.Window.cell_apply] at hj
    rw [A_eq]
    unfold product
    refine (congrFun (V_main_v0 m c) _).trans ?_
    have h : ((cfg0.win 2).arr.view.emb j 2).val < 2816 := by
      blk_simp
      omega
    rw [dif_pos h]

end Cert.Kernel5Ideal.Value

namespace Cert.Reference5Ideal.Value

open Cert.Reference5Ideal Cert.Reference5Ideal.Gen

theorem array (a : FVec Ideal S4096x1024 .bf16) (b : FVec Ideal S4096x2816 .bf16) (w : FVec Ideal S1x1024x5632 .f32) :
    concatenate S1x1024x5632 2 [⟨S1x1024x2816, (extractStridedSlice S1x1024x2816 ![0, 0, 0] w slices_S1x1024x5632_S1x1024x2816_0_0_0)⟩,
      ⟨S1x1024x2816, (broadcastInDim S1x1024x2816 ![1, 2] bcast_S1024x2816_S1x1024x2816_1_2 (transpose S1024x2816 [1, 0]
        (Host.dotGeneral dot_S4096x2816_S4096x1024_S2816x1024_0_0_1_1_n_n none (extf .f32 b bitsLt_bf16_f32)
          (extf .f32 a bitsLt_bf16_f32)) transposes_S2816x1024_S1024x2816_1_0))⟩] concatenates_S1x1024x2816_S1x1024x2816_S1x1024x5632_d2
      = Cert.Kernel5Ideal.Value.product a b w := by
  funext i
  unfold Cert.Kernel5Ideal.Value.product
  pointwise
  have e : ix3 0 (i 1) (i 2) = i := by
    funext a
    match a with
    | 0 => exact Subsingleton.elim (α := Fin 1) _ _
    | 1 => rfl
    | 2 => rfl
  by_cases h : (i 2).val < 2816
  · rw [dif_pos h, dif_pos h]
    exact congrArg w e
  · rw [dif_neg h, dif_neg h]
    exact Finset.sum_congr rfl fun s _ => mul_comm _ _

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference5Ideal.Value

end
-- ==== Proof.ProjEntry.lean ====
/-
  What the sixth kernel's windows hold at a grid point: point `t` works on the tokens of block `t / 2` and on the columns
  of block `t % 2`.
-/
module

public import Idealize.ShloMosaic.Lib.Pipeline.ReadBack
public import Idealize.ShloMosaic.Lib.Pipeline.ValueKit
public import Idealize.ShloMosaic.Lib.Pointwise
public import proofs.«01_k».proof.Proof.Gen.Kernel6Ideal.Value

@[expose] public section

set_option maxRecDepth 16384

noncomputable section

open Idealize.ShloMosaic Idealize.ShloMosaic.TcCoe Idealize.SL.Sem

namespace Cert.Kernel6Ideal.Value

open Cert.Kernel6Ideal Cert.Kernel6Ideal.Gen

variable (m : (ℓ : Loc nD τ sig) → Buf (Elt Ideal) ℓ) (c : Dev nD)

theorem idx (t : Fin cfg0.N) : win0_0.index t = ![t.val / 2, 0] ∧ win0_2.index t = ![t.val / 2, 0]
    ∧ win0_4.index t = ![t.val / 2, 0] ∧ win0_6.index t = ![t.val / 2, 0] ∧ win0_8.index t = ![t.val / 2, 1]
    ∧ win0_10.index t = ![t.val / 2, 0] ∧ win0_12.index t = ![t.val / 2, t.val % 2] ∧ win0_13.index t = ![t.val / 2, t.val % 2] := by
  revert t
  decide +kernel

theorem idxw (t : Fin cfg0.N) : win0_1.index t = ![0, t.val % 2, 0] ∧ win0_3.index t = ![0, t.val % 2, 1]
    ∧ win0_5.index t = ![0, t.val % 2, 2] ∧ win0_7.index t = ![0, t.val % 2, 3] ∧ win0_9.index t = ![0, t.val % 2, 4]
    ∧ win0_11.index t = ![0, t.val % 2, 40] := by
  revert t
  decide +kernel

/-! ## The arrays prepared before the region -/

def padded (x : FVec Ideal S4096x16 .f32) : FVec Ideal S4096x128 .f32 :=
  pad S4096x128 ![0, 0] ![0, 112] ![0, 0] x (sitofp .f32 (constantI S_ 32 0#32)) pads_S4096x16_S4096x128_000_01120 h_S_

theorem V_main_v0 : V m c main_v0 = padded (m ((c : Thread nD τ).loc main_arg4)) := by
  simp only [V, hostOps0, hostOps0_1, hostOps0_2, hostOps0_3, List.flatten_cons, List.flatten_nil, List.append_nil, List.cons_append,
    List.nil_append]
  entry_read
  rfl

def weight (x : FVec Ideal S1x1024x5136 .bf16) : FVec Ideal S1x1024x5248 .bf16 :=
  pad S1x1024x5248 ![0, 0, 0] ![0, 0, 112] ![0, 0, 0] x (sitofp .bf16 (constantI S_ 32 0#32)) pads_S1x1024x5136_S1x1024x5248_000_000_01120 h_S_

theorem V_main_v1 : V m c main_v1 = weight (m ((c : Thread nD τ).loc main_arg5)) := by
  simp only [V, hostOps0, hostOps0_1, hostOps0_2, hostOps0_3, List.flatten_cons, List.flatten_nil, List.append_nil, List.cons_append,
    List.nil_append]
  entry_read
  rfl

theorem zero_of_int (φ : FTy) : FloatOps.sitofp (F := Ideal) φ 0#32 = 0 := by
  show (((0#32 : BitVec 32).toInt : ℝ) : EReal) = 0
  simp

theorem padded_at (x : FVec Ideal S4096x16 .f32) (r : Fin 4096) (k : Fin 128) :
    padded x (ix2 r k) = if h : k.val < 16 then x (ix2 r ⟨k.val, h⟩) else 0 := by
  pointwise [padded]
  rw [zero_of_int]

theorem weight_at (x : FVec Ideal S1x1024x5136 .bf16) (r : Fin 1024) (k : Fin 5248) :
    weight x (ix3 0 r k) = if h : k.val < 5136 then x (ix3 0 r ⟨k.val, h⟩) else 0 := by
  pointwise [weight]
  rw [zero_of_int]

/-! ## The windows -/

variable (t : Fin cfg0.N)

theorem in0 (p : Fin 512) (k : Fin 1024) (hp : 512 * (t.val / 2) + p.val < 4096) :
    iblk m c 0 t (ix2 p k) = m ((c : Thread nD τ).loc main_arg0) (ix2 ⟨512 * (t.val / 2) + p.val, hp⟩ k) := by
  obtain ⟨i, -⟩ := idx t
  blk_ext [iblk, V_main_arg0, i]

theorem in2 (p : Fin 512) (k : Fin 1024) (hp : 512 * (t.val / 2) + p.val < 4096) :
    iblk m c 2 t (ix2 p k) = m ((c : Thread nD τ).loc main_arg1) (ix2 ⟨512 * (t.val / 2) + p.val, hp⟩ k) := by
  obtain ⟨-, i, -⟩ := idx t
  blk_ext [iblk, V_main_arg1, i]

theorem in4 (p : Fin 512) (k : Fin 1024) (hp : 512 * (t.val / 2) + p.val < 4096) :
    iblk m c 4 t (ix2 p k) = m ((c : Thread nD τ).loc main_arg2) (ix2 ⟨512 * (t.val / 2) + p.val, hp⟩ k) := by
  obtain ⟨-, -, i, -⟩ := idx t
  blk_ext [iblk, V_main_arg2, i]

theorem in6 (p : Fin 512) (k : Fin 1024) (hp : 512 * (t.val / 2) + p.val < 4096) :
    iblk m c 6 t (ix2 p k) = m ((c : Thread nD τ).loc main_arg3) (ix2 ⟨512 * (t.val / 2) + p.val, hp⟩ ⟨k.val, by omega⟩) := by
  obtain ⟨-, -, -, i, -⟩ := idx t
  blk_ext [iblk, V_main_arg3, i]

theorem in8 (p : Fin 512) (k : Fin 1024) (hp : 512 * (t.val / 2) + p.val < 4096) :
    iblk m c 8 t (ix2 p k) = m ((c : Thread nD τ).loc main_arg3) (ix2 ⟨512 * (t.val / 2) + p.val, hp⟩ ⟨1024 + k.val, by omega⟩) := by
  obtain ⟨-, -, -, -, i, -⟩ := idx t
  blk_ext [iblk, V_main_arg3, i]

theorem in10 (p : Fin 512) (k : Fin 128) (hp : 512 * (t.val / 2) + p.val < 4096) :
    iblk m c 10 t (ix2 p k) = if h : k.val < 16 then
      m ((c : Thread nD τ).loc main_arg4) (ix2 ⟨512 * (t.val / 2) + p.val, hp⟩ ⟨k.val, h⟩) else (0 : EReal) := by
  obtain ⟨-, -, -, -, -, i, -⟩ := idx t
  refine Eq.trans (b := V m c main_v0 (ix2 ⟨512 * (t.val / 2) + p.val, hp⟩ k)) (by blk_ext [iblk, i]) ?_
  rw [V_main_v0]
  exact padded_at _ _ _

theorem in12 (p q : Fin 512) (hp : 512 * (t.val / 2) + p.val < 4096) :
    iblk m c 12 t (ix2 p q) = m ((c : Thread nD τ).loc main_arg6) (ix2 ⟨512 * (t.val / 2) + p.val, hp⟩ ⟨512 * (t.val % 2) + q.val, by omega⟩) := by
  obtain ⟨-, -, -, -, -, -, i, -⟩ := idx t
  blk_ext [iblk, V_main_arg6, i]

theorem in1 (q : Fin 512) (k : Fin 1024) :
    X0_1 m c t (ix3 0 q k) = m ((c : Thread nD τ).loc main_arg5) (ix3 0 ⟨512 * (t.val % 2) + q.val, by omega⟩ ⟨k.val, by omega⟩) := by
  unfold X0_1 Pipeline.Window.fill
  rw [dif_pos (moved0_1 t _)]
  obtain ⟨i, -⟩ := idxw t
  refine Eq.trans (b := V m c main_v1 (ix3 0 ⟨512 * (t.val % 2) + q.val, by omega⟩ ⟨0 + k.val, by omega⟩)) (by blk_ext [iblk, i]) ?_
  rw [V_main_v1]
  exact (weight_at _ _ _).trans ((dif_pos (show 0 + k.val < 5136 by omega)).trans (by simp))

theorem in3 (q : Fin 512) (k : Fin 1024) :
    X0_3 m c t (ix3 0 q k) = m ((c : Thread nD τ).loc main_arg5) (ix3 0 ⟨512 * (t.val % 2) + q.val, by omega⟩ ⟨1024 + k.val, by omega⟩) := by
  unfold X0_3 Pipeline.Window.fill
  rw [dif_pos (moved0_3 t _)]
  obtain ⟨-, i, -⟩ := idxw t
  refine Eq.trans (b := V m c main_v1 (ix3 0 ⟨512 * (t.val % 2) + q.val, by omega⟩ ⟨1024 + k.val, by omega⟩)) (by blk_ext [iblk, i]) ?_
  rw [V_main_v1]
  exact (weight_at _ _ _).trans ((dif_pos (show 1024 + k.val < 5136 by omega)).trans (by simp))

theorem in5 (q : Fin 512) (k : Fin 1024) :
    X0_5 m c t (ix3 0 q k) = m ((c : Thread nD τ).loc main_arg5) (ix3 0 ⟨512 * (t.val % 2) + q.val, by omega⟩ ⟨2048 + k.val, by omega⟩) := by
  unfold X0_5 Pipeline.Window.fill
  rw [dif_pos (moved0_5 t _)]
  obtain ⟨-, -, i, -⟩ := idxw t
  refine Eq.trans (b := V m c main_v1 (ix3 0 ⟨512 * (t.val % 2) + q.val, by omega⟩ ⟨2048 + k.val, by omega⟩)) (by blk_ext [iblk, i]) ?_
  rw [V_main_v1]
  exact (weight_at _ _ _).trans ((dif_pos (show 2048 + k.val < 5136 by omega)).trans (by simp))

theorem in7 (q : Fin 512) (k : Fin 1024) :
    X0_7 m c t (ix3 0 q k) = m ((c : Thread nD τ).loc main_arg5) (ix3 0 ⟨512 * (t.val % 2) + q.val, by omega⟩ ⟨3072 + k.val, by omega⟩) := by
  unfold X0_7 Pipeline.Window.fill
  rw [dif_pos (moved0_7 t _)]
  obtain ⟨-, -, -, i, -⟩ := idxw t
  refine Eq.trans (b := V m c main_v1 (ix3 0 ⟨512 * (t.val % 2) + q.val, by omega⟩ ⟨3072 + k.val, by omega⟩)) (by blk_ext [iblk, i]) ?_
  rw [V_main_v1]
  exact (weight_at _ _ _).trans ((dif_pos (show 3072 + k.val < 5136 by omega)).trans (by simp))

theorem in9 (q : Fin 512) (k : Fin 1024) :
    X0_9 m c t (ix3 0 q k) = m ((c : Thread nD τ).loc main_arg5) (ix3 0 ⟨512 * (t.val % 2) + q.val, by omega⟩ ⟨4096 + k.val, by omega⟩) := by
  unfold X0_9 Pipeline.Window.fill
  rw [dif_pos (moved0_9 t _)]
  obtain ⟨-, -, -, -, i, -⟩ := idxw t
  refine Eq.trans (b := V m c main_v1 (ix3 0 ⟨512 * (t.val % 2) + q.val, by omega⟩ ⟨4096 + k.val, by omega⟩)) (by blk_ext [iblk, i]) ?_
  rw [V_main_v1]
  exact (weight_at _ _ _).trans ((dif_pos (show 4096 + k.val < 5136 by omega)).trans (by simp))

theorem in11 (q : Fin 512) (k : Fin 128) (h : k.val < 16) :
    iblk m c 11 t (ix3 0 q k) = m ((c : Thread nD τ).loc main_arg5) (ix3 0 ⟨512 * (t.val % 2) + q.val, by omega⟩ ⟨5120 + k.val, by omega⟩) := by
  obtain ⟨-, -, -, -, -, i⟩ := idxw t
  refine Eq.trans (b := V m c main_v1 (ix3 0 ⟨512 * (t.val % 2) + q.val, by omega⟩ ⟨5120 + k.val, by omega⟩)) (by blk_ext [iblk, i]) ?_
  rw [V_main_v1]
  exact (weight_at _ _ _).trans (dif_pos (show 5120 + k.val < 5136 by omega))

end Cert.Kernel6Ideal.Value

end
-- ==== Proof.ProjOut.lean ====
/-
  The sixth kernel's result at an index: five products over the model's width and one over the sixteen gate columns,
  and the residual gradient scaled.
-/
module

public import Idealize.ShloMosaic.Lib.Quiescent
public import proofs.«01_k».proof.Proof.ProjEntry
public import proofs.«01_k».proof.Proof.Gen.Reference6Ideal.Run

@[expose] public section

set_option maxRecDepth 16384

noncomputable section

open Idealize.ShloMosaic Idealize.ShloMosaic.TcCoe Idealize.SL.Sem

namespace Cert.Kernel6Ideal.Value

open Cert.Kernel6Ideal Cert.Kernel6Ideal.Gen

/-- A row of a concatenation's product with a row of the weight, piece by piece, and the scaled residual gradient. -/
def product (a0 a1 a2 : FVec Ideal S4096x1024 .bf16) (a3 : FVec Ideal S4096x2048 .bf16) (a4 : FVec Ideal S4096x16 .f32)
    (w : FVec Ideal S1x1024x5136 .bf16) (h : FVec Ideal S4096x1024 .f32) : FVec Ideal S4096x1024 .f32 := fun i =>
  ((((((∑ k : Fin 1024, a0 (ix2 (i 0) k) * w (ix3 0 (i 1) ⟨k.val, by omega⟩))
    + ∑ k : Fin 1024, a1 (ix2 (i 0) k) * w (ix3 0 (i 1) ⟨1024 + k.val, by omega⟩))
    + ∑ k : Fin 1024, a2 (ix2 (i 0) k) * w (ix3 0 (i 1) ⟨2048 + k.val, by omega⟩))
    + ∑ k : Fin 1024, a3 (ix2 (i 0) ⟨k.val, by omega⟩) * w (ix3 0 (i 1) ⟨3072 + k.val, by omega⟩))
    + ∑ k : Fin 1024, a3 (ix2 (i 0) ⟨1024 + k.val, by omega⟩) * w (ix3 0 (i 1) ⟨4096 + k.val, by omega⟩))
    + ∑ k : Fin 16, a4 (ix2 (i 0) k) * w (ix3 0 (i 1) ⟨5120 + k.val, by omega⟩))
    + Ideal.ofBits .f32 0x3FD744FD#32 * h i

/-- A sum over all columns, piece by piece. -/
theorem sum_pieces (f : Fin 5136 → EReal) : ∑ k : Fin 5136, f k
    = (((((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩)
      + ∑ k : Fin 1024, f ⟨4096 + k.val, by omega⟩) + ∑ k : Fin 16, f ⟨5120 + k.val, by omega⟩ :=
  (Fin.sum_univ_add (a := 5120) (b := 16) f).trans (congrArg (· + _)
    ((Fin.sum_univ_add (a := 4096) (b := 1024) _).trans (congrArg (· + _)
      ((Fin.sum_univ_add (a := 3072) (b := 1024) _).trans (congrArg (· + _)
        ((Fin.sum_univ_add (a := 2048) (b := 1024) _).trans (congrArg (· + _)
          (Fin.sum_univ_add (a := 1024) (b := 1024) _))))))))

/-- A sum over the padded gate columns. -/
theorem sum_padded (f : Fin 128 → EReal) (hf : ∀ k : Fin 128, 16 ≤ k.val → f k = 0) :
    ∑ k : Fin 128, f k = ∑ k : Fin 16, f ⟨k.val, by omega⟩ := by
  refine (Fin.sum_univ_add (a := 16) (b := 112) f).trans ?_
  rw [Finset.sum_eq_zero (s := (Finset.univ : Finset (Fin 112))) fun k _ => hf _ (by simp), add_zero]
  rfl

theorem block_at (x0 : FVec Ideal S512x1024 .bf16) (x1 : FVec Ideal S1x512x1024 .bf16) (x2 : FVec Ideal S512x1024 .bf16)
    (x3 : FVec Ideal S1x512x1024 .bf16) (x4 : FVec Ideal S512x1024 .bf16) (x5 : FVec Ideal S1x512x1024 .bf16)
    (x6 : FVec Ideal S512x1024 .bf16) (x7 : FVec Ideal S1x512x1024 .bf16) (x8 : FVec Ideal S512x1024 .bf16)
    (x9 : FVec Ideal S1x512x1024 .bf16) (x10 : FVec Ideal S512x128 .f32) (x11 : FVec Ideal S1x512x128 .bf16)
    (x12 : FVec Ideal S512x512 .f32) (p q : Fin 512) :
    k0_pay1 (F := Ideal) (k0_pay2 (F := Ideal) x0 x1 x2 x3 x4 x5 x6 x7 x8 x9) x10 x11 x12 (ix2 p q)
      = ((((((∑ k : Fin 1024, x0 (ix2 p k) * x1 (ix3 0 q k)) + ∑ k : Fin 1024, x2 (ix2 p k) * x3 (ix3 0 q k))
        + ∑ k : Fin 1024, x4 (ix2 p k) * x5 (ix3 0 q k)) + ∑ k : Fin 1024, x6 (ix2 p k) * x7 (ix3 0 q k))
        + ∑ k : Fin 1024, x8 (ix2 p k) * x9 (ix3 0 q k)) + ∑ k : Fin 128, x10 (ix2 p k) * x11 (ix3 0 q k))
        + Ideal.ofBits .f32 0x3FD744FD#32 * x12 (ix2 p q) := by
  pointwise [k0_pay1, k0_pay2]

variable (m : (ℓ : Loc nD τ sig) → Buf (Elt Ideal) ℓ) (c : Dev nD)

theorem array : (dats m 0 c).arrAt 13 cfg0.N
    = product (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 13 _ (by decide +kernel) fun t hf y => ?_
  obtain ⟨-, -, -, -, -, -, -, i⟩ := idx t
  have e : y = ix2 (y 0) (y 1) := by
    funext a
    match a with
    | 0 => rfl
    | 1 => rfl
  have ht : t.val < 16 := t.isLt
  have hp : (y 0).val < 512 := (y 0).isLt
  have hq : (y 1).val < 512 := (y 1).isLt
  have e0 : ((cfg0.win 13).blk t).view.emb y 0 = (⟨512 * (t.val / 2) + (y 0).val, by omega⟩ : Fin 4096) :=
    Fin.ext ((show _ = win0_13.index t (0 : Fin 2) * 512 + 1 * (y 0).val from rfl).trans (by rw [i]; simp; omega))
  have e1 : ((cfg0.win 13).blk t).view.emb y 1 = (⟨512 * (t.val % 2) + (y 1).val, by omega⟩ : Fin 1024) :=
    Fin.ext ((show _ = win0_13.index t (1 : Fin 2) * 512 + 1 * (y 1).val from rfl).trans (by rw [i]; simp; omega))
  have e2 : ((cfg0.win 13).blk t).view.emb y = ix2 (⟨512 * (t.val / 2) + (y 0).val, by omega⟩ : Fin 4096)
      (⟨512 * (t.val % 2) + (y 1).val, by omega⟩ : Fin 1024) := by
    funext a
    match a with
    | 0 => exact e0
    | 1 => exact e1
  blk_simp
  refine Eq.trans ?_ (congrArg _ e2).symm
  rw [after0_13]
  unfold outsAt0
  frame_open; simp (disch := decide) only [↓ View.readCov_skip, ↓ View.readCov_cons_toLoadRect, ↓ View.readCov_fill]; frame_out; try simp only [read_unread_whole]
  refine (congrArg _ e).trans ((block_at _ _ _ _ _ _ _ _ _ _ _ _ _ (y 0) (y 1)).trans ?_)
  unfold product
  refine congr (congrArg _ ?_) (congrArg _ (in12 m c t (y 0) (y 1) (by omega)))
  refine congr (congrArg _ (congr (congrArg _ (congr (congrArg _ (congr (congrArg _ (congr (congrArg _ ?_) ?_)) ?_)) ?_)) ?_)) ?_
  · exact Finset.sum_congr rfl fun k _ => congr (congrArg _ (in0 m c t (y 0) k (by omega))) (in1 m c t (y 1) k)
  · exact Finset.sum_congr rfl fun k _ => congr (congrArg _ (in2 m c t (y 0) k (by omega))) (in3 m c t (y 1) k)
  · exact Finset.sum_congr rfl fun k _ => congr (congrArg _ (in4 m c t (y 0) k (by omega))) (in5 m c t (y 1) k)
  · exact Finset.sum_congr rfl fun k _ => congr (congrArg _ (in6 m c t (y 0) k (by omega))) (in7 m c t (y 1) k)
  · exact Finset.sum_congr rfl fun k _ => congr (congrArg _ (in8 m c t (y 0) k (by omega))) (in9 m c t (y 1) k)
  · refine (sum_padded _ fun k hk => ?_).trans (Finset.sum_congr rfl fun k _ => ?_)
    · exact mul_eq_zero_of_left (M₀ := EReal) ((in10 m c t (y 0) k (by omega)).trans (dif_neg (Nat.not_lt.mpr hk))) _
    · exact congr (congrArg _ ((in10 m c t (y 0) ⟨k.val, by omega⟩ (by omega)).trans (dif_pos k.isLt)))
        (in11 m c t (y 1) ⟨k.val, by omega⟩ k.isLt)

end Cert.Kernel6Ideal.Value

namespace Cert.Reference6Ideal.Value

open Cert.Reference6Ideal Cert.Reference6Ideal.Gen

theorem array (a0 a1 a2 : FVec Ideal S4096x1024 .bf16) (a3 : FVec Ideal S4096x2048 .bf16) (a4 : FVec Ideal S4096x16 .f32)
    (w : FVec Ideal S1x1024x5136 .bf16) (h : FVec Ideal S4096x1024 .f32) :
    addf (mulf (broadcastInDim S4096x1024 ![] bcast_S_S4096x1024 (constant S_ .f32 0x3FD744FD#32)) h)
      (Host.dotGeneral dot_S4096x5136_S1024x5136_S4096x1024_1_1_0_0_n_n none
        (concatenate S4096x5136 1 [⟨S4096x1024, extf .f32 a0 bitsLt_bf16_f32⟩, ⟨S4096x1024, extf .f32 a1 bitsLt_bf16_f32⟩,
          ⟨S4096x1024, extf .f32 a2 bitsLt_bf16_f32⟩, ⟨S4096x2048, extf .f32 a3 bitsLt_bf16_f32⟩, ⟨S4096x16, a4⟩]
          concatenates_S4096x1024_S4096x1024_S4096x1024_S4096x2048_S4096x16_S4096x5136_d1)
        (shapeCast _ (extf .f32 w bitsLt_bf16_f32) shapeCasts_S1x1024x5136_S1024x5136))
      = Cert.Kernel6Ideal.Value.product a0 a1 a2 a3 a4 w h := by
  funext i
  unfold Cert.Kernel6Ideal.Value.product
  pointwise
  rw [add_comm]
  refine congrArg (· + _) ((Cert.Kernel6Ideal.Value.sum_pieces _).trans ?_)
  refine congr (congrArg _ (congr (congrArg _ (congr (congrArg _ (congr (congrArg _ (congr (congrArg _ ?_) ?_)) ?_)) ?_)) ?_)) ?_
  · refine Finset.sum_congr rfl fun k _ => congrArg (· * _) ?_
    exact dif_pos k.isLt
  · refine Finset.sum_congr rfl fun k _ => congrArg (· * _) ?_
    refine (dif_neg (show ¬1024 + k.val < 1024 by omega)).trans ((dif_pos (show 1024 + k.val - 1024 < 1024 by omega)).trans ?_)
    exact congrArg (fun x => a1 (ix2 (i 0) x)) (Fin.ext (by dsimp only; omega))
  · refine Finset.sum_congr rfl fun k _ => congrArg (· * _) ?_
    refine (dif_neg (show ¬2048 + k.val < 1024 by omega)).trans ((dif_neg (show ¬2048 + k.val - 1024 < 1024 by omega)).trans
      ((dif_pos (show 2048 + k.val - 1024 - 1024 < 1024 by omega)).trans ?_))
    exact congrArg (fun x => a2 (ix2 (i 0) x)) (Fin.ext (by dsimp only; omega))
  · refine Finset.sum_congr rfl fun k _ => congrArg (· * _) ?_
    refine (dif_neg (show ¬3072 + k.val < 1024 by omega)).trans ((dif_neg (show ¬3072 + k.val - 1024 < 1024 by omega)).trans
      ((dif_neg (show ¬3072 + k.val - 1024 - 1024 < 1024 by omega)).trans
        ((dif_pos (show 3072 + k.val - 1024 - 1024 - 1024 < 2048 by omega)).trans ?_)))
    exact congrArg (fun x => a3 (ix2 (i 0) x)) (Fin.ext (by dsimp only; omega))
  · refine Finset.sum_congr rfl fun k _ => congrArg (· * _) ?_
    refine (dif_neg (show ¬4096 + k.val < 1024 by omega)).trans ((dif_neg (show ¬4096 + k.val - 1024 < 1024 by omega)).trans
      ((dif_neg (show ¬4096 + k.val - 1024 - 1024 < 1024 by omega)).trans
        ((dif_pos (show 4096 + k.val - 1024 - 1024 - 1024 < 2048 by omega)).trans ?_)))
    exact congrArg (fun x => a3 (ix2 (i 0) x)) (Fin.ext (by dsimp only; omega))
  · refine Finset.sum_congr rfl fun k _ => congrArg (· * _) ?_
    refine (dif_neg (show ¬5120 + k.val < 1024 by omega)).trans ((dif_neg (show ¬5120 + k.val - 1024 < 1024 by omega)).trans
      ((dif_neg (show ¬5120 + k.val - 1024 - 1024 < 1024 by omega)).trans
        ((dif_neg (show ¬5120 + k.val - 1024 - 1024 - 1024 < 2048 by omega)).trans ?_)))
    exact congrArg (fun x => a4 (ix2 (i 0) x)) (Fin.ext (by dsimp only; omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, sem_eq_zero_of_no_sems rfl r.2⟩) (run m g)

end Cert.Reference6Ideal.Value

end
-- ==== Proof.FfnUpOut.lean ====
/-
  The seventh kernel's result at an index: the product of the rows of its first argument with the columns of the weight.
-/
module

public import Idealize.ShloMosaic.Lib.Pipeline.ValueKit
public import Idealize.ShloMosaic.Lib.Pointwise
public import Idealize.ShloMosaic.Lib.Quiescent
public import proofs.«01_k».proof.Proof.Gen.Kernel7Ideal.Value
public import proofs.«01_k».proof.Proof.Gen.Reference7Ideal.Run

@[expose] public section

set_option maxRecDepth 16384

noncomputable section

open Idealize.ShloMosaic Idealize.ShloMosaic.TcCoe Idealize.SL.Sem

namespace Cert.Kernel7Ideal.Value

open Cert.Kernel7Ideal Cert.Kernel7Ideal.Gen

/-- The product, the contraction running over the model's width. -/
def product (a : FVec Ideal S4096x1024 .bf16) (w : FVec Ideal S1x1024x5632 .bf16) : FVec Ideal S4096x5632 .bf16 :=
  fun i => ∑ d : Fin 1024, a (ix2 (i 0) d) * w (ix3 0 d (i 1))

theorem block_at (x : FVec Ideal S2048x1024 .bf16) (w : FVec Ideal S1x1024x1408 .bf16) (p : Fin 2048) (q : Fin 1408) :
    k0_pay1 (F := Ideal) x w (ix2 p q) = ∑ d : Fin 1024, x (ix2 p d) * w (ix3 0 d q) := by
  pointwise [k0_pay1]

theorem out_eq (x : FVec Ideal S2048x1024 .bf16) (w : FVec Ideal S1x1024x1408 .bf16) :
    out0_2 (F := Ideal) x w = k0_pay1 (F := Ideal) x w := by
  have h2 : (![0, 0] : Fin S2048x1408.rank → Nat) = fun _ => 0 := funext fun a => by fin_cases a <;> rfl
  have h0 : (![0, 0] : Fin S2048x1024.rank → Nat) = fun _ => 0 := funext fun a => by fin_cases a <;> rfl
  have h1 : (![0, 0, 0] : Fin S1x1024x1408.rank → Nat) = fun _ => 0 := funext fun a => by fin_cases a <;> rfl
  unfold out0_2
  rw [View.canon_unit_zero h2, View.ld_unit_zero h0, View.ld_unit_zero h1]

theorem idx (t : Fin cfg0.N) : win0_0.index t = ![t.val / 4, 0] ∧ win0_1.index t = ![0, 0, t.val % 4]
    ∧ win0_2.index t = ![t.val / 4, t.val % 4] := by
  revert t
  decide +kernel

variable (m : (ℓ : Loc nD τ sig) → Buf (Elt Ideal) ℓ) (c : Dev nD)

theorem in0 (t : Fin cfg0.N) (p : Fin 2048) (d : Fin 1024) (hp : 2048 * (t.val / 4) + p.val < 4096) :
    iblk m c 0 t (ix2 p d) = m ((c : Thread nD τ).loc main_arg0) (ix2 ⟨2048 * (t.val / 4) + p.val, hp⟩ d) := by
  obtain ⟨i, -, -⟩ := idx t
  blk_ext [iblk, V_main_arg0, i]

theorem in1 (t : Fin cfg0.N) (q : Fin 1408) (d : Fin 1024) (hq : 1408 * (t.val % 4) + q.val < 5632) :
    iblk m c 1 t (ix3 0 d q) = m ((c : Thread nD τ).loc main_arg1) (ix3 0 d ⟨1408 * (t.val % 4) + q.val, hq⟩) := by
  obtain ⟨-, i, -⟩ := idx t
  blk_ext [iblk, V_main_arg1, i]

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 8 := t.isLt
  have hp : (y 0).val < 2048 := (y 0).isLt
  have hq : (y 1).val < 1408 := (y 1).isLt
  have e0 : ((cfg0.win 2).blk t).view.emb y 0 = (⟨2048 * (t.val / 4) + (y 0).val, by omega⟩ : Fin 4096) :=
    Fin.ext ((show _ = win0_2.index t (0 : Fin 2) * 2048 + 1 * (y 0).val from rfl).trans (by rw [i]; simp; omega))
  have e1 : ((cfg0.win 2).blk t).view.emb y 1 = (⟨1408 * (t.val % 4) + (y 1).val, by omega⟩ : Fin 5632) :=
    Fin.ext ((show _ = win0_2.index t (1 : Fin 2) * 1408 + 1 * (y 1).val from rfl).trans (by rw [i]; simp; omega))
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 d k)) e1.symm

end Cert.Kernel7Ideal.Value

namespace Cert.Reference7Ideal.Value

open Cert.Reference7Ideal Cert.Reference7Ideal.Gen

theorem array (a : FVec Ideal S4096x1024 .bf16) (w : FVec Ideal S1x1024x5632 .bf16) :
    truncf .bf16 (Host.dotGeneral dot_S4096x1024_S1024x5632_S4096x5632_1_0_0_1_n_n none (extf .f32 a bitsLt_bf16_f32)
      (shapeCast _ (extf .f32 w bitsLt_bf16_f32) shapeCasts_S1x1024x5632_S1024x5632)) bitsLt_bf16_f32
      = Cert.Kernel7Ideal.Value.product a w := by
  funext i
  unfold Cert.Kernel7Ideal.Value.product
  pointwise

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference7Ideal.Value

end
-- ==== Proof.PleProj.lean ====
/-
  The product of the position embedding's first layer with its projection.
-/
module

public import Idealize.ShloMosaic.Lib.Pipeline.ValueKit
public import Idealize.ShloMosaic.Lib.Pointwise
public import Idealize.ShloMosaic.Lib.Quiescent
public import proofs.«01_k».proof.Proof.Gen.Kernel33Ideal.Value
public import proofs.«01_k».proof.Proof.Gen.Reference33Ideal.Run

@[expose] public section

set_option maxRecDepth 16384

noncomputable section

open Idealize.ShloMosaic Idealize.ShloMosaic.TcCoe Idealize.SL.Sem

namespace Cert.Kernel33Ideal.Value

open Cert.Kernel33Ideal Cert.Kernel33Ideal.Gen

/-- The product, the contraction running over the embedding's width. -/
def product (a : FVec Ideal S4x1x4096x256 .f32) (w : FVec Ideal S1x256x1024 .bf16) : FVec Ideal S4096x1024 .f32 :=
  fun i => ∑ d : Fin 256, a (ix4 0 0 (i 0) d) * w (ix3 0 d (i 1))

theorem block_at (x : FVec Ideal S1x1x2048x256 .f32) (w : FVec Ideal S1x256x1024 .bf16) (p : Fin 2048) (q : Fin 1024) :
    k0_pay1 (F := Ideal) x w (ix2 p q) = ∑ d : Fin 256, x (ix4 0 0 p d) * w (ix3 0 d q) := by
  pointwise [k0_pay1]

theorem out_eq (x : FVec Ideal S1x1x2048x256 .f32) (w : FVec Ideal S1x256x1024 .bf16) :
    out0_2 (F := Ideal) x w = k0_pay1 (F := Ideal) x w := by
  have h2 : (![0, 0] : Fin S2048x1024.rank → Nat) = fun _ => 0 := funext fun a => by fin_cases a <;> rfl
  have h0 : (![0, 0, 0, 0] : Fin S1x1x2048x256.rank → Nat) = fun _ => 0 := funext fun a => by fin_cases a <;> rfl
  have h1 : (![0, 0, 0] : Fin S1x256x1024.rank → Nat) = fun _ => 0 := funext fun a => by fin_cases a <;> rfl
  unfold out0_2
  rw [View.canon_unit_zero h2, View.ld_unit_zero h0, View.ld_unit_zero h1]

theorem idx (t : Fin cfg0.N) : win0_0.index t = ![0, 0, t.val, 0] ∧ win0_1.index t = ![0, 0, 0]
    ∧ win0_2.index t = ![t.val, 0] := by
  revert t
  decide +kernel

variable (m : (ℓ : Loc nD τ sig) → Buf (Elt Ideal) ℓ) (c : Dev nD)

theorem in0 (t : Fin cfg0.N) (p : Fin 2048) (d : Fin 256) (hp : 2048 * t.val + p.val < 4096) :
    iblk m c 0 t (ix4 0 0 p d) = m ((c : Thread nD τ).loc main_arg0) (ix4 0 0 ⟨2048 * t.val + p.val, hp⟩ d) := by
  obtain ⟨i, -, -⟩ := idx t
  blk_ext [iblk, V_main_arg0, i]

theorem in1 (t : Fin cfg0.N) (q : Fin 1024) (d : Fin 256) :
    iblk m c 1 t (ix3 0 d q) = m ((c : Thread nD τ).loc main_arg1) (ix3 0 d q) := by
  obtain ⟨-, i, -⟩ := idx t
  blk_ext [iblk, V_main_arg1, i]

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 2 := t.isLt
  have hp : (y 0).val < 2048 := (y 0).isLt
  have hq : (y 1).val < 1024 := (y 1).isLt
  have e0 : ((cfg0.win 2).blk t).view.emb y 0 = (⟨2048 * t.val + (y 0).val, by omega⟩ : Fin 4096) :=
    Fin.ext ((show _ = win0_2.index t (0 : Fin 2) * 2048 + 1 * (y 0).val from rfl).trans (by rw [i]; simp; omega))
  have e1 : ((cfg0.win 2).blk t).view.emb y 1 = y 1 :=
    Fin.ext ((show _ = win0_2.index t (1 : Fin 2) * 1024 + 1 * (y 1).val from rfl).trans (by rw [i]; simp))
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d).trans ?_)
  · exact congrArg (fun k => m ((c : Thread nD τ).loc main_arg0) (ix4 0 0 k d)) e0.symm
  · exact congrArg (fun k => m ((c : Thread nD τ).loc main_arg1) (ix3 0 d k)) e1.symm

end Cert.Kernel33Ideal.Value

namespace Cert.Reference33Ideal.Value

open Cert.Reference33Ideal Cert.Reference33Ideal.Gen

theorem array (a : FVec Ideal S4x1x4096x256 .f32) (w : FVec Ideal S1x256x1024 .bf16) :
    Host.dotGeneral dot_S4096x256_S256x1024_S4096x1024_1_0_0_1_n_n none
      (shapeCast _ (extractStridedSlice S1x1x4096x256 ![0, 0, 0, 0] a slices_S4x1x4096x256_S1x1x4096x256_0_0_0_0) shapeCasts_S1x1x4096x256_S4096x256)
      (shapeCast _ (extf .f32 w bitsLt_bf16_f32) shapeCasts_S1x256x1024_S256x1024)
      = Cert.Kernel33Ideal.Value.product a w := by
  funext i
  unfold Cert.Kernel33Ideal.Value.product
  pointwise

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference33Ideal.Value

end
-- ==== Proof.MixData.lean ====
/-
  The numbers of the kernel of an odd layer's input gradient: what its arguments hold, and the cotangent of the
  normalisation below the layer. The formulas from there on are those of the second kernel's numbers.
-/
module

public import proofs.«01_k».proof.Proof.NormData

@[expose] public section

noncomputable section

open Idealize.ShloMosaic

namespace Cert.Mix

/-- The numbers the arguments hold: a token and a column, or two columns of a weight. -/
structure Data where
  b : ℕ → ℕ → ℝ
  c : ℕ → ℕ → ℝ
  v : ℕ → ℕ → ℝ
  w : ℕ → ℕ → ℝ
  dh1 : ℕ → ℕ → ℝ
  h : ℕ → ℕ → ℝ
  g : ℕ → ℝ

namespace Data

variable (D : Data)

/-- The cotangent of the normalisation's output. -/
def total (t d : ℕ) : ℝ := (∑ k : Fin 1024, D.b t k * D.w d k) + (∑ k : Fin 1024, D.c t k * D.w d (1024 + k))
  + (∑ k : Fin 1024, D.v t k * D.w d (2048 + k)) + Norm.alpha * D.dh1 t d

/-- The same cotangent, normalisation input and scale, as numbers of the second kernel: all of it comes through the
    residual connection. -/
def norm : Norm.Data where
  du1 := fun _ _ => 0
  du2 := fun _ _ => 0
  dgl := fun _ _ => 0
  up := fun _ _ => 0
  gate := fun _ _ => 0
  dh2 := fun t d => D.total t d / Norm.alpha
  h := D.h
  g := D.g

theorem norm_y (t d : ℕ) : D.norm.y t d = D.total t d := by
  have h : Norm.alpha ≠ 0 := by norm_num [Norm.alpha]
  simp only [Norm.Data.y, norm, mul_zero, Finset.sum_const_zero, add_zero, zero_add]
  field_simp

/-- The three cotangents side by side. -/
def piece (t k : ℕ) : ℝ := if k < 1024 then D.b t k else if k - 1024 < 1024 then D.c t (k - 1024) else D.v t (k - 1024 - 1024)

/-- The product with all the columns of the weight is the sum of the three products. -/
theorem pieces (t d : ℕ) : ∑ k : Fin 3072, D.piece t k * D.w d k = (∑ k : Fin 1024, D.b t k * D.w d k)
    + (∑ k : Fin 1024, D.c t k * D.w d (1024 + k)) + ∑ k : Fin 1024, D.v t k * D.w d (2048 + k) := by
  rw [← Finset.sum_range fun k => D.piece t k * D.w d k, show 3072 = 1024 + 1024 + 1024 from rfl, Finset.sum_range_add, Finset.sum_range_add,
    Finset.sum_range, Finset.sum_range, Finset.sum_range]
  refine congrArg₂ (· + ·) (congrArg₂ (· + ·) (Finset.sum_congr rfl fun k _ => ?_) (Finset.sum_congr rfl fun k _ => ?_))
    (Finset.sum_congr rfl fun k _ => ?_)
  · rw [piece, if_pos k.isLt]
  · rw [piece, if_neg (by omega), if_pos (by omega), Nat.add_sub_cancel_left]
  · rw [piece, if_neg (by omega), if_neg (by omega), show 1024 + 1024 + k.val - 1024 - 1024 = k.val by omega]

end Data

/-- The argument arrays hold the numbers of `D`. -/
structure Reads (D : Data) (b c v : (⟨2, ![4096, 1024]⟩ : Shape).Idx → EReal) (w : (⟨3, ![1, 1024, 3072]⟩ : Shape).Idx → EReal)
    (dh1 h : (⟨2, ![4096, 1024]⟩ : Shape).Idx → EReal) (g : (⟨2, ![1, 1024]⟩ : Shape).Idx → EReal) : Prop where
  b : ∀ i j, b (ix2 i j) = (D.b i j : EReal)
  c : ∀ i j, c (ix2 i j) = (D.c i j : EReal)
  v : ∀ i j, v (ix2 i j) = (D.v i j : EReal)
  w : ∀ i j, w (ix3 0 i j) = (D.w i j : EReal)
  dh1 : ∀ i j, dh1 (ix2 i j) = (D.dh1 i j : EReal)
  h : ∀ i j, h (ix2 i j) = (D.h i j : EReal)
  g : ∀ j, g (ix2 0 j) = (D.g j : EReal)

/-- The derivative by the position embedding's product: the gate's sigmoid times the derivative `x` of the gated product. -/
def byProduct (x gl : EReal) : EReal := x * Ideal.logistic gl

/-- The derivative by the gate's argument. -/
def byGate (x pp gl : EReal) : EReal := x * pp * Ideal.logistic gl * (1 - Ideal.logistic gl)

namespace Data

variable (D : Data)

def dppArray (gl : (⟨2, ![4096, 1024]⟩ : Shape).Idx → EReal) : (⟨2, ![4096, 1024]⟩ : Shape).Idx → EReal :=
  fun i => byProduct (D.norm.dh (i 0).val (i 1).val : EReal) (gl (ix2 (i 0) (i 1)))

def dglArray (pp gl : (⟨2, ![4096, 1024]⟩ : Shape).Idx → EReal) : (⟨2, ![4096, 1024]⟩ : Shape).Idx → EReal :=
  fun i => byGate (D.norm.dh (i 0).val (i 1).val : EReal) (pp (ix2 (i 0) (i 1))) (gl (ix2 (i 0) (i 1)))

end Data

end Cert.Mix

end
-- ==== Proof.MixBlock.lean ====
/-
  What one grid point of the kernel of an odd layer's input gradient computes from its blocks, which hold 256 tokens, from token `T` on.
-/
module

public import proofs.«01_k».proof.Proof.MixData
public import proofs.«01_k».proof.Proof.Gen.Kernel29Ideal.Skeleton

@[expose] public section

set_option maxRecDepth 16384

noncomputable section

open Idealize.ShloMosaic

namespace Cert.Kernel29Ideal.Value

open Cert.Kernel29Ideal Cert.Kernel29Ideal.Gen Cert.Norm
open Cert.Scan (coe_sum)

/-- The input blocks hold the numbers of `D`, from token `T` on. -/
structure Block (D : Mix.Data) (T : ℕ) (x0 : FVec Ideal S256x1024 .bf16) (x1 : FVec Ideal S1x1024x1024 .bf16)
    (x2 : FVec Ideal S256x1024 .bf16) (x3 : FVec Ideal S1x1024x1024 .bf16) (x4 : FVec Ideal S256x1024 .bf16)
    (x5 : FVec Ideal S1x1024x1024 .bf16) (x6 x7 : FVec Ideal S256x1024 .f32) (x8 : FVec Ideal S1x1024 .f32) : Prop where
  b : ∀ a k, x0 (ix2 a k) = (D.b (T + a) k : EReal)
  w1 : ∀ d k, x1 (ix3 0 d k) = (D.w d k : EReal)
  c : ∀ a k, x2 (ix2 a k) = (D.c (T + a) k : EReal)
  w2 : ∀ d k, x3 (ix3 0 d k) = (D.w d (1024 + k) : EReal)
  v : ∀ a k, x4 (ix2 a k) = (D.v (T + a) k : EReal)
  w3 : ∀ d k, x5 (ix3 0 d k) = (D.w d (2048 + k) : EReal)
  dh1 : ∀ a d, x6 (ix2 a d) = (D.dh1 (T + a) d : EReal)
  h : ∀ a d, x7 (ix2 a d) = (D.norm.h (T + a) d : EReal)
  g : ∀ d, x8 (ix2 0 d) = (D.norm.g d : EReal)

variable {D : Mix.Data} {T : ℕ} {x0 : FVec Ideal S256x1024 .bf16} {x1 : FVec Ideal S1x1024x1024 .bf16}
    {x2 : FVec Ideal S256x1024 .bf16} {x3 : FVec Ideal S1x1024x1024 .bf16} {x4 : FVec Ideal S256x1024 .bf16}
    {x5 : FVec Ideal S1x1024x1024 .bf16} {x6 x7 : FVec Ideal S256x1024 .f32} {x8 : FVec Ideal S1x1024 .f32}

/-- The three products and the residual connection. -/
theorem total_at (h : Block D T x0 x1 x2 x3 x4 x5 x6 x7 x8) (a : Fin 256) (d : Fin 1024) :
    k0_pay5 (F := Ideal) x0 x1 x2 x3 x4 x5 x6 (ix2 a d) = (D.norm.y (T + a) d : EReal) := by
  pointwise [k0_pay5]
  simp only [h.b, h.w1, h.c, h.w2, h.v, h.w3, h.dh1]
  rw [alpha_coe]
  simp only [← EReal.coe_mul, ← coe_sum, ← EReal.coe_add]
  rw [D.norm_y]
  rfl

theorem mean_at (h : Block D T x0 x1 x2 x3 x4 x5 x6 x7 x8) (a : Fin 256) :
    k0_pay8 (F := Ideal) x7 (ix2 a 0) = (D.norm.mean (T + a) : EReal) := by
  pointwise [k0_pay8]
  simp only [h.h, ← coe_sum]
  rw [width_coe, div_real _ (by norm_num)]
  rfl

theorem inv_at (h : Block D T x0 x1 x2 x3 x4 x5 x6 x7 x8) (a : Fin 256) :
    k0_pay10 (F := Ideal) x7 (k0_pay8 (F := Ideal) x7) (ix2 a 0) = (D.norm.inv (T + a) : EReal) := by
  have e := mean_at h a
  generalize k0_pay8 (F := Ideal) x7 = mu at *
  pointwise [k0_pay10, k0_pay9]
  simp only [h.h, e, ← EReal.coe_sub, ← EReal.coe_mul, ← coe_sum]
  rw [width_coe, div_real _ (by norm_num), eps_coe, ← EReal.coe_add]
  exact rsqrt_real (D.norm.var_pos (T + a))

/-- The derivative by the normalisation's input. -/
theorem dh_at (h : Block D T x0 x1 x2 x3 x4 x5 x6 x7 x8) (a : Fin 256) (d : Fin 1024) :
    k0_pay12 (F := Ideal) (k0_pay5 (F := Ideal) x0 x1 x2 x3 x4 x5 x6) x7 x8 (k0_pay8 (F := Ideal) x7) (ix2 a d) = (D.norm.dh (T + a) d : EReal) := by
  have ey := total_at h a
  have em := mean_at h a
  have ei := inv_at h a
  generalize k0_pay5 (F := Ideal) x0 x1 x2 x3 x4 x5 x6 = y at *
  generalize k0_pay8 (F := Ideal) x7 = mu at *
  pointwise [k0_pay12, k0_pay11, k0_pay9]
  simp only [h.h, h.g, ey, em, ei, ← EReal.coe_sub, ← EReal.coe_mul, ← coe_sum]
  rw [width_coe, div_real _ (by norm_num), div_real _ (by norm_num)]
  simp only [← EReal.coe_sub, ← EReal.coe_mul]
  rfl

/-- One step of the sum over the tokens which is the derivative by the scale. -/
theorem dg_at (h : Block D T x0 x1 x2 x3 x4 x5 x6 x7 x8) (prev : FVec Ideal S1x1024 .f32) (p : ℝ) (d : Fin 1024)
    (hp : prev (ix2 0 d) = (p : EReal)) :
    k0_pay13 (F := Ideal) (k0_pay5 (F := Ideal) x0 x1 x2 x3 x4 x5 x6) x7 (k0_pay8 (F := Ideal) x7) prev (ix2 0 d)
      = ((p + ∑ a : Fin 256, D.norm.y (T + a) d * D.norm.xhat (T + a) d : ℝ) : EReal) := by
  have ey := fun a => total_at h a d
  have em := mean_at h
  have ei := inv_at h
  generalize k0_pay5 (F := Ideal) x0 x1 x2 x3 x4 x5 x6 = y at *
  generalize k0_pay8 (F := Ideal) x7 = mu at *
  pointwise [k0_pay13, k0_pay11, k0_pay9]
  simp only [h.h, ey, em, ei, hp, ← EReal.coe_sub, ← EReal.coe_mul, ← coe_sum, ← EReal.coe_add]
  rfl

/-- One step of the sum over the tokens which is the derivative by the shift. -/
theorem db_at (h : Block D T x0 x1 x2 x3 x4 x5 x6 x7 x8) (prev : FVec Ideal S1x1024 .f32) (p : ℝ) (d : Fin 1024)
    (hp : prev (ix2 0 d) = (p : EReal)) :
    k0_pay14 (F := Ideal) (k0_pay5 (F := Ideal) x0 x1 x2 x3 x4 x5 x6) prev (ix2 0 d) = ((p + ∑ a : Fin 256, D.norm.y (T + a) d : ℝ) : EReal) := by
  have ey := fun a => total_at h a d
  generalize k0_pay5 (F := Ideal) x0 x1 x2 x3 x4 x5 x6 = y at *
  pointwise [k0_pay14]
  simp only [ey, hp, ← coe_sum, ← EReal.coe_add]

/-- The derivative by the position embedding's product. -/
theorem dpp_at (x y : FVec Ideal S256x1024 .f32) (a : Fin 256) (d : Fin 1024) :
    k0_pay3 (F := Ideal) x y (ix2 a d) = Mix.byProduct (x (ix2 a d)) (y (ix2 a d)) := by
  unfold Mix.byProduct
  pointwise [k0_pay3, k0_pay2]

/-- The derivative by the gate's argument. -/
theorem dgl_at (x y z : FVec Ideal S256x1024 .f32) (a : Fin 256) (d : Fin 1024) :
    k0_pay4 (F := Ideal) x y z (ix2 a d) = Mix.byGate (x (ix2 a d)) (z (ix2 a d)) (y (ix2 a d)) := by
  unfold Mix.byGate
  pointwise [k0_pay4, k0_pay2]

end Cert.Kernel29Ideal.Value

end
-- ==== Proof.MixOut.lean ====
/-
  What the windows of the kernel of an odd layer's input gradient hold: point `t` works on the tokens `256 t, …, 256 t + 255`, and its result arrays
  after the run.
-/
module

public import Idealize.ShloMosaic.Lib.Pipeline.ReadBack
public import Idealize.ShloMosaic.Lib.Pipeline.ValueKit
public import proofs.«01_k».proof.Proof.Gen.Kernel29Ideal.Value
public import proofs.«01_k».proof.Proof.NormOut
public import proofs.«01_k».proof.Proof.MixBlock

@[expose] public section

set_option maxRecDepth 16384

noncomputable section

open Idealize.ShloMosaic Idealize.ShloMosaic.TcCoe Idealize.SL.Sem

namespace Cert.Kernel29Ideal.Value

open Cert.Kernel29Ideal Cert.Kernel29Ideal.Gen Cert.Norm

variable (m : (ℓ : Loc nD τ sig) → Buf (Elt Ideal) ℓ)

/-- The arguments of core `c` hold the numbers of `D`. -/
abbrev ReadsAt (D : Mix.Data) (c : Dev nD) : Prop :=
  Mix.Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem idx (t : Fin cfg0.N) : win0_0.index t = ![t.val, 0] ∧ win0_1.index t = ![0, 0, 0] ∧ win0_2.index t = ![t.val, 0]
    ∧ win0_3.index t = ![0, 0, 1] ∧ win0_4.index t = ![t.val, 0] ∧ win0_5.index t = ![0, 0, 2] ∧ win0_6.index t = ![t.val, 0]
    ∧ win0_7.index t = ![t.val, 0] ∧ win0_8.index t = ![0, 0] ∧ win0_9.index t = ![t.val, 0] ∧ win0_10.index t = ![t.val, 0] := by
  revert t
  decide +kernel

theorem idx_out (t : Fin cfg0.N) : win0_11.index t = ![t.val, 0] ∧ win0_12.index t = ![t.val, 0] ∧ win0_13.index t = ![0, 0]
    ∧ win0_14.index t = ![0, 0] ∧ win0_15.index t = ![t.val, 0] ∧ win0_16.index t = ![t.val, 0] := by
  revert t
  decide +kernel

variable {m} {D : Mix.Data} {c : Dev nD}

theorem block_at (h : ReadsAt m D c) (t : Fin cfg0.N) : Block D (256 * t.val) (iblk m c 0 t) (iblk m c 1 t) (iblk m c 2 t)
    (iblk m c 3 t) (iblk m c 4 t) (iblk m c 5 t) (iblk m c 6 t) (iblk m c 7 t) (iblk m c 8 t) := by
  have ht : t.val < 16 := t.isLt
  obtain ⟨i0, i1, i2, i3, i4, i5, i6, i7, i8, -⟩ := idx t
  constructor
  · intro a k
    refine Eq.trans ?_ (h.b ⟨256 * t.val + a, by omega⟩ k)
    blk_ext [iblk, V_main_arg0, i0]
  · intro d k
    refine Eq.trans ?_ (h.w d ⟨k, by omega⟩)
    blk_ext [iblk, V_main_arg3, i1]
  · intro a k
    refine Eq.trans ?_ (h.c ⟨256 * t.val + a, by omega⟩ k)
    blk_ext [iblk, V_main_arg1, i2]
  · intro d k
    refine Eq.trans ?_ (h.w d ⟨1024 + k, by omega⟩)
    blk_ext [iblk, V_main_arg3, i3]
  · intro a k
    refine Eq.trans ?_ (h.v ⟨256 * t.val + a, by omega⟩ k)
    blk_ext [iblk, V_main_arg2, i4]
  · intro d k
    refine Eq.trans ?_ (h.w d ⟨2048 + k, by omega⟩)
    blk_ext [iblk, V_main_arg3, i5]
  · intro a k
    refine Eq.trans ?_ (h.dh1 ⟨256 * t.val + a, by omega⟩ k)
    blk_ext [iblk, V_main_arg4, i6]
  · intro a k
    refine Eq.trans ?_ (h.h ⟨256 * t.val + a, by omega⟩ k)
    blk_ext [iblk, V_main_arg5, i7]
  · intro d
    refine Eq.trans ?_ (h.g d)
    blk_ext [iblk, V_main_arg6, i8]

/-- The position embedding's product and the gate's argument, from token `256 t` on. -/
theorem pp_at (t : Fin cfg0.N) (a : Fin 256) (k : Fin 1024) (ha : 256 * t.val + a < 4096) : iblk m c 9 t (ix2 a k)
    = m ((c : Thread nD τ).loc main_arg8) (ix2 ⟨256 * t.val + a, ha⟩ k) := by
  obtain ⟨-, -, -, -, -, -, -, -, -, i, -⟩ := idx t
  blk_ext [iblk, V_main_arg8, i]

theorem gl_at (t : Fin cfg0.N) (a : Fin 256) (k : Fin 1024) (ha : 256 * t.val + a < 4096) : iblk m c 10 t (ix2 a k)
    = m ((c : Thread nD τ).loc main_arg9) (ix2 ⟨256 * t.val + a, ha⟩ k) := by
  obtain ⟨-, -, -, -, -, -, -, -, -, -, i⟩ := idx t
  blk_ext [iblk, V_main_arg9, i]

/-! ## The windows after each point -/

theorem out_dh (h : ReadsAt m D c) (t : Fin cfg0.N) (a : Fin 256) (d : Fin 1024) :
    (outsAt0 m c t.val t.isLt).1 (ix2 a d) = (D.norm.dh (256 * t.val + a) d : EReal) := by
  by_cases h0 : t.val % 16 = 0
  · rw [outsAt0_A m c t h0]
    dsimp only
    frame_open; simp (disch := decide) only [↓ View.readCov_skip, ↓ View.readCov_cons_toLoadRect, ↓ View.readCov_fill]; frame_out; try simp only [read_unread_whole]
    exact dh_at (block_at h t) a d
  · rw [outsAt0_B m c t h0]
    dsimp only
    frame_open; simp (disch := decide) only [↓ View.readCov_skip, ↓ View.readCov_cons_toLoadRect, ↓ View.readCov_fill]; frame_out; try simp only [read_unread_whole]
    exact dh_at (block_at h t) a d

theorem out_dh_bf16 (h : ReadsAt m D c) (t : Fin cfg0.N) (a : Fin 256) (d : Fin 1024) :
    (outsAt0 m c t.val t.isLt).2.1 (ix2 a d) = (D.norm.dh (256 * t.val + a) d : EReal) := by
  by_cases h0 : t.val % 16 = 0
  · rw [outsAt0_A m c t h0]
    dsimp only
    frame_open; simp (disch := decide) only [↓ View.readCov_skip, ↓ View.readCov_cons_toLoadRect, ↓ View.readCov_fill]; frame_out; try simp only [read_unread_whole]
    exact dh_at (block_at h t) a d
  · rw [outsAt0_B m c t h0]
    dsimp only
    frame_open; simp (disch := decide) only [↓ View.readCov_skip, ↓ View.readCov_cons_toLoadRect, ↓ View.readCov_fill]; frame_out; try simp only [read_unread_whole]
    exact dh_at (block_at h t) a d

theorem out_dpp (h : ReadsAt m D c) (t : Fin cfg0.N) (a : Fin 256) (d : Fin 1024) :
    (outsAt0 m c t.val t.isLt).2.2.2.2.1 (ix2 a d) = Mix.byProduct (D.norm.dh (256 * t.val + a) d : EReal) (iblk m c 10 t (ix2 a d)) := by
  by_cases h0 : t.val % 16 = 0
  · rw [outsAt0_A m c t h0]
    dsimp only
    frame_open; simp (disch := decide) only [↓ View.readCov_skip, ↓ View.readCov_cons_toLoadRect, ↓ View.readCov_fill]; frame_out; try simp only [read_unread_whole]
    exact (dpp_at _ _ a d).trans (congrArg (fun x => Mix.byProduct x _) (dh_at (block_at h t) a d))
  · rw [outsAt0_B m c t h0]
    dsimp only
    frame_open; simp (disch := decide) only [↓ View.readCov_skip, ↓ View.readCov_cons_toLoadRect, ↓ View.readCov_fill]; frame_out; try simp only [read_unread_whole]
    exact (dpp_at _ _ a d).trans (congrArg (fun x => Mix.byProduct x _) (dh_at (block_at h t) a d))

theorem out_dgl (h : ReadsAt m D c) (t : Fin cfg0.N) (a : Fin 256) (d : Fin 1024) :
    (outsAt0 m c t.val t.isLt).2.2.2.2.2 (ix2 a d) = Mix.byGate (D.norm.dh (256 * t.val + a) d : EReal) (iblk m c 9 t (ix2 a d)) (iblk m c 10 t (ix2 a d)) := by
  by_cases h0 : t.val % 16 = 0
  · rw [outsAt0_A m c t h0]
    dsimp only
    frame_open; simp (disch := decide) only [↓ View.readCov_skip, ↓ View.readCov_cons_toLoadRect, ↓ View.readCov_fill]; frame_out; try simp only [read_unread_whole]
    exact (dgl_at _ _ _ a d).trans (congrArg (fun x => Mix.byGate x _ _) (dh_at (block_at h t) a d))
  · rw [outsAt0_B m c t h0]
    dsimp only
    frame_open; simp (disch := decide) only [↓ View.readCov_skip, ↓ View.readCov_cons_toLoadRect, ↓ View.readCov_fill]; frame_out; try simp only [read_unread_whole]
    exact (dgl_at _ _ _ a d).trans (congrArg (fun x => Mix.byGate x _ _) (dh_at (block_at h t) a d))

theorem out_dg (h : ReadsAt m D c) : ∀ (k : ℕ) (hk : k < cfg0.N) (d : Fin 1024),
    (outsAt0 m c k hk).2.2.1 (ix2 0 d) = ((∑ t ∈ Finset.range (256 * (k + 1)), D.norm.y t d * D.norm.xhat t d : ℝ) : EReal) := by
  intro k
  induction k using Nat.strong_induction_on with
  | _ k ih =>
    intro hk d
    have hk' : k < 16 := hk
    rw [← Cert.Kernel2Ideal.Value.sum_block]
    by_cases h0 : k % 16 = 0
    · rw [outsAt0_A m c ⟨k, hk⟩ h0]
      dsimp only
      frame_open; simp (disch := decide) only [↓ View.readCov_skip, ↓ View.readCov_cons_toLoadRect, ↓ View.readCov_fill]; frame_out; try simp only [read_unread_whole]
      have z : k = 0 := by omega
      refine dg_at (block_at h ⟨k, hk⟩) _ _ d ?_
      pointwise [k0_pay6]
      simp [z]
    · rw [outsAt0_B m c ⟨k, hk⟩ h0]
      dsimp only
      frame_open; simp (disch := decide) only [↓ View.readCov_skip, ↓ View.readCov_cons_toLoadRect, ↓ View.readCov_fill]; frame_out; try simp only [read_unread_whole]
      refine dg_at (block_at h ⟨k, hk⟩) _ _ d ?_
      rw [ih (k - 1) (by omega)]
      rw [show k - 1 + 1 = k by omega]

theorem out_db (h : ReadsAt m D c) : ∀ (k : ℕ) (hk : k < cfg0.N) (d : Fin 1024),
    (outsAt0 m c k hk).2.2.2.1 (ix2 0 d) = ((∑ t ∈ Finset.range (256 * (k + 1)), D.norm.y t d : ℝ) : EReal) := by
  intro k
  induction k using Nat.strong_induction_on with
  | _ k ih =>
    intro hk d
    have hk' : k < 16 := hk
    rw [← Cert.Kernel2Ideal.Value.sum_block]
    by_cases h0 : k % 16 = 0
    · rw [outsAt0_A m c ⟨k, hk⟩ h0]
      dsimp only
      frame_open; simp (disch := decide) only [↓ View.readCov_skip, ↓ View.readCov_cons_toLoadRect, ↓ View.readCov_fill]; frame_out; try simp only [read_unread_whole]
      have z : k = 0 := by omega
      refine db_at (block_at h ⟨k, hk⟩) _ _ d ?_
      pointwise [k0_pay7]
      simp [z]
    · rw [outsAt0_B m c ⟨k, hk⟩ h0]
      dsimp only
      frame_open; simp (disch := decide) only [↓ View.readCov_skip, ↓ View.readCov_cons_toLoadRect, ↓ View.readCov_fill]; frame_out; try simp only [read_unread_whole]
      refine db_at (block_at h ⟨k, hk⟩) _ _ d ?_
      rw [ih (k - 1) (by omega)]
      rw [show k - 1 + 1 = k by omega]

/-! ## The arrays after the run -/

theorem array_dh (h : ReadsAt m D c) : (dats m 0 c).arrAt 11 cfg0.N = D.norm.dhArray := by
  refine (dats m 0 c).arrAt_eq_of_covers 11 _ (by decide +kernel) fun t hf y => ?_
  obtain ⟨i, -⟩ := idx_out t
  have e : y = ix2 (y 0) (y 1) := by
    funext a
    match a with
    | 0 => rfl
    | 1 => rfl
  blk_simp
  rw [after0_11]
  refine (congrArg _ e).trans ((out_dh h t (y 0) (y 1)).trans ?_)
  unfold Norm.Data.dhArray
  blk_simp [i]
  rw [mul_comm 256]

theorem array_dh_bf16 (h : ReadsAt m D c) : (dats m 0 c).arrAt 12 cfg0.N = D.norm.dhArray := by
  refine (dats m 0 c).arrAt_eq_of_covers 12 _ (by decide +kernel) fun t hf y => ?_
  obtain ⟨-, i, -⟩ := idx_out t
  have e : y = ix2 (y 0) (y 1) := by
    funext a
    match a with
    | 0 => rfl
    | 1 => rfl
  blk_simp
  rw [after0_12]
  refine (congrArg _ e).trans ((out_dh_bf16 h t (y 0) (y 1)).trans ?_)
  unfold Norm.Data.dhArray
  blk_simp [i]
  rw [mul_comm 256]

theorem last (t : Fin cfg0.N) : (cfg0.win 13).flush t = true ∨ (cfg0.win 14).flush t = true → t.val = 15 := by
  revert t
  decide +kernel

theorem array_dg (h : ReadsAt m D c) : (dats m 0 c).arrAt 13 cfg0.N = D.norm.dgArray := by
  refine (dats m 0 c).arrAt_eq_of_covers 13 _ (by decide +kernel) fun t hf y => ?_
  obtain ⟨-, -, i, -⟩ := idx_out t
  have e : y = ix2 0 (y 1) := by
    funext a
    match a with
    | 0 => exact Subsingleton.elim (α := Fin 1) _ _
    | 1 => rfl
  blk_simp
  rw [after0_13]
  refine (congrArg _ e).trans ((out_dg h t.val t.isLt (y 1)).trans ?_)
  unfold Norm.Data.dgArray
  rw [last t (Or.inl hf)]
  blk_simp [i]

theorem array_db (h : ReadsAt m D c) : (dats m 0 c).arrAt 14 cfg0.N = D.norm.dbArray := by
  refine (dats m 0 c).arrAt_eq_of_covers 14 _ (by decide +kernel) fun t hf y => ?_
  obtain ⟨-, -, -, i, -⟩ := idx_out t
  have e : y = ix2 0 (y 1) := by
    funext a
    match a with
    | 0 => exact Subsingleton.elim (α := Fin 1) _ _
    | 1 => rfl
  blk_simp
  rw [after0_14]
  refine (congrArg _ e).trans ((out_db h t.val t.isLt (y 1)).trans ?_)
  unfold Norm.Data.dbArray
  rw [last t (Or.inr hf)]
  blk_simp [i]

theorem array_dpp (h : ReadsAt m D c) : (dats m 0 c).arrAt 15 cfg0.N = D.dppArray (m ((c : Thread nD τ).loc main_arg9)) := by
  refine (dats m 0 c).arrAt_eq_of_covers 15 _ (by decide +kernel) fun t hf y => ?_
  obtain ⟨-, -, -, -, i, -⟩ := idx_out t
  have ht : t.val < 16 := t.isLt
  have e : y = ix2 (y 0) (y 1) := by
    funext a
    match a with
    | 0 => rfl
    | 1 => rfl
  have hy : 256 * t.val + (y 0).val < 4096 := by
    have : (y 0).val < 256 := (y 0).isLt
    omega
  blk_simp
  rw [after0_15]
  refine (congrArg _ e).trans ((out_dpp h t (y 0) (y 1)).trans ?_)
  unfold Mix.Data.dppArray
  refine congrArg₂ Mix.byProduct ?_ ?_
  · blk_simp [i]
    rw [mul_comm 256]
  · rw [gl_at t (y 0) (y 1) hy]
    blk_ext [i]

theorem array_dgl (h : ReadsAt m D c) : (dats m 0 c).arrAt 16 cfg0.N = D.dglArray (m ((c : Thread nD τ).loc main_arg8)) (m ((c : Thread nD τ).loc main_arg9)) := by
  refine (dats m 0 c).arrAt_eq_of_covers 16 _ (by decide +kernel) fun t hf y => ?_
  obtain ⟨-, -, -, -, -, i⟩ := idx_out t
  have ht : t.val < 16 := t.isLt
  have e : y = ix2 (y 0) (y 1) := by
    funext a
    match a with
    | 0 => rfl
    | 1 => rfl
  have hy : 256 * t.val + (y 0).val < 4096 := by
    have : (y 0).val < 256 := (y 0).isLt
    omega
  blk_simp
  rw [after0_16]
  refine (congrArg _ e).trans ((out_dgl h t (y 0) (y 1)).trans ?_)
  unfold Mix.Data.dglArray
  have e1 : ((D.norm.dh (256 * t.val + (y 0).val) (y 1).val : ℝ) : EReal)
      = (D.norm.dh ((win0_16.blk t).view.emb y 0).val ((win0_16.blk t).view.emb y 1).val : ℝ) := by
    blk_simp [i]
    rw [mul_comm 256]
  have e2 : iblk m c 9 t (ix2 (y 0) (y 1)) = m ((c : Thread nD τ).loc main_arg8)
      (ix2 ((win0_16.blk t).view.emb y 0) ((win0_16.blk t).view.emb y 1)) := by
    rw [pp_at t (y 0) (y 1) hy]
    blk_ext [i]
  have e3 : iblk m c 10 t (ix2 (y 0) (y 1)) = m ((c : Thread nD τ).loc main_arg9)
      (ix2 ((win0_16.blk t).view.emb y 0) ((win0_16.blk t).view.emb y 1)) := by
    rw [gl_at t (y 0) (y 1) hy]
    blk_ext [i]
  rw [e1, e2, e3]

end Cert.Kernel29Ideal.Value

end
-- ==== Proof.MixRef.lean ====
/-
  The results of the reference of an odd layer's input gradient at an index: its operations, grouped, and what each group holds.
-/
module

public import proofs.«01_k».proof.Proof.Gen.Reference29Ideal.Run
public import Idealize.ShloMosaic.Lib.Quiescent
public import proofs.«01_k».proof.Proof.MixOut

@[expose] public section

set_option maxRecDepth 16384

noncomputable section

open Idealize.ShloMosaic Idealize.ShloMosaic.TcCoe Idealize.SL.Sem

namespace Cert.Reference29Ideal.Terms

open Cert.Reference29Ideal Cert.Reference29Ideal.Gen Cert.Norm
open Cert.Scan (coe_sum)

/-! ## The groups -/

/-- The cotangent of the normalisation's output. -/
def total (a0 a1 a2 : FVec Ideal S4096x1024 .bf16) (a3 : FVec Ideal S1x1024x3072 .bf16) (a4 : FVec Ideal S4096x1024 .f32) :
    FVec Ideal S4096x1024 .f32 :=
  addf (mulf (broadcastInDim S4096x1024 ![] bcast_S_S4096x1024 (constant S_ .f32 0x3FD744FD#32)) a4)
    (Host.dotGeneral dot_S4096x3072_S1024x3072_S4096x1024_1_1_0_0_n_n none
      (extf .f32 (concatenate S4096x3072 1 [⟨S4096x1024, a0⟩, ⟨S4096x1024, a1⟩, ⟨S4096x1024, a2⟩]
        concatenates_S4096x1024_S4096x1024_S4096x1024_S4096x3072_d1) bitsLt_bf16_f32)
      (shapeCast _ (extf .f32 a3 bitsLt_bf16_f32) shapeCasts_S1x1024x3072_S1024x3072))

/-- A row's sum, divided by the width. -/
def meanOf (x : FVec Ideal S4096x1024 .f32) : FVec Ideal S4096x1 .f32 :=
  Host.divf (broadcastInDim S4096x1 ![0] bcast_S4096_S4096x1_0
      (Host.reduceAdd x (constant S_ .f32 0x00000000#32) reducesTo_S4096x1024_S4096_d1 h_S_))
    (broadcastInDim S4096x1 ![] bcast_S_S4096x1 (constant S_ .f32 0x44800000#32))

def centred (h : FVec Ideal S4096x1024 .f32) : FVec Ideal S4096x1024 .f32 :=
  subf h (broadcastInDim S4096x1024 ![0, 1] bcast_S4096x1_S4096x1024_0_1 (meanOf h))

def shifted (h : FVec Ideal S4096x1024 .f32) : FVec Ideal S4096x1 .f32 :=
  addf (meanOf (mulf (centred h) (centred h))) (broadcastInDim S4096x1 ![] bcast_S_S4096x1 (constant S_ .f32 0x3727C5AC#32))

def scaled (y : FVec Ideal S4096x1024 .f32) (g : FVec Ideal S1x1024 .f32) : FVec Ideal S4096x1024 .f32 :=
  mulf y (broadcastInDim S4096x1024 ![0, 1] bcast_S1x1024_S4096x1024_0_1 g)

/-- The direct term: `yg` is the cotangent of the normalised input, `v` the variance with what is added to it. -/
def direct (yg : FVec Ideal S4096x1024 .f32) (v : FVec Ideal S4096x1 .f32) : FVec Ideal S4096x1024 .f32 :=
  mulf yg (broadcastInDim S4096x1024 ![0, 1] bcast_S4096x1_S4096x1024_0_1 (Host.rsqrt v))

/-- The term through the variance. -/
def throughVar (yg x : FVec Ideal S4096x1024 .f32) (v : FVec Ideal S4096x1 .f32) : FVec Ideal S4096x1024 .f32 :=
  mulf (broadcastInDim S4096x1024 ![0] bcast_S4096_S4096x1024_0
      (Host.reduceAdd (Host.divf (mulf
          (shapeCast _ (Host.reduceAdd (mulf x yg) (constant S_ .f32 0x00000000#32) reducesTo_S4096x1024_S4096_d1 h_S_) shapeCasts_S4096_S4096x1)
          (mulf (broadcastInDim S4096x1 ![] bcast_S_S4096x1 (constant S_ .f32 0xBF000000#32)) (Host.divf (Host.rsqrt v) v)))
        (broadcastInDim S4096x1 ![] bcast_S_S4096x1 (constant S_ .f32 0x44800000#32)))
      (constant S_ .f32 0x00000000#32) reducesTo_S4096x1_S4096_d1 h_S_))
    (mulf (broadcastInDim S4096x1024 ![] bcast_S_S4096x1024 (constant S_ .f32 0x40000000#32)) x)

/-- The term through the mean. -/
def throughMean (p q : FVec Ideal S4096x1024 .f32) : FVec Ideal S4096x1024 .f32 :=
  broadcastInDim S4096x1024 ![0] bcast_S4096_S4096x1024_0
    (Host.reduceAdd (Host.divf (addf
        (shapeCast _ (Host.reduceAdd (Host.negf p) (constant S_ .f32 0x00000000#32) reducesTo_S4096x1024_S4096_d1 h_S_) shapeCasts_S4096_S4096x1)
        (shapeCast _ (Host.reduceAdd (Host.negf q) (constant S_ .f32 0x00000000#32) reducesTo_S4096x1024_S4096_d1 h_S_) shapeCasts_S4096_S4096x1))
      (broadcastInDim S4096x1 ![] bcast_S_S4096x1 (constant S_ .f32 0x44800000#32)))
    (constant S_ .f32 0x00000000#32) reducesTo_S4096x1_S4096_d1 h_S_)

def dhOf (yg h : FVec Ideal S4096x1024 .f32) : FVec Ideal S4096x1024 .f32 :=
  addf (addf (direct yg (shifted h)) (throughVar yg (centred h) (shifted h)))
    (throughMean (direct yg (shifted h)) (throughVar yg (centred h) (shifted h)))

def dgOf (y h : FVec Ideal S4096x1024 .f32) : FVec Ideal S1x1024 .f32 :=
  shapeCast _ (Host.reduceAdd (mulf (direct (centred h) (shifted h)) y) (constant S_ .f32 0x00000000#32)
    reducesTo_S4096x1024_S1024_d0 h_S_) shapeCasts_S1024_S1x1024

def dbOf (y : FVec Ideal S4096x1024 .f32) : FVec Ideal S1x1024 .f32 :=
  shapeCast _ (Host.reduceAdd y (constant S_ .f32 0x00000000#32)
    reducesTo_S4096x1024_S1024_d0 h_S_) shapeCasts_S1024_S1x1024

/-- The gate's sigmoid. -/
def gateOf (gl : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf gl)))

def dppOf (x gl : FVec Ideal S4096x1024 .f32) : FVec Ideal S4096x1024 .bf16 := truncf .bf16 (mulf x (gateOf gl)) bitsLt_bf16_f32

def dglOf (x pp gl : FVec Ideal S4096x1024 .f32) : FVec Ideal S4096x1024 .bf16 :=
  truncf .bf16 (mulf (mulf pp x) (mulf (gateOf gl)
    (subf (broadcastInDim S4096x1024 ![] bcast_S_S4096x1024 (constant S_ .f32 0x3F800000#32)) (gateOf gl)))) bitsLt_bf16_f32

/-! ## What they hold -/

theorem half_coe : Ideal.ofBits .f32 0xBF000000#32 = ((-(1 / 2) : ℝ) : EReal) := by
  simp only [Ideal.ofBits, Ideal.ieee]
  simp
  rw [← EReal.coe_mul]
  congr 1
  norm_num

theorem two_coe : Ideal.ofBits .f32 0x40000000#32 = ((2 : ℝ) : EReal) := by
  simp only [Ideal.ofBits, Ideal.ieee]
  simp
  rw [← EReal.coe_mul]
  congr 1
  norm_num

variable {D : Mix.Data}

/-- What the groups take: the arguments which hold the numbers of `D`. -/
abbrev Holds (D : Mix.Data) (a0 a1 a2 : FVec Ideal S4096x1024 .bf16) (a3 : FVec Ideal S1x1024x3072 .bf16)
    (a4 a5 : FVec Ideal S4096x1024 .f32) (a6 : FVec Ideal S1x1024 .f32) : Prop :=
  Mix.Reads D a0 a1 a2 a3 a4 a5 a6

variable {a0 a1 a2 : FVec Ideal S4096x1024 .bf16} {a3 : FVec Ideal S1x1024x3072 .bf16} {a4 a5 : FVec Ideal S4096x1024 .f32}
  {a6 : FVec Ideal S1x1024 .f32}

theorem total_at (r : Holds D a0 a1 a2 a3 a4 a5 a6) (i : Fin 4096) (d : Fin 1024) :
    total a0 a1 a2 a3 a4 (ix2 i d) = (D.norm.y i d : EReal) := by
  pointwise [total]
  simp only [r.b, r.c, r.v, r.w, r.dh1, alpha_coe, ← EReal.coe_mul]
  rw [D.norm_y, Mix.Data.total, add_comm, EReal.coe_add]
  refine congrArg₂ (· + ·) ?_ rfl
  rw [← D.pieces, coe_sum]
  refine Finset.sum_congr rfl fun x _ => ?_
  rw [EReal.coe_mul, Mix.Data.piece]
  split_ifs <;> rfl

theorem meanOf_at (x : FVec Ideal S4096x1024 .f32) (i : Fin 4096) (f : Fin 1024 → ℝ) (hx : ∀ d, x (ix2 i d) = (f d : EReal)) :
    meanOf x (ix2 i 0) = (((∑ d : Fin 1024, f d) / 1024 : ℝ) : EReal) := by
  pointwise [meanOf]
  simp only [hx, width_coe]
  rw [← coe_sum, div_real _ (by norm_num)]

theorem centred_at (r : Holds D a0 a1 a2 a3 a4 a5 a6) (i : Fin 4096) (d : Fin 1024) :
    centred a5 (ix2 i d) = (D.norm.cen i d : EReal) := by
  pointwise [centred]
  rw [meanOf_at a5 i _ (r.h i), r.h, ← EReal.coe_sub]
  rfl

theorem shifted_at (r : Holds D a0 a1 a2 a3 a4 a5 a6) (i : Fin 4096) : shifted a5 (ix2 i 0) = ((D.norm.var i + eps : ℝ) : EReal) := by
  pointwise [shifted]
  rw [meanOf_at _ i (fun d => D.norm.cen i d * D.norm.cen i d), eps_coe, ← EReal.coe_add]
  · rfl
  · intro d
    pointwise
    rw [centred_at r, ← EReal.coe_mul]

theorem rsqrt_at (r : Holds D a0 a1 a2 a3 a4 a5 a6) (i : Fin 4096) : Ideal.rsqrt (shifted a5 (ix2 i 0)) = (D.norm.inv i : EReal) := by
  rw [shifted_at r, rsqrt_real (D.norm.var_pos i)]
  rfl

theorem scaled_at (r : Holds D a0 a1 a2 a3 a4 a5 a6) (i : Fin 4096) (d : Fin 1024) :
    scaled (total a0 a1 a2 a3 a4) a6 (ix2 i d) = (D.norm.yg i d : EReal) := by
  pointwise [scaled]
  rw [total_at r, r.g, ← EReal.coe_mul]
  rfl

theorem direct_at (r : Holds D a0 a1 a2 a3 a4 a5 a6) (x : FVec Ideal S4096x1024 .f32) (i : Fin 4096) (d : Fin 1024) (f : ℝ)
    (hx : x (ix2 i d) = (f : EReal)) : direct x (shifted a5) (ix2 i d) = ((f * D.norm.inv i : ℝ) : EReal) := by
  pointwise [direct]
  rw [hx, rsqrt_at r, ← EReal.coe_mul]

theorem throughVar_at (r : Holds D a0 a1 a2 a3 a4 a5 a6) (i : Fin 4096) (d : Fin 1024) :
    throughVar (scaled (total a0 a1 a2 a3 a4) a6) (centred a5) (shifted a5) (ix2 i d)
      = (((∑ k : Fin 1024, D.norm.cen i k * D.norm.yg i k) * (-(1 / 2) * (D.norm.inv i / (D.norm.var i + eps))) / 1024 * (2 * D.norm.cen i d) : ℝ) : EReal) := by
  pointwise [throughVar]
  simp only [Fin.sum_univ_one, centred_at r, scaled_at r, half_coe, two_coe, width_coe, ← EReal.coe_mul]
  rw [rsqrt_at r, shifted_at r, div_real _ (D.norm.var_pos i).ne', ← coe_sum, ← EReal.coe_mul, ← EReal.coe_mul, div_real _ (by norm_num),
    ← EReal.coe_mul]

theorem throughMean_at (x y : FVec Ideal S4096x1024 .f32) (i : Fin 4096) (d : Fin 1024) (f q : Fin 1024 → ℝ)
    (hx : ∀ k, x (ix2 i k) = (f k : EReal)) (hy : ∀ k, y (ix2 i k) = (q k : EReal)) :
    throughMean x y (ix2 i d) = ((((∑ k, -f k) + ∑ k, -q k) / 1024 : ℝ) : EReal) := by
  pointwise [throughMean]
  simp only [Fin.sum_univ_one, hx, hy, width_coe, ← EReal.coe_neg]
  rw [← coe_sum, ← coe_sum, ← EReal.coe_add, div_real _ (by norm_num)]

theorem dhOf_at (r : Holds D a0 a1 a2 a3 a4 a5 a6) (i : Fin 4096) (d : Fin 1024) :
    dhOf (scaled (total a0 a1 a2 a3 a4) a6) a5 (ix2 i d) = (D.norm.dh i d : EReal) := by
  pointwise [dhOf]
  rw [direct_at r _ i d _ (scaled_at r i d), throughVar_at r,
    throughMean_at _ _ i d _ _ (fun k => direct_at r _ i k _ (scaled_at r i k)) (fun k => throughVar_at r i k),
    ← EReal.coe_add, ← EReal.coe_add, ← D.norm.dh_reverse]

theorem dgOf_at (r : Holds D a0 a1 a2 a3 a4 a5 a6) (d : Fin 1024) :
    dgOf (total a0 a1 a2 a3 a4) a5 (ix2 0 d) = ((∑ t ∈ Finset.range 4096, D.norm.y t d * D.norm.xhat t d : ℝ) : EReal) := by
  pointwise [dgOf]
  simp only [fun t : Fin 4096 => direct_at r (centred a5) t d _ (centred_at r t d), total_at r, ← EReal.coe_mul]
  rw [← coe_sum, Finset.sum_range fun t => D.norm.y t d * D.norm.xhat t d]
  congr 1
  exact Finset.sum_congr rfl fun t _ => mul_comm _ _

theorem dbOf_at (r : Holds D a0 a1 a2 a3 a4 a5 a6) (d : Fin 1024) :
    dbOf (total a0 a1 a2 a3 a4) (ix2 0 d) = ((∑ t ∈ Finset.range 4096, D.norm.y t d : ℝ) : EReal) := by
  pointwise [dbOf]
  simp only [total_at r]
  rw [← coe_sum, Finset.sum_range fun t => D.norm.y t d]

theorem gateOf_at (gl : FVec Ideal S4096x1024 .f32) (i : Fin 4096) (d : Fin 1024) :
    gateOf gl (ix2 i d) = Ideal.logistic (gl (ix2 i d)) := by
  pointwise [gateOf]
  rfl

theorem dppOf_at (x gl : FVec Ideal S4096x1024 .f32) (i : Fin 4096) (d : Fin 1024) :
    dppOf x gl (ix2 i d) = Mix.byProduct (x (ix2 i d)) (gl (ix2 i d)) := by
  pointwise [dppOf]
  rw [gateOf_at]
  rfl

theorem dglOf_at (x pp gl : FVec Ideal S4096x1024 .f32) (i : Fin 4096) (d : Fin 1024) :
    dglOf x pp gl (ix2 i d) = Mix.byGate (x (ix2 i d)) (pp (ix2 i d)) (gl (ix2 i d)) := by
  pointwise [dglOf]
  rw [gateOf_at, Mix.byGate, mul_comm (pp (ix2 i d)), ← mul_assoc]

end Cert.Reference29Ideal.Terms

namespace Cert.Reference29Ideal.Value

open Cert.Reference29Ideal Cert.Reference29Ideal.Gen Cert.Reference29Ideal.Terms

variable {m : (ℓ : Loc nD τ sig) → Buf (Elt Ideal) ℓ} {D : Mix.Data} {c : Dev nD}

/-- The arguments of core `c` hold the numbers of `D`. -/
abbrev ReadsAt (m : (ℓ : Loc nD τ sig) → Buf (Elt Ideal) ℓ) (D : Mix.Data) (c : Dev nD) : Prop :=
  Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The derivative by the normalisation's input, of the arguments of core `c`. -/
abbrev dhTerm (m : (ℓ : Loc nD τ sig) → Buf (Elt Ideal) ℓ) (c : Dev nD) : FVec Ideal S4096x1024 .f32 :=
  dhOf (scaled (total (m ((c : Thread nD τ).loc main_arg0)) (m ((c : Thread nD τ).loc main_arg1)) (m ((c : Thread nD τ).loc main_arg2)) (m ((c : Thread nD τ).loc main_arg3)) (m ((c : Thread nD τ).loc main_arg4)))
    (m ((c : Thread nD τ).loc main_arg6))) (m ((c : Thread nD τ).loc main_arg5))

theorem pair (i : S4096x1024.Idx) : i = ix2 (i 0) (i 1) := by
  funext a
  match a with
  | 0 => rfl
  | 1 => rfl

theorem array_dh (h : ReadsAt m D c) : res_main_v61 m c = D.norm.dhArray := by
  have e : res_main_v61 m c = dhTerm m c := rfl
  rw [e]
  funext i
  exact (congrArg _ (pair i)).trans (dhOf_at h (i 0) (i 1))

theorem array_dh_bf16 (h : ReadsAt m D c) : res_main_v74 m c = D.norm.dhArray :=
  Eq.trans (show res_main_v74 m c = res_main_v61 m c from rfl) (array_dh h)

theorem array_dpp (h : ReadsAt m D c) : res_main_v75 m c = D.dppArray (m ((c : Thread nD τ).loc main_arg9)) := by
  have e : res_main_v75 m c = dppOf (dhTerm m c) (m ((c : Thread nD τ).loc main_arg9)) := rfl
  rw [e]
  funext i
  refine (congrArg _ (pair i)).trans ((dppOf_at _ _ (i 0) (i 1)).trans ?_)
  exact congrArg (fun x => Mix.byProduct x _) (dhOf_at h (i 0) (i 1))

theorem array_dgl (h : ReadsAt m D c) : res_main_v76 m c = D.dglArray (m ((c : Thread nD τ).loc main_arg8)) (m ((c : Thread nD τ).loc main_arg9)) := by
  have e : res_main_v76 m c = dglOf (dhTerm m c) (m ((c : Thread nD τ).loc main_arg8)) (m ((c : Thread nD τ).loc main_arg9)) := rfl
  rw [e]
  funext i
  refine (congrArg _ (pair i)).trans ((dglOf_at _ _ _ (i 0) (i 1)).trans ?_)
  exact congrArg (fun x => Mix.byGate x _ _) (dhOf_at h (i 0) (i 1))

theorem array_dg (h : ReadsAt m D c) : dgOf (total (m ((c : Thread nD τ).loc main_arg0)) (m ((c : Thread nD τ).loc main_arg1)) (m ((c : Thread nD τ).loc main_arg2)) (m ((c : Thread nD τ).loc main_arg3)) (m ((c : Thread nD τ).loc main_arg4)))
    (m ((c : Thread nD τ).loc main_arg5)) = D.norm.dgArray := by
  funext i
  have ei : i = ix2 0 (i 1) := by
    funext a
    match a with
    | 0 => exact Subsingleton.elim (α := Fin 1) _ _
    | 1 => rfl
  exact (congrArg _ ei).trans (dgOf_at h (i 1))

theorem array_db (h : ReadsAt m D c) : dbOf (total (m ((c : Thread nD τ).loc main_arg0)) (m ((c : Thread nD τ).loc main_arg1)) (m ((c : Thread nD τ).loc main_arg2)) (m ((c : Thread nD τ).loc main_arg3)) (m ((c : Thread nD τ).loc main_arg4))) = D.norm.dbArray := by
  funext i
  have ei : i = ix2 0 (i 1) := by
    funext a
    match a with
    | 0 => exact Subsingleton.elim (α := Fin 1) _ _
    | 1 => rfl
  exact (congrArg _ ei).trans (dbOf_at h (i 1))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => (h c).2.2.2.2.2.2, sem_eq_zero_of_no_sems rfl r.2⟩) (run m g)

end Cert.Reference29Ideal.Value

end
-- ==== Proof.MixFinite.lean ====
/-
  What the precondition of the kernel of an odd layer's input gradient says: the entries of the arguments that it names are
  real numbers.
-/
module

public import Idealize.ShloMosaic.Lib.Pointwise
public import proofs.«01_k».proof.Pre_finite29
public import proofs.«01_k».proof.Proof.Finite
public import proofs.«01_k».proof.Proof.MixData

@[expose] public section

set_option maxRecDepth 16384

noncomputable section

open Idealize.ShloMosaic

namespace Cert.Mix

open Cert.Scan (fill fill_val real_of_bit)
open Cert.Pre_finite29 Cert.Pre_finite29.Facts
variable [Cert.Pre_finite29.Facts]

theorem reads_of_finite (a0 a1 a2 : FVec Ideal S4096x1024 .bf16) (a3 : FVec Ideal S1x1024x3072 .bf16) (a4 a5 : FVec Ideal S4096x1024 .f32)
    (a6 a7 : FVec Ideal S1x1024 .f32) (a8 a9 : FVec Ideal S4096x1024 .f32)
    (hp : (Cert.Pre_finite29.fn (F := Ideal) a0 a1 a2 a3 a4 a5 a6 a7 a8 a9).1 = (fun _ => 1#1)
      ∧ (Cert.Pre_finite29.fn (F := Ideal) a0 a1 a2 a3 a4 a5 a6 a7 a8 a9).2.1 = (fun _ => 1#1)
      ∧ (Cert.Pre_finite29.fn (F := Ideal) a0 a1 a2 a3 a4 a5 a6 a7 a8 a9).2.2.1 = (fun _ => 1#1)
      ∧ (Cert.Pre_finite29.fn (F := Ideal) a0 a1 a2 a3 a4 a5 a6 a7 a8 a9).2.2.2.1 = (fun _ => 1#1)
      ∧ (Cert.Pre_finite29.fn (F := Ideal) a0 a1 a2 a3 a4 a5 a6 a7 a8 a9).2.2.2.2.1 = (fun _ => 1#1)
      ∧ (Cert.Pre_finite29.fn (F := Ideal) a0 a1 a2 a3 a4 a5 a6 a7 a8 a9).2.2.2.2.2.1 = (fun _ => 1#1)
      ∧ (Cert.Pre_finite29.fn (F := Ideal) a0 a1 a2 a3 a4 a5 a6 a7 a8 a9).2.2.2.2.2.2 = (fun _ => 1#1)) :
    ∃ D, Reads D a0 a1 a2 a3 a4 a5 a6 := by
  obtain ⟨p0, p1, p2, p3, p4, p5, p6⟩ := hp
  have f0 : ∀ i j, ∃ r : ℝ, a0 (ix2 i j) = (r : EReal) := by
    intro i j
    have e := congrFun p0 (ix2 i j)
    unfold Cert.Pre_finite29.fn Cert.Pre_finite29.fn_part1 at e
    pointwise at e
    exact real_of_bit e
  have f1 : ∀ i j, ∃ r : ℝ, a1 (ix2 i j) = (r : EReal) := by
    intro i j
    have e := congrFun p1 (ix2 i j)
    unfold Cert.Pre_finite29.fn Cert.Pre_finite29.fn_part1 at e
    pointwise at e
    exact real_of_bit e
  have f2 : ∀ i j, ∃ r : ℝ, a2 (ix2 i j) = (r : EReal) := by
    intro i j
    have e := congrFun p2 (ix2 i j)
    unfold Cert.Pre_finite29.fn Cert.Pre_finite29.fn_part1 at e
    pointwise at e
    exact real_of_bit e
  have f3 : ∀ i j, ∃ r : ℝ, a3 (ix3 0 i j) = (r : EReal) := by
    intro i j
    have e := congrFun p3 (ix3 0 i j)
    unfold Cert.Pre_finite29.fn Cert.Pre_finite29.fn_part1 at e
    pointwise at e
    exact real_of_bit e
  have f4 : ∀ i j, ∃ r : ℝ, a4 (ix2 i j) = (r : EReal) := by
    intro i j
    have e := congrFun p4 (ix2 i j)
    unfold Cert.Pre_finite29.fn Cert.Pre_finite29.fn_part1 at e
    pointwise at e
    exact real_of_bit e
  have f5 : ∀ i j, ∃ r : ℝ, a5 (ix2 i j) = (r : EReal) := by
    intro i j
    have e := congrFun p5 (ix2 i j)
    unfold Cert.Pre_finite29.fn Cert.Pre_finite29.fn_part1 at e
    pointwise at e
    exact real_of_bit e
  have f6 : ∀ j, ∃ r : ℝ, a6 (ix2 0 j) = (r : EReal) := by
    intro j
    have e := congrFun p6 (ix2 0 j)
    unfold Cert.Pre_finite29.fn Cert.Pre_finite29.fn_part1 at e
    pointwise at e
    exact real_of_bit e
  choose x0 e0 using f0
  choose x1 e1 using f1
  choose x2 e2 using f2
  choose x3 e3 using f3
  choose x4 e4 using f4
  choose x5 e5 using f5
  choose x6 e6 using f6
  refine ⟨{ b := fun i j => fill (fun i => fill (x0 i) j) i
            c := fun i j => fill (fun i => fill (x1 i) j) i
            v := fun i j => fill (fun i => fill (x2 i) j) i
            w := fun i j => fill (fun i => fill (x3 i) j) i
            dh1 := fun i j => fill (fun i => fill (x4 i) j) i
            h := fun i j => fill (fun i => fill (x5 i) j) i
            g := fill x6 }, ?_⟩
  constructor
  · intro i j
    show _ = ((fill (fun i => fill (x0 i) j) i : ℝ) : EReal)
    rw [e0, fill_val, fill_val]
  · intro i j
    show _ = ((fill (fun i => fill (x1 i) j) i : ℝ) : EReal)
    rw [e1, fill_val, fill_val]
  · intro i j
    show _ = ((fill (fun i => fill (x2 i) j) i : ℝ) : EReal)
    rw [e2, fill_val, fill_val]
  · intro i j
    show _ = ((fill (fun i => fill (x3 i) j) i : ℝ) : EReal)
    rw [e3, fill_val, fill_val]
  · intro i j
    show _ = ((fill (fun i => fill (x4 i) j) i : ℝ) : EReal)
    rw [e4, fill_val, fill_val]
  · intro i j
    show _ = ((fill (fun i => fill (x5 i) j) i : ℝ) : EReal)
    rw [e5, fill_val, fill_val]
  · intro j
    show _ = ((fill x6 j : ℝ) : EReal)
    rw [e6, fill_val]

end Cert.Mix

end
-- ==== Proof.FwdNorm.lean ====
/-
  The normalisation of one row of the residual stream, as a formula.
-/
module

public import Idealize.ShloMosaic.Lib.Pointwise

@[expose] public section

noncomputable section

open Idealize.ShloMosaic

namespace Cert.Fwd

/-- The mean of a row. -/
def mean (h : Fin 1024 → EReal) : EReal := Ideal.div (∑ d : Fin 1024, h d) (Ideal.ofBits .f32 0x44800000#32)

/-- A row, centred, divided by its deviation, scaled and shifted. -/
def normed (h g b : Fin 1024 → EReal) (d : Fin 1024) : EReal :=
  (h d - mean h) * Ideal.rsqrt (mean (fun k => (h k - mean h) * (h k - mean h)) + Ideal.ofBits .f32 0x3727C5AC#32) * g d + b d

end Cert.Fwd

end
-- ==== Proof.OutEven.lean ====
/-
  The even layer's output projection, of two inputs: the residual stream after it, and its normalised form.
-/
module

public import Idealize.ShloMosaic.Lib.Pipeline.ValueKit
public import Idealize.ShloMosaic.Lib.Pointwise
public import Idealize.ShloMosaic.Lib.Quiescent
public import proofs.«01_k».proof.Proof.FwdNorm
public import proofs.«01_k».proof.Proof.Gen.Kernel28Ideal.Value
public import proofs.«01_k».proof.Proof.Gen.Reference28Ideal.Run

@[expose] public section

set_option maxRecDepth 16384

noncomputable section

open Idealize.ShloMosaic Idealize.ShloMosaic.TcCoe Idealize.SL.Sem

namespace Cert.Kernel28Ideal.Value

open Cert.Kernel28Ideal Cert.Kernel28Ideal.Gen

/-! ## The three results -/

/-- The residual stream after the product, at a token and a channel. -/
def totalAt (a : FVec Ideal S4096x1024 .bf16) (a' : FVec Ideal S4096x1024 .bf16) (w : FVec Ideal S1x2048x1024 .bf16) (x : FVec Ideal S4096x1024 .f32)
    (i : Fin 4096) (q : Fin 1024) : EReal :=
  Ideal.ofBits .f32 0x3FD744FD#32 * x (ix2 i q)
    + (∑ k : Fin 1024, a (ix2 i k) * w (ix3 0 ⟨k.val, by omega⟩ q) + ∑ k : Fin 1024, a' (ix2 i k) * w (ix3 0 ⟨1024 + k.val, by omega⟩ q))

def total (a : FVec Ideal S4096x1024 .bf16) (a' : FVec Ideal S4096x1024 .bf16) (w : FVec Ideal S1x2048x1024 .bf16) (x : FVec Ideal S4096x1024 .f32) : FVec Ideal S4096x1024 .f32 :=
  fun i => totalAt a a' w x (i 0) (i 1)

/-- Its normalised form. -/
def norm (a : FVec Ideal S4096x1024 .bf16) (a' : FVec Ideal S4096x1024 .bf16) (w : FVec Ideal S1x2048x1024 .bf16) (x : FVec Ideal S4096x1024 .f32) (g : FVec Ideal S1x1024 .f32) (b : FVec Ideal S1x1024 .f32) : FVec Ideal S4096x1024 .f32 :=
  fun i => Fwd.normed (totalAt a a' w x (i 0)) (fun d => g (ix2 0 d)) (fun d => b (ix2 0 d)) (i 1)

def normLow (a : FVec Ideal S4096x1024 .bf16) (a' : FVec Ideal S4096x1024 .bf16) (w : FVec Ideal S1x2048x1024 .bf16) (x : FVec Ideal S4096x1024 .f32) (g : FVec Ideal S1x1024 .f32) (b : FVec Ideal S1x1024 .f32) : FVec Ideal S4096x1024 .bf16 :=
  fun i => Fwd.normed (totalAt a a' w x (i 0)) (fun d => g (ix2 0 d)) (fun d => b (ix2 0 d)) (i 1)

/-! ## One grid point -/

theorem total_at (x0 : FVec Ideal S512x1024 .bf16) (x1 : FVec Ideal S1x1024x1024 .bf16) (x2 : FVec Ideal S512x1024 .bf16) (x3 : FVec Ideal S1x1024x1024 .bf16) (x4 : FVec Ideal S512x1024 .f32) (p : Fin 512) (q : Fin 1024) :
    k0_pay3 (F := Ideal) x0 x1 x2 x3 x4 (ix2 p q) = Ideal.ofBits .f32 0x3FD744FD#32 * x4 (ix2 p q)
      + (∑ k : Fin 1024, x0 (ix2 p k) * x1 (ix3 0 k q) + ∑ k : Fin 1024, x2 (ix2 p k) * x3 (ix3 0 k q)) := by
  pointwise [k0_pay3]

theorem norm_at (x0 : FVec Ideal S512x1024 .bf16) (x1 : FVec Ideal S1x1024x1024 .bf16) (x2 : FVec Ideal S512x1024 .bf16) (x3 : FVec Ideal S1x1024x1024 .bf16) (x4 : FVec Ideal S512x1024 .f32) (x5 : FVec Ideal S1x1024 .f32) (x6 : FVec Ideal S1x1024 .f32) (p : Fin 512) (q : Fin 1024) :
    k0_pay1 (F := Ideal) (k0_pay4 (F := Ideal) x0 x1 x2 x3 x4 x5) x6 (ix2 p q)
      = Fwd.normed (fun d => k0_pay3 (F := Ideal) x0 x1 x2 x3 x4 (ix2 p d)) (fun d => x5 (ix2 0 d)) (fun d => x6 (ix2 0 d)) q := by
  unfold k0_pay1 k0_pay4 Fwd.normed Fwd.mean
  generalize k0_pay3 (F := Ideal) x0 x1 x2 x3 x4 = h
  pointwise

theorem out_h (x0 : FVec Ideal S512x1024 .bf16) (x1 : FVec Ideal S1x1024x1024 .bf16) (x2 : FVec Ideal S512x1024 .bf16) (x3 : FVec Ideal S1x1024x1024 .bf16) (x4 : FVec Ideal S512x1024 .f32) (x5 : FVec Ideal S1x1024 .f32) (x6 : FVec Ideal S1x1024 .f32) :
    out0_7 (F := Ideal) x0 x1 x2 x3 x4 x5 x6 = k0_pay3 (F := Ideal) x0 x1 x2 x3 x4 := by
  have z_S512x1024 : (![0, 0] : Fin S512x1024.rank → Nat) = fun _ => 0 := funext fun a => by fin_cases a <;> rfl
  have z_S1x1024x1024 : (![0, 0, 0] : Fin S1x1024x1024.rank → Nat) = fun _ => 0 := funext fun a => by fin_cases a <;> rfl
  unfold out0_7
  rw [View.canon_unit_zero z_S512x1024, View.ld_unit_zero z_S512x1024, View.ld_unit_zero z_S1x1024x1024, View.ld_unit_zero z_S512x1024, View.ld_unit_zero z_S1x1024x1024, View.ld_unit_zero z_S512x1024]

theorem out_y (x0 : FVec Ideal S512x1024 .bf16) (x1 : FVec Ideal S1x1024x1024 .bf16) (x2 : FVec Ideal S512x1024 .bf16) (x3 : FVec Ideal S1x1024x1024 .bf16) (x4 : FVec Ideal S512x1024 .f32) (x5 : FVec Ideal S1x1024 .f32) (x6 : FVec Ideal S1x1024 .f32) :
    out0_8 (F := Ideal) x0 x1 x2 x3 x4 x5 x6 = k0_pay1 (F := Ideal) (k0_pay4 (F := Ideal) x0 x1 x2 x3 x4 x5) x6 := by
  have z_S512x1024 : (![0, 0] : Fin S512x1024.rank → Nat) = fun _ => 0 := funext fun a => by fin_cases a <;> rfl
  have z_S1x1024x1024 : (![0, 0, 0] : Fin S1x1024x1024.rank → Nat) = fun _ => 0 := funext fun a => by fin_cases a <;> rfl
  have z_S1x1024 : (![0, 0] : Fin S1x1024.rank → Nat) = fun _ => 0 := funext fun a => by fin_cases a <;> rfl
  unfold out0_8 k0_pay5
  rw [View.canon_unit_zero z_S512x1024, View.ld_unit_zero z_S512x1024, View.ld_unit_zero z_S1x1024x1024, View.ld_unit_zero z_S512x1024, View.ld_unit_zero z_S1x1024x1024, View.ld_unit_zero z_S512x1024, View.ld_unit_zero z_S1x1024, View.ld_unit_zero z_S1x1024]

theorem out_z (x0 : FVec Ideal S512x1024 .bf16) (x1 : FVec Ideal S1x1024x1024 .bf16) (x2 : FVec Ideal S512x1024 .bf16) (x3 : FVec Ideal S1x1024x1024 .bf16) (x4 : FVec Ideal S512x1024 .f32) (x5 : FVec Ideal S1x1024 .f32) (x6 : FVec Ideal S1x1024 .f32) :
    out0_9 (F := Ideal) x0 x1 x2 x3 x4 x5 x6 = k0_pay2 (F := Ideal) (k0_pay4 (F := Ideal) x0 x1 x2 x3 x4 x5) x6 := by
  have z_S512x1024 : (![0, 0] : Fin S512x1024.rank → Nat) = fun _ => 0 := funext fun a => by fin_cases a <;> rfl
  have z_S1x1024x1024 : (![0, 0, 0] : Fin S1x1024x1024.rank → Nat) = fun _ => 0 := funext fun a => by fin_cases a <;> rfl
  have z_S1x1024 : (![0, 0] : Fin S1x1024.rank → Nat) = fun _ => 0 := funext fun a => by fin_cases a <;> rfl
  unfold out0_9 k0_pay5
  rw [View.canon_unit_zero z_S512x1024, View.ld_unit_zero z_S512x1024, View.ld_unit_zero z_S1x1024x1024, View.ld_unit_zero z_S512x1024, View.ld_unit_zero z_S1x1024x1024, View.ld_unit_zero z_S512x1024, View.ld_unit_zero z_S1x1024, View.ld_unit_zero z_S1x1024]

theorem idx (t : Fin cfg0.N) : win0_0.index t = ![t.val, 0]
    ∧ win0_1.index t = ![0, 0, 0]
    ∧ win0_2.index t = ![t.val, 0]
    ∧ win0_3.index t = ![0, 1, 0]
    ∧ win0_4.index t = ![t.val, 0]
    ∧ win0_5.index t = ![0, 0]
    ∧ win0_6.index t = ![0, 0]
    ∧ win0_7.index t = ![t.val, 0] ∧ win0_8.index t = ![t.val, 0] ∧ win0_9.index t = ![t.val, 0] := by
  revert t
  decide +kernel

variable (m : (ℓ : Loc nD τ sig) → Buf (Elt Ideal) ℓ) (c : Dev nD)

theorem in0 (t : Fin cfg0.N) (p : Fin 512) (d : Fin 1024) (hp : 512 * t.val + p.val < 4096) :
    iblk m c 0 t (ix2 p d) = m ((c : Thread nD τ).loc main_arg0) (ix2 ⟨512 * t.val + p.val, hp⟩ d) := by
  obtain ⟨i, -, -, -, -, -, -, -, -, -⟩ := idx t
  blk_ext [iblk, V_main_arg0, i]

theorem in1 (t : Fin cfg0.N) (d : Fin 1024) (q : Fin 1024) :
    iblk m c 1 t (ix3 0 d q) = m ((c : Thread nD τ).loc main_arg2) (ix3 0 ⟨d.val, by omega⟩ q) := by
  obtain ⟨-, i, -, -, -, -, -, -, -, -⟩ := idx t
  blk_ext [iblk, V_main_arg2, i]

theorem in2 (t : Fin cfg0.N) (p : Fin 512) (d : Fin 1024) (hp : 512 * t.val + p.val < 4096) :
    iblk m c 2 t (ix2 p d) = m ((c : Thread nD τ).loc main_arg1) (ix2 ⟨512 * t.val + p.val, hp⟩ d) := by
  obtain ⟨-, -, i, -, -, -, -, -, -, -⟩ := idx t
  blk_ext [iblk, V_main_arg1, i]

theorem in3 (t : Fin cfg0.N) (d : Fin 1024) (q : Fin 1024) :
    iblk m c 3 t (ix3 0 d q) = m ((c : Thread nD τ).loc main_arg2) (ix3 0 ⟨1024 + d.val, by omega⟩ q) := by
  obtain ⟨-, -, -, i, -, -, -, -, -, -⟩ := idx t
  blk_ext [iblk, V_main_arg2, i]

theorem in4 (t : Fin cfg0.N) (p : Fin 512) (d : Fin 1024) (hp : 512 * t.val + p.val < 4096) :
    iblk m c 4 t (ix2 p d) = m ((c : Thread nD τ).loc main_arg3) (ix2 ⟨512 * t.val + p.val, hp⟩ d) := by
  obtain ⟨-, -, -, -, i, -, -, -, -, -⟩ := idx t
  blk_ext [iblk, V_main_arg3, i]

theorem in5 (t : Fin cfg0.N) (d : Fin 1024) :
    iblk m c 5 t (ix2 0 d) = m ((c : Thread nD τ).loc main_arg4) (ix2 0 d) := by
  obtain ⟨-, -, -, -, -, i, -, -, -, -⟩ := idx t
  blk_ext [iblk, V_main_arg4, i]

theorem in6 (t : Fin cfg0.N) (d : Fin 1024) :
    iblk m c 6 t (ix2 0 d) = m ((c : Thread nD τ).loc main_arg5) (ix2 0 d) := by
  obtain ⟨-, -, -, -, -, -, i, -, -, -⟩ := idx t
  blk_ext [iblk, V_main_arg5, i]

/-- The block of a grid point holds the rows from `512 * t` on. -/
theorem block_total (t : Fin cfg0.N) (p : Fin 512) (hp : 512 * t.val + p.val < 4096) (q : Fin 1024) :
    k0_pay3 (F := Ideal) (iblk m c 0 t) (iblk m c 1 t) (iblk m c 2 t) (iblk m c 3 t) (iblk m c 4 t) (ix2 p q)
      = totalAt (m ((c : Thread nD τ).loc main_arg0)) (m ((c : Thread nD τ).loc main_arg1)) (m ((c : Thread nD τ).loc main_arg2)) (m ((c : Thread nD τ).loc main_arg3)) ⟨512 * t.val + p.val, hp⟩ q := by
  refine (total_at _ _ _ _ _ p q).trans ?_
  simp only [in0 m c t p _ hp, in1 m c t _ _, in2 m c t p _ hp, in3 m c t _ _, in4 m c t p _ hp]
  rfl

theorem block_norm (t : Fin cfg0.N) (p : Fin 512) (hp : 512 * t.val + p.val < 4096) (q : Fin 1024) :
    k0_pay1 (F := Ideal) (k0_pay4 (F := Ideal) (iblk m c 0 t) (iblk m c 1 t) (iblk m c 2 t) (iblk m c 3 t) (iblk m c 4 t) (iblk m c 5 t)) (iblk m c 6 t) (ix2 p q)
      = Fwd.normed (totalAt (m ((c : Thread nD τ).loc main_arg0)) (m ((c : Thread nD τ).loc main_arg1)) (m ((c : Thread nD τ).loc main_arg2)) (m ((c : Thread nD τ).loc main_arg3)) ⟨512 * t.val + p.val, hp⟩)
        (fun d => m ((c : Thread nD τ).loc main_arg4) (ix2 0 d)) (fun d => m ((c : Thread nD τ).loc main_arg5) (ix2 0 d)) q := by
  refine (norm_at _ _ _ _ _ _ _ p q).trans ?_
  simp only [block_total m c t p hp, in5 m c t, in6 m c t]

theorem place (f : Fin 4096 → Fin 1024 → EReal) (t : Fin cfg0.N) (i : S4096x1024.Idx) (p : Fin 512) (q : Fin 1024)
    (h0 : (i 0).val = t.val * 512 + 1 * p.val) (h1 : (i 1).val = 0 * 1024 + 1 * q.val) (hp : 512 * t.val + p.val < 4096) :
    f ⟨512 * t.val + p.val, hp⟩ q = f (i 0) (i 1) := by
  have e0 : i 0 = (⟨512 * t.val + p.val, hp⟩ : Fin 4096) := Fin.ext (by rw [h0]; simp; omega)
  have e1 : i 1 = q := Fin.ext (by rw [h1]; simp)
  rw [e0, e1]

theorem array_h : (dats m 0 c).arrAt 7 cfg0.N
    = total (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨-, -, -, -, -, -, -, i, -, -⟩ := idx t
  have e : y = ix2 (y 0) (y 1) := by
    funext a
    match a with
    | 0 => rfl
    | 1 => rfl
  have ht : t.val < 8 := t.isLt
  have hp : (y 0).val < 512 := (y 0).isLt
  have e0 : (((cfg0.win 7).blk t).view.emb y 0).val = t.val * 512 + 1 * (y 0).val :=
    (show _ = win0_7.index t (0 : Fin 2) * 512 + 1 * (y 0).val from rfl).trans (by rw [i]; rfl)
  have e1 : (((cfg0.win 7).blk t).view.emb y 1).val = 0 * 1024 + 1 * (y 1).val :=
    (show _ = win0_7.index t (1 : Fin 2) * 1024 + 1 * (y 1).val from rfl).trans (by rw [i]; rfl)
  blk_simp
  rw [after0_7, out_h]
  refine (congrArg _ e).trans ?_
  refine (block_total m c t (y 0) (by omega) (y 1)).trans (place (totalAt (m ((c : Thread nD τ).loc main_arg0)) (m ((c : Thread nD τ).loc main_arg1)) (m ((c : Thread nD τ).loc main_arg2)) (m ((c : Thread nD τ).loc main_arg3))) t _ _ _ ?_ ?_ (by omega))
  · exact e0
  · exact e1

theorem array_y : (dats m 0 c).arrAt 8 cfg0.N
    = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨-, -, -, -, -, -, -, -, i, -⟩ := idx t
  have e : y = ix2 (y 0) (y 1) := by
    funext a
    match a with
    | 0 => rfl
    | 1 => rfl
  have ht : t.val < 8 := t.isLt
  have hp : (y 0).val < 512 := (y 0).isLt
  have e0 : (((cfg0.win 8).blk t).view.emb y 0).val = t.val * 512 + 1 * (y 0).val :=
    (show _ = win0_8.index t (0 : Fin 2) * 512 + 1 * (y 0).val from rfl).trans (by rw [i]; rfl)
  have e1 : (((cfg0.win 8).blk t).view.emb y 1).val = 0 * 1024 + 1 * (y 1).val :=
    (show _ = win0_8.index t (1 : Fin 2) * 1024 + 1 * (y 1).val from rfl).trans (by rw [i]; rfl)
  blk_simp
  rw [after0_8, out_y]
  refine (congrArg _ e).trans ?_
  refine (block_norm m c t (y 0) (by omega) (y 1)).trans (place (fun k => Fwd.normed (totalAt (m ((c : Thread nD τ).loc main_arg0)) (m ((c : Thread nD τ).loc main_arg1)) (m ((c : Thread nD τ).loc main_arg2)) (m ((c : Thread nD τ).loc main_arg3)) k)
    (fun d => m ((c : Thread nD τ).loc main_arg4) (ix2 0 d)) (fun d => m ((c : Thread nD τ).loc main_arg5) (ix2 0 d))) t _ _ _ ?_ ?_ (by omega))
  · exact e0
  · exact e1

theorem array_z : (dats m 0 c).arrAt 9 cfg0.N
    = normLow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨-, -, -, -, -, -, -, -, -, i⟩ := idx t
  have e : y = ix2 (y 0) (y 1) := by
    funext a
    match a with
    | 0 => rfl
    | 1 => rfl
  have ht : t.val < 8 := t.isLt
  have hp : (y 0).val < 512 := (y 0).isLt
  have e0 : (((cfg0.win 9).blk t).view.emb y 0).val = t.val * 512 + 1 * (y 0).val :=
    (show _ = win0_9.index t (0 : Fin 2) * 512 + 1 * (y 0).val from rfl).trans (by rw [i]; rfl)
  have e1 : (((cfg0.win 9).blk t).view.emb y 1).val = 0 * 1024 + 1 * (y 1).val :=
    (show _ = win0_9.index t (1 : Fin 2) * 1024 + 1 * (y 1).val from rfl).trans (by rw [i]; rfl)
  blk_simp
  rw [after0_9, out_z]
  refine (congrArg _ e).trans ?_
  refine (block_norm m c t (y 0) (by omega) (y 1)).trans (place (fun k => Fwd.normed (totalAt (m ((c : Thread nD τ).loc main_arg0)) (m ((c : Thread nD τ).loc main_arg1)) (m ((c : Thread nD τ).loc main_arg2)) (m ((c : Thread nD τ).loc main_arg3)) k)
    (fun d => m ((c : Thread nD τ).loc main_arg4) (ix2 0 d)) (fun d => m ((c : Thread nD τ).loc main_arg5) (ix2 0 d))) t _ _ _ ?_ ?_ (by omega))
  · exact e0
  · exact e1

end Cert.Kernel28Ideal.Value

namespace Cert.Reference28Ideal.Value

open Cert.Reference28Ideal Cert.Reference28Ideal.Gen

/-! ## The reference, its operations grouped -/

def totalOf (a : FVec Ideal S4096x1024 .bf16) (a' : FVec Ideal S4096x1024 .bf16) (w : FVec Ideal S1x2048x1024 .bf16) (x : FVec Ideal S4096x1024 .f32) : FVec Ideal S4096x1024 .f32 :=
  addf (mulf (broadcastInDim S4096x1024 ![] bcast_S_S4096x1024 (constant S_ .f32 0x3FD744FD#32)) x)
    (Host.dotGeneral dot_S4096x2048_S2048x1024_S4096x1024_1_0_0_1_n_n none
      (extf .f32 (concatenate S4096x2048 1 [⟨S4096x1024, a⟩, ⟨S4096x1024, a'⟩] concatenates_S4096x1024_S4096x1024_S4096x2048_d1) bitsLt_bf16_f32)
      (shapeCast _ (extf .f32 w bitsLt_bf16_f32) shapeCasts_S1x2048x1024_S2048x1024))

def meanOf (h : FVec Ideal S4096x1024 .f32) : FVec Ideal S4096x1 .f32 :=
  Host.divf (broadcastInDim S4096x1 ![0] bcast_S4096_S4096x1_0
      (Host.reduceAdd h (constant S_ .f32 0x00000000#32) reducesTo_S4096x1024_S4096_d1 h_S_))
    (broadcastInDim S4096x1 ![] bcast_S_S4096x1 (constant S_ .f32 0x44800000#32))

def centred (h : FVec Ideal S4096x1024 .f32) : FVec Ideal S4096x1024 .f32 :=
  subf h (broadcastInDim S4096x1024 ![0, 1] bcast_S4096x1_S4096x1024_0_1 (meanOf h))

def normOf (h : FVec Ideal S4096x1024 .f32) (g b : FVec Ideal S1x1024 .f32) : FVec Ideal S4096x1024 .f32 :=
  addf (mulf (mulf (centred h) (broadcastInDim S4096x1024 ![0, 1] bcast_S4096x1_S4096x1024_0_1
      (Host.rsqrt (addf (meanOf (mulf (centred h) (centred h))) (broadcastInDim S4096x1 ![] bcast_S_S4096x1 (constant S_ .f32 0x3727C5AC#32))))))
      (broadcastInDim S4096x1024 ![0, 1] bcast_S1x1024_S4096x1024_0_1 g))
    (broadcastInDim S4096x1024 ![0, 1] bcast_S1x1024_S4096x1024_0_1 b)

theorem total_at (a : FVec Ideal S4096x1024 .bf16) (a' : FVec Ideal S4096x1024 .bf16) (w : FVec Ideal S1x2048x1024 .bf16) (x : FVec Ideal S4096x1024 .f32)
    (i : Fin 4096) (q : Fin 1024) : totalOf a a' w x (ix2 i q) = Cert.Kernel28Ideal.Value.totalAt a a' w x i q := by
  pointwise [totalOf]
  rfl

theorem mean_at (h : FVec Ideal S4096x1024 .f32) (i : Fin 4096) : meanOf h (ix2 i 0) = Fwd.mean (fun d => h (ix2 i d)) := by
  pointwise [meanOf]
  rfl

theorem centred_at (h : FVec Ideal S4096x1024 .f32) (i : Fin 4096) (q : Fin 1024) :
    centred h (ix2 i q) = h (ix2 i q) - Fwd.mean (fun d => h (ix2 i d)) := by
  pointwise [centred]
  rw [mean_at]

theorem norm_at (h : FVec Ideal S4096x1024 .f32) (g b : FVec Ideal S1x1024 .f32) (i : Fin 4096) (q : Fin 1024) :
    normOf h g b (ix2 i q) = Fwd.normed (fun d => h (ix2 i d)) (fun d => g (ix2 0 d)) (fun d => b (ix2 0 d)) q := by
  pointwise [normOf]
  rw [mean_at]
  simp only [centred_at]
  pointwise
  simp only [centred_at]
  rfl

theorem at_ix (i : S4096x1024.Idx) : i = ix2 (i 0) (i 1) := by
  funext a
  match a with
  | 0 => rfl
  | 1 => rfl

theorem array_h (a : FVec Ideal S4096x1024 .bf16) (a' : FVec Ideal S4096x1024 .bf16) (w : FVec Ideal S1x2048x1024 .bf16) (x : FVec Ideal S4096x1024 .f32) :
    totalOf a a' w x = Cert.Kernel28Ideal.Value.total a a' w x := by
  funext i
  exact (congrArg _ (at_ix i)).trans (total_at _ _ _ _ (i 0) (i 1))

theorem array_y (a : FVec Ideal S4096x1024 .bf16) (a' : FVec Ideal S4096x1024 .bf16) (w : FVec Ideal S1x2048x1024 .bf16) (x : FVec Ideal S4096x1024 .f32) (g : FVec Ideal S1x1024 .f32) (b : FVec Ideal S1x1024 .f32) :
    normOf (totalOf a a' w x) g b = Cert.Kernel28Ideal.Value.norm a a' w x g b := by
  funext i
  refine (congrArg _ (at_ix i)).trans ((norm_at _ g b (i 0) (i 1)).trans ?_)
  exact congrArg (fun f => Fwd.normed f (fun d => g (ix2 0 d)) (fun d => b (ix2 0 d)) (i 1))
    (funext fun d => total_at _ _ _ _ (i 0) d)

theorem array_z (a : FVec Ideal S4096x1024 .bf16) (a' : FVec Ideal S4096x1024 .bf16) (w : FVec Ideal S1x2048x1024 .bf16) (x : FVec Ideal S4096x1024 .f32) (g : FVec Ideal S1x1024 .f32) (b : FVec Ideal S1x1024 .f32) :
    truncf .bf16 (normOf (totalOf a a' w x) g b) bitsLt_bf16_f32 = Cert.Kernel28Ideal.Value.normLow a a' w x g b :=
  array_y a a' w x g b

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2, sem_eq_zero_of_no_sems rfl r.2⟩) (run m g)

end Cert.Reference28Ideal.Value

end
-- ==== Proof.OutOdd.lean ====
/-
  The odd layer's output projection: the residual stream after it, and its normalised form.
-/
module

public import Idealize.ShloMosaic.Lib.Pipeline.ValueKit
public import Idealize.ShloMosaic.Lib.Pointwise
public import Idealize.ShloMosaic.Lib.Quiescent
public import proofs.«01_k».proof.Proof.FwdNorm
public import proofs.«01_k».proof.Proof.Gen.Kernel27Ideal.Value
public import proofs.«01_k».proof.Proof.Gen.Reference27Ideal.Run

@[expose] public section

set_option maxRecDepth 16384

noncomputable section

open Idealize.ShloMosaic Idealize.ShloMosaic.TcCoe Idealize.SL.Sem

namespace Cert.Kernel27Ideal.Value

open Cert.Kernel27Ideal Cert.Kernel27Ideal.Gen

/-! ## The three results -/

/-- The residual stream after the product, at a token and a channel. -/
def totalAt (a : FVec Ideal S4096x1024 .bf16) (w : FVec Ideal S1x1024x1024 .bf16) (x : FVec Ideal S4096x1024 .f32)
    (i : Fin 4096) (q : Fin 1024) : EReal :=
  Ideal.ofBits .f32 0x3FD744FD#32 * x (ix2 i q) + ∑ k : Fin 1024, a (ix2 i k) * w (ix3 0 k q)

def total (a : FVec Ideal S4096x1024 .bf16) (w : FVec Ideal S1x1024x1024 .bf16) (x : FVec Ideal S4096x1024 .f32) : FVec Ideal S4096x1024 .f32 :=
  fun i => totalAt a w x (i 0) (i 1)

/-- Its normalised form. -/
def norm (a : FVec Ideal S4096x1024 .bf16) (w : FVec Ideal S1x1024x1024 .bf16) (x : FVec Ideal S4096x1024 .f32) (g : FVec Ideal S1x1024 .f32) (b : FVec Ideal S1x1024 .f32) : FVec Ideal S4096x1024 .f32 :=
  fun i => Fwd.normed (totalAt a w x (i 0)) (fun d => g (ix2 0 d)) (fun d => b (ix2 0 d)) (i 1)

def normLow (a : FVec Ideal S4096x1024 .bf16) (w : FVec Ideal S1x1024x1024 .bf16) (x : FVec Ideal S4096x1024 .f32) (g : FVec Ideal S1x1024 .f32) (b : FVec Ideal S1x1024 .f32) : FVec Ideal S4096x1024 .bf16 :=
  fun i => Fwd.normed (totalAt a w x (i 0)) (fun d => g (ix2 0 d)) (fun d => b (ix2 0 d)) (i 1)

/-! ## One grid point -/

theorem total_at (x0 : FVec Ideal S512x1024 .bf16) (x1 : FVec Ideal S1x1024x1024 .bf16) (x2 : FVec Ideal S512x1024 .f32) (p : Fin 512) (q : Fin 1024) :
    k0_pay1 (F := Ideal) x0 x1 x2 (ix2 p q) = Ideal.ofBits .f32 0x3FD744FD#32 * x2 (ix2 p q) + ∑ k : Fin 1024, x0 (ix2 p k) * x1 (ix3 0 k q) := by
  pointwise [k0_pay1]

theorem norm_at (x0 : FVec Ideal S512x1024 .bf16) (x1 : FVec Ideal S1x1024x1024 .bf16) (x2 : FVec Ideal S512x1024 .f32) (x3 : FVec Ideal S1x1024 .f32) (x4 : FVec Ideal S1x1024 .f32) (p : Fin 512) (q : Fin 1024) :
    k0_pay2 (F := Ideal) x0 x1 x2 x3 x4 (ix2 p q)
      = Fwd.normed (fun d => k0_pay1 (F := Ideal) x0 x1 x2 (ix2 p d)) (fun d => x3 (ix2 0 d)) (fun d => x4 (ix2 0 d)) q := by
  unfold k0_pay2 Fwd.normed Fwd.mean
  generalize k0_pay1 (F := Ideal) x0 x1 x2 = h
  pointwise

theorem out_h (x0 : FVec Ideal S512x1024 .bf16) (x1 : FVec Ideal S1x1024x1024 .bf16) (x2 : FVec Ideal S512x1024 .f32) (x3 : FVec Ideal S1x1024 .f32) (x4 : FVec Ideal S1x1024 .f32) :
    out0_5 (F := Ideal) x0 x1 x2 x3 x4 = k0_pay1 (F := Ideal) x0 x1 x2 := by
  have z_S512x1024 : (![0, 0] : Fin S512x1024.rank → Nat) = fun _ => 0 := funext fun a => by fin_cases a <;> rfl
  have z_S1x1024x1024 : (![0, 0, 0] : Fin S1x1024x1024.rank → Nat) = fun _ => 0 := funext fun a => by fin_cases a <;> rfl
  unfold out0_5
  rw [View.canon_unit_zero z_S512x1024, View.ld_unit_zero z_S512x1024, View.ld_unit_zero z_S1x1024x1024, View.ld_unit_zero z_S512x1024]

theorem out_y (x0 : FVec Ideal S512x1024 .bf16) (x1 : FVec Ideal S1x1024x1024 .bf16) (x2 : FVec Ideal S512x1024 .f32) (x3 : FVec Ideal S1x1024 .f32) (x4 : FVec Ideal S1x1024 .f32) :
    out0_6 (F := Ideal) x0 x1 x2 x3 x4 = k0_pay2 (F := Ideal) x0 x1 x2 x3 x4 := by
  have z_S512x1024 : (![0, 0] : Fin S512x1024.rank → Nat) = fun _ => 0 := funext fun a => by fin_cases a <;> rfl
  have z_S1x1024x1024 : (![0, 0, 0] : Fin S1x1024x1024.rank → Nat) = fun _ => 0 := funext fun a => by fin_cases a <;> rfl
  have z_S1x1024 : (![0, 0] : Fin S1x1024.rank → Nat) = fun _ => 0 := funext fun a => by fin_cases a <;> rfl
  unfold out0_6
  rw [View.canon_unit_zero z_S512x1024, View.ld_unit_zero z_S512x1024, View.ld_unit_zero z_S1x1024x1024, View.ld_unit_zero z_S512x1024, View.ld_unit_zero z_S1x1024, View.ld_unit_zero z_S1x1024]

theorem out_z (x0 : FVec Ideal S512x1024 .bf16) (x1 : FVec Ideal S1x1024x1024 .bf16) (x2 : FVec Ideal S512x1024 .f32) (x3 : FVec Ideal S1x1024 .f32) (x4 : FVec Ideal S1x1024 .f32) :
    out0_7 (F := Ideal) x0 x1 x2 x3 x4 = k0_pay3 (F := Ideal) x0 x1 x2 x3 x4 := by
  have z_S512x1024 : (![0, 0] : Fin S512x1024.rank → Nat) = fun _ => 0 := funext fun a => by fin_cases a <;> rfl
  have z_S1x1024x1024 : (![0, 0, 0] : Fin S1x1024x1024.rank → Nat) = fun _ => 0 := funext fun a => by fin_cases a <;> rfl
  have z_S1x1024 : (![0, 0] : Fin S1x1024.rank → Nat) = fun _ => 0 := funext fun a => by fin_cases a <;> rfl
  unfold out0_7
  rw [View.canon_unit_zero z_S512x1024, View.ld_unit_zero z_S512x1024, View.ld_unit_zero z_S1x1024x1024, View.ld_unit_zero z_S512x1024, View.ld_unit_zero z_S1x1024, View.ld_unit_zero z_S1x1024]

theorem idx (t : Fin cfg0.N) : win0_0.index t = ![t.val, 0]
    ∧ win0_1.index t = ![0, 0, 0]
    ∧ win0_2.index t = ![t.val, 0]
    ∧ win0_3.index t = ![0, 0]
    ∧ win0_4.index t = ![0, 0]
    ∧ win0_5.index t = ![t.val, 0] ∧ win0_6.index t = ![t.val, 0] ∧ win0_7.index t = ![t.val, 0] := by
  revert t
  decide +kernel

variable (m : (ℓ : Loc nD τ sig) → Buf (Elt Ideal) ℓ) (c : Dev nD)

theorem in0 (t : Fin cfg0.N) (p : Fin 512) (d : Fin 1024) (hp : 512 * t.val + p.val < 4096) :
    iblk m c 0 t (ix2 p d) = m ((c : Thread nD τ).loc main_arg0) (ix2 ⟨512 * t.val + p.val, hp⟩ d) := by
  obtain ⟨i, -, -, -, -, -, -, -⟩ := idx t
  blk_ext [iblk, V_main_arg0, i]

theorem in1 (t : Fin cfg0.N) (d : Fin 1024) (q : Fin 1024) :
    iblk m c 1 t (ix3 0 d q) = m ((c : Thread nD τ).loc main_arg1) (ix3 0 d q) := by
  obtain ⟨-, i, -, -, -, -, -, -⟩ := idx t
  blk_ext [iblk, V_main_arg1, i]

theorem in2 (t : Fin cfg0.N) (p : Fin 512) (d : Fin 1024) (hp : 512 * t.val + p.val < 4096) :
    iblk m c 2 t (ix2 p d) = m ((c : Thread nD τ).loc main_arg2) (ix2 ⟨512 * t.val + p.val, hp⟩ d) := by
  obtain ⟨-, -, i, -, -, -, -, -⟩ := idx t
  blk_ext [iblk, V_main_arg2, i]

theorem in3 (t : Fin cfg0.N) (d : Fin 1024) :
    iblk m c 3 t (ix2 0 d) = m ((c : Thread nD τ).loc main_arg3) (ix2 0 d) := by
  obtain ⟨-, -, -, i, -, -, -, -⟩ := idx t
  blk_ext [iblk, V_main_arg3, i]

theorem in4 (t : Fin cfg0.N) (d : Fin 1024) :
    iblk m c 4 t (ix2 0 d) = m ((c : Thread nD τ).loc main_arg4) (ix2 0 d) := by
  obtain ⟨-, -, -, -, i, -, -, -⟩ := idx t
  blk_ext [iblk, V_main_arg4, i]

/-- The block of a grid point holds the rows from `512 * t` on. -/
theorem block_total (t : Fin cfg0.N) (p : Fin 512) (hp : 512 * t.val + p.val < 4096) (q : Fin 1024) :
    k0_pay1 (F := Ideal) (iblk m c 0 t) (iblk m c 1 t) (iblk m c 2 t) (ix2 p q)
      = totalAt (m ((c : Thread nD τ).loc main_arg0)) (m ((c : Thread nD τ).loc main_arg1)) (m ((c : Thread nD τ).loc main_arg2)) ⟨512 * t.val + p.val, hp⟩ q := by
  refine (total_at _ _ _ p q).trans ?_
  simp only [in0 m c t p _ hp, in1 m c t _ _, in2 m c t p _ hp]
  rfl

theorem block_norm (t : Fin cfg0.N) (p : Fin 512) (hp : 512 * t.val + p.val < 4096) (q : Fin 1024) :
    k0_pay2 (F := Ideal) (iblk m c 0 t) (iblk m c 1 t) (iblk m c 2 t) (iblk m c 3 t) (iblk m c 4 t) (ix2 p q)
      = Fwd.normed (totalAt (m ((c : Thread nD τ).loc main_arg0)) (m ((c : Thread nD τ).loc main_arg1)) (m ((c : Thread nD τ).loc main_arg2)) ⟨512 * t.val + p.val, hp⟩)
        (fun d => m ((c : Thread nD τ).loc main_arg3) (ix2 0 d)) (fun d => m ((c : Thread nD τ).loc main_arg4) (ix2 0 d)) q := by
  refine (norm_at _ _ _ _ _ p q).trans ?_
  simp only [block_total m c t p hp, in3 m c t, in4 m c t]

theorem place (f : Fin 4096 → Fin 1024 → EReal) (t : Fin cfg0.N) (i : S4096x1024.Idx) (p : Fin 512) (q : Fin 1024)
    (h0 : (i 0).val = t.val * 512 + 1 * p.val) (h1 : (i 1).val = 0 * 1024 + 1 * q.val) (hp : 512 * t.val + p.val < 4096) :
    f ⟨512 * t.val + p.val, hp⟩ q = f (i 0) (i 1) := by
  have e0 : i 0 = (⟨512 * t.val + p.val, hp⟩ : Fin 4096) := Fin.ext (by rw [h0]; simp; omega)
  have e1 : i 1 = q := Fin.ext (by rw [h1]; simp)
  rw [e0, e1]

theorem array_h : (dats m 0 c).arrAt 5 cfg0.N
    = total (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨-, -, -, -, -, i, -, -⟩ := idx t
  have e : y = ix2 (y 0) (y 1) := by
    funext a
    match a with
    | 0 => rfl
    | 1 => rfl
  have ht : t.val < 8 := t.isLt
  have hp : (y 0).val < 512 := (y 0).isLt
  have e0 : (((cfg0.win 5).blk t).view.emb y 0).val = t.val * 512 + 1 * (y 0).val :=
    (show _ = win0_5.index t (0 : Fin 2) * 512 + 1 * (y 0).val from rfl).trans (by rw [i]; rfl)
  have e1 : (((cfg0.win 5).blk t).view.emb y 1).val = 0 * 1024 + 1 * (y 1).val :=
    (show _ = win0_5.index t (1 : Fin 2) * 1024 + 1 * (y 1).val from rfl).trans (by rw [i]; rfl)
  blk_simp
  rw [after0_5, out_h]
  refine (congrArg _ e).trans ?_
  refine (block_total m c t (y 0) (by omega) (y 1)).trans (place (totalAt (m ((c : Thread nD τ).loc main_arg0)) (m ((c : Thread nD τ).loc main_arg1)) (m ((c : Thread nD τ).loc main_arg2))) t _ _ _ ?_ ?_ (by omega))
  · exact e0
  · exact e1

theorem array_y : (dats m 0 c).arrAt 6 cfg0.N
    = norm (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨-, -, -, -, -, -, i, -⟩ := idx t
  have e : y = ix2 (y 0) (y 1) := by
    funext a
    match a with
    | 0 => rfl
    | 1 => rfl
  have ht : t.val < 8 := t.isLt
  have hp : (y 0).val < 512 := (y 0).isLt
  have e0 : (((cfg0.win 6).blk t).view.emb y 0).val = t.val * 512 + 1 * (y 0).val :=
    (show _ = win0_6.index t (0 : Fin 2) * 512 + 1 * (y 0).val from rfl).trans (by rw [i]; rfl)
  have e1 : (((cfg0.win 6).blk t).view.emb y 1).val = 0 * 1024 + 1 * (y 1).val :=
    (show _ = win0_6.index t (1 : Fin 2) * 1024 + 1 * (y 1).val from rfl).trans (by rw [i]; rfl)
  blk_simp
  rw [after0_6, out_y]
  refine (congrArg _ e).trans ?_
  refine (block_norm m c t (y 0) (by omega) (y 1)).trans (place (fun k => Fwd.normed (totalAt (m ((c : Thread nD τ).loc main_arg0)) (m ((c : Thread nD τ).loc main_arg1)) (m ((c : Thread nD τ).loc main_arg2)) k)
    (fun d => m ((c : Thread nD τ).loc main_arg3) (ix2 0 d)) (fun d => m ((c : Thread nD τ).loc main_arg4) (ix2 0 d))) t _ _ _ ?_ ?_ (by omega))
  · exact e0
  · exact e1

theorem array_z : (dats m 0 c).arrAt 7 cfg0.N
    = normLow (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨-, -, -, -, -, -, -, i⟩ := idx t
  have e : y = ix2 (y 0) (y 1) := by
    funext a
    match a with
    | 0 => rfl
    | 1 => rfl
  have ht : t.val < 8 := t.isLt
  have hp : (y 0).val < 512 := (y 0).isLt
  have e0 : (((cfg0.win 7).blk t).view.emb y 0).val = t.val * 512 + 1 * (y 0).val :=
    (show _ = win0_7.index t (0 : Fin 2) * 512 + 1 * (y 0).val from rfl).trans (by rw [i]; rfl)
  have e1 : (((cfg0.win 7).blk t).view.emb y 1).val = 0 * 1024 + 1 * (y 1).val :=
    (show _ = win0_7.index t (1 : Fin 2) * 1024 + 1 * (y 1).val from rfl).trans (by rw [i]; rfl)
  blk_simp
  rw [after0_7, out_z]
  refine (congrArg _ e).trans ?_
  refine (block_norm m c t (y 0) (by omega) (y 1)).trans (place (fun k => Fwd.normed (totalAt (m ((c : Thread nD τ).loc main_arg0)) (m ((c : Thread nD τ).loc main_arg1)) (m ((c : Thread nD τ).loc main_arg2)) k)
    (fun d => m ((c : Thread nD τ).loc main_arg3) (ix2 0 d)) (fun d => m ((c : Thread nD τ).loc main_arg4) (ix2 0 d))) t _ _ _ ?_ ?_ (by omega))
  · exact e0
  · exact e1

end Cert.Kernel27Ideal.Value

namespace Cert.Reference27Ideal.Value

open Cert.Reference27Ideal Cert.Reference27Ideal.Gen

/-! ## The reference, its operations grouped -/

def totalOf (a : FVec Ideal S4096x1024 .bf16) (w : FVec Ideal S1x1024x1024 .bf16) (x : FVec Ideal S4096x1024 .f32) : FVec Ideal S4096x1024 .f32 :=
  addf (mulf (broadcastInDim S4096x1024 ![] bcast_S_S4096x1024 (constant S_ .f32 0x3FD744FD#32)) x)
    (Host.dotGeneral dot_S4096x1024_S1024x1024_S4096x1024_1_0_0_1_n_n none (extf .f32 a bitsLt_bf16_f32)
      (shapeCast _ (extf .f32 w bitsLt_bf16_f32) shapeCasts_S1x1024x1024_S1024x1024))

def meanOf (h : FVec Ideal S4096x1024 .f32) : FVec Ideal S4096x1 .f32 :=
  Host.divf (broadcastInDim S4096x1 ![0] bcast_S4096_S4096x1_0
      (Host.reduceAdd h (constant S_ .f32 0x00000000#32) reducesTo_S4096x1024_S4096_d1 h_S_))
    (broadcastInDim S4096x1 ![] bcast_S_S4096x1 (constant S_ .f32 0x44800000#32))

def centred (h : FVec Ideal S4096x1024 .f32) : FVec Ideal S4096x1024 .f32 :=
  subf h (broadcastInDim S4096x1024 ![0, 1] bcast_S4096x1_S4096x1024_0_1 (meanOf h))

def normOf (h : FVec Ideal S4096x1024 .f32) (g b : FVec Ideal S1x1024 .f32) : FVec Ideal S4096x1024 .f32 :=
  addf (mulf (mulf (centred h) (broadcastInDim S4096x1024 ![0, 1] bcast_S4096x1_S4096x1024_0_1
      (Host.rsqrt (addf (meanOf (mulf (centred h) (centred h))) (broadcastInDim S4096x1 ![] bcast_S_S4096x1 (constant S_ .f32 0x3727C5AC#32))))))
      (broadcastInDim S4096x1024 ![0, 1] bcast_S1x1024_S4096x1024_0_1 g))
    (broadcastInDim S4096x1024 ![0, 1] bcast_S1x1024_S4096x1024_0_1 b)

theorem total_at (a : FVec Ideal S4096x1024 .bf16) (w : FVec Ideal S1x1024x1024 .bf16) (x : FVec Ideal S4096x1024 .f32)
    (i : Fin 4096) (q : Fin 1024) : totalOf a w x (ix2 i q) = Cert.Kernel27Ideal.Value.totalAt a w x i q := by
  pointwise [totalOf]
  rfl

theorem mean_at (h : FVec Ideal S4096x1024 .f32) (i : Fin 4096) : meanOf h (ix2 i 0) = Fwd.mean (fun d => h (ix2 i d)) := by
  pointwise [meanOf]
  rfl

theorem centred_at (h : FVec Ideal S4096x1024 .f32) (i : Fin 4096) (q : Fin 1024) :
    centred h (ix2 i q) = h (ix2 i q) - Fwd.mean (fun d => h (ix2 i d)) := by
  pointwise [centred]
  rw [mean_at]

theorem norm_at (h : FVec Ideal S4096x1024 .f32) (g b : FVec Ideal S1x1024 .f32) (i : Fin 4096) (q : Fin 1024) :
    normOf h g b (ix2 i q) = Fwd.normed (fun d => h (ix2 i d)) (fun d => g (ix2 0 d)) (fun d => b (ix2 0 d)) q := by
  pointwise [normOf]
  rw [mean_at]
  simp only [centred_at]
  pointwise
  simp only [centred_at]
  rfl

theorem at_ix (i : S4096x1024.Idx) : i = ix2 (i 0) (i 1) := by
  funext a
  match a with
  | 0 => rfl
  | 1 => rfl

theorem array_h (a : FVec Ideal S4096x1024 .bf16) (w : FVec Ideal S1x1024x1024 .bf16) (x : FVec Ideal S4096x1024 .f32) :
    totalOf a w x = Cert.Kernel27Ideal.Value.total a w x := by
  funext i
  exact (congrArg _ (at_ix i)).trans (total_at _ _ _ (i 0) (i 1))

theorem array_y (a : FVec Ideal S4096x1024 .bf16) (w : FVec Ideal S1x1024x1024 .bf16) (x : FVec Ideal S4096x1024 .f32) (g : FVec Ideal S1x1024 .f32) (b : FVec Ideal S1x1024 .f32) :
    normOf (totalOf a w x) g b = Cert.Kernel27Ideal.Value.norm a w x g b := by
  funext i
  refine (congrArg _ (at_ix i)).trans ((norm_at _ g b (i 0) (i 1)).trans ?_)
  exact congrArg (fun f => Fwd.normed f (fun d => g (ix2 0 d)) (fun d => b (ix2 0 d)) (i 1))
    (funext fun d => total_at _ _ _ (i 0) d)

theorem array_z (a : FVec Ideal S4096x1024 .bf16) (w : FVec Ideal S1x1024x1024 .bf16) (x : FVec Ideal S4096x1024 .f32) (g : FVec Ideal S1x1024 .f32) (b : FVec Ideal S1x1024 .f32) :
    truncf .bf16 (normOf (totalOf a w x) g b) bitsLt_bf16_f32 = Cert.Kernel27Ideal.Value.normLow a w x g b :=
  array_y a w x g b

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2, sem_eq_zero_of_no_sems rfl r.2⟩) (run m g)

end Cert.Reference27Ideal.Value

end
-- ==== Proof.FfnDownOut.lean ====
/-
  The kernel of the feed-forward block's second product: the residual stream after it, and its normalised form.
-/
module

public import Idealize.ShloMosaic.Lib.Pipeline.ValueKit
public import Idealize.ShloMosaic.Lib.Pointwise
public import Idealize.ShloMosaic.Lib.Quiescent
public import proofs.«01_k».proof.Proof.FwdNorm
public import proofs.«01_k».proof.Proof.Gen.Kernel26Ideal.Value
public import proofs.«01_k».proof.Proof.Gen.Reference26Ideal.Run

@[expose] public section

set_option maxRecDepth 16384

noncomputable section

open Idealize.ShloMosaic Idealize.ShloMosaic.TcCoe Idealize.SL.Sem

namespace Cert.Kernel26Ideal.Value

open Cert.Kernel26Ideal Cert.Kernel26Ideal.Gen

/-! ## The three results -/

/-- The residual stream after the product, at a token and a channel. -/
def totalAt (a : FVec Ideal S4096x2816 .bf16) (w : FVec Ideal S1x2816x1024 .bf16) (x : FVec Ideal S4096x1024 .f32) (pp : FVec Ideal S4096x1024 .f32) (gl : FVec Ideal S4096x1024 .f32)
    (i : Fin 4096) (q : Fin 1024) : EReal :=
  Ideal.ofBits .f32 0x3FD744FD#32 * x (ix2 i q) + ∑ k : Fin 2816, a (ix2 i k) * w (ix3 0 k q) + pp (ix2 i q) * Ideal.logistic (gl (ix2 i q))

def total (a : FVec Ideal S4096x2816 .bf16) (w : FVec Ideal S1x2816x1024 .bf16) (x : FVec Ideal S4096x1024 .f32) (pp : FVec Ideal S4096x1024 .f32) (gl : FVec Ideal S4096x1024 .f32) : FVec Ideal S4096x1024 .f32 :=
  fun i => totalAt a w x pp gl (i 0) (i 1)

/-- Its normalised form. -/
def norm (a : FVec Ideal S4096x2816 .bf16) (w : FVec Ideal S1x2816x1024 .bf16) (x : FVec Ideal S4096x1024 .f32) (pp : FVec Ideal S4096x1024 .f32) (gl : FVec Ideal S4096x1024 .f32) (g : FVec Ideal S1x1024 .f32) (b : FVec Ideal S1x1024 .f32) : FVec Ideal S4096x1024 .f32 :=
  fun i => Fwd.normed (totalAt a w x pp gl (i 0)) (fun d => g (ix2 0 d)) (fun d => b (ix2 0 d)) (i 1)

def normLow (a : FVec Ideal S4096x2816 .bf16) (w : FVec Ideal S1x2816x1024 .bf16) (x : FVec Ideal S4096x1024 .f32) (pp : FVec Ideal S4096x1024 .f32) (gl : FVec Ideal S4096x1024 .f32) (g : FVec Ideal S1x1024 .f32) (b : FVec Ideal S1x1024 .f32) : FVec Ideal S4096x1024 .bf16 :=
  fun i => Fwd.normed (totalAt a w x pp gl (i 0)) (fun d => g (ix2 0 d)) (fun d => b (ix2 0 d)) (i 1)

/-! ## One grid point -/

theorem total_at (x0 : FVec Ideal S512x2816 .bf16) (x1 : FVec Ideal S1x2816x1024 .bf16) (x2 : FVec Ideal S512x1024 .f32) (x3 : FVec Ideal S512x1024 .f32) (x4 : FVec Ideal S512x1024 .f32) (p : Fin 512) (q : Fin 1024) :
    k0_pay2 (F := Ideal) x0 x1 x2 x3 x4 (ix2 p q) = Ideal.ofBits .f32 0x3FD744FD#32 * x2 (ix2 p q) + ∑ k : Fin 2816, x0 (ix2 p k) * x1 (ix3 0 k q) + x3 (ix2 p q) * Ideal.logistic (x4 (ix2 p q)) := by
  pointwise [k0_pay2]

theorem norm_at (x0 : FVec Ideal S512x2816 .bf16) (x1 : FVec Ideal S1x2816x1024 .bf16) (x2 : FVec Ideal S512x1024 .f32) (x3 : FVec Ideal S512x1024 .f32) (x4 : FVec Ideal S512x1024 .f32) (x5 : FVec Ideal S1x1024 .f32) (x6 : FVec Ideal S1x1024 .f32) (p : Fin 512) (q : Fin 1024) :
    k0_pay3 (F := Ideal) x0 x1 x2 x3 x4 x5 x6 (ix2 p q)
      = Fwd.normed (fun d => k0_pay2 (F := Ideal) x0 x1 x2 x3 x4 (ix2 p d)) (fun d => x5 (ix2 0 d)) (fun d => x6 (ix2 0 d)) q := by
  unfold k0_pay3 Fwd.normed Fwd.mean
  generalize k0_pay2 (F := Ideal) x0 x1 x2 x3 x4 = h
  pointwise

theorem out_h (x0 : FVec Ideal S512x2816 .bf16) (x1 : FVec Ideal S1x2816x1024 .bf16) (x2 : FVec Ideal S512x1024 .f32) (x3 : FVec Ideal S512x1024 .f32) (x4 : FVec Ideal S512x1024 .f32) (x5 : FVec Ideal S1x1024 .f32) (x6 : FVec Ideal S1x1024 .f32) :
    out0_7 (F := Ideal) x0 x1 x2 x3 x4 x5 x6 = k0_pay2 (F := Ideal) x0 x1 x2 x3 x4 := by
  have z_S512x2816 : (![0, 0] : Fin S512x2816.rank → Nat) = fun _ => 0 := funext fun a => by fin_cases a <;> rfl
  have z_S1x2816x1024 : (![0, 0, 0] : Fin S1x2816x1024.rank → Nat) = fun _ => 0 := funext fun a => by fin_cases a <;> rfl
  have z_S512x1024 : (![0, 0] : Fin S512x1024.rank → Nat) = fun _ => 0 := funext fun a => by fin_cases a <;> rfl
  unfold out0_7
  rw [View.canon_unit_zero z_S512x1024, View.ld_unit_zero z_S512x2816, View.ld_unit_zero z_S1x2816x1024, View.ld_unit_zero z_S512x1024, View.ld_unit_zero z_S512x1024, View.ld_unit_zero z_S512x1024]

theorem out_y (x0 : FVec Ideal S512x2816 .bf16) (x1 : FVec Ideal S1x2816x1024 .bf16) (x2 : FVec Ideal S512x1024 .f32) (x3 : FVec Ideal S512x1024 .f32) (x4 : FVec Ideal S512x1024 .f32) (x5 : FVec Ideal S1x1024 .f32) (x6 : FVec Ideal S1x1024 .f32) :
    out0_8 (F := Ideal) x0 x1 x2 x3 x4 x5 x6 = k0_pay3 (F := Ideal) x0 x1 x2 x3 x4 x5 x6 := by
  have z_S512x2816 : (![0, 0] : Fin S512x2816.rank → Nat) = fun _ => 0 := funext fun a => by fin_cases a <;> rfl
  have z_S1x2816x1024 : (![0, 0, 0] : Fin S1x2816x1024.rank → Nat) = fun _ => 0 := funext fun a => by fin_cases a <;> rfl
  have z_S512x1024 : (![0, 0] : Fin S512x1024.rank → Nat) = fun _ => 0 := funext fun a => by fin_cases a <;> rfl
  have z_S1x1024 : (![0, 0] : Fin S1x1024.rank → Nat) = fun _ => 0 := funext fun a => by fin_cases a <;> rfl
  unfold out0_8 k0_pay4
  rw [View.canon_unit_zero z_S512x1024, View.ld_unit_zero z_S512x2816, View.ld_unit_zero z_S1x2816x1024, View.ld_unit_zero z_S512x1024, View.ld_unit_zero z_S512x1024, View.ld_unit_zero z_S512x1024, View.ld_unit_zero z_S1x1024, View.ld_unit_zero z_S1x1024]

theorem out_z (x0 : FVec Ideal S512x2816 .bf16) (x1 : FVec Ideal S1x2816x1024 .bf16) (x2 : FVec Ideal S512x1024 .f32) (x3 : FVec Ideal S512x1024 .f32) (x4 : FVec Ideal S512x1024 .f32) (x5 : FVec Ideal S1x1024 .f32) (x6 : FVec Ideal S1x1024 .f32) :
    out0_9 (F := Ideal) x0 x1 x2 x3 x4 x5 x6 = k0_pay1 (F := Ideal) (k0_pay3 (F := Ideal) x0 x1 x2 x3 x4 x5 x6) := by
  have z_S512x2816 : (![0, 0] : Fin S512x2816.rank → Nat) = fun _ => 0 := funext fun a => by fin_cases a <;> rfl
  have z_S1x2816x1024 : (![0, 0, 0] : Fin S1x2816x1024.rank → Nat) = fun _ => 0 := funext fun a => by fin_cases a <;> rfl
  have z_S512x1024 : (![0, 0] : Fin S512x1024.rank → Nat) = fun _ => 0 := funext fun a => by fin_cases a <;> rfl
  have z_S1x1024 : (![0, 0] : Fin S1x1024.rank → Nat) = fun _ => 0 := funext fun a => by fin_cases a <;> rfl
  unfold out0_9 k0_pay4
  rw [View.canon_unit_zero z_S512x1024, View.ld_unit_zero z_S512x2816, View.ld_unit_zero z_S1x2816x1024, View.ld_unit_zero z_S512x1024, View.ld_unit_zero z_S512x1024, View.ld_unit_zero z_S512x1024, View.ld_unit_zero z_S1x1024, View.ld_unit_zero z_S1x1024]

theorem idx (t : Fin cfg0.N) : win0_0.index t = ![t.val, 0]
    ∧ win0_1.index t = ![0, 0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0] ∧ win0_8.index t = ![t.val, 0] ∧ win0_9.index t = ![t.val, 0] := by
  revert t
  decide +kernel

variable (m : (ℓ : Loc nD τ sig) → Buf (Elt Ideal) ℓ) (c : Dev nD)

theorem in0 (t : Fin cfg0.N) (p : Fin 512) (d : Fin 2816) (hp : 512 * t.val + p.val < 4096) :
    iblk m c 0 t (ix2 p d) = m ((c : Thread nD τ).loc main_arg0) (ix2 ⟨512 * t.val + p.val, hp⟩ d) := by
  obtain ⟨i, -, -, -, -, -, -, -, -, -⟩ := idx t
  blk_ext [iblk, V_main_arg0, i]

theorem in1 (t : Fin cfg0.N) (d : Fin 2816) (q : Fin 1024) :
    iblk m c 1 t (ix3 0 d q) = m ((c : Thread nD τ).loc main_arg1) (ix3 0 d q) := by
  obtain ⟨-, i, -, -, -, -, -, -, -, -⟩ := idx t
  blk_ext [iblk, V_main_arg1, i]

theorem in2 (t : Fin cfg0.N) (p : Fin 512) (d : Fin 1024) (hp : 512 * t.val + p.val < 4096) :
    iblk m c 2 t (ix2 p d) = m ((c : Thread nD τ).loc main_arg2) (ix2 ⟨512 * t.val + p.val, hp⟩ d) := by
  obtain ⟨-, -, i, -, -, -, -, -, -, -⟩ := idx t
  blk_ext [iblk, V_main_arg2, i]

theorem in3 (t : Fin cfg0.N) (p : Fin 512) (d : Fin 1024) (hp : 512 * t.val + p.val < 4096) :
    iblk m c 3 t (ix2 p d) = m ((c : Thread nD τ).loc main_arg3) (ix2 ⟨512 * t.val + p.val, hp⟩ d) := by
  obtain ⟨-, -, -, i, -, -, -, -, -, -⟩ := idx t
  blk_ext [iblk, V_main_arg3, i]

theorem in4 (t : Fin cfg0.N) (p : Fin 512) (d : Fin 1024) (hp : 512 * t.val + p.val < 4096) :
    iblk m c 4 t (ix2 p d) = m ((c : Thread nD τ).loc main_arg4) (ix2 ⟨512 * t.val + p.val, hp⟩ d) := by
  obtain ⟨-, -, -, -, i, -, -, -, -, -⟩ := idx t
  blk_ext [iblk, V_main_arg4, i]

theorem in5 (t : Fin cfg0.N) (d : Fin 1024) :
    iblk m c 5 t (ix2 0 d) = m ((c : Thread nD τ).loc main_arg5) (ix2 0 d) := by
  obtain ⟨-, -, -, -, -, i, -, -, -, -⟩ := idx t
  blk_ext [iblk, V_main_arg5, i]

theorem in6 (t : Fin cfg0.N) (d : Fin 1024) :
    iblk m c 6 t (ix2 0 d) = m ((c : Thread nD τ).loc main_arg6) (ix2 0 d) := by
  obtain ⟨-, -, -, -, -, -, i, -, -, -⟩ := idx t
  blk_ext [iblk, V_main_arg6, i]

/-- The block of a grid point holds the rows from `512 * t` on. -/
theorem block_total (t : Fin cfg0.N) (p : Fin 512) (hp : 512 * t.val + p.val < 4096) (q : Fin 1024) :
    k0_pay2 (F := Ideal) (iblk m c 0 t) (iblk m c 1 t) (iblk m c 2 t) (iblk m c 3 t) (iblk m c 4 t) (ix2 p q)
      = totalAt (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + p.val, hp⟩ q := by
  refine (total_at _ _ _ _ _ p q).trans ?_
  simp only [in0 m c t p _ hp, in1 m c t _ _, in2 m c t p _ hp, in3 m c t p _ hp, in4 m c t p _ hp]
  rfl

theorem block_norm (t : Fin cfg0.N) (p : Fin 512) (hp : 512 * t.val + p.val < 4096) (q : Fin 1024) :
    k0_pay3 (F := Ideal) (iblk m c 0 t) (iblk m c 1 t) (iblk m c 2 t) (iblk m c 3 t) (iblk m c 4 t) (iblk m c 5 t) (iblk m c 6 t) (ix2 p q)
      = Fwd.normed (totalAt (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + p.val, hp⟩)
        (fun d => m ((c : Thread nD τ).loc main_arg5) (ix2 0 d)) (fun d => m ((c : Thread nD τ).loc main_arg6) (ix2 0 d)) q := by
  refine (norm_at _ _ _ _ _ _ _ p q).trans ?_
  simp only [block_total m c t p hp, in5 m c t, in6 m c t]

theorem place (f : Fin 4096 → Fin 1024 → EReal) (t : Fin cfg0.N) (i : S4096x1024.Idx) (p : Fin 512) (q : Fin 1024)
    (h0 : (i 0).val = t.val * 512 + 1 * p.val) (h1 : (i 1).val = 0 * 1024 + 1 * q.val) (hp : 512 * t.val + p.val < 4096) :
    f ⟨512 * t.val + p.val, hp⟩ q = f (i 0) (i 1) := by
  have e0 : i 0 = (⟨512 * t.val + p.val, hp⟩ : Fin 4096) := Fin.ext (by rw [h0]; simp; omega)
  have e1 : i 1 = q := Fin.ext (by rw [h1]; simp)
  rw [e0, e1]

theorem array_h : (dats m 0 c).arrAt 7 cfg0.N
    = total (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨-, -, -, -, -, -, -, i, -, -⟩ := idx t
  have e : y = ix2 (y 0) (y 1) := by
    funext a
    match a with
    | 0 => rfl
    | 1 => rfl
  have ht : t.val < 8 := t.isLt
  have hp : (y 0).val < 512 := (y 0).isLt
  have e0 : (((cfg0.win 7).blk t).view.emb y 0).val = t.val * 512 + 1 * (y 0).val :=
    (show _ = win0_7.index t (0 : Fin 2) * 512 + 1 * (y 0).val from rfl).trans (by rw [i]; rfl)
  have e1 : (((cfg0.win 7).blk t).view.emb y 1).val = 0 * 1024 + 1 * (y 1).val :=
    (show _ = win0_7.index t (1 : Fin 2) * 1024 + 1 * (y 1).val from rfl).trans (by rw [i]; rfl)
  blk_simp
  rw [after0_7, out_h]
  refine (congrArg _ e).trans ?_
  refine (block_total m c t (y 0) (by omega) (y 1)).trans (place (totalAt (m ((c : Thread nD τ).loc main_arg0)) (m ((c : Thread nD τ).loc main_arg1)) (m ((c : Thread nD τ).loc main_arg2)) (m ((c : Thread nD τ).loc main_arg3)) (m ((c : Thread nD τ).loc main_arg4))) t _ _ _ ?_ ?_ (by omega))
  · exact e0
  · exact e1

theorem array_y : (dats m 0 c).arrAt 8 cfg0.N
    = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨-, -, -, -, -, -, -, -, i, -⟩ := idx t
  have e : y = ix2 (y 0) (y 1) := by
    funext a
    match a with
    | 0 => rfl
    | 1 => rfl
  have ht : t.val < 8 := t.isLt
  have hp : (y 0).val < 512 := (y 0).isLt
  have e0 : (((cfg0.win 8).blk t).view.emb y 0).val = t.val * 512 + 1 * (y 0).val :=
    (show _ = win0_8.index t (0 : Fin 2) * 512 + 1 * (y 0).val from rfl).trans (by rw [i]; rfl)
  have e1 : (((cfg0.win 8).blk t).view.emb y 1).val = 0 * 1024 + 1 * (y 1).val :=
    (show _ = win0_8.index t (1 : Fin 2) * 1024 + 1 * (y 1).val from rfl).trans (by rw [i]; rfl)
  blk_simp
  rw [after0_8, out_y]
  refine (congrArg _ e).trans ?_
  refine (block_norm m c t (y 0) (by omega) (y 1)).trans (place (fun k => Fwd.normed (totalAt (m ((c : Thread nD τ).loc main_arg0)) (m ((c : Thread nD τ).loc main_arg1)) (m ((c : Thread nD τ).loc main_arg2)) (m ((c : Thread nD τ).loc main_arg3)) (m ((c : Thread nD τ).loc main_arg4)) k)
    (fun d => m ((c : Thread nD τ).loc main_arg5) (ix2 0 d)) (fun d => m ((c : Thread nD τ).loc main_arg6) (ix2 0 d))) t _ _ _ ?_ ?_ (by omega))
  · exact e0
  · exact e1

theorem array_z : (dats m 0 c).arrAt 9 cfg0.N
    = normLow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨-, -, -, -, -, -, -, -, -, i⟩ := idx t
  have e : y = ix2 (y 0) (y 1) := by
    funext a
    match a with
    | 0 => rfl
    | 1 => rfl
  have ht : t.val < 8 := t.isLt
  have hp : (y 0).val < 512 := (y 0).isLt
  have e0 : (((cfg0.win 9).blk t).view.emb y 0).val = t.val * 512 + 1 * (y 0).val :=
    (show _ = win0_9.index t (0 : Fin 2) * 512 + 1 * (y 0).val from rfl).trans (by rw [i]; rfl)
  have e1 : (((cfg0.win 9).blk t).view.emb y 1).val = 0 * 1024 + 1 * (y 1).val :=
    (show _ = win0_9.index t (1 : Fin 2) * 1024 + 1 * (y 1).val from rfl).trans (by rw [i]; rfl)
  blk_simp
  rw [after0_9, out_z]
  refine (congrArg _ e).trans ?_
  refine (block_norm m c t (y 0) (by omega) (y 1)).trans (place (fun k => Fwd.normed (totalAt (m ((c : Thread nD τ).loc main_arg0)) (m ((c : Thread nD τ).loc main_arg1)) (m ((c : Thread nD τ).loc main_arg2)) (m ((c : Thread nD τ).loc main_arg3)) (m ((c : Thread nD τ).loc main_arg4)) k)
    (fun d => m ((c : Thread nD τ).loc main_arg5) (ix2 0 d)) (fun d => m ((c : Thread nD τ).loc main_arg6) (ix2 0 d))) t _ _ _ ?_ ?_ (by omega))
  · exact e0
  · exact e1

end Cert.Kernel26Ideal.Value

namespace Cert.Reference26Ideal.Value

open Cert.Reference26Ideal Cert.Reference26Ideal.Gen

/-! ## The reference, its operations grouped -/

def totalOf (a : FVec Ideal S4096x2816 .bf16) (w : FVec Ideal S1x2816x1024 .bf16) (x : FVec Ideal S4096x1024 .f32) (pp : FVec Ideal S4096x1024 .f32) (gl : FVec Ideal S4096x1024 .f32) : FVec Ideal S4096x1024 .f32 :=
  addf (addf (mulf (broadcastInDim S4096x1024 ![] bcast_S_S4096x1024 (constant S_ .f32 0x3FD744FD#32)) x)
      (Host.dotGeneral dot_S4096x2816_S2816x1024_S4096x1024_1_0_0_1_n_n none (extf .f32 a bitsLt_bf16_f32)
        (shapeCast _ (extf .f32 w bitsLt_bf16_f32) shapeCasts_S1x2816x1024_S2816x1024)))
    (mulf pp (Host.divf (broadcastInDim S4096x1024 ![] bcast_S_S4096x1024 (constant S_ .f32 0x3F800000#32))
      (addf (broadcastInDim S4096x1024 ![] bcast_S_S4096x1024 (constant S_ .f32 0x3F800000#32)) (Host.exp (Host.negf gl)))))

def meanOf (h : FVec Ideal S4096x1024 .f32) : FVec Ideal S4096x1 .f32 :=
  Host.divf (broadcastInDim S4096x1 ![0] bcast_S4096_S4096x1_0
      (Host.reduceAdd h (constant S_ .f32 0x00000000#32) reducesTo_S4096x1024_S4096_d1 h_S_))
    (broadcastInDim S4096x1 ![] bcast_S_S4096x1 (constant S_ .f32 0x44800000#32))

def centred (h : FVec Ideal S4096x1024 .f32) : FVec Ideal S4096x1024 .f32 :=
  subf h (broadcastInDim S4096x1024 ![0, 1] bcast_S4096x1_S4096x1024_0_1 (meanOf h))

def normOf (h : FVec Ideal S4096x1024 .f32) (g b : FVec Ideal S1x1024 .f32) : FVec Ideal S4096x1024 .f32 :=
  addf (mulf (mulf (centred h) (broadcastInDim S4096x1024 ![0, 1] bcast_S4096x1_S4096x1024_0_1
      (Host.rsqrt (addf (meanOf (mulf (centred h) (centred h))) (broadcastInDim S4096x1 ![] bcast_S_S4096x1 (constant S_ .f32 0x3727C5AC#32))))))
      (broadcastInDim S4096x1024 ![0, 1] bcast_S1x1024_S4096x1024_0_1 g))
    (broadcastInDim S4096x1024 ![0, 1] bcast_S1x1024_S4096x1024_0_1 b)

theorem total_at (a : FVec Ideal S4096x2816 .bf16) (w : FVec Ideal S1x2816x1024 .bf16) (x : FVec Ideal S4096x1024 .f32) (pp : FVec Ideal S4096x1024 .f32) (gl : FVec Ideal S4096x1024 .f32)
    (i : Fin 4096) (q : Fin 1024) : totalOf a w x pp gl (ix2 i q) = Cert.Kernel26Ideal.Value.totalAt a w x pp gl i q := by
  pointwise [totalOf]
  rfl

theorem mean_at (h : FVec Ideal S4096x1024 .f32) (i : Fin 4096) : meanOf h (ix2 i 0) = Fwd.mean (fun d => h (ix2 i d)) := by
  pointwise [meanOf]
  rfl

theorem centred_at (h : FVec Ideal S4096x1024 .f32) (i : Fin 4096) (q : Fin 1024) :
    centred h (ix2 i q) = h (ix2 i q) - Fwd.mean (fun d => h (ix2 i d)) := by
  pointwise [centred]
  rw [mean_at]

theorem norm_at (h : FVec Ideal S4096x1024 .f32) (g b : FVec Ideal S1x1024 .f32) (i : Fin 4096) (q : Fin 1024) :
    normOf h g b (ix2 i q) = Fwd.normed (fun d => h (ix2 i d)) (fun d => g (ix2 0 d)) (fun d => b (ix2 0 d)) q := by
  pointwise [normOf]
  rw [mean_at]
  simp only [centred_at]
  pointwise
  simp only [centred_at]
  rfl

theorem at_ix (i : S4096x1024.Idx) : i = ix2 (i 0) (i 1) := by
  funext a
  match a with
  | 0 => rfl
  | 1 => rfl

theorem array_h (a : FVec Ideal S4096x2816 .bf16) (w : FVec Ideal S1x2816x1024 .bf16) (x : FVec Ideal S4096x1024 .f32) (pp : FVec Ideal S4096x1024 .f32) (gl : FVec Ideal S4096x1024 .f32) :
    totalOf a w x pp gl = Cert.Kernel26Ideal.Value.total a w x pp gl := by
  funext i
  exact (congrArg _ (at_ix i)).trans (total_at _ _ _ _ _ (i 0) (i 1))

theorem array_y (a : FVec Ideal S4096x2816 .bf16) (w : FVec Ideal S1x2816x1024 .bf16) (x : FVec Ideal S4096x1024 .f32) (pp : FVec Ideal S4096x1024 .f32) (gl : FVec Ideal S4096x1024 .f32) (g : FVec Ideal S1x1024 .f32) (b : FVec Ideal S1x1024 .f32) :
    normOf (totalOf a w x pp gl) g b = Cert.Kernel26Ideal.Value.norm a w x pp gl g b := by
  funext i
  refine (congrArg _ (at_ix i)).trans ((norm_at _ g b (i 0) (i 1)).trans ?_)
  exact congrArg (fun f => Fwd.normed f (fun d => g (ix2 0 d)) (fun d => b (ix2 0 d)) (i 1))
    (funext fun d => total_at _ _ _ _ _ (i 0) d)

theorem array_z (a : FVec Ideal S4096x2816 .bf16) (w : FVec Ideal S1x2816x1024 .bf16) (x : FVec Ideal S4096x1024 .f32) (pp : FVec Ideal S4096x1024 .f32) (gl : FVec Ideal S4096x1024 .f32) (g : FVec Ideal S1x1024 .f32) (b : FVec Ideal S1x1024 .f32) :
    truncf .bf16 (normOf (totalOf a w x pp gl) g b) bitsLt_bf16_f32 = Cert.Kernel26Ideal.Value.normLow a w x pp gl g b :=
  array_y a w x pp gl g b

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2.2.2, sem_eq_zero_of_no_sems rfl r.2⟩) (run m g)

end Cert.Reference26Ideal.Value

end
-- ==== Proof.PleGate.lean ====
/-
  The twenty-fifth kernel's result at an index: the product of the rows of its first argument with columns of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel25Ideal.Value
public import proofs.«01_k».proof.Proof.Gen.Reference25Ideal.Run

@[expose] public section

set_option maxRecDepth 16384

noncomputable section

open Idealize.ShloMosaic Idealize.ShloMosaic.TcCoe Idealize.SL.Sem

namespace Cert.Kernel25Ideal.Value

open Cert.Kernel25Ideal Cert.Kernel25Ideal.Gen

/-- The product, the contraction running over the model's width. -/
def product (a : FVec Ideal S4096x1024 .bf16) (w : FVec Ideal S1x1024x1024 .bf16) : FVec Ideal S4096x1024 .f32 :=
  fun i => ∑ d : Fin 1024, a (ix2 (i 0) d) * w (ix3 0 d ⟨0 + (i 1).val, have : (i 1).val < 1024 := (i 1).isLt; by omega⟩)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 d q) := by
  pointwise [k0_pay1]

theorem out_eq (x : FVec Ideal S2048x1024 .bf16) (w : FVec Ideal S1x1024x1024 .bf16) :
    out0_2 (F := Ideal) x w = k0_pay1 (F := Ideal) x w := by
  have h2 : (![0, 0] : Fin S2048x1024.rank → Nat) = fun _ => 0 := funext fun a => by fin_cases a <;> rfl
  have h1 : (![0, 0, 0] : Fin S1x1024x1024.rank → Nat) = fun _ => 0 := funext fun a => by fin_cases a <;> rfl
  unfold out0_2
  rw [View.canon_unit_zero h2, View.ld_unit_zero h2, View.ld_unit_zero h1]

theorem idx (t : Fin cfg0.N) : win0_0.index t = ![t.val / 1, 0] ∧ win0_1.index t = ![0, 0, 0 + t.val % 1]
    ∧ win0_2.index t = ![t.val / 1, t.val % 1] := by
  revert t
  decide +kernel

variable (m : (ℓ : Loc nD τ sig) → Buf (Elt Ideal) ℓ) (c : Dev nD)

theorem in0 (t : Fin cfg0.N) (p : Fin 2048) (d : Fin 1024) (hp : 2048 * (t.val / 1) + p.val < 4096) :
    iblk m c 0 t (ix2 p d) = m ((c : Thread nD τ).loc main_arg0) (ix2 ⟨2048 * (t.val / 1) + p.val, hp⟩ d) := by
  obtain ⟨i, -, -⟩ := idx t
  blk_ext [iblk, V_main_arg0, i]

theorem in1 (t : Fin cfg0.N) (q : Fin 1024) (d : Fin 1024) (hq : 1024 * (t.val % 1) + q.val < 1024) :
    iblk m c 1 t (ix3 0 d q) = m ((c : Thread nD τ).loc main_arg1) (ix3 0 d ⟨0 + (1024 * (t.val % 1) + q.val), by omega⟩) := by
  obtain ⟨-, i, -⟩ := idx t
  show V m c main_arg1 _ = _
  rw [V_main_arg1]
  refine congrArg (m ((c : Thread nD τ).loc main_arg1)) (funext fun x => match x with
    | 0 => Subsingleton.elim (α := Fin 1) _ _
    | 1 => Fin.ext ?_
    | 2 => Fin.ext ?_)
  · exact (show _ = win0_1.index t (1 : Fin 3) * 1024 + 1 * d.val from rfl).trans (by rw [i]; simp)
  · exact (show _ = win0_1.index t (2 : Fin 3) * 1024 + 1 * q.val from rfl).trans (by rw [i]; simp; omega)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 2 := t.isLt
  have hp : (y 0).val < 2048 := (y 0).isLt
  have hq : (y 1).val < 1024 := (y 1).isLt
  have e0 : ((cfg0.win 2).blk t).view.emb y 0 = (⟨2048 * (t.val / 1) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 1) + (y 1).val :=
    (show _ = win0_2.index t (1 : Fin 2) * 1024 + 1 * (y 1).val from rfl).trans (by rw [i]; simp; omega)
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 d k)) (Fin.ext (congrArg (0 + ·) e1.symm))

end Cert.Kernel25Ideal.Value

namespace Cert.Reference25Ideal.Value

open Cert.Reference25Ideal Cert.Reference25Ideal.Gen

theorem array (a : FVec Ideal S4096x1024 .bf16) (w : FVec Ideal S1x1024x1024 .bf16) :
    Host.dotGeneral dot_S4096x1024_S1024x1024_S4096x1024_1_0_0_1_n_n none (extf .f32 a bitsLt_bf16_f32) (shapeCast _ (extf .f32 w bitsLt_bf16_f32) shapeCasts_S1x1024x1024_S1024x1024)
      = Cert.Kernel25Ideal.Value.product a w := by
  funext i
  unfold Cert.Kernel25Ideal.Value.product
  pointwise
  try exact Finset.sum_congr rfl fun d _ => congrArg (a (ix2 (i 0) d) * ·) (congrArg (fun k => w (ix3 0 d k)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference25Ideal.Value

end
-- ==== Proof.InGate.lean ====
/-
  The twenty-fourth kernel's result at an index: the product of the rows of its first argument with columns of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel24Ideal.Value
public import proofs.«01_k».proof.Proof.Gen.Reference24Ideal.Run

@[expose] public section

set_option maxRecDepth 16384

noncomputable section

open Idealize.ShloMosaic Idealize.ShloMosaic.TcCoe Idealize.SL.Sem

namespace Cert.Kernel24Ideal.Value

open Cert.Kernel24Ideal Cert.Kernel24Ideal.Gen

/-- The product, the contraction running over the model's width. -/
def product (a : FVec Ideal S4096x1024 .bf16) (w : FVec Ideal S1x1024x5136 .bf16) : FVec Ideal S4096x1024 .f32 :=
  fun i => ∑ d : Fin 1024, a (ix2 (i 0) d) * w (ix3 0 d ⟨2048 + (i 1).val, have : (i 1).val < 1024 := (i 1).isLt; by omega⟩)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 d q) := by
  pointwise [k0_pay1]

theorem idx (t : Fin cfg0.N) : win0_0.index t = ![t.val / 1, 0] ∧ win0_1.index t = ![0, 0, 2 + t.val % 1]
    ∧ win0_2.index t = ![t.val / 1, t.val % 1] := by
  revert t
  decide +kernel

variable (m : (ℓ : Loc nD τ sig) → Buf (Elt Ideal) ℓ) (c : Dev nD)

theorem in0 (t : Fin cfg0.N) (p : Fin 2048) (d : Fin 1024) (hp : 2048 * (t.val / 1) + p.val < 4096) :
    iblk m c 0 t (ix2 p d) = m ((c : Thread nD τ).loc main_arg0) (ix2 ⟨2048 * (t.val / 1) + p.val, hp⟩ d) := by
  obtain ⟨i, -, -⟩ := idx t
  blk_ext [iblk, V_main_arg0, i]

/-- The weight with its columns padded. -/
def weight (x : FVec Ideal S1x1024x5136 .bf16) : FVec Ideal S1x1024x5248 .bf16 :=
  pad S1x1024x5248 ![0, 0, 0] ![0, 0, 112] ![0, 0, 0] x (sitofp .bf16 (constantI S_ 32 0#32)) pads_S1x1024x5136_S1x1024x5248_000_000_01120 h_S_

theorem V_main_v0 : V m c main_v0 = weight (m ((c : Thread nD τ).loc main_arg1)) := by
  first
    | simp only [V, hostOps0]
      entry_read
      rfl
    | simp only [V, hostOps0, hostOps0_1, hostOps0_2, List.flatten_cons, List.flatten_nil, List.append_nil, List.cons_append,
        List.nil_append]
      entry_read
      rfl

theorem weight_at (x : FVec Ideal S1x1024x5136 .bf16) (r : Fin 1024) (k : Fin 5248) (h : k.val < 5136) :
    weight x (ix3 0 r k) = x (ix3 0 r ⟨k.val, h⟩) := by
  pointwise [weight]
  exact dif_pos h

theorem in1 (t : Fin cfg0.N) (q : Fin 1024) (d : Fin 1024) (hq : 1024 * (t.val % 1) + q.val < 1024) :
    X0_1 m c t (ix3 0 d q) = m ((c : Thread nD τ).loc main_arg1) (ix3 0 d ⟨2048 + (1024 * (t.val % 1) + q.val), by omega⟩) := by
  unfold X0_1 Pipeline.Window.fill
  rw [dif_pos (moved0_1 t _)]
  obtain ⟨-, i, -⟩ := idx t
  refine Eq.trans (b := V m c main_v0 (ix3 0 d ⟨2048 + (1024 * (t.val % 1) + q.val), by omega⟩)) ?_ ?_
  · show V m c main_v0 _ = _
    refine congrArg (V m c main_v0) (funext fun x => match x with
      | 0 => Subsingleton.elim (α := Fin 1) _ _
      | 1 => Fin.ext ?_
      | 2 => Fin.ext ?_)
    · exact (show _ = win0_1.index t (1 : Fin 3) * 1024 + 1 * d.val from rfl).trans (by rw [i]; simp)
    · exact (show _ = win0_1.index t (2 : Fin 3) * 1024 + 1 * q.val from rfl).trans (by rw [i]; simp; omega)
  rw [V_main_v0]
  exact weight_at _ _ _ (show 2048 + (1024 * (t.val % 1) + q.val) < 5136 by omega)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 2 := t.isLt
  have hp : (y 0).val < 2048 := (y 0).isLt
  have hq : (y 1).val < 1024 := (y 1).isLt
  have e0 : ((cfg0.win 2).blk t).view.emb y 0 = (⟨2048 * (t.val / 1) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 1) + (y 1).val :=
    (show _ = win0_2.index t (1 : Fin 2) * 1024 + 1 * (y 1).val from rfl).trans (by rw [i]; simp; omega)
  blk_simp
  rw [after0_2]
  unfold outsAt0
  frame_open; simp (disch := decide) only [↓ View.readCov_skip, ↓ View.readCov_cons_toLoadRect, ↓ View.readCov_fill]; frame_out; try simp only [read_unread_whole]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 d k)) (Fin.ext (congrArg (2048 + ·) e1.symm))

end Cert.Kernel24Ideal.Value

namespace Cert.Reference24Ideal.Value

open Cert.Reference24Ideal Cert.Reference24Ideal.Gen

theorem array (a : FVec Ideal S4096x1024 .bf16) (w : FVec Ideal S1x1024x5136 .bf16) :
    extractStridedSlice S4096x1024 ![0, 2048] (Host.dotGeneral dot_S4096x1024_S1024x5136_S4096x5136_1_0_0_1_n_n none (extf .f32 a bitsLt_bf16_f32) (shapeCast _ (extf .f32 w bitsLt_bf16_f32) shapeCasts_S1x1024x5136_S1024x5136)) slices_S4096x5136_S4096x1024_0_2048
      = Cert.Kernel24Ideal.Value.product a w := by
  funext i
  unfold Cert.Kernel24Ideal.Value.product
  pointwise
  try exact Finset.sum_congr rfl fun d _ => congrArg (a (ix2 (i 0) d) * ·) (congrArg (fun k => w (ix3 0 d k)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference24Ideal.Value

end
-- ==== Proof.InScan.lean ====
/-
  The twenty-third kernel's result at an index: the product of the rows of its first argument with columns of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel23Ideal.Value
public import proofs.«01_k».proof.Proof.Gen.Reference23Ideal.Run

@[expose] public section

set_option maxRecDepth 16384

noncomputable section

open Idealize.ShloMosaic Idealize.ShloMosaic.TcCoe Idealize.SL.Sem

namespace Cert.Kernel23Ideal.Value

open Cert.Kernel23Ideal Cert.Kernel23Ideal.Gen

/-- The product, the contraction running over the model's width. -/
def product (a : FVec Ideal S4096x1024 .bf16) (w : FVec Ideal S1x1024x5136 .bf16) : FVec Ideal S4096x2048 .bf16 :=
  fun i => ∑ d : Fin 1024, a (ix2 (i 0) d) * w (ix3 0 d ⟨3072 + (i 1).val, have : (i 1).val < 2048 := (i 1).isLt; by omega⟩)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 d q) := by
  pointwise [k0_pay1]

theorem idx (t : Fin cfg0.N) : win0_0.index t = ![t.val / 2, 0] ∧ win0_1.index t = ![0, 0, 3 + t.val % 2]
    ∧ win0_2.index t = ![t.val / 2, t.val % 2] := by
  revert t
  decide +kernel

variable (m : (ℓ : Loc nD τ sig) → Buf (Elt Ideal) ℓ) (c : Dev nD)

theorem in0 (t : Fin cfg0.N) (p : Fin 2048) (d : Fin 1024) (hp : 2048 * (t.val / 2) + p.val < 4096) :
    iblk m c 0 t (ix2 p d) = m ((c : Thread nD τ).loc main_arg0) (ix2 ⟨2048 * (t.val / 2) + p.val, hp⟩ d) := by
  obtain ⟨i, -, -⟩ := idx t
  blk_ext [iblk, V_main_arg0, i]

/-- The weight with its columns padded. -/
def weight (x : FVec Ideal S1x1024x5136 .bf16) : FVec Ideal S1x1024x5248 .bf16 :=
  pad S1x1024x5248 ![0, 0, 0] ![0, 0, 112] ![0, 0, 0] x (sitofp .bf16 (constantI S_ 32 0#32)) pads_S1x1024x5136_S1x1024x5248_000_000_01120 h_S_

theorem V_main_v0 : V m c main_v0 = weight (m ((c : Thread nD τ).loc main_arg1)) := by
  first
    | simp only [V, hostOps0]
      entry_read
      rfl
    | simp only [V, hostOps0, hostOps0_1, hostOps0_2, List.flatten_cons, List.flatten_nil, List.append_nil, List.cons_append,
        List.nil_append]
      entry_read
      rfl

theorem weight_at (x : FVec Ideal S1x1024x5136 .bf16) (r : Fin 1024) (k : Fin 5248) (h : k.val < 5136) :
    weight x (ix3 0 r k) = x (ix3 0 r ⟨k.val, h⟩) := by
  pointwise [weight]
  exact dif_pos h

theorem in1 (t : Fin cfg0.N) (q : Fin 1024) (d : Fin 1024) (hq : 1024 * (t.val % 2) + q.val < 2048) :
    X0_1 m c t (ix3 0 d q) = m ((c : Thread nD τ).loc main_arg1) (ix3 0 d ⟨3072 + (1024 * (t.val % 2) + q.val), by omega⟩) := by
  unfold X0_1 Pipeline.Window.fill
  rw [dif_pos (moved0_1 t _)]
  obtain ⟨-, i, -⟩ := idx t
  refine Eq.trans (b := V m c main_v0 (ix3 0 d ⟨3072 + (1024 * (t.val % 2) + q.val), by omega⟩)) ?_ ?_
  · show V m c main_v0 _ = _
    refine congrArg (V m c main_v0) (funext fun x => match x with
      | 0 => Subsingleton.elim (α := Fin 1) _ _
      | 1 => Fin.ext ?_
      | 2 => Fin.ext ?_)
    · exact (show _ = win0_1.index t (1 : Fin 3) * 1024 + 1 * d.val from rfl).trans (by rw [i]; simp)
    · exact (show _ = win0_1.index t (2 : Fin 3) * 1024 + 1 * q.val from rfl).trans (by rw [i]; simp; omega)
  rw [V_main_v0]
  exact weight_at _ _ _ (show 3072 + (1024 * (t.val % 2) + q.val) < 5136 by omega)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 4 := t.isLt
  have hp : (y 0).val < 2048 := (y 0).isLt
  have hq : (y 1).val < 1024 := (y 1).isLt
  have e0 : ((cfg0.win 2).blk t).view.emb y 0 = (⟨2048 * (t.val / 2) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 2) + (y 1).val :=
    (show _ = win0_2.index t (1 : Fin 2) * 1024 + 1 * (y 1).val from rfl).trans (by rw [i]; simp; omega)
  blk_simp
  rw [after0_2]
  unfold outsAt0
  frame_open; simp (disch := decide) only [↓ View.readCov_skip, ↓ View.readCov_cons_toLoadRect, ↓ View.readCov_fill]; frame_out; try simp only [read_unread_whole]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 d k)) (Fin.ext (congrArg (3072 + ·) e1.symm))

end Cert.Kernel23Ideal.Value

namespace Cert.Reference23Ideal.Value

open Cert.Reference23Ideal Cert.Reference23Ideal.Gen

theorem array (a : FVec Ideal S4096x1024 .bf16) (w : FVec Ideal S1x1024x5136 .bf16) :
    truncf .bf16 (extractStridedSlice S4096x2048 ![0, 3072] (Host.dotGeneral dot_S4096x1024_S1024x5136_S4096x5136_1_0_0_1_n_n none (extf .f32 a bitsLt_bf16_f32) (shapeCast _ (extf .f32 w bitsLt_bf16_f32) shapeCasts_S1x1024x5136_S1024x5136)) slices_S4096x5136_S4096x2048_0_3072) bitsLt_bf16_f32
      = Cert.Kernel23Ideal.Value.product a w := by
  funext i
  unfold Cert.Kernel23Ideal.Value.product
  pointwise
  try exact Finset.sum_congr rfl fun d _ => congrArg (a (ix2 (i 0) d) * ·) (congrArg (fun k => w (ix3 0 d k)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference23Ideal.Value

end
-- ==== Proof.InFirst.lean ====
/-
  The twenty-second kernel's result at an index: the product of the rows of its first argument with columns of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel22Ideal.Value
public import proofs.«01_k».proof.Proof.Gen.Reference22Ideal.Run

@[expose] public section

set_option maxRecDepth 16384

noncomputable section

open Idealize.ShloMosaic Idealize.ShloMosaic.TcCoe Idealize.SL.Sem

namespace Cert.Kernel22Ideal.Value

open Cert.Kernel22Ideal Cert.Kernel22Ideal.Gen

/-- The product, the contraction running over the model's width. -/
def product (a : FVec Ideal S4096x1024 .bf16) (w : FVec Ideal S1x1024x5136 .bf16) : FVec Ideal S4096x2048 .bf16 :=
  fun i => ∑ d : Fin 1024, a (ix2 (i 0) d) * w (ix3 0 d ⟨0 + (i 1).val, have : (i 1).val < 2048 := (i 1).isLt; by omega⟩)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 d q) := by
  pointwise [k0_pay1]

theorem idx (t : Fin cfg0.N) : win0_0.index t = ![t.val / 2, 0] ∧ win0_1.index t = ![0, 0, 0 + t.val % 2]
    ∧ win0_2.index t = ![t.val / 2, t.val % 2] := by
  revert t
  decide +kernel

variable (m : (ℓ : Loc nD τ sig) → Buf (Elt Ideal) ℓ) (c : Dev nD)

theorem in0 (t : Fin cfg0.N) (p : Fin 2048) (d : Fin 1024) (hp : 2048 * (t.val / 2) + p.val < 4096) :
    iblk m c 0 t (ix2 p d) = m ((c : Thread nD τ).loc main_arg0) (ix2 ⟨2048 * (t.val / 2) + p.val, hp⟩ d) := by
  obtain ⟨i, -, -⟩ := idx t
  blk_ext [iblk, V_main_arg0, i]

/-- The weight with its columns padded. -/
def weight (x : FVec Ideal S1x1024x5136 .bf16) : FVec Ideal S1x1024x5248 .bf16 :=
  pad S1x1024x5248 ![0, 0, 0] ![0, 0, 112] ![0, 0, 0] x (sitofp .bf16 (constantI S_ 32 0#32)) pads_S1x1024x5136_S1x1024x5248_000_000_01120 h_S_

theorem V_main_v0 : V m c main_v0 = weight (m ((c : Thread nD τ).loc main_arg1)) := by
  first
    | simp only [V, hostOps0]
      entry_read
      rfl
    | simp only [V, hostOps0, hostOps0_1, hostOps0_2, List.flatten_cons, List.flatten_nil, List.append_nil, List.cons_append,
        List.nil_append]
      entry_read
      rfl

theorem weight_at (x : FVec Ideal S1x1024x5136 .bf16) (r : Fin 1024) (k : Fin 5248) (h : k.val < 5136) :
    weight x (ix3 0 r k) = x (ix3 0 r ⟨k.val, h⟩) := by
  pointwise [weight]
  exact dif_pos h

theorem in1 (t : Fin cfg0.N) (q : Fin 1024) (d : Fin 1024) (hq : 1024 * (t.val % 2) + q.val < 2048) :
    X0_1 m c t (ix3 0 d q) = m ((c : Thread nD τ).loc main_arg1) (ix3 0 d ⟨0 + (1024 * (t.val % 2) + q.val), by omega⟩) := by
  unfold X0_1 Pipeline.Window.fill
  rw [dif_pos (moved0_1 t _)]
  obtain ⟨-, i, -⟩ := idx t
  refine Eq.trans (b := V m c main_v0 (ix3 0 d ⟨0 + (1024 * (t.val % 2) + q.val), by omega⟩)) ?_ ?_
  · show V m c main_v0 _ = _
    refine congrArg (V m c main_v0) (funext fun x => match x with
      | 0 => Subsingleton.elim (α := Fin 1) _ _
      | 1 => Fin.ext ?_
      | 2 => Fin.ext ?_)
    · exact (show _ = win0_1.index t (1 : Fin 3) * 1024 + 1 * d.val from rfl).trans (by rw [i]; simp)
    · exact (show _ = win0_1.index t (2 : Fin 3) * 1024 + 1 * q.val from rfl).trans (by rw [i]; simp; omega)
  rw [V_main_v0]
  exact weight_at _ _ _ (show 0 + (1024 * (t.val % 2) + q.val) < 5136 by omega)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 4 := t.isLt
  have hp : (y 0).val < 2048 := (y 0).isLt
  have hq : (y 1).val < 1024 := (y 1).isLt
  have e0 : ((cfg0.win 2).blk t).view.emb y 0 = (⟨2048 * (t.val / 2) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 2) + (y 1).val :=
    (show _ = win0_2.index t (1 : Fin 2) * 1024 + 1 * (y 1).val from rfl).trans (by rw [i]; simp; omega)
  blk_simp
  rw [after0_2]
  unfold outsAt0
  frame_open; simp (disch := decide) only [↓ View.readCov_skip, ↓ View.readCov_cons_toLoadRect, ↓ View.readCov_fill]; frame_out; try simp only [read_unread_whole]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 d k)) (Fin.ext (congrArg (0 + ·) e1.symm))

end Cert.Kernel22Ideal.Value

namespace Cert.Reference22Ideal.Value

open Cert.Reference22Ideal Cert.Reference22Ideal.Gen

theorem array (a : FVec Ideal S4096x1024 .bf16) (w : FVec Ideal S1x1024x5136 .bf16) :
    truncf .bf16 (extractStridedSlice S4096x2048 ![0, 0] (Host.dotGeneral dot_S4096x1024_S1024x5136_S4096x5136_1_0_0_1_n_n none (extf .f32 a bitsLt_bf16_f32) (shapeCast _ (extf .f32 w bitsLt_bf16_f32) shapeCasts_S1x1024x5136_S1024x5136)) slices_S4096x5136_S4096x2048_0_0) bitsLt_bf16_f32
      = Cert.Kernel22Ideal.Value.product a w := by
  funext i
  unfold Cert.Kernel22Ideal.Value.product
  pointwise
  try exact Finset.sum_congr rfl fun d _ => congrArg (a (ix2 (i 0) d) * ·) (congrArg (fun k => w (ix3 0 d k)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference22Ideal.Value

end
-- ==== Proof.InOdd.lean ====
/-
  The twenty-first kernel's result at an index: the product of the rows of its first argument with columns of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel21Ideal.Value
public import proofs.«01_k».proof.Proof.Gen.Reference21Ideal.Run

@[expose] public section

set_option maxRecDepth 16384

noncomputable section

open Idealize.ShloMosaic Idealize.ShloMosaic.TcCoe Idealize.SL.Sem

namespace Cert.Kernel21Ideal.Value

open Cert.Kernel21Ideal Cert.Kernel21Ideal.Gen

/-- The product, the contraction running over the model's width. -/
def product (a : FVec Ideal S4096x1024 .bf16) (w : FVec Ideal S1x1024x3072 .bf16) : FVec Ideal S4096x3072 .bf16 :=
  fun i => ∑ d : Fin 1024, a (ix2 (i 0) d) * w (ix3 0 d ⟨0 + (i 1).val, have : (i 1).val < 3072 := (i 1).isLt; by omega⟩)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 d q) := by
  pointwise [k0_pay1]

theorem out_eq (x : FVec Ideal S2048x1024 .bf16) (w : FVec Ideal S1x1024x1024 .bf16) :
    out0_2 (F := Ideal) x w = k0_pay1 (F := Ideal) x w := by
  have h2 : (![0, 0] : Fin S2048x1024.rank → Nat) = fun _ => 0 := funext fun a => by fin_cases a <;> rfl
  have h1 : (![0, 0, 0] : Fin S1x1024x1024.rank → Nat) = fun _ => 0 := funext fun a => by fin_cases a <;> rfl
  unfold out0_2
  rw [View.canon_unit_zero h2, View.ld_unit_zero h2, View.ld_unit_zero h1]

theorem idx (t : Fin cfg0.N) : win0_0.index t = ![t.val / 3, 0] ∧ win0_1.index t = ![0, 0, 0 + t.val % 3]
    ∧ win0_2.index t = ![t.val / 3, t.val % 3] := by
  revert t
  decide +kernel

variable (m : (ℓ : Loc nD τ sig) → Buf (Elt Ideal) ℓ) (c : Dev nD)

theorem in0 (t : Fin cfg0.N) (p : Fin 2048) (d : Fin 1024) (hp : 2048 * (t.val / 3) + p.val < 4096) :
    iblk m c 0 t (ix2 p d) = m ((c : Thread nD τ).loc main_arg0) (ix2 ⟨2048 * (t.val / 3) + p.val, hp⟩ d) := by
  obtain ⟨i, -, -⟩ := idx t
  blk_ext [iblk, V_main_arg0, i]

theorem in1 (t : Fin cfg0.N) (q : Fin 1024) (d : Fin 1024) (hq : 1024 * (t.val % 3) + q.val < 3072) :
    iblk m c 1 t (ix3 0 d q) = m ((c : Thread nD τ).loc main_arg1) (ix3 0 d ⟨0 + (1024 * (t.val % 3) + q.val), by omega⟩) := by
  obtain ⟨-, i, -⟩ := idx t
  show V m c main_arg1 _ = _
  rw [V_main_arg1]
  refine congrArg (m ((c : Thread nD τ).loc main_arg1)) (funext fun x => match x with
    | 0 => Subsingleton.elim (α := Fin 1) _ _
    | 1 => Fin.ext ?_
    | 2 => Fin.ext ?_)
  · exact (show _ = win0_1.index t (1 : Fin 3) * 1024 + 1 * d.val from rfl).trans (by rw [i]; simp)
  · exact (show _ = win0_1.index t (2 : Fin 3) * 1024 + 1 * q.val from rfl).trans (by rw [i]; simp; omega)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 6 := t.isLt
  have hp : (y 0).val < 2048 := (y 0).isLt
  have hq : (y 1).val < 1024 := (y 1).isLt
  have e0 : ((cfg0.win 2).blk t).view.emb y 0 = (⟨2048 * (t.val / 3) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 3) + (y 1).val :=
    (show _ = win0_2.index t (1 : Fin 2) * 1024 + 1 * (y 1).val from rfl).trans (by rw [i]; simp; omega)
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 d k)) (Fin.ext (congrArg (0 + ·) e1.symm))

end Cert.Kernel21Ideal.Value

namespace Cert.Reference21Ideal.Value

open Cert.Reference21Ideal Cert.Reference21Ideal.Gen

theorem array (a : FVec Ideal S4096x1024 .bf16) (w : FVec Ideal S1x1024x3072 .bf16) :
    truncf .bf16 (Host.dotGeneral dot_S4096x1024_S1024x3072_S4096x3072_1_0_0_1_n_n none (extf .f32 a bitsLt_bf16_f32) (shapeCast _ (extf .f32 w bitsLt_bf16_f32) shapeCasts_S1x1024x3072_S1024x3072)) bitsLt_bf16_f32
      = Cert.Kernel21Ideal.Value.product a w := by
  funext i
  unfold Cert.Kernel21Ideal.Value.product
  pointwise
  try exact Finset.sum_congr rfl fun d _ => congrArg (a (ix2 (i 0) d) * ·) (congrArg (fun k => w (ix3 0 d k)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference21Ideal.Value

end
-- ==== Proof.DscOut.lean ====
/-
  The twentieth kernel's result at an index: the product of the rows of its first argument with rows of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel20Ideal.Value
public import proofs.«01_k».proof.Proof.Gen.Reference20Ideal.Run

@[expose] public section

set_option maxRecDepth 16384

noncomputable section

open Idealize.ShloMosaic Idealize.ShloMosaic.TcCoe Idealize.SL.Sem

namespace Cert.Kernel20Ideal.Value

open Cert.Kernel20Ideal Cert.Kernel20Ideal.Gen

/-- The product, the contraction running over the model's width. -/
def product (a : FVec Ideal S4096x1024 .bf16) (w : FVec Ideal S1x1024x1024 .bf16) : FVec Ideal S4096x1024 .f32 :=
  fun i => ∑ d : Fin 1024, a (ix2 (i 0) d) * w (ix3 0 ⟨0 + (i 1).val, have : (i 1).val < 1024 := (i 1).isLt; by omega⟩ d)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 q d) := by
  pointwise [k0_pay1]

theorem out_eq (x : FVec Ideal S2048x1024 .bf16) (w : FVec Ideal S1x1024x1024 .bf16) :
    out0_2 (F := Ideal) x w = k0_pay1 (F := Ideal) x w := by
  have h2 : (![0, 0] : Fin S2048x1024.rank → Nat) = fun _ => 0 := funext fun a => by fin_cases a <;> rfl
  have h1 : (![0, 0, 0] : Fin S1x1024x1024.rank → Nat) = fun _ => 0 := funext fun a => by fin_cases a <;> rfl
  unfold out0_2
  rw [View.canon_unit_zero h2, View.ld_unit_zero h2, View.ld_unit_zero h1]

theorem idx (t : Fin cfg0.N) : win0_0.index t = ![t.val / 1, 0] ∧ win0_1.index t = ![0, 0 + t.val % 1, 0]
    ∧ win0_2.index t = ![t.val / 1, t.val % 1] := by
  revert t
  decide +kernel

variable (m : (ℓ : Loc nD τ sig) → Buf (Elt Ideal) ℓ) (c : Dev nD)

theorem in0 (t : Fin cfg0.N) (p : Fin 2048) (d : Fin 1024) (hp : 2048 * (t.val / 1) + p.val < 4096) :
    iblk m c 0 t (ix2 p d) = m ((c : Thread nD τ).loc main_arg0) (ix2 ⟨2048 * (t.val / 1) + p.val, hp⟩ d) := by
  obtain ⟨i, -, -⟩ := idx t
  blk_ext [iblk, V_main_arg0, i]

theorem in1 (t : Fin cfg0.N) (q : Fin 1024) (d : Fin 1024) (hq : 1024 * (t.val % 1) + q.val < 1024) :
    iblk m c 1 t (ix3 0 q d) = m ((c : Thread nD τ).loc main_arg1) (ix3 0 ⟨0 + (1024 * (t.val % 1) + q.val), by omega⟩ d) := by
  obtain ⟨-, i, -⟩ := idx t
  show V m c main_arg1 _ = _
  rw [V_main_arg1]
  refine congrArg (m ((c : Thread nD τ).loc main_arg1)) (funext fun x => match x with
    | 0 => Subsingleton.elim (α := Fin 1) _ _
    | 1 => Fin.ext ?_
    | 2 => Fin.ext ?_)
  · exact (show _ = win0_1.index t (1 : Fin 3) * 1024 + 1 * q.val from rfl).trans (by rw [i]; simp; omega)
  · exact (show _ = win0_1.index t (2 : Fin 3) * 1024 + 1 * d.val from rfl).trans (by rw [i]; simp)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 2 := t.isLt
  have hp : (y 0).val < 2048 := (y 0).isLt
  have hq : (y 1).val < 1024 := (y 1).isLt
  have e0 : ((cfg0.win 2).blk t).view.emb y 0 = (⟨2048 * (t.val / 1) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 1) + (y 1).val :=
    (show _ = win0_2.index t (1 : Fin 2) * 1024 + 1 * (y 1).val from rfl).trans (by rw [i]; simp; omega)
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 k d)) (Fin.ext (congrArg (0 + ·) e1.symm))

end Cert.Kernel20Ideal.Value

namespace Cert.Reference20Ideal.Value

open Cert.Reference20Ideal Cert.Reference20Ideal.Gen

theorem array (a : FVec Ideal S4096x1024 .bf16) (w : FVec Ideal S1x1024x1024 .bf16) :
    Host.dotGeneral dot_S4096x1024_S1024x1024_S4096x1024_1_1_0_0_n_n none (extf .f32 a bitsLt_bf16_f32) (shapeCast _ (extf .f32 w bitsLt_bf16_f32) shapeCasts_S1x1024x1024_S1024x1024)
      = Cert.Kernel20Ideal.Value.product a w := by
  funext i
  unfold Cert.Kernel20Ideal.Value.product
  pointwise
  try exact Finset.sum_congr rfl fun d _ => congrArg (a (ix2 (i 0) d) * ·) (congrArg (fun k => w (ix3 0 k d)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference20Ideal.Value

end
-- ==== Proof.DybOut.lean ====
/-
  The nineteenth kernel's result at an index: the product of the rows of its first argument with rows of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel19Ideal.Value
public import proofs.«01_k».proof.Proof.Gen.Reference19Ideal.Run

@[expose] public section

set_option maxRecDepth 16384

noncomputable section

open Idealize.ShloMosaic Idealize.ShloMosaic.TcCoe Idealize.SL.Sem

namespace Cert.Kernel19Ideal.Value

open Cert.Kernel19Ideal Cert.Kernel19Ideal.Gen

/-- The product, the contraction running over the model's width. -/
def product (a : FVec Ideal S4096x1024 .bf16) (w : FVec Ideal S1x2048x1024 .bf16) : FVec Ideal S4096x1024 .f32 :=
  fun i => ∑ d : Fin 1024, a (ix2 (i 0) d) * w (ix3 0 ⟨1024 + (i 1).val, have : (i 1).val < 1024 := (i 1).isLt; by omega⟩ d)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 q d) := by
  pointwise [k0_pay1]

theorem out_eq (x : FVec Ideal S2048x1024 .bf16) (w : FVec Ideal S1x1024x1024 .bf16) :
    out0_2 (F := Ideal) x w = k0_pay1 (F := Ideal) x w := by
  have h2 : (![0, 0] : Fin S2048x1024.rank → Nat) = fun _ => 0 := funext fun a => by fin_cases a <;> rfl
  have h1 : (![0, 0, 0] : Fin S1x1024x1024.rank → Nat) = fun _ => 0 := funext fun a => by fin_cases a <;> rfl
  unfold out0_2
  rw [View.canon_unit_zero h2, View.ld_unit_zero h2, View.ld_unit_zero h1]

theorem idx (t : Fin cfg0.N) : win0_0.index t = ![t.val / 1, 0] ∧ win0_1.index t = ![0, 1 + t.val % 1, 0]
    ∧ win0_2.index t = ![t.val / 1, t.val % 1] := by
  revert t
  decide +kernel

variable (m : (ℓ : Loc nD τ sig) → Buf (Elt Ideal) ℓ) (c : Dev nD)

theorem in0 (t : Fin cfg0.N) (p : Fin 2048) (d : Fin 1024) (hp : 2048 * (t.val / 1) + p.val < 4096) :
    iblk m c 0 t (ix2 p d) = m ((c : Thread nD τ).loc main_arg0) (ix2 ⟨2048 * (t.val / 1) + p.val, hp⟩ d) := by
  obtain ⟨i, -, -⟩ := idx t
  blk_ext [iblk, V_main_arg0, i]

theorem in1 (t : Fin cfg0.N) (q : Fin 1024) (d : Fin 1024) (hq : 1024 * (t.val % 1) + q.val < 1024) :
    iblk m c 1 t (ix3 0 q d) = m ((c : Thread nD τ).loc main_arg1) (ix3 0 ⟨1024 + (1024 * (t.val % 1) + q.val), by omega⟩ d) := by
  obtain ⟨-, i, -⟩ := idx t
  show V m c main_arg1 _ = _
  rw [V_main_arg1]
  refine congrArg (m ((c : Thread nD τ).loc main_arg1)) (funext fun x => match x with
    | 0 => Subsingleton.elim (α := Fin 1) _ _
    | 1 => Fin.ext ?_
    | 2 => Fin.ext ?_)
  · exact (show _ = win0_1.index t (1 : Fin 3) * 1024 + 1 * q.val from rfl).trans (by rw [i]; simp; omega)
  · exact (show _ = win0_1.index t (2 : Fin 3) * 1024 + 1 * d.val from rfl).trans (by rw [i]; simp)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 2 := t.isLt
  have hp : (y 0).val < 2048 := (y 0).isLt
  have hq : (y 1).val < 1024 := (y 1).isLt
  have e0 : ((cfg0.win 2).blk t).view.emb y 0 = (⟨2048 * (t.val / 1) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 1) + (y 1).val :=
    (show _ = win0_2.index t (1 : Fin 2) * 1024 + 1 * (y 1).val from rfl).trans (by rw [i]; simp; omega)
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 k d)) (Fin.ext (congrArg (1024 + ·) e1.symm))

end Cert.Kernel19Ideal.Value

namespace Cert.Reference19Ideal.Value

open Cert.Reference19Ideal Cert.Reference19Ideal.Gen

theorem array (a : FVec Ideal S4096x1024 .bf16) (w : FVec Ideal S1x2048x1024 .bf16) :
    Host.dotGeneral dot_S4096x1024_S1024x1024_S4096x1024_1_1_0_0_n_n none (extf .f32 a bitsLt_bf16_f32) (shapeCast _ (extf .f32 (extractStridedSlice S1x1024x1024 ![0, 1024, 0] w slices_S1x2048x1024_S1x1024x1024_0_1024_0) bitsLt_bf16_f32) shapeCasts_S1x1024x1024_S1024x1024)
      = Cert.Kernel19Ideal.Value.product a w := by
  funext i
  unfold Cert.Kernel19Ideal.Value.product
  pointwise
  try exact Finset.sum_congr rfl fun d _ => congrArg (a (ix2 (i 0) d) * ·) (congrArg (fun k => w (ix3 0 k d)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference19Ideal.Value

end
-- ==== Proof.DyaOut.lean ====
/-
  The eighteenth kernel's result at an index: the product of the rows of its first argument with rows of the weight.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel18Ideal.Value
public import proofs.«01_k».proof.Proof.Gen.Reference18Ideal.Run

@[expose] public section

set_option maxRecDepth 16384

noncomputable section

open Idealize.ShloMosaic Idealize.ShloMosaic.TcCoe Idealize.SL.Sem

namespace Cert.Kernel18Ideal.Value

open Cert.Kernel18Ideal Cert.Kernel18Ideal.Gen

/-- The product, the contraction running over the model's width. -/
def product (a : FVec Ideal S4096x1024 .bf16) (w : FVec Ideal S1x2048x1024 .bf16) : FVec Ideal S4096x1024 .f32 :=
  fun i => ∑ d : Fin 1024, a (ix2 (i 0) d) * w (ix3 0 ⟨0 + (i 1).val, have : (i 1).val < 1024 := (i 1).isLt; by omega⟩ d)

theorem block_at (x : FVec Ideal S2048x1024 .bf16) (w : FVec Ideal S1x1024x1024 .bf16) (p : Fin 2048) (q : Fin 1024) :
    k0_pay1 (F := Ideal) x w (ix2 p q) = ∑ d : Fin 1024, x (ix2 p d) * w (ix3 0 q d) := by
  pointwise [k0_pay1]

theorem out_eq (x : FVec Ideal S2048x1024 .bf16) (w : FVec Ideal S1x1024x1024 .bf16) :
    out0_2 (F := Ideal) x w = k0_pay1 (F := Ideal) x w := by
  have h2 : (![0, 0] : Fin S2048x1024.rank → Nat) = fun _ => 0 := funext fun a => by fin_cases a <;> rfl
  have h1 : (![0, 0, 0] : Fin S1x1024x1024.rank → Nat) = fun _ => 0 := funext fun a => by fin_cases a <;> rfl
  unfold out0_2
  rw [View.canon_unit_zero h2, View.ld_unit_zero h2, View.ld_unit_zero h1]

theorem idx (t : Fin cfg0.N) : win0_0.index t = ![t.val / 1, 0] ∧ win0_1.index t = ![0, 0 + t.val % 1, 0]
    ∧ win0_2.index t = ![t.val / 1, t.val % 1] := by
  revert t
  decide +kernel

variable (m : (ℓ : Loc nD τ sig) → Buf (Elt Ideal) ℓ) (c : Dev nD)

theorem in0 (t : Fin cfg0.N) (p : Fin 2048) (d : Fin 1024) (hp : 2048 * (t.val / 1) + p.val < 4096) :
    iblk m c 0 t (ix2 p d) = m ((c : Thread nD τ).loc main_arg0) (ix2 ⟨2048 * (t.val / 1) + p.val, hp⟩ d) := by
  obtain ⟨i, -, -⟩ := idx t
  blk_ext [iblk, V_main_arg0, i]

theorem in1 (t : Fin cfg0.N) (q : Fin 1024) (d : Fin 1024) (hq : 1024 * (t.val % 1) + q.val < 1024) :
    iblk m c 1 t (ix3 0 q d) = m ((c : Thread nD τ).loc main_arg1) (ix3 0 ⟨0 + (1024 * (t.val % 1) + q.val), by omega⟩ d) := by
  obtain ⟨-, i, -⟩ := idx t
  show V m c main_arg1 _ = _
  rw [V_main_arg1]
  refine congrArg (m ((c : Thread nD τ).loc main_arg1)) (funext fun x => match x with
    | 0 => Subsingleton.elim (α := Fin 1) _ _
    | 1 => Fin.ext ?_
    | 2 => Fin.ext ?_)
  · exact (show _ = win0_1.index t (1 : Fin 3) * 1024 + 1 * q.val from rfl).trans (by rw [i]; simp; omega)
  · exact (show _ = win0_1.index t (2 : Fin 3) * 1024 + 1 * d.val from rfl).trans (by rw [i]; simp)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix2 (y 0) (y 1) := by
    funext a
    match a with
    | 0 => rfl
    | 1 => rfl
  have ht : t.val < 2 := t.isLt
  have hp : (y 0).val < 2048 := (y 0).isLt
  have hq : (y 1).val < 1024 := (y 1).isLt
  have e0 : ((cfg0.win 2).blk t).view.emb y 0 = (⟨2048 * (t.val / 1) + (y 0).val, by omega⟩ : Fin 4096) :=
    Fin.ext ((show _ = win0_2.index t (0 : Fin 2) * 2048 + 1 * (y 0).val from rfl).trans (by rw [i]; simp; omega))
  have e1 : (((cfg0.win 2).blk t).view.emb y 1).val = 1024 * (t.val % 1) + (y 1).val :=
    (show _ = win0_2.index t (1 : Fin 2) * 1024 + 1 * (y 1).val from rfl).trans (by rw [i]; simp; omega)
  blk_simp
  rw [after0_2, out_eq]
  refine (congrArg _ e).trans ((block_at _ _ (y 0) (y 1)).trans ?_)
  unfold product
  refine Finset.sum_congr rfl fun d _ => ?_
  refine congr (congrArg _ ((in0 m c t (y 0) d (by omega)).trans ?_)) ((in1 m c t (y 1) d (by omega)).trans ?_)
  · exact congrArg (fun k => m ((c : Thread nD τ).loc main_arg0) (ix2 k d)) e0.symm
  · exact congrArg (fun k => m ((c : Thread nD τ).loc main_arg1) (ix3 0 k d)) (Fin.ext (congrArg (0 + ·) e1.symm))

end Cert.Kernel18Ideal.Value

namespace Cert.Reference18Ideal.Value

open Cert.Reference18Ideal Cert.Reference18Ideal.Gen

theorem array (a : FVec Ideal S4096x1024 .bf16) (w : FVec Ideal S1x2048x1024 .bf16) :
    Host.dotGeneral dot_S4096x1024_S1024x1024_S4096x1024_1_1_0_0_n_n none (extf .f32 a bitsLt_bf16_f32) (shapeCast _ (extf .f32 (extractStridedSlice S1x1024x1024 ![0, 0, 0] w slices_S1x2048x1024_S1x1024x1024_0_0_0) bitsLt_bf16_f32) shapeCasts_S1x1024x1024_S1024x1024)
      = Cert.Kernel18Ideal.Value.product a w := by
  funext i
  unfold Cert.Kernel18Ideal.Value.product
  pointwise
  try exact Finset.sum_congr rfl fun d _ => congrArg (a (ix2 (i 0) d) * ·) (congrArg (fun k => w (ix3 0 k d)) (Fin.ext (by first | rfl | (dsimp only; omega) | (simp; done) | (simp; omega))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference18Ideal.Value

end
-- ==== Proof.DwOddThird.lean ====
/-
  The seventeenth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel17Ideal.Value
public import proofs.«01_k».proof.Proof.Gen.Reference17Ideal.Run
public import proofs.«01_k».proof.Proof.Halves

@[expose] public section

set_option maxRecDepth 16384

noncomputable section

open Idealize.ShloMosaic Idealize.ShloMosaic.TcCoe Idealize.SL.Sem

namespace Cert.Kernel17Ideal.Value

open Cert.Kernel17Ideal Cert.Kernel17Ideal.Gen

/-- The block which is replaced. -/
def Inside (i : S2x1024x3072.Idx) : Prop :=
  (i 0).val = 0 ∧ 0 ≤ (i 1).val ∧ (i 1).val < 1024 ∧ 2048 ≤ (i 2).val ∧ (i 2).val < 3072

instance (i : S2x1024x3072.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S2x1024x3072 .f32) : FVec Ideal S2x1024x3072 .f32 :=
  fun i => if h : Inside i then entry a b ⟨(i 1).val - 0, by unfold Inside at h; omega⟩ ⟨(i 2).val - 2048, by unfold Inside at h; omega⟩ else w i

theorem product_at (a : FVec Ideal S4096x1024 .bf16) (b : FVec Ideal S4096x1024 .bf16) (w : FVec Ideal S2x1024x3072 .f32) (i : S2x1024x3072.Idx)
    (p : Fin 1024) (q : Fin 1024) (h0 : (i 0).val = 0) (h1 : (i 1).val = 0 + p.val) (h2 : (i 2).val = 2048 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S2x1024x3072 .f32) (i : S2x1024x3072.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 2 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 2 ≤ β (2 : Fin 3) ∧ β (2 : Fin 3) < 3)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 2048 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    rw [A_eq]
    refine (congrFun (V_main_v0 m c) _).trans (product_off _ _ _ _ ?_).symm
    unfold Inside
    blk_simp
    omega

end Cert.Kernel17Ideal.Value

namespace Cert.Reference17Ideal.Value

open Cert.Reference17Ideal Cert.Reference17Ideal.Gen

theorem array (a : FVec Ideal S4096x1024 .bf16) (b : FVec Ideal S4096x1024 .bf16) (w : FVec Ideal S2x1024x3072 .f32) :
    concatenate S2x1024x3072 0 [⟨S1x1024x3072, (concatenate S1x1024x3072 2 [⟨S1x1024x2048, (extractStridedSlice S1x1024x2048 ![0, 0, 0] (extractStridedSlice S1x1024x3072 ![0, 0, 0] w slices_S2x1024x3072_S1x1024x3072_0_0_0) slices_S1x1024x3072_S1x1024x2048_0_0_0)⟩, ⟨S1x1024x1024, (broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0))⟩] concatenates_S1x1024x2048_S1x1024x1024_S1x1024x3072_d2)⟩, ⟨S1x1024x3072, (extractStridedSlice S1x1024x3072 ![1, 0, 0] w slices_S2x1024x3072_S1x1024x3072_1_0_0)⟩] concatenates_S1x1024x3072_S1x1024x3072_S2x1024x3072_d0
      = Cert.Kernel17Ideal.Value.product a b w := by
  funext i
  have i0 : (i 0).val < 2 := (i 0).isLt
  have i1 : (i 1).val < 1024 := (i 1).isLt
  have i2 : (i 2).val < 3072 := (i 2).isLt
  pointwise
  by_cases v0 : (i 0).val < 1
  · skip
    by_cases u2 : (i 2).val < 2048
    · refine Eq.trans ?_ (Cert.Kernel17Ideal.Value.product_off a b w i (by unfold Cert.Kernel17Ideal.Value.Inside; omega)).symm
      rw [dif_pos v0, dif_pos u2] <;>
      exact congrArg w (funext fun x => match x with
        | 0 => Fin.ext (show (i 0).val = (i 0).val by omega)
        | 1 => Fin.ext (show (i 1).val = (i 1).val by omega)
        | 2 => Fin.ext (show (i 2).val = (i 2).val by omega))
    rw [dif_pos v0, dif_neg u2]
    refine Eq.trans ?_ (Cert.Kernel17Ideal.Value.product_at a b w i ⟨(i 1).val - 0, by omega⟩ ⟨(i 2).val - 2048, by omega⟩ (by omega) (by dsimp only; omega) (by dsimp only; omega)).symm
    exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
  · refine Eq.trans ?_ (Cert.Kernel17Ideal.Value.product_off a b w i (by unfold Cert.Kernel17Ideal.Value.Inside; omega)).symm
    rw [dif_neg v0] <;>
    exact congrArg w (funext fun x => match x with
      | 0 => Fin.ext (show 1 + ((i 0).val - 1) = (i 0).val by omega)
      | 1 => Fin.ext (show (i 1).val = (i 1).val by omega)
      | 2 => Fin.ext (show (i 2).val = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference17Ideal.Value

end
-- ==== Proof.DwOddSecond.lean ====
/-
  The sixteenth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel16Ideal.Value
public import proofs.«01_k».proof.Proof.Gen.Reference16Ideal.Run
public import proofs.«01_k».proof.Proof.Halves

@[expose] public section

set_option maxRecDepth 16384

noncomputable section

open Idealize.ShloMosaic Idealize.ShloMosaic.TcCoe Idealize.SL.Sem

namespace Cert.Kernel16Ideal.Value

open Cert.Kernel16Ideal Cert.Kernel16Ideal.Gen

/-- The block which is replaced. -/
def Inside (i : S2x1024x3072.Idx) : Prop :=
  (i 0).val = 0 ∧ 0 ≤ (i 1).val ∧ (i 1).val < 1024 ∧ 1024 ≤ (i 2).val ∧ (i 2).val < 2048

instance (i : S2x1024x3072.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S2x1024x3072 .f32) : FVec Ideal S2x1024x3072 .f32 :=
  fun i => if h : Inside i then entry a b ⟨(i 1).val - 0, by unfold Inside at h; omega⟩ ⟨(i 2).val - 1024, by unfold Inside at h; omega⟩ else w i

theorem product_at (a : FVec Ideal S4096x1024 .bf16) (b : FVec Ideal S4096x1024 .bf16) (w : FVec Ideal S2x1024x3072 .f32) (i : S2x1024x3072.Idx)
    (p : Fin 1024) (q : Fin 1024) (h0 : (i 0).val = 0) (h1 : (i 1).val = 0 + p.val) (h2 : (i 2).val = 1024 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S2x1024x3072 .f32) (i : S2x1024x3072.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 1 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 1 ≤ β (2 : Fin 3) ∧ β (2 : Fin 3) < 2)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 1024 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    rw [A_eq]
    refine (congrFun (V_main_v0 m c) _).trans (product_off _ _ _ _ ?_).symm
    unfold Inside
    blk_simp
    omega

end Cert.Kernel16Ideal.Value

namespace Cert.Reference16Ideal.Value

open Cert.Reference16Ideal Cert.Reference16Ideal.Gen

theorem array (a : FVec Ideal S4096x1024 .bf16) (b : FVec Ideal S4096x1024 .bf16) (w : FVec Ideal S2x1024x3072 .f32) :
    concatenate S2x1024x3072 0 [⟨S1x1024x3072, ((concatenate S1x1024x3072 2 [⟨S1x1024x1024, ((extractStridedSlice S1x1024x1024 ![0, 0, 0] (extractStridedSlice S1x1024x3072 ![0, 0, 0] w slices_S2x1024x3072_S1x1024x3072_0_0_0) slices_S1x1024x3072_S1x1024x1024_0_0_0) : (⟨S1x1024x1024, .f32⟩ : BufTy).Contents (Elt Ideal))⟩, ⟨S1x1024x1024, ((broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0)) : (⟨S1x1024x1024, .f32⟩ : BufTy).Contents (Elt Ideal))⟩, ⟨S1x1024x1024, ((extractStridedSlice S1x1024x1024 ![0, 0, 2048] (extractStridedSlice S1x1024x3072 ![0, 0, 0] w slices_S2x1024x3072_S1x1024x3072_0_0_0) slices_S1x1024x3072_S1x1024x1024_0_0_2048) : (⟨S1x1024x1024, .f32⟩ : BufTy).Contents (Elt Ideal))⟩] concatenates_S1x1024x1024_S1x1024x1024_S1x1024x1024_S1x1024x3072_d2 : (⟨S1x1024x3072, .f32⟩ : BufTy).Contents (Elt Ideal)))⟩, ⟨S1x1024x3072, (extractStridedSlice S1x1024x3072 ![1, 0, 0] w slices_S2x1024x3072_S1x1024x3072_1_0_0)⟩] concatenates_S1x1024x3072_S1x1024x3072_S2x1024x3072_d0
      = Cert.Kernel16Ideal.Value.product a b w := by
  funext i
  have i0 : (i 0).val < 2 := (i 0).isLt
  have i1 : (i 1).val < 1024 := (i 1).isLt
  have i2 : (i 2).val < 3072 := (i 2).isLt
  pointwise
  by_cases v0 : (i 0).val < 1
  · skip
    by_cases u2 : (i 2).val < 1024
    · refine Eq.trans ?_ (Cert.Kernel16Ideal.Value.product_off a b w i (by unfold Cert.Kernel16Ideal.Value.Inside; omega)).symm
      rw [dif_pos v0, dif_pos u2] <;>
      exact congrArg w (funext fun x => match x with
        | 0 => Fin.ext (show (i 0).val = (i 0).val by omega)
        | 1 => Fin.ext (show (i 1).val = (i 1).val by omega)
        | 2 => Fin.ext (show (i 2).val = (i 2).val by omega))
    by_cases v2 : (i 2).val - 1024 < 1024
    · skip
      rw [dif_pos v0, dif_neg u2, dif_pos v2]
      refine Eq.trans ?_ (Cert.Kernel16Ideal.Value.product_at a b w i ⟨(i 1).val - 0, by omega⟩ ⟨(i 2).val - 1024, by omega⟩ (by omega) (by dsimp only; omega) (by dsimp only; omega)).symm
      exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
    · refine Eq.trans ?_ (Cert.Kernel16Ideal.Value.product_off a b w i (by unfold Cert.Kernel16Ideal.Value.Inside; omega)).symm
      rw [dif_pos v0, dif_neg u2, dif_neg v2] <;>
      exact congrArg w (funext fun x => match x with
        | 0 => Fin.ext (show (i 0).val = (i 0).val by omega)
        | 1 => Fin.ext (show (i 1).val = (i 1).val by omega)
        | 2 => Fin.ext (show 2048 + ((i 2).val - 1024 - 1024) = (i 2).val by omega))
  · refine Eq.trans ?_ (Cert.Kernel16Ideal.Value.product_off a b w i (by unfold Cert.Kernel16Ideal.Value.Inside; omega)).symm
    rw [dif_neg v0] <;>
    exact congrArg w (funext fun x => match x with
      | 0 => Fin.ext (show 1 + ((i 0).val - 1) = (i 0).val by omega)
      | 1 => Fin.ext (show (i 1).val = (i 1).val by omega)
      | 2 => Fin.ext (show (i 2).val = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference16Ideal.Value

end
-- ==== Proof.DwOddFirst.lean ====
/-
  The fifteenth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel15Ideal.Value
public import proofs.«01_k».proof.Proof.Gen.Reference15Ideal.Run
public import proofs.«01_k».proof.Proof.Halves

@[expose] public section

set_option maxRecDepth 16384

noncomputable section

open Idealize.ShloMosaic Idealize.ShloMosaic.TcCoe Idealize.SL.Sem

namespace Cert.Kernel15Ideal.Value

open Cert.Kernel15Ideal Cert.Kernel15Ideal.Gen

/-- The block which is replaced. -/
def Inside (i : S2x1024x3072.Idx) : Prop :=
  (i 0).val = 0 ∧ 0 ≤ (i 1).val ∧ (i 1).val < 1024 ∧ 0 ≤ (i 2).val ∧ (i 2).val < 1024

instance (i : S2x1024x3072.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S2x1024x3072 .f32) : FVec Ideal S2x1024x3072 .f32 :=
  fun i => if h : Inside i then entry a b ⟨(i 1).val - 0, by unfold Inside at h; omega⟩ ⟨(i 2).val - 0, by unfold Inside at h; omega⟩ else w i

theorem product_at (a : FVec Ideal S4096x1024 .bf16) (b : FVec Ideal S4096x1024 .bf16) (w : FVec Ideal S2x1024x3072 .f32) (i : S2x1024x3072.Idx)
    (p : Fin 1024) (q : Fin 1024) (h0 : (i 0).val = 0) (h1 : (i 1).val = 0 + p.val) (h2 : (i 2).val = 0 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S2x1024x3072 .f32) (i : S2x1024x3072.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 0 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 0 ≤ β (2 : Fin 3) ∧ β (2 : Fin 3) < 1)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 0 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    rw [A_eq]
    refine (congrFun (V_main_v0 m c) _).trans (product_off _ _ _ _ ?_).symm
    unfold Inside
    blk_simp
    omega

end Cert.Kernel15Ideal.Value

namespace Cert.Reference15Ideal.Value

open Cert.Reference15Ideal Cert.Reference15Ideal.Gen

theorem array (a : FVec Ideal S4096x1024 .bf16) (b : FVec Ideal S4096x1024 .bf16) (w : FVec Ideal S2x1024x3072 .f32) :
    concatenate S2x1024x3072 0 [⟨S1x1024x3072, (concatenate S1x1024x3072 2 [⟨S1x1024x1024, (broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0))⟩, ⟨S1x1024x2048, (extractStridedSlice S1x1024x2048 ![0, 0, 1024] (extractStridedSlice S1x1024x3072 ![0, 0, 0] w slices_S2x1024x3072_S1x1024x3072_0_0_0) slices_S1x1024x3072_S1x1024x2048_0_0_1024)⟩] concatenates_S1x1024x1024_S1x1024x2048_S1x1024x3072_d2)⟩, ⟨S1x1024x3072, (extractStridedSlice S1x1024x3072 ![1, 0, 0] w slices_S2x1024x3072_S1x1024x3072_1_0_0)⟩] concatenates_S1x1024x3072_S1x1024x3072_S2x1024x3072_d0
      = Cert.Kernel15Ideal.Value.product a b w := by
  funext i
  have i0 : (i 0).val < 2 := (i 0).isLt
  have i1 : (i 1).val < 1024 := (i 1).isLt
  have i2 : (i 2).val < 3072 := (i 2).isLt
  pointwise
  by_cases v0 : (i 0).val < 1
  · skip
    by_cases v2 : (i 2).val < 1024
    · skip
      rw [dif_pos v0, dif_pos v2]
      refine Eq.trans ?_ (Cert.Kernel15Ideal.Value.product_at a b w i ⟨(i 1).val - 0, by omega⟩ ⟨(i 2).val - 0, by omega⟩ (by omega) (by dsimp only; omega) (by dsimp only; omega)).symm
      exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
    · refine Eq.trans ?_ (Cert.Kernel15Ideal.Value.product_off a b w i (by unfold Cert.Kernel15Ideal.Value.Inside; omega)).symm
      rw [dif_pos v0, dif_neg v2] <;>
      exact congrArg w (funext fun x => match x with
        | 0 => Fin.ext (show (i 0).val = (i 0).val by omega)
        | 1 => Fin.ext (show (i 1).val = (i 1).val by omega)
        | 2 => Fin.ext (show 1024 + ((i 2).val - 1024) = (i 2).val by omega))
  · refine Eq.trans ?_ (Cert.Kernel15Ideal.Value.product_off a b w i (by unfold Cert.Kernel15Ideal.Value.Inside; omega)).symm
    rw [dif_neg v0] <;>
    exact congrArg w (funext fun x => match x with
      | 0 => Fin.ext (show 1 + ((i 0).val - 1) = (i 0).val by omega)
      | 1 => Fin.ext (show (i 1).val = (i 1).val by omega)
      | 2 => Fin.ext (show (i 2).val = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference15Ideal.Value

end
-- ==== Proof.DwOutOdd.lean ====
/-
  The fourteenth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel14Ideal.Value
public import proofs.«01_k».proof.Proof.Gen.Reference14Ideal.Run
public import proofs.«01_k».proof.Proof.Halves

@[expose] public section

set_option maxRecDepth 16384

noncomputable section

open Idealize.ShloMosaic Idealize.ShloMosaic.TcCoe Idealize.SL.Sem

namespace Cert.Kernel14Ideal.Value

open Cert.Kernel14Ideal Cert.Kernel14Ideal.Gen

/-- The block which is replaced. -/
def Inside (i : S2x1024x1024.Idx) : Prop :=
  (i 0).val = 0 ∧ 0 ≤ (i 1).val ∧ (i 1).val < 1024 ∧ 0 ≤ (i 2).val ∧ (i 2).val < 1024

instance (i : S2x1024x1024.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S2x1024x1024 .f32) : FVec Ideal S2x1024x1024 .f32 :=
  fun i => if h : Inside i then entry a b ⟨(i 1).val - 0, by unfold Inside at h; omega⟩ ⟨(i 2).val - 0, by unfold Inside at h; omega⟩ else w i

theorem product_at (a : FVec Ideal S4096x1024 .bf16) (b : FVec Ideal S4096x1024 .bf16) (w : FVec Ideal S2x1024x1024 .f32) (i : S2x1024x1024.Idx)
    (p : Fin 1024) (q : Fin 1024) (h0 : (i 0).val = 0) (h1 : (i 1).val = 0 + p.val) (h2 : (i 2).val = 0 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S2x1024x1024 .f32) (i : S2x1024x1024.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 0 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 0 ≤ β (2 : Fin 3) ∧ β (2 : Fin 3) < 1)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 0 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    rw [A_eq]
    refine (congrFun (V_main_v0 m c) _).trans (product_off _ _ _ _ ?_).symm
    unfold Inside
    blk_simp
    omega

end Cert.Kernel14Ideal.Value

namespace Cert.Reference14Ideal.Value

open Cert.Reference14Ideal Cert.Reference14Ideal.Gen

theorem array (a : FVec Ideal S4096x1024 .bf16) (b : FVec Ideal S4096x1024 .bf16) (w : FVec Ideal S2x1024x1024 .f32) :
    concatenate S2x1024x1024 0 [⟨S1x1024x1024, (broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0))⟩, ⟨S1x1024x1024, (extractStridedSlice S1x1024x1024 ![1, 0, 0] w slices_S2x1024x1024_S1x1024x1024_1_0_0)⟩] concatenates_S1x1024x1024_S1x1024x1024_S2x1024x1024_d0
      = Cert.Kernel14Ideal.Value.product a b w := by
  funext i
  have i0 : (i 0).val < 2 := (i 0).isLt
  have i1 : (i 1).val < 1024 := (i 1).isLt
  have i2 : (i 2).val < 1024 := (i 2).isLt
  pointwise
  by_cases v0 : (i 0).val < 1
  · skip
    rw [dif_pos v0]
    refine Eq.trans ?_ (Cert.Kernel14Ideal.Value.product_at a b w i ⟨(i 1).val - 0, by omega⟩ ⟨(i 2).val - 0, by omega⟩ (by omega) (by dsimp only; omega) (by dsimp only; omega)).symm
    exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
  · refine Eq.trans ?_ (Cert.Kernel14Ideal.Value.product_off a b w i (by unfold Cert.Kernel14Ideal.Value.Inside; omega)).symm
    rw [dif_neg v0] <;>
    exact congrArg w (funext fun x => match x with
      | 0 => Fin.ext (show 1 + ((i 0).val - 1) = (i 0).val by omega)
      | 1 => Fin.ext (show (i 1).val = (i 1).val by omega)
      | 2 => Fin.ext (show (i 2).val = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference14Ideal.Value

end
-- ==== Proof.DwOutSecond.lean ====
/-
  The thirteenth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel13Ideal.Value
public import proofs.«01_k».proof.Proof.Gen.Reference13Ideal.Run
public import proofs.«01_k».proof.Proof.Halves

@[expose] public section

set_option maxRecDepth 16384

noncomputable section

open Idealize.ShloMosaic Idealize.ShloMosaic.TcCoe Idealize.SL.Sem

namespace Cert.Kernel13Ideal.Value

open Cert.Kernel13Ideal Cert.Kernel13Ideal.Gen

/-- The block which is replaced. -/
def Inside (i : S1x2048x1024.Idx) : Prop :=
  (i 0).val = 0 ∧ 1024 ≤ (i 1).val ∧ (i 1).val < 2048 ∧ 0 ≤ (i 2).val ∧ (i 2).val < 1024

instance (i : S1x2048x1024.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S1x2048x1024 .f32) : FVec Ideal S1x2048x1024 .f32 :=
  fun i => if h : Inside i then entry a b ⟨(i 1).val - 1024, by unfold Inside at h; omega⟩ ⟨(i 2).val - 0, by unfold Inside at h; omega⟩ else w i

theorem product_at (a : FVec Ideal S4096x1024 .bf16) (b : FVec Ideal S4096x1024 .bf16) (w : FVec Ideal S1x2048x1024 .f32) (i : S1x2048x1024.Idx)
    (p : Fin 1024) (q : Fin 1024) (h0 : (i 0).val = 0) (h1 : (i 1).val = 1024 + p.val) (h2 : (i 2).val = 0 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S1x2048x1024 .f32) (i : S1x2048x1024.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 1, 0 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 1 ∧ 0 ≤ β (2 : Fin 3) ∧ β (2 : Fin 3) < 1)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 1024 + (y 1).val :=
      (show _ = win0_2.index t (1 : Fin 3) * 1024 + 1 * (y 1).val from rfl).trans (by rw [i]; simp)
    have e2 : (((cfg0.win 2).blk t).view.emb y 2).val = 0 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    simp only [true_and] at hj
    rw [A_eq]
    refine (congrFun (V_main_v0 m c) _).trans (product_off _ _ _ _ ?_).symm
    unfold Inside
    blk_simp
    omega

end Cert.Kernel13Ideal.Value

namespace Cert.Reference13Ideal.Value

open Cert.Reference13Ideal Cert.Reference13Ideal.Gen

theorem array (a : FVec Ideal S4096x1024 .bf16) (b : FVec Ideal S4096x1024 .bf16) (w : FVec Ideal S1x2048x1024 .f32) :
    concatenate S1x2048x1024 1 [⟨S1x1024x1024, (extractStridedSlice S1x1024x1024 ![0, 0, 0] w slices_S1x2048x1024_S1x1024x1024_0_0_0)⟩, ⟨S1x1024x1024, (broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0))⟩] concatenates_S1x1024x1024_S1x1024x1024_S1x2048x1024_d1
      = Cert.Kernel13Ideal.Value.product a b w := by
  funext i
  have i0 : (i 0).val < 1 := (i 0).isLt
  have i1 : (i 1).val < 2048 := (i 1).isLt
  have i2 : (i 2).val < 1024 := (i 2).isLt
  pointwise
  by_cases u1 : (i 1).val < 1024
  · refine Eq.trans ?_ (Cert.Kernel13Ideal.Value.product_off a b w i (by unfold Cert.Kernel13Ideal.Value.Inside; omega)).symm
    rw [dif_pos u1] <;>
    exact congrArg w (funext fun x => match x with
      | 0 => Subsingleton.elim (α := Fin 1) _ _
      | 1 => Fin.ext (show (i 1).val = (i 1).val by omega)
      | 2 => Fin.ext (show (i 2).val = (i 2).val by omega))
  rw [dif_neg u1]
  refine Eq.trans ?_ (Cert.Kernel13Ideal.Value.product_at a b w i ⟨(i 1).val - 1024, by omega⟩ ⟨(i 2).val - 0, by omega⟩ (by omega) (by dsimp only; omega) (by dsimp only; omega)).symm
  exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference13Ideal.Value

end
-- ==== Proof.DwSecondIn.lean ====
/-
  The twelfth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel12Ideal.Value
public import proofs.«01_k».proof.Proof.Gen.Reference12Ideal.Run
public import proofs.«01_k».proof.Proof.Halves

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

/-- The block which is replaced. -/
def Inside (i : S1x1024x5248.Idx) : Prop :=
  (i 0).val = 0 ∧ 0 ≤ (i 1).val ∧ (i 1).val < 1024 ∧ 1024 ≤ (i 2).val ∧ (i 2).val < 2048

instance (i : S1x1024x5248.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S1x1024x5248 .f32) : FVec Ideal S1x1024x5248 .f32 :=
  fun i => if h : Inside i then entry a b ⟨(i 1).val - 0, by unfold Inside at h; omega⟩ ⟨(i 2).val - 1024, by unfold Inside at h; omega⟩ else w i

theorem product_at (a : FVec Ideal S4096x1024 .bf16) (b : FVec Ideal S4096x1024 .bf16) (w : FVec Ideal S1x1024x5248 .f32) (i : S1x1024x5248.Idx)
    (p : Fin 1024) (q : Fin 1024) (h0 : (i 0).val = 0) (h1 : (i 1).val = 0 + p.val) (h2 : (i 2).val = 1024 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S1x1024x5248 .f32) (i : S1x1024x5248.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 1 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 1 ≤ β (2 : Fin 3) ∧ β (2 : Fin 3) < 2)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 1024 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    simp only [true_and] at hj
    rw [A_eq]
    refine (congrFun (V_main_v0 m c) _).trans (product_off _ _ _ _ ?_).symm
    unfold Inside
    blk_simp
    omega

end Cert.Kernel12Ideal.Value

namespace Cert.Reference12Ideal.Value

open Cert.Reference12Ideal Cert.Reference12Ideal.Gen

theorem array (a : FVec Ideal S4096x1024 .bf16) (b : FVec Ideal S4096x1024 .bf16) (w : FVec Ideal S1x1024x5248 .f32) :
    (concatenate S1x1024x5248 2 [⟨S1x1024x1024, ((extractStridedSlice S1x1024x1024 ![0, 0, 0] w slices_S1x1024x5248_S1x1024x1024_0_0_0) : (⟨S1x1024x1024, .f32⟩ : BufTy).Contents (Elt Ideal))⟩, ⟨S1x1024x1024, ((broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0)) : (⟨S1x1024x1024, .f32⟩ : BufTy).Contents (Elt Ideal))⟩, ⟨S1x1024x3200, ((extractStridedSlice S1x1024x3200 ![0, 0, 2048] w slices_S1x1024x5248_S1x1024x3200_0_0_2048) : (⟨S1x1024x3200, .f32⟩ : BufTy).Contents (Elt Ideal))⟩] concatenates_S1x1024x1024_S1x1024x1024_S1x1024x3200_S1x1024x5248_d2 : (⟨S1x1024x5248, .f32⟩ : BufTy).Contents (Elt Ideal))
      = Cert.Kernel12Ideal.Value.product a b w := by
  funext i
  have i0 : (i 0).val < 1 := (i 0).isLt
  have i1 : (i 1).val < 1024 := (i 1).isLt
  have i2 : (i 2).val < 5248 := (i 2).isLt
  pointwise
  by_cases u2 : (i 2).val < 1024
  · refine Eq.trans ?_ (Cert.Kernel12Ideal.Value.product_off a b w i (by unfold Cert.Kernel12Ideal.Value.Inside; omega)).symm
    rw [dif_pos u2] <;>
    exact congrArg w (funext fun x => match x with
      | 0 => Subsingleton.elim (α := Fin 1) _ _
      | 1 => Fin.ext (show (i 1).val = (i 1).val by omega)
      | 2 => Fin.ext (show (i 2).val = (i 2).val by omega))
  by_cases v2 : (i 2).val - 1024 < 1024
  · skip
    rw [dif_neg u2, dif_pos v2]
    refine Eq.trans ?_ (Cert.Kernel12Ideal.Value.product_at a b w i ⟨(i 1).val - 0, by omega⟩ ⟨(i 2).val - 1024, by omega⟩ (by omega) (by dsimp only; omega) (by dsimp only; omega)).symm
    exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
  · refine Eq.trans ?_ (Cert.Kernel12Ideal.Value.product_off a b w i (by unfold Cert.Kernel12Ideal.Value.Inside; omega)).symm
    rw [dif_neg u2, dif_neg v2] <;>
    exact congrArg w (funext fun x => match x with
      | 0 => Subsingleton.elim (α := Fin 1) _ _
      | 1 => Fin.ext (show (i 1).val = (i 1).val by omega)
      | 2 => Fin.ext (show 2048 + ((i 2).val - 1024 - 1024) = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference12Ideal.Value

end
-- ==== Proof.DwGateIn.lean ====
/-
  The eleventh kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel11Ideal.Value
public import proofs.«01_k».proof.Proof.Gen.Reference11Ideal.Run
public import proofs.«01_k».proof.Proof.Halves

@[expose] public section

set_option maxRecDepth 16384

noncomputable section

open Idealize.ShloMosaic Idealize.ShloMosaic.TcCoe Idealize.SL.Sem

namespace Cert.Kernel11Ideal.Value

open Cert.Kernel11Ideal Cert.Kernel11Ideal.Gen

/-- The block which is replaced. -/
def Inside (i : S1x1024x5248.Idx) : Prop :=
  (i 0).val = 0 ∧ 0 ≤ (i 1).val ∧ (i 1).val < 1024 ∧ 2048 ≤ (i 2).val ∧ (i 2).val < 3072

instance (i : S1x1024x5248.Idx) : Decidable (Inside i) := by
  unfold Inside
  infer_instance

/-- The product, the contraction running over the tokens. -/
def entry (a : FVec Ideal S4096x1024 .bf16) (b : FVec Ideal S4096x1024 .bf16) (p : Fin 1024) (q : Fin 1024) : EReal :=
  ∑ s : Fin 4096, a (ix2 s p) * b (ix2 s q)

/-- The buffer, the block replaced by the product. -/
def product (a : FVec Ideal S4096x1024 .bf16) (b : FVec Ideal S4096x1024 .bf16) (w : FVec Ideal S1x1024x5248 .f32) : FVec Ideal S1x1024x5248 .f32 :=
  fun i => if h : Inside i then entry a b ⟨(i 1).val - 0, by unfold Inside at h; omega⟩ ⟨(i 2).val - 2048, by unfold Inside at h; omega⟩ else w i

theorem product_at (a : FVec Ideal S4096x1024 .bf16) (b : FVec Ideal S4096x1024 .bf16) (w : FVec Ideal S1x1024x5248 .f32) (i : S1x1024x5248.Idx)
    (p : Fin 1024) (q : Fin 1024) (h0 : (i 0).val = 0) (h1 : (i 1).val = 0 + p.val) (h2 : (i 2).val = 2048 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x1024 .bf16) (w : FVec Ideal S1x1024x5248 .f32) (i : S1x1024x5248.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 2 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 1024) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 1024) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 1024; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 2 ≤ β (2 : Fin 3) ∧ β (2 : Fin 3) < 3)
    (by decide +kernel) (fun t hf y => ?_) (fun j hj => ?_)
  · obtain ⟨-, -, i⟩ := idx t
    have h : t.val % 2 = 1 := (flush0_2 t).mp hf
    have ht : t.val < 2 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 2048 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    simp only [true_and] at hj
    rw [A_eq]
    refine (congrFun (V_main_v0 m c) _).trans (product_off _ _ _ _ ?_).symm
    unfold Inside
    blk_simp
    omega

end Cert.Kernel11Ideal.Value

namespace Cert.Reference11Ideal.Value

open Cert.Reference11Ideal Cert.Reference11Ideal.Gen

theorem array (a : FVec Ideal S4096x1024 .bf16) (b : FVec Ideal S4096x1024 .bf16) (w : FVec Ideal S1x1024x5248 .f32) :
    (concatenate S1x1024x5248 2 [⟨S1x1024x2048, ((extractStridedSlice S1x1024x2048 ![0, 0, 0] w slices_S1x1024x5248_S1x1024x2048_0_0_0) : (⟨S1x1024x2048, .f32⟩ : BufTy).Contents (Elt Ideal))⟩, ⟨S1x1024x1024, ((broadcastInDim S1x1024x1024 ![1, 2] bcast_S1024x1024_S1x1024x1024_1_2 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0)) : (⟨S1x1024x1024, .f32⟩ : BufTy).Contents (Elt Ideal))⟩, ⟨S1x1024x2176, ((extractStridedSlice S1x1024x2176 ![0, 0, 3072] w slices_S1x1024x5248_S1x1024x2176_0_0_3072) : (⟨S1x1024x2176, .f32⟩ : BufTy).Contents (Elt Ideal))⟩] concatenates_S1x1024x2048_S1x1024x1024_S1x1024x2176_S1x1024x5248_d2 : (⟨S1x1024x5248, .f32⟩ : BufTy).Contents (Elt Ideal))
      = Cert.Kernel11Ideal.Value.product a b w := by
  funext i
  have i0 : (i 0).val < 1 := (i 0).isLt
  have i1 : (i 1).val < 1024 := (i 1).isLt
  have i2 : (i 2).val < 5248 := (i 2).isLt
  pointwise
  by_cases u2 : (i 2).val < 2048
  · refine Eq.trans ?_ (Cert.Kernel11Ideal.Value.product_off a b w i (by unfold Cert.Kernel11Ideal.Value.Inside; omega)).symm
    rw [dif_pos u2] <;>
    exact congrArg w (funext fun x => match x with
      | 0 => Subsingleton.elim (α := Fin 1) _ _
      | 1 => Fin.ext (show (i 1).val = (i 1).val by omega)
      | 2 => Fin.ext (show (i 2).val = (i 2).val by omega))
  by_cases v2 : (i 2).val - 2048 < 1024
  · skip
    rw [dif_neg u2, dif_pos v2]
    refine Eq.trans ?_ (Cert.Kernel11Ideal.Value.product_at a b w i ⟨(i 1).val - 0, by omega⟩ ⟨(i 2).val - 2048, by omega⟩ (by omega) (by dsimp only; omega) (by dsimp only; omega)).symm
    exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
  · refine Eq.trans ?_ (Cert.Kernel11Ideal.Value.product_off a b w i (by unfold Cert.Kernel11Ideal.Value.Inside; omega)).symm
    rw [dif_neg u2, dif_neg v2] <;>
    exact congrArg w (funext fun x => match x with
      | 0 => Subsingleton.elim (α := Fin 1) _ _
      | 1 => Fin.ext (show (i 1).val = (i 1).val by omega)
      | 2 => Fin.ext (show 3072 + ((i 2).val - 2048 - 1024) = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference11Ideal.Value

end
-- ==== Proof.DwScanIn.lean ====
/-
  The tenth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel10Ideal.Value
public import proofs.«01_k».proof.Proof.Gen.Reference10Ideal.Run
public import proofs.«01_k».proof.Proof.Halves

@[expose] public section

set_option maxRecDepth 16384

noncomputable section

open Idealize.ShloMosaic Idealize.ShloMosaic.TcCoe Idealize.SL.Sem

namespace Cert.Kernel10Ideal.Value

open Cert.Kernel10Ideal Cert.Kernel10Ideal.Gen

/-- The block which is replaced. -/
def Inside (i : S1x1024x5248.Idx) : Prop :=
  (i 0).val = 0 ∧ 0 ≤ (i 1).val ∧ (i 1).val < 1024 ∧ 3072 ≤ (i 2).val ∧ (i 2).val < 5120

instance (i : S1x1024x5248.Idx) : Decidable (Inside i) := by
  unfold Inside
  infer_instance

/-- The product, the contraction running over the tokens. -/
def entry (a : FVec Ideal S4096x1024 .bf16) (b : FVec Ideal S4096x2048 .bf16) (p : Fin 1024) (q : Fin 2048) : EReal :=
  ∑ s : Fin 4096, a (ix2 s p) * b (ix2 s q)

/-- The buffer, the block replaced by the product. -/
def product (a : FVec Ideal S4096x1024 .bf16) (b : FVec Ideal S4096x2048 .bf16) (w : FVec Ideal S1x1024x5248 .f32) : FVec Ideal S1x1024x5248 .f32 :=
  fun i => if h : Inside i then entry a b ⟨(i 1).val - 0, by unfold Inside at h; omega⟩ ⟨(i 2).val - 3072, by unfold Inside at h; omega⟩ else w i

theorem product_at (a : FVec Ideal S4096x1024 .bf16) (b : FVec Ideal S4096x2048 .bf16) (w : FVec Ideal S1x1024x5248 .f32) (i : S1x1024x5248.Idx)
    (p : Fin 1024) (q : Fin 2048) (h0 : (i 0).val = 0) (h1 : (i 1).val = 0 + p.val) (h2 : (i 2).val = 3072 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x2048 .bf16) (w : FVec Ideal S1x1024x5248 .f32) (i : S1x1024x5248.Idx)
    (h : ¬Inside i) : product a b w i = w i :=
  dif_neg h

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![0, 0, 3 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1024) (hs : 2048 * (t.val % 2) + s.val < 4096)
    (hq : 1024 * (t.val / 2) + q.val < 2048) :
    iblk m c 1 t (ix2 s q) = m ((c : Thread nD τ).loc main_arg1) (ix2 ⟨2048 * (t.val % 2) + s.val, hs⟩ ⟨1024 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1024) (hq : 1024 * (t.val / 2) + q.val < 2048) :
    (outsAt0 m c t.val t.isLt).1 (ix3 0 p q) = entry (m ((c : Thread nD τ).loc main_arg0)) (m ((c : Thread nD τ).loc main_arg1))
      p ⟨1024 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1024 * ((t.val - 1) / 2) + q.val < 2048; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 0 ∧ β (1 : Fin 3) = 0 ∧ 3 ≤ β (2 : Fin 3) ∧ β (2 : Fin 3) < 5)
    (by decide +kernel) (fun t hf y => ?_) (fun j hj => ?_)
  · obtain ⟨-, -, i⟩ := idx t
    have h : t.val % 2 = 1 := (flush0_2 t).mp hf
    have ht : t.val < 4 := t.isLt
    have hp : (y 1).val < 1024 := ((cfg0.win 2).xinj (grid0.coords t) y 1).isLt
    have hq : (y 2).val < 1024 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 0 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 3072 + (1024 * (t.val / 2) + (y 2).val) :=
      (show _ = win0_2.index t (2 : Fin 3) * 1024 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1024 * (t.val / 2) + (y 2).val, by omega⟩ e0 e1 e2).symm
  · blk_simp [Pipeline.Window.cell_apply] at hj
    simp only [true_and] at hj
    rw [A_eq]
    refine (congrFun (V_main_v0 m c) _).trans (product_off _ _ _ _ ?_).symm
    unfold Inside
    blk_simp
    omega

end Cert.Kernel10Ideal.Value

namespace Cert.Reference10Ideal.Value

open Cert.Reference10Ideal Cert.Reference10Ideal.Gen

theorem array (a : FVec Ideal S4096x1024 .bf16) (b : FVec Ideal S4096x2048 .bf16) (w : FVec Ideal S1x1024x5248 .f32) :
    (concatenate S1x1024x5248 2 [⟨S1x1024x3072, ((extractStridedSlice S1x1024x3072 ![0, 0, 0] w slices_S1x1024x5248_S1x1024x3072_0_0_0) : (⟨S1x1024x3072, .f32⟩ : BufTy).Contents (Elt Ideal))⟩, ⟨S1x1024x2048, ((broadcastInDim S1x1024x2048 ![1, 2] bcast_S1024x2048_S1x1024x2048_1_2 (transpose S1024x2048 [1, 0] (Host.dotGeneral dot_S4096x2048_S4096x1024_S2048x1024_0_0_1_1_n_n none (extf .f32 b bitsLt_bf16_f32) (extf .f32 a bitsLt_bf16_f32)) transposes_S2048x1024_S1024x2048_1_0)) : (⟨S1x1024x2048, .f32⟩ : BufTy).Contents (Elt Ideal))⟩, ⟨S1x1024x128, ((extractStridedSlice S1x1024x128 ![0, 0, 5120] w slices_S1x1024x5248_S1x1024x128_0_0_5120) : (⟨S1x1024x128, .f32⟩ : BufTy).Contents (Elt Ideal))⟩] concatenates_S1x1024x3072_S1x1024x2048_S1x1024x128_S1x1024x5248_d2 : (⟨S1x1024x5248, .f32⟩ : BufTy).Contents (Elt Ideal))
      = Cert.Kernel10Ideal.Value.product a b w := by
  funext i
  have i0 : (i 0).val < 1 := (i 0).isLt
  have i1 : (i 1).val < 1024 := (i 1).isLt
  have i2 : (i 2).val < 5248 := (i 2).isLt
  pointwise
  by_cases u2 : (i 2).val < 3072
  · refine Eq.trans ?_ (Cert.Kernel10Ideal.Value.product_off a b w i (by unfold Cert.Kernel10Ideal.Value.Inside; omega)).symm
    rw [dif_pos u2] <;>
    exact congrArg w (funext fun x => match x with
      | 0 => Subsingleton.elim (α := Fin 1) _ _
      | 1 => Fin.ext (show (i 1).val = (i 1).val by omega)
      | 2 => Fin.ext (show (i 2).val = (i 2).val by omega))
  by_cases v2 : (i 2).val - 3072 < 2048
  · skip
    rw [dif_neg u2, dif_pos v2]
    refine Eq.trans ?_ (Cert.Kernel10Ideal.Value.product_at a b w i ⟨(i 1).val - 0, by omega⟩ ⟨(i 2).val - 3072, by omega⟩ (by omega) (by dsimp only; omega) (by dsimp only; omega)).symm
    exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
  · refine Eq.trans ?_ (Cert.Kernel10Ideal.Value.product_off a b w i (by unfold Cert.Kernel10Ideal.Value.Inside; omega)).symm
    rw [dif_neg u2, dif_neg v2] <;>
    exact congrArg w (funext fun x => match x with
      | 0 => Subsingleton.elim (α := Fin 1) _ _
      | 1 => Fin.ext (show (i 1).val = (i 1).val by omega)
      | 2 => Fin.ext (show 5120 + ((i 2).val - 3072 - 2048) = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference10Ideal.Value

end
-- ==== Proof.DwGate.lean ====
/-
  The ninth kernel's result at an index: the product of the columns of its two arguments, the sum over the tokens taken
  in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel9Ideal.Value
public import proofs.«01_k».proof.Proof.Gen.Reference9Ideal.Run
public import proofs.«01_k».proof.Proof.Halves

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

/-- The product, the contraction running over the tokens. -/
def product (a : FVec Ideal S4096x1024 .bf16) (b : FVec Ideal S4096x1024 .bf16) : FVec Ideal S1x1024x1024 .f32 :=
  fun i => ∑ s : Fin 4096, a (ix2 s (i 1)) * b (ix2 s (i 2))

theorem first_at (x : FVec Ideal S2048x1024 .bf16) (y : FVec Ideal S2048x1024 .bf16) (p : Fin 1024) (q : Fin 1024) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1024 .bf16) (z : FVec Ideal S1024x1024 .f32)
    (p : Fin 1024) (q : Fin 1024) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, t.val / 2] ∧ win0_1.index t = ![t.val % 2, 0]
    ∧ win0_2.index t = ![0, t.val / 2, 0] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096)
    (hp : 1024 * (t.val / 2) + p.val < 1024) :
    iblk m c 0 t (ix2 s p) = m ((c : Thread nD τ).loc main_arg0) (ix2 ⟨2048 * (t.val % 2) + s.val, hs⟩ ⟨1024 * (t.val / 2) + p.val, hp⟩) := by
  obtain ⟨i, -, -⟩ := idx t
  blk_ext [iblk, V_main_arg0, i]

theorem in1 (t : Fin cfg0.N) (s : Fin 2048) (q : Fin 1024) (hs : 2048 * (t.val % 2) + s.val < 4096) :
    iblk m c 1 t (ix2 s q) = m ((c : Thread nD τ).loc main_arg1) (ix2 ⟨2048 * (t.val % 2) + s.val, hs⟩ q) := by
  obtain ⟨-, i, -⟩ := idx t
  blk_ext [iblk, V_main_arg1, i]

/-- The blocks which a point reads. -/
abbrev left (t : Fin cfg0.N) : FVec Ideal S2048x1024 .bf16 := iblk m c 0 t

abbrev right (t : Fin cfg0.N) : FVec Ideal S2048x1024 .bf16 := iblk m c 1 t

/-- After an even point the scratch holds the first half's sum. -/
theorem scratch_at (t : Fin cfg0.N) (h : t.val % 2 = 0) (p : Fin 1024) (q : Fin 1024) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1024) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

theorem array : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨-, -, i⟩ := idx t
  have e : y = ix3 0 (y 1) (y 2) := by
    funext a
    match a with
    | 0 => exact Subsingleton.elim (α := Fin 1) _ _
    | 1 => rfl
    | 2 => rfl
  have h : t.val % 2 = 1 := (flush0_2 t).mp hf
  have ht : t.val < 2 := t.isLt
  have hp : (y 1).val < 1024 := (y 1).isLt
  have e1 : ((cfg0.win 2).blk t).view.emb y 1 = (⟨1024 * (t.val / 2) + (y 1).val, by omega⟩ : Fin 1024) :=
    Fin.ext ((show _ = win0_2.index t (1 : Fin 3) * 1024 + 1 * (y 1).val from rfl).trans (by rw [i]; simp; omega))
  have e2 : ((cfg0.win 2).blk t).view.emb y 2 = (y 2 : Fin 1024) :=
    Fin.ext ((show _ = win0_2.index t (2 : Fin 3) * 1024 + 1 * (y 2).val from rfl).trans (by rw [i]; simp))
  blk_simp
  rw [after0_2]
  refine (congrArg _ e).trans ((window_at m c t h (y 1) (y 2)).trans ?_)
  unfold product
  refine Eq.trans ?_ (Cert.sum_halves _).symm
  refine congr (congrArg _ (Finset.sum_congr rfl fun s _ => ?_)) (Finset.sum_congr rfl fun s _ => ?_)
  · have hN : t.val - 1 < cfg0.N := Nat.lt_of_le_of_lt (Nat.sub_le _ _) t.isLt
    have hs : s.val < 2048 := s.isLt
    have t1 : (t.val - 1) / 2 = t.val / 2 := by omega
    have t0 : (t.val - 1) % 2 = 0 := by omega
    refine congr (congrArg _ ((in0 m c ⟨t.val - 1, hN⟩ s (y 1) (by show 2048 * ((t.val - 1) % 2) + s.val < 4096; omega)
        (by show 1024 * ((t.val - 1) / 2) + (y 1).val < 1024; omega)).trans ?_))
      ((in1 m c ⟨t.val - 1, hN⟩ s (y 2) (by show 2048 * ((t.val - 1) % 2) + s.val < 4096; omega)).trans ?_)
    · refine congrArg (m ((c : Thread nD τ).loc main_arg0)) (congr (congrArg _ (Fin.ext ?_)) (Eq.trans (Fin.ext ?_) e1.symm))
      · dsimp only
        omega
      · dsimp only
        omega
    · refine congrArg (m ((c : Thread nD τ).loc main_arg1)) (congr (congrArg _ (Fin.ext ?_)) e2.symm)
      dsimp only
      omega
  · refine congr (congrArg _ ((in0 m c t s (y 1) (by omega) (by omega)).trans ?_))
      ((in1 m c t s (y 2) (by omega)).trans ?_)
    · refine congrArg (m ((c : Thread nD τ).loc main_arg0)) (congr (congrArg _ (Fin.ext ?_)) e1.symm)
      dsimp only
      omega
    · refine congrArg (m ((c : Thread nD τ).loc main_arg1)) (congr (congrArg _ (Fin.ext ?_)) e2.symm)
      dsimp only
      omega

end Cert.Kernel9Ideal.Value

namespace Cert.Reference9Ideal.Value

open Cert.Reference9Ideal Cert.Reference9Ideal.Gen

theorem array (a : FVec Ideal S4096x1024 .bf16) (b : FVec Ideal S4096x1024 .bf16) :
    broadcastInDim S1x1024x1024 ![1, 2] bcast_S1024x1024_S1x1024x1024_1_2 (transpose S1024x1024 [1, 0]
      (Host.dotGeneral dot_S4096x1024_S4096x1024_S1024x1024_0_0_1_1_n_n none (extf .f32 b bitsLt_bf16_f32)
        (extf .f32 a bitsLt_bf16_f32)) transposes_S1024x1024_S1024x1024_1_0)
      = Cert.Kernel9Ideal.Value.product a b := by
  funext i
  unfold Cert.Kernel9Ideal.Value.product
  pointwise
  exact Finset.sum_congr rfl fun s _ => mul_comm _ _

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (run m g)

end Cert.Reference9Ideal.Value

end
-- ==== Proof.DwUpFirst.lean ====
/-
  The eighth kernel's result at an index: a block of the buffer replaced by the product of the columns of the first two
  arguments, the sum over the tokens taken in two halves.
-/
module

public import Idealize.ShloMosaic.Lib.Pipeline.ReadBack
public import Idealize.ShloMosaic.Lib.Pipeline.ValueKit
public import Idealize.ShloMosaic.Lib.Pointwise
public import Idealize.ShloMosaic.Lib.Quiescent
public import proofs.«01_k».proof.Proof.Gen.Kernel8Ideal.Value
public import proofs.«01_k».proof.Proof.Gen.Reference8Ideal.Run
public import proofs.«01_k».proof.Proof.Halves

@[expose] public section

set_option maxRecDepth 16384

noncomputable section

open Idealize.ShloMosaic Idealize.ShloMosaic.TcCoe Idealize.SL.Sem

namespace Cert.Kernel8Ideal.Value

open Cert.Kernel8Ideal Cert.Kernel8Ideal.Gen

/-- The block which is replaced. -/
def Inside (i : S3x1024x5632.Idx) : Prop :=
  (i 0).val = 1 ∧ 0 ≤ (i 1).val ∧ (i 1).val < 1024 ∧ 0 ≤ (i 2).val ∧ (i 2).val < 2816

instance (i : S3x1024x5632.Idx) : Decidable (Inside i) := by
  unfold Inside
  infer_instance

/-- The product, the contraction running over the tokens. -/
def entry (a : FVec Ideal S4096x1024 .bf16) (b : FVec Ideal S4096x2816 .bf16) (p : Fin 1024) (q : Fin 2816) : EReal :=
  ∑ s : Fin 4096, a (ix2 s p) * b (ix2 s q)

/-- The buffer, the block replaced by the product. -/
def product (a : FVec Ideal S4096x1024 .bf16) (b : FVec Ideal S4096x2816 .bf16) (w : FVec Ideal S3x1024x5632 .f32) : FVec Ideal S3x1024x5632 .f32 :=
  fun i => if h : Inside i then entry a b ⟨(i 1).val - 0, by unfold Inside at h; omega⟩ ⟨(i 2).val - 0, by unfold Inside at h; omega⟩ else w i

theorem product_at (a : FVec Ideal S4096x1024 .bf16) (b : FVec Ideal S4096x2816 .bf16) (w : FVec Ideal S3x1024x5632 .f32) (i : S3x1024x5632.Idx)
    (p : Fin 1024) (q : Fin 2816) (h0 : (i 0).val = 1) (h1 : (i 1).val = 0 + p.val) (h2 : (i 2).val = 0 + q.val) :
    product a b w i = entry a b p q := by
  have h : Inside i := by
    unfold Inside
    omega
  unfold product
  rw [dif_pos h]
  exact congr (congrArg _ (Fin.ext (by dsimp only; omega))) (Fin.ext (by dsimp only; omega))

theorem product_off (a : FVec Ideal S4096x1024 .bf16) (b : FVec Ideal S4096x2816 .bf16) (w : FVec Ideal S3x1024x5632 .f32) (i : S3x1024x5632.Idx)
    (h : ¬Inside i) : product a b w i = w i :=
  dif_neg h

theorem first_at (x : FVec Ideal S2048x1024 .bf16) (y : FVec Ideal S2048x1408 .bf16) (p : Fin 1024) (q : Fin 1408) :
    k0_pay2 (F := Ideal) x y (ix2 p q) = ∑ s : Fin 2048, x (ix2 s p) * y (ix2 s q) := by
  pointwise [k0_pay2, k0_pay1]

theorem last_at (x : FVec Ideal S2048x1024 .bf16) (y : FVec Ideal S2048x1408 .bf16) (z : FVec Ideal S1024x1408 .f32)
    (p : Fin 1024) (q : Fin 1408) :
    k0_pay4 (F := Ideal) x y z (ix3 0 p q) = z (ix2 p q) + ∑ s : Fin 2048, x (ix2 s p) * y (ix2 s q) := by
  pointwise [k0_pay4, k0_pay1]

theorem idx (t : Fin cfg0.N) : win0_0.index t = ![t.val % 2, 0] ∧ win0_1.index t = ![t.val % 2, t.val / 2]
    ∧ win0_2.index t = ![1, 0, 0 + t.val / 2] := by
  revert t
  decide +kernel

variable (m : (ℓ : Loc nD τ sig) → Buf (Elt Ideal) ℓ) (c : Dev nD)

theorem in0 (t : Fin cfg0.N) (s : Fin 2048) (p : Fin 1024) (hs : 2048 * (t.val % 2) + s.val < 4096) :
    iblk m c 0 t (ix2 s p) = m ((c : Thread nD τ).loc main_arg0) (ix2 ⟨2048 * (t.val % 2) + s.val, hs⟩ p) := by
  obtain ⟨i, -, -⟩ := idx t
  blk_ext [iblk, V_main_arg0, i]

theorem in1 (t : Fin cfg0.N) (s : Fin 2048) (q : Fin 1408) (hs : 2048 * (t.val % 2) + s.val < 4096)
    (hq : 1408 * (t.val / 2) + q.val < 2816) :
    iblk m c 1 t (ix2 s q) = m ((c : Thread nD τ).loc main_arg1) (ix2 ⟨2048 * (t.val % 2) + s.val, hs⟩ ⟨1408 * (t.val / 2) + q.val, hq⟩) := by
  obtain ⟨-, i, -⟩ := idx t
  blk_ext [iblk, V_main_arg1, i]

/-- The buffer as the region finds it. -/
theorem V_main_v0 : V m c main_v0 = m ((c : Thread nD τ).loc main_arg2) := by
  simp only [V, hostOps0]
  entry_read
  rfl

/-- The blocks which a point reads. -/
abbrev left (t : Fin cfg0.N) : FVec Ideal S2048x1024 .bf16 := iblk m c 0 t

abbrev right (t : Fin cfg0.N) : FVec Ideal S2048x1408 .bf16 := iblk m c 1 t

/-- After an even point the scratch holds the first half's sum. -/
theorem scratch_at (t : Fin cfg0.N) (h : t.val % 2 = 0) (p : Fin 1024) (q : Fin 1408) :
    (outsAt0 m c t.val t.isLt).2 (ix2 p q) = ∑ s : Fin 2048, left m c t (ix2 s p) * right m c t (ix2 s q) := by
  rw [outsAt0_A m c t h (by omega)]
  dsimp only
  frame_open; simp (disch := decide) only [↓ View.readCov_skip, ↓ View.readCov_cons_toLoadRect, ↓ View.readCov_fill]; frame_out; try simp only [read_unread_whole]
  exact first_at _ _ p q

/-- After an odd point the window holds that and the second half's sum. -/
theorem window_at (t : Fin cfg0.N) (h : t.val % 2 = 1) (p : Fin 1024) (q : Fin 1408) :
    (outsAt0 m c t.val t.isLt).1 (ix3 0 p q)
      = (∑ s : Fin 2048, left m c ⟨t.val - 1, by omega⟩ (ix2 s p) * right m c ⟨t.val - 1, by omega⟩ (ix2 s q))
        + ∑ s : Fin 2048, left m c t (ix2 s p) * right m c t (ix2 s q) := by
  rw [outsAt0_B m c t (by omega) h]
  dsimp only
  frame_open; simp (disch := decide) only [↓ View.readCov_skip, ↓ View.readCov_cons_toLoadRect, ↓ View.readCov_fill]; frame_out; try simp only [read_unread_whole]
  refine (last_at _ _ _ p q).trans ?_
  exact congrArg (· + _) (scratch_at m c ⟨t.val - 1, by omega⟩ (by show (t.val - 1) % 2 = 0; omega) p q)

/-- The two halves are an entry of the product. -/
theorem window_entry (t : Fin cfg0.N) (h : t.val % 2 = 1) (p : Fin 1024) (q : Fin 1408) (hq : 1408 * (t.val / 2) + q.val < 2816) :
    (outsAt0 m c t.val t.isLt).1 (ix3 0 p q) = entry (m ((c : Thread nD τ).loc main_arg0)) (m ((c : Thread nD τ).loc main_arg1))
      p ⟨1408 * (t.val / 2) + q.val, hq⟩ := by
  have hN : t.val - 1 < cfg0.N := Nat.lt_of_le_of_lt (Nat.sub_le _ _) t.isLt
  have t1 : (t.val - 1) / 2 = t.val / 2 := by omega
  have t0 : (t.val - 1) % 2 = 0 := by omega
  refine (window_at m c t h p q).trans (Eq.trans ?_ (Cert.sum_halves _).symm)
  refine congr (congrArg _ (Finset.sum_congr rfl fun s _ => ?_)) (Finset.sum_congr rfl fun s _ => ?_)
  · have hs : s.val < 2048 := s.isLt
    refine congr (congrArg _ ((in0 m c ⟨t.val - 1, hN⟩ s p (by show 2048 * ((t.val - 1) % 2) + s.val < 4096; omega)).trans ?_))
      ((in1 m c ⟨t.val - 1, hN⟩ s q (by show 2048 * ((t.val - 1) % 2) + s.val < 4096; omega)
        (by show 1408 * ((t.val - 1) / 2) + q.val < 2816; omega)).trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) (Fin.ext ?_))
      · dsimp only
        omega
      · dsimp only
        omega
  · have hs : s.val < 2048 := s.isLt
    refine congr (congrArg _ ((in0 m c t s p (by omega)).trans ?_)) (in1 m c t s q (by omega) hq |>.trans ?_)
    · refine congrArg (m ((c : Thread nD τ).loc main_arg0)) (congr (congrArg _ (Fin.ext ?_)) rfl)
      dsimp only
      omega
    · refine congrArg (m ((c : Thread nD τ).loc main_arg1)) (congr (congrArg _ (Fin.ext ?_)) rfl)
      dsimp only
      omega

theorem array : (dats m 0 c).arrAt 2 cfg0.N
    = product (m ((c : Thread nD τ).loc main_arg0)) (m ((c : Thread nD τ).loc main_arg1)) (m ((c : Thread nD τ).loc main_arg2)) := by
  refine (dats m 0 c).arrAt_eq_of_coversWhere_of_agree 2 _
    (fun β => β (0 : Fin 3) = 1 ∧ β (1 : Fin 3) = 0 ∧ 0 ≤ β (2 : Fin 3) ∧ β (2 : Fin 3) < 2)
    (by decide +kernel) (fun t hf y => ?_) (fun j hj => ?_)
  · obtain ⟨-, -, i⟩ := idx t
    have h : t.val % 2 = 1 := (flush0_2 t).mp hf
    have ht : t.val < 4 := t.isLt
    have hp : (y 1).val < 1024 := ((cfg0.win 2).xinj (grid0.coords t) y 1).isLt
    have hq : (y 2).val < 1408 := ((cfg0.win 2).xinj (grid0.coords t) y 2).isLt
    have e : (cfg0.win 2).xinj (grid0.coords t) y = ix3 0 ⟨(y 1).val, hp⟩ ⟨(y 2).val, hq⟩ := by
      funext a
      match a with
      | 0 => exact Subsingleton.elim (α := Fin 1) _ _
      | 1 => rfl
      | 2 => rfl
    have hz : (y 0).val = 0 := Nat.lt_one_iff.mp ((cfg0.win 2).xinj (grid0.coords t) y 0).isLt
    have e0 : (((cfg0.win 2).blk t).view.emb y 0).val = 1 :=
      (show _ = win0_2.index t (0 : Fin 3) * 1 + 1 * (y 0).val from rfl).trans (by rw [i, hz]; rfl)
    have e1 : (((cfg0.win 2).blk t).view.emb y 1).val = 0 + (y 1).val :=
      (show _ = win0_2.index t (1 : Fin 3) * 1024 + 1 * (y 1).val from rfl).trans (by rw [i]; simp)
    have e2 : (((cfg0.win 2).blk t).view.emb y 2).val = 0 + (1408 * (t.val / 2) + (y 2).val) :=
      (show _ = win0_2.index t (2 : Fin 3) * 1408 + 1 * (y 2).val from rfl).trans (by rw [i]; simp; omega)
    blk_simp
    rw [after0_2]
    refine (congrArg _ e).trans ((window_entry m c t h ⟨(y 1).val, hp⟩ ⟨(y 2).val, hq⟩ (by dsimp only; omega)).trans ?_)
    exact (product_at _ _ _ _ ⟨(y 1).val, hp⟩ ⟨1408 * (t.val / 2) + (y 2).val, by omega⟩ e0 e1 e2).symm
  · blk_simp [Pipeline.Window.cell_apply] at hj
    rw [A_eq]
    refine (congrFun (V_main_v0 m c) _).trans (product_off _ _ _ _ ?_).symm
    unfold Inside
    blk_simp
    omega

end Cert.Kernel8Ideal.Value

namespace Cert.Reference8Ideal.Value

open Cert.Reference8Ideal Cert.Reference8Ideal.Gen

theorem array (a : FVec Ideal S4096x1024 .bf16) (b : FVec Ideal S4096x2816 .bf16) (w : FVec Ideal S3x1024x5632 .f32) :
    (concatenate S3x1024x5632 0 [⟨S1x1024x5632, ((extractStridedSlice S1x1024x5632 ![0, 0, 0] w slices_S3x1024x5632_S1x1024x5632_0_0_0) : (⟨S1x1024x5632, .f32⟩ : BufTy).Contents (Elt Ideal))⟩, ⟨S1x1024x5632, ((concatenate S1x1024x5632 2 [⟨S1x1024x2816, (broadcastInDim S1x1024x2816 ![1, 2] bcast_S1024x2816_S1x1024x2816_1_2 (transpose S1024x2816 [1, 0] (Host.dotGeneral dot_S4096x2816_S4096x1024_S2816x1024_0_0_1_1_n_n none (extf .f32 b bitsLt_bf16_f32) (extf .f32 a bitsLt_bf16_f32)) transposes_S2816x1024_S1024x2816_1_0))⟩, ⟨S1x1024x2816, (extractStridedSlice S1x1024x2816 ![0, 0, 2816] (extractStridedSlice S1x1024x5632 ![1, 0, 0] w slices_S3x1024x5632_S1x1024x5632_1_0_0) slices_S1x1024x5632_S1x1024x2816_0_0_2816)⟩] concatenates_S1x1024x2816_S1x1024x2816_S1x1024x5632_d2) : (⟨S1x1024x5632, .f32⟩ : BufTy).Contents (Elt Ideal))⟩, ⟨S1x1024x5632, ((extractStridedSlice S1x1024x5632 ![2, 0, 0] w slices_S3x1024x5632_S1x1024x5632_2_0_0) : (⟨S1x1024x5632, .f32⟩ : BufTy).Contents (Elt Ideal))⟩] concatenates_S1x1024x5632_S1x1024x5632_S1x1024x5632_S3x1024x5632_d0 : (⟨S3x1024x5632, .f32⟩ : BufTy).Contents (Elt Ideal))
      = Cert.Kernel8Ideal.Value.product a b w := by
  funext i
  have i0 : (i 0).val < 3 := (i 0).isLt
  have i1 : (i 1).val < 1024 := (i 1).isLt
  have i2 : (i 2).val < 5632 := (i 2).isLt
  pointwise
  by_cases u0 : (i 0).val < 1
  · refine Eq.trans ?_ (Cert.Kernel8Ideal.Value.product_off a b w i (by unfold Cert.Kernel8Ideal.Value.Inside; omega)).symm
    rw [dif_pos u0] <;>
    exact congrArg w (funext fun x => match x with
      | 0 => Fin.ext (show (i 0).val = (i 0).val by omega)
      | 1 => Fin.ext (show (i 1).val = (i 1).val by omega)
      | 2 => Fin.ext (show (i 2).val = (i 2).val by omega))
  by_cases v0 : (i 0).val - 1 < 1
  · skip
    by_cases v2 : (i 2).val < 2816
    · skip
      rw [dif_neg u0, dif_pos v0, dif_pos v2]
      refine Eq.trans ?_ (Cert.Kernel8Ideal.Value.product_at a b w i ⟨(i 1).val - 0, by omega⟩ ⟨(i 2).val - 0, by omega⟩ (by omega) (by dsimp only; omega) (by dsimp only; omega)).symm
      exact Finset.sum_congr rfl fun s _ => (mul_comm _ _).trans (congr (congrArg _ (congrArg a (congrArg (ix2 s) (Fin.ext (by first | rfl | (dsimp only; omega)))))) (congrArg b (congrArg (ix2 s) (Fin.ext (by first | rfl | (dsimp only; omega))))))
    · refine Eq.trans ?_ (Cert.Kernel8Ideal.Value.product_off a b w i (by unfold Cert.Kernel8Ideal.Value.Inside; omega)).symm
      rw [dif_neg u0, dif_pos v0, dif_neg v2] <;>
      exact congrArg w (funext fun x => match x with
        | 0 => Fin.ext (show 1 + ((i 0).val - 1) = (i 0).val by omega)
        | 1 => Fin.ext (show (i 1).val = (i 1).val by omega)
        | 2 => Fin.ext (show 2816 + ((i 2).val - 2816) = (i 2).val by omega))
  · refine Eq.trans ?_ (Cert.Kernel8Ideal.Value.product_off a b w i (by unfold Cert.Kernel8Ideal.Value.Inside; omega)).symm
    rw [dif_neg u0, dif_neg v0] <;>
    exact congrArg w (funext fun x => match x with
      | 0 => Fin.ext (show 2 + ((i 0).val - 1 - 1) = (i 0).val by omega)
      | 1 => Fin.ext (show (i 1).val = (i 1).val by omega)
      | 2 => Fin.ext (show (i 2).val = (i 2).val by omega))

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m g)

end Cert.Reference8Ideal.Value

end
-- ==== Proof.lean ====
/-
  The claim: of each kernel the frames of it, of its idealization and of its reference, and the equality of the results
  of the last two over the extended reals where the inputs are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel33Ideal.Value
public import proofs.«01_k».proof.Proof.Gen.Reference33Ideal.Run
public import proofs.«01_k».proof.Proof.Arrays
public import proofs.«01_k».proof.Proof.Finite
public import proofs.«01_k».proof.Proof.RefRun
public import proofs.«01_k».proof.Proof.NormOut
public import proofs.«01_k».proof.Proof.NormFinite
public import proofs.«01_k».proof.Proof.NormRef
public import proofs.«01_k».proof.Proof.DwDownOut
public import proofs.«01_k».proof.Proof.DactOut
public import proofs.«01_k».proof.Proof.DwUpOut
public import proofs.«01_k».proof.Proof.ProjOut
public import proofs.«01_k».proof.Proof.FfnUpOut
public import proofs.«01_k».proof.Proof.PleProj
public import proofs.«01_k».proof.Proof.MixRef
public import proofs.«01_k».proof.Proof.MixFinite
public import proofs.«01_k».proof.Proof.OutEven
public import proofs.«01_k».proof.Proof.OutOdd
public import proofs.«01_k».proof.Proof.FfnDownOut
public import proofs.«01_k».proof.Proof.PleGate
public import proofs.«01_k».proof.Proof.InGate
public import proofs.«01_k».proof.Proof.InScan
public import proofs.«01_k».proof.Proof.InFirst
public import proofs.«01_k».proof.Proof.InOdd
public import proofs.«01_k».proof.Proof.DscOut
public import proofs.«01_k».proof.Proof.DybOut
public import proofs.«01_k».proof.Proof.DyaOut
public import proofs.«01_k».proof.Proof.DwOddThird
public import proofs.«01_k».proof.Proof.DwOddSecond
public import proofs.«01_k».proof.Proof.DwOddFirst
public import proofs.«01_k».proof.Proof.DwOutOdd
public import proofs.«01_k».proof.Proof.DwOutSecond
public import proofs.«01_k».proof.Proof.DwSecondIn
public import proofs.«01_k».proof.Proof.DwGateIn
public import proofs.«01_k».proof.Proof.DwScanIn
public import proofs.«01_k».proof.Proof.DwGate
public import proofs.«01_k».proof.Proof.DwUpFirst
public import Idealize.ShloMosaic.Adequacy
public import Idealize.ShloMosaic.Init

@[expose] public section

noncomputable section

namespace Cert.Proof

open Idealize.ShloMosaic Idealize.SL.Sem Cert.Kernel

/-- The shape facts which the precondition states. -/
theorem finite_facts : Cert.Pre_finite.Facts where
  bcast_S16_S1x16_1 := by decide
  bcast_S1x16_S4096x16_0_1 := by decide
  concatenates_S4096x2048_S4096x16_S4096x1024_S4096x16_S4096x16_S4096x3120_d1 := by decide
  bcast_S_S4096x3120 := by decide

theorem results_equal : algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  have data := fun c => @Cert.Scan.reads_of_finite finite_facts _ _ _ _ _ _ _ (hpre c)
  choose D hD using data
  have hD' : ∀ c, Cert.ReferenceIdeal.Terms.Holds (D c) (Cert.ReferenceIdeal.Value.inputs m' c) := by
    intro c
    obtain ⟨e0, e1, e2, e3, e4, -, e6⟩ := hargs c
    have h := hD c
    rw [← e0, ← e1, ← e2, ← e3, ← e4, ← e6] at h
    exact h
  refine ⟨fun c => (D c).dxArray, fun c => (D c).dBArray, ?_, ?_⟩
  · refine (θ_run _ _ _).mono (fun r h c => ?_) (Cert.KernelIdeal.Value.run_blocks m g)
    obtain ⟨h0, h1, -, -, -, -, -, -, ha⟩ := h c
    exact ⟨h0.trans (Cert.KernelIdeal.Value.array_dx (hD c)), h1.trans (Cert.KernelIdeal.Value.array_dB (hD c)), ha⟩
  · refine (θ_run _ _ _).mono (fun r h c => ?_) (Cert.ReferenceIdeal.Value.run m' g')
    obtain ⟨h0, h1, ha⟩ := h c
    exact ⟨h0.trans (Cert.ReferenceIdeal.Value.array_dx c (hD' c)), h1.trans (Cert.ReferenceIdeal.Value.array_dB c (hD' c)), ha⟩

/-- The shape facts which the second precondition states. -/
theorem finite2_facts : Cert.Pre_finite2.Facts where
  bitsLt_bf16_f32 := by decide
  bcast_S_S4096x2816 := by decide
  bcast_S_S4096x1024 := by decide
  bcast_S_S1x1024x5632 := by decide
  bcast_S_S1x1024x1024 := by decide
  bcast_S_S1x1024 := by decide

theorem results_equal2 : algebraic_Kernel2Ideal_Reference2Ideal_pre_finite2 (hKernel2Ideal := Cert.Kernel2Ideal.Gen.facts)
    (hReference2Ideal := Cert.Reference2Ideal.Gen.facts) (hPre_finite2 := finite2_facts) := by
  intro m g m' g' hpre hargs
  have data := fun c => @Cert.Norm.reads_of_finite finite2_facts _ _ _ _ _ _ _ _ _ (hpre c)
  choose D hD using data
  have hD' : ∀ c, Cert.Reference2Ideal.Value.ReadsAt m' (D c) c := by
    intro c
    obtain ⟨e0, e1, e2, e3, e4, e5, e6, e7, -⟩ := hargs c
    have h := hD c
    rw [← e0, ← e1, ← e2, ← e3, ← e4, ← e5, ← e6, ← e7] at h
    exact h
  refine ⟨fun c => (D c).dhArray, fun c => (D c).dhArray, fun c => (D c).dgArray, fun c => (D c).dbArray, ?_, ?_⟩
  · refine (θ_run _ _ _).mono (fun r h c => ?_) (Cert.Kernel2Ideal.Value.run_blocks m g)
    obtain ⟨h0, h1, h2, h3, ha⟩ := h c
    exact ⟨h0.trans (Cert.Kernel2Ideal.Value.array_dh (hD c)), h1.trans (Cert.Kernel2Ideal.Value.array_dh_bf16 (hD c)),
      h2.trans (Cert.Kernel2Ideal.Value.array_dg (hD c)), h3.trans (Cert.Kernel2Ideal.Value.array_db (hD c)), ha⟩
  · refine (θ_run _ _ _).mono (fun r h c => ?_) (Cert.Reference2Ideal.Value.run m' g')
    obtain ⟨h0, h1, h2, h3, ha⟩ := h c
    exact ⟨h0.trans (Cert.Reference2Ideal.Value.array_dh (hD' c)), h1.trans (Cert.Reference2Ideal.Value.array_dh_bf16 (hD' c)),
      h2.trans (Cert.Reference2Ideal.Value.array_dg (hD' c)), h3.trans (Cert.Reference2Ideal.Value.array_db (hD' c)), ha⟩

theorem results_equal3 : algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.product
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)), ?_, ?_⟩
  · refine (θ_run _ _ _).mono (fun r h c => ?_) (Cert.Kernel3Ideal.Value.run_blocks m g)
    obtain ⟨h0, ha⟩ := h c
    exact ⟨h0.trans (Cert.Kernel3Ideal.Value.array m c), ha⟩
  · refine (θ_run _ _ _).mono (fun r h c => ?_) (Cert.Reference3Ideal.Value.run m' g')
    obtain ⟨e0, e1⟩ := hargs c
    obtain ⟨h0, ha⟩ := h c
    dsimp only
    rw [← e0, ← e1]
    exact ⟨h0.trans (Cert.Reference3Ideal.Value.array _ _), ha⟩

theorem results_equal4 : algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.product
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)), ?_, ?_⟩
  · refine (θ_run _ _ _).mono (fun r h c => ?_) (Cert.Kernel4Ideal.Value.run_blocks m g)
    obtain ⟨h0, ha⟩ := h c
    exact ⟨h0.trans (Cert.Kernel4Ideal.Value.array m c), ha⟩
  · refine (θ_run _ _ _).mono (fun r h c => ?_) (Cert.Reference4Ideal.Value.run m' g')
    obtain ⟨e0, e1⟩ := hargs c
    obtain ⟨h0, ha⟩ := h c
    dsimp only
    rw [← e0, ← e1]
    exact ⟨h0.trans (Cert.Reference4Ideal.Value.array _ _), ha⟩

theorem results_equal5 : algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Value.product
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)), ?_, ?_⟩
  · refine (θ_run _ _ _).mono (fun r h c => ?_) (Cert.Kernel5Ideal.Value.run_blocks m g)
    obtain ⟨h0, ha⟩ := h c
    exact ⟨h0.trans (Cert.Kernel5Ideal.Value.array m c), ha⟩
  · refine (θ_run _ _ _).mono (fun r h c => ?_) (Cert.Reference5Ideal.Value.run m' g')
    obtain ⟨e0, e1, e2⟩ := hargs c
    obtain ⟨h0, ha⟩ := h c
    dsimp only
    rw [← e0, ← e1, ← e2]
    exact ⟨h0.trans (Cert.Reference5Ideal.Value.array _ _ _), ha⟩

theorem results_equal6 : algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.product
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6)), ?_, ?_⟩
  · refine (θ_run _ _ _).mono (fun r h c => ?_) (Cert.Kernel6Ideal.Value.run_blocks m g)
    obtain ⟨h0, ha⟩ := h c
    exact ⟨h0.trans (Cert.Kernel6Ideal.Value.array m c), ha⟩
  · refine (θ_run _ _ _).mono (fun r h c => ?_) (Cert.Reference6Ideal.Value.run m' g')
    obtain ⟨e0, e1, e2, e3, e4, e5, e6⟩ := hargs c
    obtain ⟨h0, ha⟩ := h c
    dsimp only
    rw [← e0, ← e1, ← e2, ← e3, ← e4, ← e5, ← e6]
    exact ⟨h0.trans (Cert.Reference6Ideal.Value.array _ _ _ _ _ _ _), ha⟩

theorem results_equal7 : algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Value.product
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)), ?_, ?_⟩
  · refine (θ_run _ _ _).mono (fun r h c => ?_) (Cert.Kernel7Ideal.Value.run_blocks m g)
    obtain ⟨h0, ha⟩ := h c
    exact ⟨h0.trans (Cert.Kernel7Ideal.Value.array m c), ha⟩
  · refine (θ_run _ _ _).mono (fun r h c => ?_) (Cert.Reference7Ideal.Value.run m' g')
    obtain ⟨e0, e1⟩ := hargs c
    obtain ⟨h0, ha⟩ := h c
    dsimp only
    rw [← e0, ← e1]
    exact ⟨h0.trans (Cert.Reference7Ideal.Value.array _ _), ha⟩

theorem results_equal8 : algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Value.product
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2)), ?_, ?_⟩
  · refine (θ_run _ _ _).mono (fun r h c => ?_) (Cert.Kernel8Ideal.Value.run_blocks m g)
    obtain ⟨h0, ha⟩ := h c
    exact ⟨h0.trans (Cert.Kernel8Ideal.Value.array m c), ha⟩
  · refine (θ_run _ _ _).mono (fun r h c => ?_) (Cert.Reference8Ideal.Value.run m' g')
    obtain ⟨e0, e1, e2⟩ := hargs c
    obtain ⟨h0, ha⟩ := h c
    dsimp only
    rw [← e0, ← e1, ← e2]
    exact ⟨h0.trans (Cert.Reference8Ideal.Value.array _ _ _), ha⟩

theorem results_equal9 : algebraic_Kernel9Ideal_Reference9Ideal (hKernel9Ideal := Cert.Kernel9Ideal.Gen.facts)
    (hReference9Ideal := Cert.Reference9Ideal.Gen.facts) := by
  intro m g m' g' _ hargs
  refine ⟨fun c => Cert.Kernel9Ideal.Value.product
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)), ?_, ?_⟩
  · refine (θ_run _ _ _).mono (fun r h c => ?_) (Cert.Kernel9Ideal.Value.run_blocks m g)
    obtain ⟨h0, ha⟩ := h c
    exact ⟨h0.trans (Cert.Kernel9Ideal.Value.array m c), ha⟩
  · refine (θ_run _ _ _).mono (fun r h c => ?_) (Cert.Reference9Ideal.Value.run m' g')
    obtain ⟨e0, e1⟩ := hargs c
    obtain ⟨h0, ha⟩ := h c
    dsimp only
    rw [← e0, ← e1]
    exact ⟨h0.trans (Cert.Reference9Ideal.Value.array _ _), ha⟩

theorem results_equal10 : algebraic_Kernel10Ideal_Reference10Ideal (hKernel10Ideal := Cert.Kernel10Ideal.Gen.facts)
    (hReference10Ideal := Cert.Reference10Ideal.Gen.facts) := by
  intro m g m' g' _ hargs
  refine ⟨fun c => Cert.Kernel10Ideal.Value.product
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2)), ?_, ?_⟩
  · refine (θ_run _ _ _).mono (fun r h c => ?_) (Cert.Kernel10Ideal.Value.run_blocks m g)
    obtain ⟨h0, ha⟩ := h c
    exact ⟨h0.trans (Cert.Kernel10Ideal.Value.array m c), ha⟩
  · refine (θ_run _ _ _).mono (fun r h c => ?_) (Cert.Reference10Ideal.Value.run m' g')
    obtain ⟨e0, e1, e2⟩ := hargs c
    obtain ⟨h0, ha⟩ := h c
    dsimp only
    rw [← e0, ← e1, ← e2]
    exact ⟨h0.trans (Cert.Reference10Ideal.Value.array _ _ _), ha⟩

theorem results_equal11 : algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Value.product
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)), ?_, ?_⟩
  · refine (θ_run _ _ _).mono (fun r h c => ?_) (Cert.Kernel11Ideal.Value.run_blocks m g)
    obtain ⟨h0, ha⟩ := h c
    exact ⟨h0.trans (Cert.Kernel11Ideal.Value.array m c), ha⟩
  · refine (θ_run _ _ _).mono (fun r h c => ?_) (Cert.Reference11Ideal.Value.run m' g')
    obtain ⟨e0, e1, e2⟩ := hargs c
    obtain ⟨h0, ha⟩ := h c
    dsimp only
    rw [← e0, ← e1, ← e2]
    exact ⟨h0.trans (Cert.Reference11Ideal.Value.array _ _ _), ha⟩

theorem results_equal12 : algebraic_Kernel12Ideal_Reference12Ideal (hKernel12Ideal := Cert.Kernel12Ideal.Gen.facts)
    (hReference12Ideal := Cert.Reference12Ideal.Gen.facts) := by
  intro m g m' g' _ hargs
  refine ⟨fun c => Cert.Kernel12Ideal.Value.product
      (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg2)), ?_, ?_⟩
  · refine (θ_run _ _ _).mono (fun r h c => ?_) (Cert.Kernel12Ideal.Value.run_blocks m g)
    obtain ⟨h0, ha⟩ := h c
    exact ⟨h0.trans (Cert.Kernel12Ideal.Value.array m c), ha⟩
  · refine (θ_run _ _ _).mono (fun r h c => ?_) (Cert.Reference12Ideal.Value.run m' g')
    obtain ⟨e0, e1, e2⟩ := hargs c
    obtain ⟨h0, ha⟩ := h c
    dsimp only
    rw [← e0, ← e1, ← e2]
    exact ⟨h0.trans (Cert.Reference12Ideal.Value.array _ _ _), ha⟩

theorem results_equal13 : algebraic_Kernel13Ideal_Reference13Ideal (hKernel13Ideal := Cert.Kernel13Ideal.Gen.facts)
    (hReference13Ideal := Cert.Reference13Ideal.Gen.facts) := by
  intro m g m' g' _ hargs
  refine ⟨fun c => Cert.Kernel13Ideal.Value.product
      (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2)), ?_, ?_⟩
  · refine (θ_run _ _ _).mono (fun r h c => ?_) (Cert.Kernel13Ideal.Value.run_blocks m g)
    obtain ⟨h0, ha⟩ := h c
    exact ⟨h0.trans (Cert.Kernel13Ideal.Value.array m c), ha⟩
  · refine (θ_run _ _ _).mono (fun r h c => ?_) (Cert.Reference13Ideal.Value.run m' g')
    obtain ⟨e0, e1, e2⟩ := hargs c
    obtain ⟨h0, ha⟩ := h c
    dsimp only
    rw [← e0, ← e1, ← e2]
    exact ⟨h0.trans (Cert.Reference13Ideal.Value.array _ _ _), ha⟩

theorem results_equal14 : algebraic_Kernel14Ideal_Reference14Ideal (hKernel14Ideal := Cert.Kernel14Ideal.Gen.facts)
    (hReference14Ideal := Cert.Reference14Ideal.Gen.facts) := by
  intro m g m' g' _ hargs
  refine ⟨fun c => Cert.Kernel14Ideal.Value.product
      (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1))
      (m ((c.tc : Thread Cert.Kernel14Ideal.nD Cert.Kernel14Ideal.τ).loc Cert.Kernel14Ideal.main_arg2)), ?_, ?_⟩
  · refine (θ_run _ _ _).mono (fun r h c => ?_) (Cert.Kernel14Ideal.Value.run_blocks m g)
    obtain ⟨h0, ha⟩ := h c
    exact ⟨h0.trans (Cert.Kernel14Ideal.Value.array m c), ha⟩
  · refine (θ_run _ _ _).mono (fun r h c => ?_) (Cert.Reference14Ideal.Value.run m' g')
    obtain ⟨e0, e1, e2⟩ := hargs c
    obtain ⟨h0, ha⟩ := h c
    dsimp only
    rw [← e0, ← e1, ← e2]
    exact ⟨h0.trans (Cert.Reference14Ideal.Value.array _ _ _), ha⟩

theorem results_equal15 : algebraic_Kernel15Ideal_Reference15Ideal (hKernel15Ideal := Cert.Kernel15Ideal.Gen.facts)
    (hReference15Ideal := Cert.Reference15Ideal.Gen.facts) := by
  intro m g m' g' _ hargs
  refine ⟨fun c => Cert.Kernel15Ideal.Value.product
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1))
      (m ((c.tc : Thread Cert.Kernel15Ideal.nD Cert.Kernel15Ideal.τ).loc Cert.Kernel15Ideal.main_arg2)), ?_, ?_⟩
  · refine (θ_run _ _ _).mono (fun r h c => ?_) (Cert.Kernel15Ideal.Value.run_blocks m g)
    obtain ⟨h0, ha⟩ := h c
    exact ⟨h0.trans (Cert.Kernel15Ideal.Value.array m c), ha⟩
  · refine (θ_run _ _ _).mono (fun r h c => ?_) (Cert.Reference15Ideal.Value.run m' g')
    obtain ⟨e0, e1, e2⟩ := hargs c
    obtain ⟨h0, ha⟩ := h c
    dsimp only
    rw [← e0, ← e1, ← e2]
    exact ⟨h0.trans (Cert.Reference15Ideal.Value.array _ _ _), ha⟩

theorem results_equal16 : algebraic_Kernel16Ideal_Reference16Ideal (hKernel16Ideal := Cert.Kernel16Ideal.Gen.facts)
    (hReference16Ideal := Cert.Reference16Ideal.Gen.facts) := by
  intro m g m' g' _ hargs
  refine ⟨fun c => Cert.Kernel16Ideal.Value.product
      (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1))
      (m ((c.tc : Thread Cert.Kernel16Ideal.nD Cert.Kernel16Ideal.τ).loc Cert.Kernel16Ideal.main_arg2)), ?_, ?_⟩
  · refine (θ_run _ _ _).mono (fun r h c => ?_) (Cert.Kernel16Ideal.Value.run_blocks m g)
    obtain ⟨h0, ha⟩ := h c
    exact ⟨h0.trans (Cert.Kernel16Ideal.Value.array m c), ha⟩
  · refine (θ_run _ _ _).mono (fun r h c => ?_) (Cert.Reference16Ideal.Value.run m' g')
    obtain ⟨e0, e1, e2⟩ := hargs c
    obtain ⟨h0, ha⟩ := h c
    dsimp only
    rw [← e0, ← e1, ← e2]
    exact ⟨h0.trans (Cert.Reference16Ideal.Value.array _ _ _), ha⟩

theorem results_equal17 : algebraic_Kernel17Ideal_Reference17Ideal (hKernel17Ideal := Cert.Kernel17Ideal.Gen.facts)
    (hReference17Ideal := Cert.Reference17Ideal.Gen.facts) := by
  intro m g m' g' _ hargs
  refine ⟨fun c => Cert.Kernel17Ideal.Value.product
      (m ((c.tc : Thread Cert.Kernel17Ideal.nD Cert.Kernel17Ideal.τ).loc Cert.Kernel17Ideal.main_arg0))
      (m ((c.tc : Thread Cert.Kernel17Ideal.nD Cert.Kernel17Ideal.τ).loc Cert.Kernel17Ideal.main_arg1))
      (m ((c.tc : Thread Cert.Kernel17Ideal.nD Cert.Kernel17Ideal.τ).loc Cert.Kernel17Ideal.main_arg2)), ?_, ?_⟩
  · refine (θ_run _ _ _).mono (fun r h c => ?_) (Cert.Kernel17Ideal.Value.run_blocks m g)
    obtain ⟨h0, ha⟩ := h c
    exact ⟨h0.trans (Cert.Kernel17Ideal.Value.array m c), ha⟩
  · refine (θ_run _ _ _).mono (fun r h c => ?_) (Cert.Reference17Ideal.Value.run m' g')
    obtain ⟨e0, e1, e2⟩ := hargs c
    obtain ⟨h0, ha⟩ := h c
    dsimp only
    rw [← e0, ← e1, ← e2]
    exact ⟨h0.trans (Cert.Reference17Ideal.Value.array _ _ _), ha⟩

theorem results_equal18 : algebraic_Kernel18Ideal_Reference18Ideal (hKernel18Ideal := Cert.Kernel18Ideal.Gen.facts)
    (hReference18Ideal := Cert.Reference18Ideal.Gen.facts) := by
  intro m g m' g' _ hargs
  refine ⟨fun c => Cert.Kernel18Ideal.Value.product
      (m ((c.tc : Thread Cert.Kernel18Ideal.nD Cert.Kernel18Ideal.τ).loc Cert.Kernel18Ideal.main_arg0))
      (m ((c.tc : Thread Cert.Kernel18Ideal.nD Cert.Kernel18Ideal.τ).loc Cert.Kernel18Ideal.main_arg1)), ?_, ?_⟩
  · refine (θ_run _ _ _).mono (fun r h c => ?_) (Cert.Kernel18Ideal.Value.run_blocks m g)
    obtain ⟨h0, ha⟩ := h c
    exact ⟨h0.trans (Cert.Kernel18Ideal.Value.array m c), ha⟩
  · refine (θ_run _ _ _).mono (fun r h c => ?_) (Cert.Reference18Ideal.Value.run m' g')
    obtain ⟨e0, e1⟩ := hargs c
    obtain ⟨h0, ha⟩ := h c
    dsimp only
    rw [← e0, ← e1]
    exact ⟨h0.trans (Cert.Reference18Ideal.Value.array _ _), ha⟩

theorem results_equal19 : algebraic_Kernel19Ideal_Reference19Ideal (hKernel19Ideal := Cert.Kernel19Ideal.Gen.facts)
    (hReference19Ideal := Cert.Reference19Ideal.Gen.facts) := by
  intro m g m' g' _ hargs
  refine ⟨fun c => Cert.Kernel19Ideal.Value.product
      (m ((c.tc : Thread Cert.Kernel19Ideal.nD Cert.Kernel19Ideal.τ).loc Cert.Kernel19Ideal.main_arg0))
      (m ((c.tc : Thread Cert.Kernel19Ideal.nD Cert.Kernel19Ideal.τ).loc Cert.Kernel19Ideal.main_arg1)), ?_, ?_⟩
  · refine (θ_run _ _ _).mono (fun r h c => ?_) (Cert.Kernel19Ideal.Value.run_blocks m g)
    obtain ⟨h0, ha⟩ := h c
    exact ⟨h0.trans (Cert.Kernel19Ideal.Value.array m c), ha⟩
  · refine (θ_run _ _ _).mono (fun r h c => ?_) (Cert.Reference19Ideal.Value.run m' g')
    obtain ⟨e0, e1⟩ := hargs c
    obtain ⟨h0, ha⟩ := h c
    dsimp only
    rw [← e0, ← e1]
    exact ⟨h0.trans (Cert.Reference19Ideal.Value.array _ _), ha⟩

theorem results_equal20 : algebraic_Kernel20Ideal_Reference20Ideal (hKernel20Ideal := Cert.Kernel20Ideal.Gen.facts)
    (hReference20Ideal := Cert.Reference20Ideal.Gen.facts) := by
  intro m g m' g' _ hargs
  refine ⟨fun c => Cert.Kernel20Ideal.Value.product
      (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg1)), ?_, ?_⟩
  · refine (θ_run _ _ _).mono (fun r h c => ?_) (Cert.Kernel20Ideal.Value.run_blocks m g)
    obtain ⟨h0, ha⟩ := h c
    exact ⟨h0.trans (Cert.Kernel20Ideal.Value.array m c), ha⟩
  · refine (θ_run _ _ _).mono (fun r h c => ?_) (Cert.Reference20Ideal.Value.run m' g')
    obtain ⟨e0, e1⟩ := hargs c
    obtain ⟨h0, ha⟩ := h c
    dsimp only
    rw [← e0, ← e1]
    exact ⟨h0.trans (Cert.Reference20Ideal.Value.array _ _), ha⟩

theorem results_equal21 : algebraic_Kernel21Ideal_Reference21Ideal (hKernel21Ideal := Cert.Kernel21Ideal.Gen.facts)
    (hReference21Ideal := Cert.Reference21Ideal.Gen.facts) := by
  intro m g m' g' _ hargs
  refine ⟨fun c => Cert.Kernel21Ideal.Value.product
      (m ((c.tc : Thread Cert.Kernel21Ideal.nD Cert.Kernel21Ideal.τ).loc Cert.Kernel21Ideal.main_arg0))
      (m ((c.tc : Thread Cert.Kernel21Ideal.nD Cert.Kernel21Ideal.τ).loc Cert.Kernel21Ideal.main_arg1)), ?_, ?_⟩
  · refine (θ_run _ _ _).mono (fun r h c => ?_) (Cert.Kernel21Ideal.Value.run_blocks m g)
    obtain ⟨h0, ha⟩ := h c
    exact ⟨h0.trans (Cert.Kernel21Ideal.Value.array m c), ha⟩
  · refine (θ_run _ _ _).mono (fun r h c => ?_) (Cert.Reference21Ideal.Value.run m' g')
    obtain ⟨e0, e1⟩ := hargs c
    obtain ⟨h0, ha⟩ := h c
    dsimp only
    rw [← e0, ← e1]
    exact ⟨h0.trans (Cert.Reference21Ideal.Value.array _ _), ha⟩

theorem results_equal22 : algebraic_Kernel22Ideal_Reference22Ideal (hKernel22Ideal := Cert.Kernel22Ideal.Gen.facts)
    (hReference22Ideal := Cert.Reference22Ideal.Gen.facts) := by
  intro m g m' g' _ hargs
  refine ⟨fun c => Cert.Kernel22Ideal.Value.product
      (m ((c.tc : Thread Cert.Kernel22Ideal.nD Cert.Kernel22Ideal.τ).loc Cert.Kernel22Ideal.main_arg0))
      (m ((c.tc : Thread Cert.Kernel22Ideal.nD Cert.Kernel22Ideal.τ).loc Cert.Kernel22Ideal.main_arg1)), ?_, ?_⟩
  · refine (θ_run _ _ _).mono (fun r h c => ?_) (Cert.Kernel22Ideal.Value.run_blocks m g)
    obtain ⟨h0, ha⟩ := h c
    exact ⟨h0.trans (Cert.Kernel22Ideal.Value.array m c), ha⟩
  · refine (θ_run _ _ _).mono (fun r h c => ?_) (Cert.Reference22Ideal.Value.run m' g')
    obtain ⟨e0, e1⟩ := hargs c
    obtain ⟨h0, ha⟩ := h c
    dsimp only
    rw [← e0, ← e1]
    exact ⟨h0.trans (Cert.Reference22Ideal.Value.array _ _), ha⟩

theorem results_equal23 : algebraic_Kernel23Ideal_Reference23Ideal (hKernel23Ideal := Cert.Kernel23Ideal.Gen.facts)
    (hReference23Ideal := Cert.Reference23Ideal.Gen.facts) := by
  intro m g m' g' _ hargs
  refine ⟨fun c => Cert.Kernel23Ideal.Value.product
      (m ((c.tc : Thread Cert.Kernel23Ideal.nD Cert.Kernel23Ideal.τ).loc Cert.Kernel23Ideal.main_arg0))
      (m ((c.tc : Thread Cert.Kernel23Ideal.nD Cert.Kernel23Ideal.τ).loc Cert.Kernel23Ideal.main_arg1)), ?_, ?_⟩
  · refine (θ_run _ _ _).mono (fun r h c => ?_) (Cert.Kernel23Ideal.Value.run_blocks m g)
    obtain ⟨h0, ha⟩ := h c
    exact ⟨h0.trans (Cert.Kernel23Ideal.Value.array m c), ha⟩
  · refine (θ_run _ _ _).mono (fun r h c => ?_) (Cert.Reference23Ideal.Value.run m' g')
    obtain ⟨e0, e1⟩ := hargs c
    obtain ⟨h0, ha⟩ := h c
    dsimp only
    rw [← e0, ← e1]
    exact ⟨h0.trans (Cert.Reference23Ideal.Value.array _ _), ha⟩

theorem results_equal24 : algebraic_Kernel24Ideal_Reference24Ideal (hKernel24Ideal := Cert.Kernel24Ideal.Gen.facts)
    (hReference24Ideal := Cert.Reference24Ideal.Gen.facts) := by
  intro m g m' g' _ hargs
  refine ⟨fun c => Cert.Kernel24Ideal.Value.product
      (m ((c.tc : Thread Cert.Kernel24Ideal.nD Cert.Kernel24Ideal.τ).loc Cert.Kernel24Ideal.main_arg0))
      (m ((c.tc : Thread Cert.Kernel24Ideal.nD Cert.Kernel24Ideal.τ).loc Cert.Kernel24Ideal.main_arg1)), ?_, ?_⟩
  · refine (θ_run _ _ _).mono (fun r h c => ?_) (Cert.Kernel24Ideal.Value.run_blocks m g)
    obtain ⟨h0, ha⟩ := h c
    exact ⟨h0.trans (Cert.Kernel24Ideal.Value.array m c), ha⟩
  · refine (θ_run _ _ _).mono (fun r h c => ?_) (Cert.Reference24Ideal.Value.run m' g')
    obtain ⟨e0, e1⟩ := hargs c
    obtain ⟨h0, ha⟩ := h c
    dsimp only
    rw [← e0, ← e1]
    exact ⟨h0.trans (Cert.Reference24Ideal.Value.array _ _), ha⟩

theorem results_equal25 : algebraic_Kernel25Ideal_Reference25Ideal (hKernel25Ideal := Cert.Kernel25Ideal.Gen.facts)
    (hReference25Ideal := Cert.Reference25Ideal.Gen.facts) := by
  intro m g m' g' _ hargs
  refine ⟨fun c => Cert.Kernel25Ideal.Value.product
      (m ((c.tc : Thread Cert.Kernel25Ideal.nD Cert.Kernel25Ideal.τ).loc Cert.Kernel25Ideal.main_arg0))
      (m ((c.tc : Thread Cert.Kernel25Ideal.nD Cert.Kernel25Ideal.τ).loc Cert.Kernel25Ideal.main_arg1)), ?_, ?_⟩
  · refine (θ_run _ _ _).mono (fun r h c => ?_) (Cert.Kernel25Ideal.Value.run_blocks m g)
    obtain ⟨h0, ha⟩ := h c
    exact ⟨h0.trans (Cert.Kernel25Ideal.Value.array m c), ha⟩
  · refine (θ_run _ _ _).mono (fun r h c => ?_) (Cert.Reference25Ideal.Value.run m' g')
    obtain ⟨e0, e1⟩ := hargs c
    obtain ⟨h0, ha⟩ := h c
    dsimp only
    rw [← e0, ← e1]
    exact ⟨h0.trans (Cert.Reference25Ideal.Value.array _ _), ha⟩

theorem results_equal26 : algebraic_Kernel26Ideal_Reference26Ideal (hKernel26Ideal := Cert.Kernel26Ideal.Gen.facts)
    (hReference26Ideal := Cert.Reference26Ideal.Gen.facts) := by
  intro m g m' g' _ hargs
  refine ⟨fun c => Cert.Kernel26Ideal.Value.total
      (m ((c.tc : Thread Cert.Kernel26Ideal.nD Cert.Kernel26Ideal.τ).loc Cert.Kernel26Ideal.main_arg0))
      (m ((c.tc : Thread Cert.Kernel26Ideal.nD Cert.Kernel26Ideal.τ).loc Cert.Kernel26Ideal.main_arg1))
      (m ((c.tc : Thread Cert.Kernel26Ideal.nD Cert.Kernel26Ideal.τ).loc Cert.Kernel26Ideal.main_arg2))
      (m ((c.tc : Thread Cert.Kernel26Ideal.nD Cert.Kernel26Ideal.τ).loc Cert.Kernel26Ideal.main_arg3))
      (m ((c.tc : Thread Cert.Kernel26Ideal.nD Cert.Kernel26Ideal.τ).loc Cert.Kernel26Ideal.main_arg4)),
    fun c => Cert.Kernel26Ideal.Value.norm
      (m ((c.tc : Thread Cert.Kernel26Ideal.nD Cert.Kernel26Ideal.τ).loc Cert.Kernel26Ideal.main_arg0))
      (m ((c.tc : Thread Cert.Kernel26Ideal.nD Cert.Kernel26Ideal.τ).loc Cert.Kernel26Ideal.main_arg1))
      (m ((c.tc : Thread Cert.Kernel26Ideal.nD Cert.Kernel26Ideal.τ).loc Cert.Kernel26Ideal.main_arg2))
      (m ((c.tc : Thread Cert.Kernel26Ideal.nD Cert.Kernel26Ideal.τ).loc Cert.Kernel26Ideal.main_arg3))
      (m ((c.tc : Thread Cert.Kernel26Ideal.nD Cert.Kernel26Ideal.τ).loc Cert.Kernel26Ideal.main_arg4))
      (m ((c.tc : Thread Cert.Kernel26Ideal.nD Cert.Kernel26Ideal.τ).loc Cert.Kernel26Ideal.main_arg5))
      (m ((c.tc : Thread Cert.Kernel26Ideal.nD Cert.Kernel26Ideal.τ).loc Cert.Kernel26Ideal.main_arg6)),
    fun c => Cert.Kernel26Ideal.Value.normLow
      (m ((c.tc : Thread Cert.Kernel26Ideal.nD Cert.Kernel26Ideal.τ).loc Cert.Kernel26Ideal.main_arg0))
      (m ((c.tc : Thread Cert.Kernel26Ideal.nD Cert.Kernel26Ideal.τ).loc Cert.Kernel26Ideal.main_arg1))
      (m ((c.tc : Thread Cert.Kernel26Ideal.nD Cert.Kernel26Ideal.τ).loc Cert.Kernel26Ideal.main_arg2))
      (m ((c.tc : Thread Cert.Kernel26Ideal.nD Cert.Kernel26Ideal.τ).loc Cert.Kernel26Ideal.main_arg3))
      (m ((c.tc : Thread Cert.Kernel26Ideal.nD Cert.Kernel26Ideal.τ).loc Cert.Kernel26Ideal.main_arg4))
      (m ((c.tc : Thread Cert.Kernel26Ideal.nD Cert.Kernel26Ideal.τ).loc Cert.Kernel26Ideal.main_arg5))
      (m ((c.tc : Thread Cert.Kernel26Ideal.nD Cert.Kernel26Ideal.τ).loc Cert.Kernel26Ideal.main_arg6)), ?_, ?_⟩
  · refine (θ_run _ _ _).mono (fun r h c => ?_) (Cert.Kernel26Ideal.Value.run_blocks m g)
    obtain ⟨h0, h1, h2, ha⟩ := h c
    exact ⟨h0.trans (Cert.Kernel26Ideal.Value.array_h m c), h1.trans (Cert.Kernel26Ideal.Value.array_y m c), h2.trans (Cert.Kernel26Ideal.Value.array_z m c), ha⟩
  · refine (θ_run _ _ _).mono (fun r h c => ?_) (Cert.Reference26Ideal.Value.run m' g')
    obtain ⟨e0, e1, e2, e3, e4, e5, e6⟩ := hargs c
    obtain ⟨h0, h1, h2, ha⟩ := h c
    dsimp only
    rw [← e0, ← e1, ← e2, ← e3, ← e4, ← e5, ← e6]
    exact ⟨h0.trans (Cert.Reference26Ideal.Value.array_h _ _ _ _ _), h1.trans (Cert.Reference26Ideal.Value.array_y _ _ _ _ _ _ _), h2.trans (Cert.Reference26Ideal.Value.array_z _ _ _ _ _ _ _), ha⟩

theorem results_equal27 : algebraic_Kernel27Ideal_Reference27Ideal (hKernel27Ideal := Cert.Kernel27Ideal.Gen.facts)
    (hReference27Ideal := Cert.Reference27Ideal.Gen.facts) := by
  intro m g m' g' _ hargs
  refine ⟨fun c => Cert.Kernel27Ideal.Value.total
      (m ((c.tc : Thread Cert.Kernel27Ideal.nD Cert.Kernel27Ideal.τ).loc Cert.Kernel27Ideal.main_arg0))
      (m ((c.tc : Thread Cert.Kernel27Ideal.nD Cert.Kernel27Ideal.τ).loc Cert.Kernel27Ideal.main_arg1))
      (m ((c.tc : Thread Cert.Kernel27Ideal.nD Cert.Kernel27Ideal.τ).loc Cert.Kernel27Ideal.main_arg2)),
    fun c => Cert.Kernel27Ideal.Value.norm
      (m ((c.tc : Thread Cert.Kernel27Ideal.nD Cert.Kernel27Ideal.τ).loc Cert.Kernel27Ideal.main_arg0))
      (m ((c.tc : Thread Cert.Kernel27Ideal.nD Cert.Kernel27Ideal.τ).loc Cert.Kernel27Ideal.main_arg1))
      (m ((c.tc : Thread Cert.Kernel27Ideal.nD Cert.Kernel27Ideal.τ).loc Cert.Kernel27Ideal.main_arg2))
      (m ((c.tc : Thread Cert.Kernel27Ideal.nD Cert.Kernel27Ideal.τ).loc Cert.Kernel27Ideal.main_arg3))
      (m ((c.tc : Thread Cert.Kernel27Ideal.nD Cert.Kernel27Ideal.τ).loc Cert.Kernel27Ideal.main_arg4)),
    fun c => Cert.Kernel27Ideal.Value.normLow
      (m ((c.tc : Thread Cert.Kernel27Ideal.nD Cert.Kernel27Ideal.τ).loc Cert.Kernel27Ideal.main_arg0))
      (m ((c.tc : Thread Cert.Kernel27Ideal.nD Cert.Kernel27Ideal.τ).loc Cert.Kernel27Ideal.main_arg1))
      (m ((c.tc : Thread Cert.Kernel27Ideal.nD Cert.Kernel27Ideal.τ).loc Cert.Kernel27Ideal.main_arg2))
      (m ((c.tc : Thread Cert.Kernel27Ideal.nD Cert.Kernel27Ideal.τ).loc Cert.Kernel27Ideal.main_arg3))
      (m ((c.tc : Thread Cert.Kernel27Ideal.nD Cert.Kernel27Ideal.τ).loc Cert.Kernel27Ideal.main_arg4)), ?_, ?_⟩
  · refine (θ_run _ _ _).mono (fun r h c => ?_) (Cert.Kernel27Ideal.Value.run_blocks m g)
    obtain ⟨h0, h1, h2, ha⟩ := h c
    exact ⟨h0.trans (Cert.Kernel27Ideal.Value.array_h m c), h1.trans (Cert.Kernel27Ideal.Value.array_y m c), h2.trans (Cert.Kernel27Ideal.Value.array_z m c), ha⟩
  · refine (θ_run _ _ _).mono (fun r h c => ?_) (Cert.Reference27Ideal.Value.run m' g')
    obtain ⟨e0, e1, e2, e3, e4⟩ := hargs c
    obtain ⟨h0, h1, h2, ha⟩ := h c
    dsimp only
    rw [← e0, ← e1, ← e2, ← e3, ← e4]
    exact ⟨h0.trans (Cert.Reference27Ideal.Value.array_h _ _ _), h1.trans (Cert.Reference27Ideal.Value.array_y _ _ _ _ _), h2.trans (Cert.Reference27Ideal.Value.array_z _ _ _ _ _), ha⟩

theorem results_equal28 : algebraic_Kernel28Ideal_Reference28Ideal (hKernel28Ideal := Cert.Kernel28Ideal.Gen.facts)
    (hReference28Ideal := Cert.Reference28Ideal.Gen.facts) := by
  intro m g m' g' _ hargs
  refine ⟨fun c => Cert.Kernel28Ideal.Value.total
      (m ((c.tc : Thread Cert.Kernel28Ideal.nD Cert.Kernel28Ideal.τ).loc Cert.Kernel28Ideal.main_arg0))
      (m ((c.tc : Thread Cert.Kernel28Ideal.nD Cert.Kernel28Ideal.τ).loc Cert.Kernel28Ideal.main_arg1))
      (m ((c.tc : Thread Cert.Kernel28Ideal.nD Cert.Kernel28Ideal.τ).loc Cert.Kernel28Ideal.main_arg2))
      (m ((c.tc : Thread Cert.Kernel28Ideal.nD Cert.Kernel28Ideal.τ).loc Cert.Kernel28Ideal.main_arg3)),
    fun c => Cert.Kernel28Ideal.Value.norm
      (m ((c.tc : Thread Cert.Kernel28Ideal.nD Cert.Kernel28Ideal.τ).loc Cert.Kernel28Ideal.main_arg0))
      (m ((c.tc : Thread Cert.Kernel28Ideal.nD Cert.Kernel28Ideal.τ).loc Cert.Kernel28Ideal.main_arg1))
      (m ((c.tc : Thread Cert.Kernel28Ideal.nD Cert.Kernel28Ideal.τ).loc Cert.Kernel28Ideal.main_arg2))
      (m ((c.tc : Thread Cert.Kernel28Ideal.nD Cert.Kernel28Ideal.τ).loc Cert.Kernel28Ideal.main_arg3))
      (m ((c.tc : Thread Cert.Kernel28Ideal.nD Cert.Kernel28Ideal.τ).loc Cert.Kernel28Ideal.main_arg4))
      (m ((c.tc : Thread Cert.Kernel28Ideal.nD Cert.Kernel28Ideal.τ).loc Cert.Kernel28Ideal.main_arg5)),
    fun c => Cert.Kernel28Ideal.Value.normLow
      (m ((c.tc : Thread Cert.Kernel28Ideal.nD Cert.Kernel28Ideal.τ).loc Cert.Kernel28Ideal.main_arg0))
      (m ((c.tc : Thread Cert.Kernel28Ideal.nD Cert.Kernel28Ideal.τ).loc Cert.Kernel28Ideal.main_arg1))
      (m ((c.tc : Thread Cert.Kernel28Ideal.nD Cert.Kernel28Ideal.τ).loc Cert.Kernel28Ideal.main_arg2))
      (m ((c.tc : Thread Cert.Kernel28Ideal.nD Cert.Kernel28Ideal.τ).loc Cert.Kernel28Ideal.main_arg3))
      (m ((c.tc : Thread Cert.Kernel28Ideal.nD Cert.Kernel28Ideal.τ).loc Cert.Kernel28Ideal.main_arg4))
      (m ((c.tc : Thread Cert.Kernel28Ideal.nD Cert.Kernel28Ideal.τ).loc Cert.Kernel28Ideal.main_arg5)), ?_, ?_⟩
  · refine (θ_run _ _ _).mono (fun r h c => ?_) (Cert.Kernel28Ideal.Value.run_blocks m g)
    obtain ⟨h0, h1, h2, ha⟩ := h c
    exact ⟨h0.trans (Cert.Kernel28Ideal.Value.array_h m c), h1.trans (Cert.Kernel28Ideal.Value.array_y m c), h2.trans (Cert.Kernel28Ideal.Value.array_z m c), ha⟩
  · refine (θ_run _ _ _).mono (fun r h c => ?_) (Cert.Reference28Ideal.Value.run m' g')
    obtain ⟨e0, e1, e2, e3, e4, e5⟩ := hargs c
    obtain ⟨h0, h1, h2, ha⟩ := h c
    dsimp only
    rw [← e0, ← e1, ← e2, ← e3, ← e4, ← e5]
    exact ⟨h0.trans (Cert.Reference28Ideal.Value.array_h _ _ _ _), h1.trans (Cert.Reference28Ideal.Value.array_y _ _ _ _ _ _), h2.trans (Cert.Reference28Ideal.Value.array_z _ _ _ _ _ _), ha⟩

/-- The shape facts which the third precondition states. -/
theorem finite29_facts : Cert.Pre_finite29.Facts where
  bitsLt_bf16_f32 := by decide
  bcast_S_S4096x1024 := by decide
  bcast_S_S1x1024x3072 := by decide
  bcast_S_S1x1024 := by decide

theorem results_equal29 : algebraic_Kernel29Ideal_Reference29Ideal_pre_finite29 (hKernel29Ideal := Cert.Kernel29Ideal.Gen.facts)
    (hReference29Ideal := Cert.Reference29Ideal.Gen.facts) (hPre_finite29 := finite29_facts) := by
  intro m g m' g' hpre hargs
  have data := fun c => @Cert.Mix.reads_of_finite finite29_facts _ _ _ _ _ _ _ _ _ _ (hpre c)
  choose D hD using data
  have hD' : ∀ c, Cert.Reference29Ideal.Value.ReadsAt m' (D c) c := by
    intro c
    obtain ⟨e0, e1, e2, e3, e4, e5, e6, -, -, -⟩ := hargs c
    have h := hD c
    rw [← e0, ← e1, ← e2, ← e3, ← e4, ← e5, ← e6] at h
    exact h
  refine ⟨fun c => (D c).norm.dhArray, fun c => (D c).norm.dhArray, fun c => (D c).norm.dgArray, fun c => (D c).norm.dbArray,
    fun c => (D c).dppArray (m ((c.tc : Thread Cert.Kernel29Ideal.nD Cert.Kernel29Ideal.τ).loc Cert.Kernel29Ideal.main_arg9)),
    fun c => (D c).dglArray (m ((c.tc : Thread Cert.Kernel29Ideal.nD Cert.Kernel29Ideal.τ).loc Cert.Kernel29Ideal.main_arg8))
      (m ((c.tc : Thread Cert.Kernel29Ideal.nD Cert.Kernel29Ideal.τ).loc Cert.Kernel29Ideal.main_arg9)), ?_, ?_⟩
  · refine (θ_run _ _ _).mono (fun r h c => ?_) (Cert.Kernel29Ideal.Value.run_blocks m g)
    obtain ⟨h0, h1, h2, h3, h4, h5, ha⟩ := h c
    exact ⟨h0.trans (Cert.Kernel29Ideal.Value.array_dh (hD c)), h1.trans (Cert.Kernel29Ideal.Value.array_dh_bf16 (hD c)),
      h2.trans (Cert.Kernel29Ideal.Value.array_dg (hD c)), h3.trans (Cert.Kernel29Ideal.Value.array_db (hD c)),
      h4.trans (Cert.Kernel29Ideal.Value.array_dpp (hD c)), h5.trans (Cert.Kernel29Ideal.Value.array_dgl (hD c)), ha⟩
  · refine (θ_run _ _ _).mono (fun r h c => ?_) (Cert.Reference29Ideal.Value.run m' g')
    obtain ⟨-, -, -, -, -, -, -, -, e8, e9⟩ := hargs c
    obtain ⟨h0, h1, h2, h3, h4, h5, ha⟩ := h c
    dsimp only
    rw [← e8, ← e9]
    exact ⟨h0.trans (Cert.Reference29Ideal.Value.array_dh (hD' c)), h1.trans (Cert.Reference29Ideal.Value.array_dh_bf16 (hD' c)),
      h2.trans (Cert.Reference29Ideal.Value.array_dg (hD' c)), h3.trans (Cert.Reference29Ideal.Value.array_db (hD' c)),
      h4.trans (Cert.Reference29Ideal.Value.array_dpp (hD' c)), h5.trans (Cert.Reference29Ideal.Value.array_dgl (hD' c)), ha⟩

theorem results_equal33 : algebraic_Kernel33Ideal_Reference33Ideal (hKernel33Ideal := Cert.Kernel33Ideal.Gen.facts)
    (hReference33Ideal := Cert.Reference33Ideal.Gen.facts) := by
  intro m g m' g' _ hargs
  refine ⟨fun c => Cert.Kernel33Ideal.Value.product
      (m ((c.tc : Thread Cert.Kernel33Ideal.nD Cert.Kernel33Ideal.τ).loc Cert.Kernel33Ideal.main_arg0))
      (m ((c.tc : Thread Cert.Kernel33Ideal.nD Cert.Kernel33Ideal.τ).loc Cert.Kernel33Ideal.main_arg1)), ?_, ?_⟩
  · refine (θ_run _ _ _).mono (fun r h c => ?_) (Cert.Kernel33Ideal.Value.run_blocks m g)
    obtain ⟨h0, ha⟩ := h c
    exact ⟨h0.trans (Cert.Kernel33Ideal.Value.array m c), ha⟩
  · refine (θ_run _ _ _).mono (fun r h c => ?_) (Cert.Reference33Ideal.Value.run m' g')
    obtain ⟨e0, e1⟩ := hargs c
    obtain ⟨h0, ha⟩ := h c
    dsimp only
    rw [← e0, ← e1]
    exact ⟨h0.trans (Cert.Reference33Ideal.Value.array _ _), ha⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel33.Gen.facts, Cert.Kernel33Ideal.Gen.facts, Cert.Reference33Ideal.Gen.facts,
    finite_facts, finite2_facts, finite29_facts,
    fun m g _ => Cert.Kernel.Gen.frame m g,
    fun m g _ => Cert.KernelIdeal.Gen.frame m g,
    fun m g _ => Cert.KernelIdeal.Gen.frame m g,
    fun m g _ => Cert.ReferenceIdeal.Value.frame m g,
    fun m g _ => Cert.ReferenceIdeal.Value.frame m g,
    fun m g _ => Cert.Kernel2.Gen.frame m g,
    fun m g _ => Cert.Kernel2Ideal.Gen.frame m g,
    fun m g _ => Cert.Kernel2Ideal.Gen.frame m g,
    fun m g _ => Cert.Reference2Ideal.Value.frame m g,
    fun m g _ => Cert.Reference2Ideal.Value.frame m g,
    fun m g _ => Cert.Kernel3.Gen.frame m g,
    fun m g _ => Cert.Kernel3Ideal.Gen.frame m g,
    fun m g _ => Cert.Reference3Ideal.Value.frame m g,
    fun m g _ => Cert.Kernel4.Gen.frame m g,
    fun m g _ => Cert.Kernel4Ideal.Gen.frame m g,
    fun m g _ => Cert.Reference4Ideal.Value.frame m g,
    fun m g _ => Cert.Kernel5.Gen.frame m g,
    fun m g _ => Cert.Kernel5Ideal.Gen.frame m g,
    fun m g _ => Cert.Reference5Ideal.Value.frame m g,
    fun m g _ => Cert.Kernel6.Gen.frame m g,
    fun m g _ => Cert.Kernel6Ideal.Gen.frame m g,
    fun m g _ => Cert.Reference6Ideal.Value.frame m g,
    fun m g _ => Cert.Kernel7.Gen.frame m g,
    fun m g _ => Cert.Kernel7Ideal.Gen.frame m g,
    fun m g _ => Cert.Reference7Ideal.Value.frame m g,
    fun m g _ => Cert.Kernel8.Gen.frame m g,
    fun m g _ => Cert.Kernel8Ideal.Gen.frame m g,
    fun m g _ => Cert.Reference8Ideal.Value.frame m g,
    fun m g _ => Cert.Kernel9.Gen.frame m g,
    fun m g _ => Cert.Kernel9Ideal.Gen.frame m g,
    fun m g _ => Cert.Reference9Ideal.Value.frame m g,
    fun m g _ => Cert.Kernel10.Gen.frame m g,
    fun m g _ => Cert.Kernel10Ideal.Gen.frame m g,
    fun m g _ => Cert.Reference10Ideal.Value.frame m g,
    fun m g _ => Cert.Kernel11.Gen.frame m g,
    fun m g _ => Cert.Kernel11Ideal.Gen.frame m g,
    fun m g _ => Cert.Reference11Ideal.Value.frame m g,
    fun m g _ => Cert.Kernel12.Gen.frame m g,
    fun m g _ => Cert.Kernel12Ideal.Gen.frame m g,
    fun m g _ => Cert.Reference12Ideal.Value.frame m g,
    fun m g _ => Cert.Kernel13.Gen.frame m g,
    fun m g _ => Cert.Kernel13Ideal.Gen.frame m g,
    fun m g _ => Cert.Reference13Ideal.Value.frame m g,
    fun m g _ => Cert.Kernel14.Gen.frame m g,
    fun m g _ => Cert.Kernel14Ideal.Gen.frame m g,
    fun m g _ => Cert.Reference14Ideal.Value.frame m g,
    fun m g _ => Cert.Kernel15.Gen.frame m g,
    fun m g _ => Cert.Kernel15Ideal.Gen.frame m g,
    fun m g _ => Cert.Reference15Ideal.Value.frame m g,
    fun m g _ => Cert.Kernel16.Gen.frame m g,
    fun m g _ => Cert.Kernel16Ideal.Gen.frame m g,
    fun m g _ => Cert.Reference16Ideal.Value.frame m g,
    fun m g _ => Cert.Kernel17.Gen.frame m g,
    fun m g _ => Cert.Kernel17Ideal.Gen.frame m g,
    fun m g _ => Cert.Reference17Ideal.Value.frame m g,
    fun m g _ => Cert.Kernel18.Gen.frame m g,
    fun m g _ => Cert.Kernel18Ideal.Gen.frame m g,
    fun m g _ => Cert.Reference18Ideal.Value.frame m g,
    fun m g _ => Cert.Kernel19.Gen.frame m g,
    fun m g _ => Cert.Kernel19Ideal.Gen.frame m g,
    fun m g _ => Cert.Reference19Ideal.Value.frame m g,
    fun m g _ => Cert.Kernel20.Gen.frame m g,
    fun m g _ => Cert.Kernel20Ideal.Gen.frame m g,
    fun m g _ => Cert.Reference20Ideal.Value.frame m g,
    fun m g _ => Cert.Kernel21.Gen.frame m g,
    fun m g _ => Cert.Kernel21Ideal.Gen.frame m g,
    fun m g _ => Cert.Reference21Ideal.Value.frame m g,
    fun m g _ => Cert.Kernel22.Gen.frame m g,
    fun m g _ => Cert.Kernel22Ideal.Gen.frame m g,
    fun m g _ => Cert.Reference22Ideal.Value.frame m g,
    fun m g _ => Cert.Kernel23.Gen.frame m g,
    fun m g _ => Cert.Kernel23Ideal.Gen.frame m g,
    fun m g _ => Cert.Reference23Ideal.Value.frame m g,
    fun m g _ => Cert.Kernel24.Gen.frame m g,
    fun m g _ => Cert.Kernel24Ideal.Gen.frame m g,
    fun m g _ => Cert.Reference24Ideal.Value.frame m g,
    fun m g _ => Cert.Kernel25.Gen.frame m g,
    fun m g _ => Cert.Kernel25Ideal.Gen.frame m g,
    fun m g _ => Cert.Reference25Ideal.Value.frame m g,
    fun m g _ => Cert.Kernel26.Gen.frame m g,
    fun m g _ => Cert.Kernel26Ideal.Gen.frame m g,
    fun m g _ => Cert.Reference26Ideal.Value.frame m g,
    fun m g _ => Cert.Kernel27.Gen.frame m g,
    fun m g _ => Cert.Kernel27Ideal.Gen.frame m g,
    fun m g _ => Cert.Reference27Ideal.Value.frame m g,
    fun m g _ => Cert.Kernel28.Gen.frame m g,
    fun m g _ => Cert.Kernel28Ideal.Gen.frame m g,
    fun m g _ => Cert.Reference28Ideal.Value.frame m g,
    fun m g _ => Cert.Kernel29.Gen.frame m g,
    fun m g _ => Cert.Kernel29Ideal.Gen.frame m g,
    fun m g _ => Cert.Kernel29Ideal.Gen.frame m g,
    fun m g _ => Cert.Reference29Ideal.Value.frame m g,
    fun m g _ => Cert.Reference29Ideal.Value.frame m g,
    fun m g _ => Cert.Kernel33.Gen.frame m g,
    fun m g _ => Cert.Kernel33Ideal.Gen.frame m g,
    fun m g _ => Cert.Reference33Ideal.Value.frame m g,
    trivial,
    results_equal,
    trivial,
    results_equal2,
    trivial,
    results_equal3,
    trivial,
    results_equal4,
    trivial,
    results_equal5,
    trivial,
    results_equal6,
    trivial,
    results_equal7,
    trivial,
    results_equal8,
    trivial,
    results_equal9,
    trivial,
    results_equal10,
    trivial,
    results_equal11,
    trivial,
    results_equal12,
    trivial,
    results_equal13,
    trivial,
    results_equal14,
    trivial,
    results_equal15,
    trivial,
    results_equal16,
    trivial,
    results_equal17,
    trivial,
    results_equal18,
    trivial,
    results_equal19,
    trivial,
    results_equal20,
    trivial,
    results_equal21,
    trivial,
    results_equal22,
    trivial,
    results_equal23,
    trivial,
    results_equal24,
    trivial,
    results_equal25,
    trivial,
    results_equal26,
    trivial,
    results_equal27,
    trivial,
    results_equal28,
    trivial,
    results_equal29,
    trivial,
    results_equal33⟩

end Cert.Proof

end
